-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x3584 : Shape := ⟨3, ![2, 4096, 3584]⟩
abbrev S2x4096x448 : Shape := ⟨3, ![2, 4096, 448]⟩
abbrev S4 : Shape := ⟨1, ![4]⟩
abbrev S2304x3584 : Shape := ⟨2, ![2304, 3584]⟩
abbrev S144x448 : Shape := ⟨2, ![144, 448]⟩
abbrev S1 : Shape := ⟨1, ![1]⟩
abbrev S8192x3584 : Shape := ⟨2, ![8192, 3584]⟩
abbrev S8192x448 : Shape := ⟨2, ![8192, 448]⟩
abbrev S8192x2304 : Shape := ⟨2, ![8192, 2304]⟩
abbrev S512x3584 : Shape := ⟨2, ![512, 3584]⟩
abbrev S512x512 : Shape := ⟨2, ![512, 512]⟩
abbrev S144x512 : Shape := ⟨2, ![144, 512]⟩
abbrev S512x2304 : Shape := ⟨2, ![512, 2304]⟩
abbrev S512x7168 : Shape := ⟨2, ![512, 7168]⟩
abbrev S2304x7168 : Shape := ⟨2, ![2304, 7168]⟩
abbrev S144x3584 : Shape := ⟨2, ![144, 3584]⟩
abbrev S144x128 : Shape := ⟨2, ![144, 128]⟩
abbrev S144x128x1 : Shape := ⟨3, ![144, 128, 1]⟩
abbrev S8x128 : Shape := ⟨2, ![8, 128]⟩
abbrev S32x128 : Shape := ⟨2, ![32, 128]⟩
abbrev S1x128 : Shape := ⟨2, ![1, 128]⟩
abbrev S16x128 : Shape := ⟨2, ![16, 128]⟩
abbrev S32x128x1 : Shape := ⟨3, ![32, 128, 1]⟩
abbrev S256x7168 : Shape := ⟨2, ![256, 7168]⟩
abbrev S512x256 : Shape := ⟨2, ![512, 256]⟩

abbrev nBuf : Space → Nat
  | .hbm => 9
  | .vmem => 11
  | .smem => 2
  | _ => 0

abbrev bufTy : (tb : Table) → Fin (tcTables nBuf tb) → BufTy
  | .hbm, ⟨0, _⟩ => ⟨S2x4096x3584, .i8⟩
  | .hbm, ⟨1, _⟩ => ⟨S2x4096x448, .fp8e4m3⟩
  | .hbm, ⟨2, _⟩ => ⟨S4, .f32⟩
  | .hbm, ⟨3, _⟩ => ⟨S2304x3584, .i8⟩
  | .hbm, ⟨4, _⟩ => ⟨S144x448, .fp8e4m3⟩
  | .hbm, ⟨5, _⟩ => ⟨S1, .f32⟩
  | .hbm, ⟨6, _⟩ => ⟨S8192x3584, .i8⟩
  | .hbm, ⟨7, _⟩ => ⟨S8192x448, .fp8e4m3⟩
  | .hbm, ⟨8, _⟩ => ⟨S8192x2304, .bf16⟩
  | .local _ .vmem, ⟨0, _⟩ => ⟨S512x3584, .i8⟩
  | .local _ .vmem, ⟨1, _⟩ => ⟨S512x3584, .i8⟩
  | .local _ .vmem, ⟨2, _⟩ => ⟨S512x512, .fp8e4m3⟩
  | .local _ .vmem, ⟨3, _⟩ => ⟨S512x512, .fp8e4m3⟩
  | .local _ .vmem, ⟨4, _⟩ => ⟨S2304x3584, .i8⟩
  | .local _ .vmem, ⟨5, _⟩ => ⟨S144x512, .fp8e4m3⟩
  | .local _ .vmem, ⟨6, _⟩ => ⟨S512x2304, .bf16⟩
  | .local _ .vmem, ⟨7, _⟩ => ⟨S512x2304, .bf16⟩
  | .local _ .vmem, ⟨8, _⟩ => ⟨S512x7168, .bf16⟩
  | .local _ .vmem, ⟨9, _⟩ => ⟨S2304x7168, .bf16⟩
  | .local _ .vmem, ⟨10, _⟩ => ⟨S144x3584, .f32⟩
  | .local _ .smem, ⟨0, _⟩ => ⟨S4, .f32⟩
  | .local _ .smem, ⟨1, _⟩ => ⟨S1, .f32⟩
  | _, _ => ⟨S2x4096x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_380 : BitVec 32 := 0#32
  let c18_i32 : BitVec 32 := 18#32
  let v1211 : BitVec 32 := Scalar.addi c0_i32_380 c18_i32
  let c1_i32_381 : BitVec 32 := 1#32
  ⟨c0_i32_380, v1211, c1_i32_381⟩
def k0_mult1 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_385 : BitVec 32 := 8#32
  let v1214 : BitVec 32 := Scalar.muli v1213 c8_i32_385
  v1214
def k0_off1 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_385 : BitVec 32 := 8#32
  let v1214 : BitVec 32 := Scalar.muli v1213 c8_i32_385
  let v1215 : BitVec 32 := v1214
  let v1216 : Index := Scalar.indexCast v1215
  let c0_386 : Index := 0#32
  ![v1216.toNat, 0]
def k0_mult2 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_387 : BitVec 32 := 16#32
  let v1218 : BitVec 32 := Scalar.muli v1213 c16_i32_387
  let c8_i32_388 : BitVec 32 := 8#32
  let v1219 : BitVec 32 := Scalar.muli v1218 c8_i32_388
  let c0_i32_389 : BitVec 32 := 0#32
  let v1220 : BitVec 32 := Scalar.addi v1219 c0_i32_389
  v1220
def k0_off2 (k0_t1 : Fin k0_t1_loop.trips) (c0_i32_389 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_387 : BitVec 32 := 16#32
  let v1218 : BitVec 32 := Scalar.muli v1213 c16_i32_387
  let c8_i32_388 : BitVec 32 := 8#32
  let v1219 : BitVec 32 := Scalar.muli v1218 c8_i32_388
  let v1220 : BitVec 32 := Scalar.addi v1219 c0_i32_389
  let v1221 : BitVec 32 := v1220
  let v1222 : Index := Scalar.indexCast v1221
  let c0_390 : Index := 0#32
  ![v1222.toNat, 0]
def k0_off3 (k0_t1 : Fin k0_t1_loop.trips) (c0_i32_389 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_387 : BitVec 32 := 16#32
  let v1218 : BitVec 32 := Scalar.muli v1213 c16_i32_387
  let c8_i32_388 : BitVec 32 := 8#32
  let v1219 : BitVec 32 := Scalar.muli v1218 c8_i32_388
  let v1220 : BitVec 32 := Scalar.addi v1219 c0_i32_389
  let v1221 : BitVec 32 := v1220
  let v1253 : Index := Scalar.indexCast v1221
  let c0_396 : Index := 0#32
  ![v1253.toNat, 0]
def k0_off4 (k0_t1 : Fin k0_t1_loop.trips) (c0_i32_389 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_387 : BitVec 32 := 16#32
  let v1218 : BitVec 32 := Scalar.muli v1213 c16_i32_387
  let c8_i32_388 : BitVec 32 := 8#32
  let v1219 : BitVec 32 := Scalar.muli v1218 c8_i32_388
  let v1220 : BitVec 32 := Scalar.addi v1219 c0_i32_389
  let v1221 : BitVec 32 := v1220
  let v1260 : Index := Scalar.indexCast v1221
  let c3584 : Index := 3584#32
  ![v1260.toNat, 3584]
def k0_mult3 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_397 : BitVec 32 := 16#32
  let v1264 : BitVec 32 := Scalar.muli v1213 c16_i32_397
  let c8_i32_398 : BitVec 32 := 8#32
  let v1265 : BitVec 32 := Scalar.muli v1264 c8_i32_398
  let c32_i32_399 : BitVec 32 := 32#32
  let v1266 : BitVec 32 := Scalar.addi v1265 c32_i32_399
  v1266
def k0_mult4 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_410 : BitVec 32 := 16#32
  let v1310 : BitVec 32 := Scalar.muli v1213 c16_i32_410
  let c8_i32_411 : BitVec 32 := 8#32
  let v1311 : BitVec 32 := Scalar.muli v1310 c8_i32_411
  let c64_i32_412 : BitVec 32 := 64#32
  let v1312 : BitVec 32 := Scalar.addi v1311 c64_i32_412
  v1312
def k0_mult5 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_423 : BitVec 32 := 16#32
  let v1356 : BitVec 32 := Scalar.muli v1213 c16_i32_423
  let c8_i32_424 : BitVec 32 := 8#32
  let v1357 : BitVec 32 := Scalar.muli v1356 c8_i32_424
  let c96_i32_425 : BitVec 32 := 96#32
  let v1358 : BitVec 32 := Scalar.addi v1357 c96_i32_425
  v1358
def k0_mult6 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_436 : BitVec 32 := 8#32
  let v1402 : BitVec 32 := Scalar.muli v1213 c8_i32_436
  v1402
def k0_off5 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_436 : BitVec 32 := 8#32
  let v1402 : BitVec 32 := Scalar.muli v1213 c8_i32_436
  let v1403 : BitVec 32 := v1402
  let v1404 : Index := Scalar.indexCast v1403
  let c128_437 : Index := 128#32
  ![v1404.toNat, 128]
def k0_mult7 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_438 : BitVec 32 := 16#32
  let v1406 : BitVec 32 := Scalar.muli v1213 c16_i32_438
  let c8_i32_439 : BitVec 32 := 8#32
  let v1407 : BitVec 32 := Scalar.muli v1406 c8_i32_439
  let c0_i32_440 : BitVec 32 := 0#32
  let v1408 : BitVec 32 := Scalar.addi v1407 c0_i32_440
  v1408
def k0_off6 (k0_t1 : Fin k0_t1_loop.trips) (c0_i32_440 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_438 : BitVec 32 := 16#32
  let v1406 : BitVec 32 := Scalar.muli v1213 c16_i32_438
  let c8_i32_439 : BitVec 32 := 8#32
  let v1407 : BitVec 32 := Scalar.muli v1406 c8_i32_439
  let v1408 : BitVec 32 := Scalar.addi v1407 c0_i32_440
  let v1409 : BitVec 32 := v1408
  let v1410 : Index := Scalar.indexCast v1409
  let c128_441 : Index := 128#32
  ![v1410.toNat, 128]
def k0_off7 (k0_t1 : Fin k0_t1_loop.trips) (c0_i32_440 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_438 : BitVec 32 := 16#32
  let v1406 : BitVec 32 := Scalar.muli v1213 c16_i32_438
  let c8_i32_439 : BitVec 32 := 8#32
  let v1407 : BitVec 32 := Scalar.muli v1406 c8_i32_439
  let v1408 : BitVec 32 := Scalar.addi v1407 c0_i32_440
  let v1409 : BitVec 32 := v1408
  let v1441 : Index := Scalar.indexCast v1409
  let c128_449 : Index := 128#32
  ![v1441.toNat, 128]
def k0_off8 (k0_t1 : Fin k0_t1_loop.trips) (c0_i32_440 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_438 : BitVec 32 := 16#32
  let v1406 : BitVec 32 := Scalar.muli v1213 c16_i32_438
  let c8_i32_439 : BitVec 32 := 8#32
  let v1407 : BitVec 32 := Scalar.muli v1406 c8_i32_439
  let v1408 : BitVec 32 := Scalar.addi v1407 c0_i32_440
  let v1409 : BitVec 32 := v1408
  let v1448 : Index := Scalar.indexCast v1409
  let c3712 : Index := 3712#32
  ![v1448.toNat, 3712]
def k0_mult8 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_450 : BitVec 32 := 16#32
  let v1452 : BitVec 32 := Scalar.muli v1213 c16_i32_450
  let c8_i32_451 : BitVec 32 := 8#32
  let v1453 : BitVec 32 := Scalar.muli v1452 c8_i32_451
  let c32_i32_452 : BitVec 32 := 32#32
  let v1454 : BitVec 32 := Scalar.addi v1453 c32_i32_452
  v1454
def k0_mult9 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_463 : BitVec 32 := 16#32
  let v1498 : BitVec 32 := Scalar.muli v1213 c16_i32_463
  let c8_i32_464 : BitVec 32 := 8#32
  let v1499 : BitVec 32 := Scalar.muli v1498 c8_i32_464
  let c64_i32_465 : BitVec 32 := 64#32
  let v1500 : BitVec 32 := Scalar.addi v1499 c64_i32_465
  v1500
def k0_mult10 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_476 : BitVec 32 := 16#32
  let v1544 : BitVec 32 := Scalar.muli v1213 c16_i32_476
  let c8_i32_477 : BitVec 32 := 8#32
  let v1545 : BitVec 32 := Scalar.muli v1544 c8_i32_477
  let c96_i32_478 : BitVec 32 := 96#32
  let v1546 : BitVec 32 := Scalar.addi v1545 c96_i32_478
  v1546
def k0_mult11 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_489 : BitVec 32 := 8#32
  let v1590 : BitVec 32 := Scalar.muli v1213 c8_i32_489
  v1590
def k0_off9 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_489 : BitVec 32 := 8#32
  let v1590 : BitVec 32 := Scalar.muli v1213 c8_i32_489
  let v1591 : BitVec 32 := v1590
  let v1592 : Index := Scalar.indexCast v1591
  let c256_490 : Index := 256#32
  ![v1592.toNat, 256]
def k0_mult12 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_491 : BitVec 32 := 16#32
  let v1594 : BitVec 32 := Scalar.muli v1213 c16_i32_491
  let c8_i32_492 : BitVec 32 := 8#32
  let v1595 : BitVec 32 := Scalar.muli v1594 c8_i32_492
  let c0_i32_493 : BitVec 32 := 0#32
  let v1596 : BitVec 32 := Scalar.addi v1595 c0_i32_493
  v1596
def k0_off10 (k0_t1 : Fin k0_t1_loop.trips) (c0_i32_493 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_491 : BitVec 32 := 16#32
  let v1594 : BitVec 32 := Scalar.muli v1213 c16_i32_491
  let c8_i32_492 : BitVec 32 := 8#32
  let v1595 : BitVec 32 := Scalar.muli v1594 c8_i32_492
  let v1596 : BitVec 32 := Scalar.addi v1595 c0_i32_493
  let v1597 : BitVec 32 := v1596
  let v1598 : Index := Scalar.indexCast v1597
  let c256_494 : Index := 256#32
  ![v1598.toNat, 256]
def k0_off11 (k0_t1 : Fin k0_t1_loop.trips) (c0_i32_493 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_491 : BitVec 32 := 16#32
  let v1594 : BitVec 32 := Scalar.muli v1213 c16_i32_491
  let c8_i32_492 : BitVec 32 := 8#32
  let v1595 : BitVec 32 := Scalar.muli v1594 c8_i32_492
  let v1596 : BitVec 32 := Scalar.addi v1595 c0_i32_493
  let v1597 : BitVec 32 := v1596
  let v1629 : Index := Scalar.indexCast v1597
  let c256_502 : Index := 256#32
  ![v1629.toNat, 256]
def k0_off12 (k0_t1 : Fin k0_t1_loop.trips) (c0_i32_493 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_491 : BitVec 32 := 16#32
  let v1594 : BitVec 32 := Scalar.muli v1213 c16_i32_491
  let c8_i32_492 : BitVec 32 := 8#32
  let v1595 : BitVec 32 := Scalar.muli v1594 c8_i32_492
  let v1596 : BitVec 32 := Scalar.addi v1595 c0_i32_493
  let v1597 : BitVec 32 := v1596
  let v1636 : Index := Scalar.indexCast v1597
  let c3840 : Index := 3840#32
  ![v1636.toNat, 3840]
def k0_mult13 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_503 : BitVec 32 := 16#32
  let v1640 : BitVec 32 := Scalar.muli v1213 c16_i32_503
  let c8_i32_504 : BitVec 32 := 8#32
  let v1641 : BitVec 32 := Scalar.muli v1640 c8_i32_504
  let c32_i32_505 : BitVec 32 := 32#32
  let v1642 : BitVec 32 := Scalar.addi v1641 c32_i32_505
  v1642
def k0_mult14 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_516 : BitVec 32 := 16#32
  let v1686 : BitVec 32 := Scalar.muli v1213 c16_i32_516
  let c8_i32_517 : BitVec 32 := 8#32
  let v1687 : BitVec 32 := Scalar.muli v1686 c8_i32_517
  let c64_i32_518 : BitVec 32 := 64#32
  let v1688 : BitVec 32 := Scalar.addi v1687 c64_i32_518
  v1688
def k0_mult15 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_529 : BitVec 32 := 16#32
  let v1732 : BitVec 32 := Scalar.muli v1213 c16_i32_529
  let c8_i32_530 : BitVec 32 := 8#32
  let v1733 : BitVec 32 := Scalar.muli v1732 c8_i32_530
  let c96_i32_531 : BitVec 32 := 96#32
  let v1734 : BitVec 32 := Scalar.addi v1733 c96_i32_531
  v1734
def k0_mult16 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_542 : BitVec 32 := 8#32
  let v1778 : BitVec 32 := Scalar.muli v1213 c8_i32_542
  v1778
def k0_off13 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_542 : BitVec 32 := 8#32
  let v1778 : BitVec 32 := Scalar.muli v1213 c8_i32_542
  let v1779 : BitVec 32 := v1778
  let v1780 : Index := Scalar.indexCast v1779
  let c384_543 : Index := 384#32
  ![v1780.toNat, 384]
def k0_mult17 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_544 : BitVec 32 := 16#32
  let v1782 : BitVec 32 := Scalar.muli v1213 c16_i32_544
  let c8_i32_545 : BitVec 32 := 8#32
  let v1783 : BitVec 32 := Scalar.muli v1782 c8_i32_545
  let c0_i32_546 : BitVec 32 := 0#32
  let v1784 : BitVec 32 := Scalar.addi v1783 c0_i32_546
  v1784
def k0_off14 (k0_t1 : Fin k0_t1_loop.trips) (c0_i32_546 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_544 : BitVec 32 := 16#32
  let v1782 : BitVec 32 := Scalar.muli v1213 c16_i32_544
  let c8_i32_545 : BitVec 32 := 8#32
  let v1783 : BitVec 32 := Scalar.muli v1782 c8_i32_545
  let v1784 : BitVec 32 := Scalar.addi v1783 c0_i32_546
  let v1785 : BitVec 32 := v1784
  let v1786 : Index := Scalar.indexCast v1785
  let c384_547 : Index := 384#32
  ![v1786.toNat, 384]
def k0_off15 (k0_t1 : Fin k0_t1_loop.trips) (c0_i32_546 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_544 : BitVec 32 := 16#32
  let v1782 : BitVec 32 := Scalar.muli v1213 c16_i32_544
  let c8_i32_545 : BitVec 32 := 8#32
  let v1783 : BitVec 32 := Scalar.muli v1782 c8_i32_545
  let v1784 : BitVec 32 := Scalar.addi v1783 c0_i32_546
  let v1785 : BitVec 32 := v1784
  let v1817 : Index := Scalar.indexCast v1785
  let c384_555 : Index := 384#32
  ![v1817.toNat, 384]
def k0_off16 (k0_t1 : Fin k0_t1_loop.trips) (c0_i32_546 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_544 : BitVec 32 := 16#32
  let v1782 : BitVec 32 := Scalar.muli v1213 c16_i32_544
  let c8_i32_545 : BitVec 32 := 8#32
  let v1783 : BitVec 32 := Scalar.muli v1782 c8_i32_545
  let v1784 : BitVec 32 := Scalar.addi v1783 c0_i32_546
  let v1785 : BitVec 32 := v1784
  let v1824 : Index := Scalar.indexCast v1785
  let c3968 : Index := 3968#32
  ![v1824.toNat, 3968]
def k0_mult18 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_556 : BitVec 32 := 16#32
  let v1828 : BitVec 32 := Scalar.muli v1213 c16_i32_556
  let c8_i32_557 : BitVec 32 := 8#32
  let v1829 : BitVec 32 := Scalar.muli v1828 c8_i32_557
  let c32_i32_558 : BitVec 32 := 32#32
  let v1830 : BitVec 32 := Scalar.addi v1829 c32_i32_558
  v1830
def k0_mult19 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_569 : BitVec 32 := 16#32
  let v1874 : BitVec 32 := Scalar.muli v1213 c16_i32_569
  let c8_i32_570 : BitVec 32 := 8#32
  let v1875 : BitVec 32 := Scalar.muli v1874 c8_i32_570
  let c64_i32_571 : BitVec 32 := 64#32
  let v1876 : BitVec 32 := Scalar.addi v1875 c64_i32_571
  v1876
def k0_mult20 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_582 : BitVec 32 := 16#32
  let v1920 : BitVec 32 := Scalar.muli v1213 c16_i32_582
  let c8_i32_583 : BitVec 32 := 8#32
  let v1921 : BitVec 32 := Scalar.muli v1920 c8_i32_583
  let c96_i32_584 : BitVec 32 := 96#32
  let v1922 : BitVec 32 := Scalar.addi v1921 c96_i32_584
  v1922
def k0_mult21 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_595 : BitVec 32 := 8#32
  let v1966 : BitVec 32 := Scalar.muli v1213 c8_i32_595
  v1966
def k0_off17 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_595 : BitVec 32 := 8#32
  let v1966 : BitVec 32 := Scalar.muli v1213 c8_i32_595
  let v1967 : BitVec 32 := v1966
  let v1968 : Index := Scalar.indexCast v1967
  let c512_596 : Index := 512#32
  ![v1968.toNat, 512]
def k0_mult22 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_597 : BitVec 32 := 16#32
  let v1970 : BitVec 32 := Scalar.muli v1213 c16_i32_597
  let c8_i32_598 : BitVec 32 := 8#32
  let v1971 : BitVec 32 := Scalar.muli v1970 c8_i32_598
  let c0_i32_599 : BitVec 32 := 0#32
  let v1972 : BitVec 32 := Scalar.addi v1971 c0_i32_599
  v1972
def k0_off18 (k0_t1 : Fin k0_t1_loop.trips) (c0_i32_599 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_597 : BitVec 32 := 16#32
  let v1970 : BitVec 32 := Scalar.muli v1213 c16_i32_597
  let c8_i32_598 : BitVec 32 := 8#32
  let v1971 : BitVec 32 := Scalar.muli v1970 c8_i32_598
  let v1972 : BitVec 32 := Scalar.addi v1971 c0_i32_599
  let v1973 : BitVec 32 := v1972
  let v1974 : Index := Scalar.indexCast v1973
  let c512_600 : Index := 512#32
  ![v1974.toNat, 512]
def k0_off19 (k0_t1 : Fin k0_t1_loop.trips) (c0_i32_599 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_597 : BitVec 32 := 16#32
  let v1970 : BitVec 32 := Scalar.muli v1213 c16_i32_597
  let c8_i32_598 : BitVec 32 := 8#32
  let v1971 : BitVec 32 := Scalar.muli v1970 c8_i32_598
  let v1972 : BitVec 32 := Scalar.addi v1971 c0_i32_599
  let v1973 : BitVec 32 := v1972
  let v2005 : Index := Scalar.indexCast v1973
  let c512_608 : Index := 512#32
  ![v2005.toNat, 512]
def k0_off20 (k0_t1 : Fin k0_t1_loop.trips) (c0_i32_599 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_597 : BitVec 32 := 16#32
  let v1970 : BitVec 32 := Scalar.muli v1213 c16_i32_597
  let c8_i32_598 : BitVec 32 := 8#32
  let v1971 : BitVec 32 := Scalar.muli v1970 c8_i32_598
  let v1972 : BitVec 32 := Scalar.addi v1971 c0_i32_599
  let v1973 : BitVec 32 := v1972
  let v2012 : Index := Scalar.indexCast v1973
  let c4096 : Index := 4096#32
  ![v2012.toNat, 4096]
def k0_mult23 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_609 : BitVec 32 := 16#32
  let v2016 : BitVec 32 := Scalar.muli v1213 c16_i32_609
  let c8_i32_610 : BitVec 32 := 8#32
  let v2017 : BitVec 32 := Scalar.muli v2016 c8_i32_610
  let c32_i32_611 : BitVec 32 := 32#32
  let v2018 : BitVec 32 := Scalar.addi v2017 c32_i32_611
  v2018
def k0_mult24 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_622 : BitVec 32 := 16#32
  let v2062 : BitVec 32 := Scalar.muli v1213 c16_i32_622
  let c8_i32_623 : BitVec 32 := 8#32
  let v2063 : BitVec 32 := Scalar.muli v2062 c8_i32_623
  let c64_i32_624 : BitVec 32 := 64#32
  let v2064 : BitVec 32 := Scalar.addi v2063 c64_i32_624
  v2064
def k0_mult25 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_635 : BitVec 32 := 16#32
  let v2108 : BitVec 32 := Scalar.muli v1213 c16_i32_635
  let c8_i32_636 : BitVec 32 := 8#32
  let v2109 : BitVec 32 := Scalar.muli v2108 c8_i32_636
  let c96_i32_637 : BitVec 32 := 96#32
  let v2110 : BitVec 32 := Scalar.addi v2109 c96_i32_637
  v2110
def k0_mult26 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_648 : BitVec 32 := 8#32
  let v2154 : BitVec 32 := Scalar.muli v1213 c8_i32_648
  v2154
def k0_off21 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_648 : BitVec 32 := 8#32
  let v2154 : BitVec 32 := Scalar.muli v1213 c8_i32_648
  let v2155 : BitVec 32 := v2154
  let v2156 : Index := Scalar.indexCast v2155
  let c640_649 : Index := 640#32
  ![v2156.toNat, 640]
def k0_mult27 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_650 : BitVec 32 := 16#32
  let v2158 : BitVec 32 := Scalar.muli v1213 c16_i32_650
  let c8_i32_651 : BitVec 32 := 8#32
  let v2159 : BitVec 32 := Scalar.muli v2158 c8_i32_651
  let c0_i32_652 : BitVec 32 := 0#32
  let v2160 : BitVec 32 := Scalar.addi v2159 c0_i32_652
  v2160
def k0_off22 (k0_t1 : Fin k0_t1_loop.trips) (c0_i32_652 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_650 : BitVec 32 := 16#32
  let v2158 : BitVec 32 := Scalar.muli v1213 c16_i32_650
  let c8_i32_651 : BitVec 32 := 8#32
  let v2159 : BitVec 32 := Scalar.muli v2158 c8_i32_651
  let v2160 : BitVec 32 := Scalar.addi v2159 c0_i32_652
  let v2161 : BitVec 32 := v2160
  let v2162 : Index := Scalar.indexCast v2161
  let c640_653 : Index := 640#32
  ![v2162.toNat, 640]
def k0_off23 (k0_t1 : Fin k0_t1_loop.trips) (c0_i32_652 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_650 : BitVec 32 := 16#32
  let v2158 : BitVec 32 := Scalar.muli v1213 c16_i32_650
  let c8_i32_651 : BitVec 32 := 8#32
  let v2159 : BitVec 32 := Scalar.muli v2158 c8_i32_651
  let v2160 : BitVec 32 := Scalar.addi v2159 c0_i32_652
  let v2161 : BitVec 32 := v2160
  let v2193 : Index := Scalar.indexCast v2161
  let c640_661 : Index := 640#32
  ![v2193.toNat, 640]
def k0_off24 (k0_t1 : Fin k0_t1_loop.trips) (c0_i32_652 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_650 : BitVec 32 := 16#32
  let v2158 : BitVec 32 := Scalar.muli v1213 c16_i32_650
  let c8_i32_651 : BitVec 32 := 8#32
  let v2159 : BitVec 32 := Scalar.muli v2158 c8_i32_651
  let v2160 : BitVec 32 := Scalar.addi v2159 c0_i32_652
  let v2161 : BitVec 32 := v2160
  let v2200 : Index := Scalar.indexCast v2161
  let c4224 : Index := 4224#32
  ![v2200.toNat, 4224]
def k0_mult28 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_662 : BitVec 32 := 16#32
  let v2204 : BitVec 32 := Scalar.muli v1213 c16_i32_662
  let c8_i32_663 : BitVec 32 := 8#32
  let v2205 : BitVec 32 := Scalar.muli v2204 c8_i32_663
  let c32_i32_664 : BitVec 32 := 32#32
  let v2206 : BitVec 32 := Scalar.addi v2205 c32_i32_664
  v2206
def k0_mult29 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_675 : BitVec 32 := 16#32
  let v2250 : BitVec 32 := Scalar.muli v1213 c16_i32_675
  let c8_i32_676 : BitVec 32 := 8#32
  let v2251 : BitVec 32 := Scalar.muli v2250 c8_i32_676
  let c64_i32_677 : BitVec 32 := 64#32
  let v2252 : BitVec 32 := Scalar.addi v2251 c64_i32_677
  v2252
def k0_mult30 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_688 : BitVec 32 := 16#32
  let v2296 : BitVec 32 := Scalar.muli v1213 c16_i32_688
  let c8_i32_689 : BitVec 32 := 8#32
  let v2297 : BitVec 32 := Scalar.muli v2296 c8_i32_689
  let c96_i32_690 : BitVec 32 := 96#32
  let v2298 : BitVec 32 := Scalar.addi v2297 c96_i32_690
  v2298
def k0_mult31 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_701 : BitVec 32 := 8#32
  let v2342 : BitVec 32 := Scalar.muli v1213 c8_i32_701
  v2342
def k0_off25 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_701 : BitVec 32 := 8#32
  let v2342 : BitVec 32 := Scalar.muli v1213 c8_i32_701
  let v2343 : BitVec 32 := v2342
  let v2344 : Index := Scalar.indexCast v2343
  let c768_702 : Index := 768#32
  ![v2344.toNat, 768]
def k0_mult32 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_703 : BitVec 32 := 16#32
  let v2346 : BitVec 32 := Scalar.muli v1213 c16_i32_703
  let c8_i32_704 : BitVec 32 := 8#32
  let v2347 : BitVec 32 := Scalar.muli v2346 c8_i32_704
  let c0_i32_705 : BitVec 32 := 0#32
  let v2348 : BitVec 32 := Scalar.addi v2347 c0_i32_705
  v2348
def k0_off26 (k0_t1 : Fin k0_t1_loop.trips) (c0_i32_705 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_703 : BitVec 32 := 16#32
  let v2346 : BitVec 32 := Scalar.muli v1213 c16_i32_703
  let c8_i32_704 : BitVec 32 := 8#32
  let v2347 : BitVec 32 := Scalar.muli v2346 c8_i32_704
  let v2348 : BitVec 32 := Scalar.addi v2347 c0_i32_705
  let v2349 : BitVec 32 := v2348
  let v2350 : Index := Scalar.indexCast v2349
  let c768_706 : Index := 768#32
  ![v2350.toNat, 768]
def k0_off27 (k0_t1 : Fin k0_t1_loop.trips) (c0_i32_705 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_703 : BitVec 32 := 16#32
  let v2346 : BitVec 32 := Scalar.muli v1213 c16_i32_703
  let c8_i32_704 : BitVec 32 := 8#32
  let v2347 : BitVec 32 := Scalar.muli v2346 c8_i32_704
  let v2348 : BitVec 32 := Scalar.addi v2347 c0_i32_705
  let v2349 : BitVec 32 := v2348
  let v2381 : Index := Scalar.indexCast v2349
  let c768_714 : Index := 768#32
  ![v2381.toNat, 768]
def k0_off28 (k0_t1 : Fin k0_t1_loop.trips) (c0_i32_705 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_703 : BitVec 32 := 16#32
  let v2346 : BitVec 32 := Scalar.muli v1213 c16_i32_703
  let c8_i32_704 : BitVec 32 := 8#32
  let v2347 : BitVec 32 := Scalar.muli v2346 c8_i32_704
  let v2348 : BitVec 32 := Scalar.addi v2347 c0_i32_705
  let v2349 : BitVec 32 := v2348
  let v2388 : Index := Scalar.indexCast v2349
  let c4352 : Index := 4352#32
  ![v2388.toNat, 4352]
def k0_mult33 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_715 : BitVec 32 := 16#32
  let v2392 : BitVec 32 := Scalar.muli v1213 c16_i32_715
  let c8_i32_716 : BitVec 32 := 8#32
  let v2393 : BitVec 32 := Scalar.muli v2392 c8_i32_716
  let c32_i32_717 : BitVec 32 := 32#32
  let v2394 : BitVec 32 := Scalar.addi v2393 c32_i32_717
  v2394
def k0_mult34 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_728 : BitVec 32 := 16#32
  let v2438 : BitVec 32 := Scalar.muli v1213 c16_i32_728
  let c8_i32_729 : BitVec 32 := 8#32
  let v2439 : BitVec 32 := Scalar.muli v2438 c8_i32_729
  let c64_i32_730 : BitVec 32 := 64#32
  let v2440 : BitVec 32 := Scalar.addi v2439 c64_i32_730
  v2440
def k0_mult35 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_741 : BitVec 32 := 16#32
  let v2484 : BitVec 32 := Scalar.muli v1213 c16_i32_741
  let c8_i32_742 : BitVec 32 := 8#32
  let v2485 : BitVec 32 := Scalar.muli v2484 c8_i32_742
  let c96_i32_743 : BitVec 32 := 96#32
  let v2486 : BitVec 32 := Scalar.addi v2485 c96_i32_743
  v2486
def k0_mult36 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_754 : BitVec 32 := 8#32
  let v2530 : BitVec 32 := Scalar.muli v1213 c8_i32_754
  v2530
def k0_off29 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_754 : BitVec 32 := 8#32
  let v2530 : BitVec 32 := Scalar.muli v1213 c8_i32_754
  let v2531 : BitVec 32 := v2530
  let v2532 : Index := Scalar.indexCast v2531
  let c896_755 : Index := 896#32
  ![v2532.toNat, 896]
def k0_mult37 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_756 : BitVec 32 := 16#32
  let v2534 : BitVec 32 := Scalar.muli v1213 c16_i32_756
  let c8_i32_757 : BitVec 32 := 8#32
  let v2535 : BitVec 32 := Scalar.muli v2534 c8_i32_757
  let c0_i32_758 : BitVec 32 := 0#32
  let v2536 : BitVec 32 := Scalar.addi v2535 c0_i32_758
  v2536
def k0_off30 (k0_t1 : Fin k0_t1_loop.trips) (c0_i32_758 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_756 : BitVec 32 := 16#32
  let v2534 : BitVec 32 := Scalar.muli v1213 c16_i32_756
  let c8_i32_757 : BitVec 32 := 8#32
  let v2535 : BitVec 32 := Scalar.muli v2534 c8_i32_757
  let v2536 : BitVec 32 := Scalar.addi v2535 c0_i32_758
  let v2537 : BitVec 32 := v2536
  let v2538 : Index := Scalar.indexCast v2537
  let c896_759 : Index := 896#32
  ![v2538.toNat, 896]
def k0_off31 (k0_t1 : Fin k0_t1_loop.trips) (c0_i32_758 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_756 : BitVec 32 := 16#32
  let v2534 : BitVec 32 := Scalar.muli v1213 c16_i32_756
  let c8_i32_757 : BitVec 32 := 8#32
  let v2535 : BitVec 32 := Scalar.muli v2534 c8_i32_757
  let v2536 : BitVec 32 := Scalar.addi v2535 c0_i32_758
  let v2537 : BitVec 32 := v2536
  let v2569 : Index := Scalar.indexCast v2537
  let c896_767 : Index := 896#32
  ![v2569.toNat, 896]
def k0_off32 (k0_t1 : Fin k0_t1_loop.trips) (c0_i32_758 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_756 : BitVec 32 := 16#32
  let v2534 : BitVec 32 := Scalar.muli v1213 c16_i32_756
  let c8_i32_757 : BitVec 32 := 8#32
  let v2535 : BitVec 32 := Scalar.muli v2534 c8_i32_757
  let v2536 : BitVec 32 := Scalar.addi v2535 c0_i32_758
  let v2537 : BitVec 32 := v2536
  let v2576 : Index := Scalar.indexCast v2537
  let c4480 : Index := 4480#32
  ![v2576.toNat, 4480]
def k0_mult38 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_768 : BitVec 32 := 16#32
  let v2580 : BitVec 32 := Scalar.muli v1213 c16_i32_768
  let c8_i32_769 : BitVec 32 := 8#32
  let v2581 : BitVec 32 := Scalar.muli v2580 c8_i32_769
  let c32_i32_770 : BitVec 32 := 32#32
  let v2582 : BitVec 32 := Scalar.addi v2581 c32_i32_770
  v2582
def k0_mult39 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_781 : BitVec 32 := 16#32
  let v2626 : BitVec 32 := Scalar.muli v1213 c16_i32_781
  let c8_i32_782 : BitVec 32 := 8#32
  let v2627 : BitVec 32 := Scalar.muli v2626 c8_i32_782
  let c64_i32_783 : BitVec 32 := 64#32
  let v2628 : BitVec 32 := Scalar.addi v2627 c64_i32_783
  v2628
def k0_mult40 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_794 : BitVec 32 := 16#32
  let v2672 : BitVec 32 := Scalar.muli v1213 c16_i32_794
  let c8_i32_795 : BitVec 32 := 8#32
  let v2673 : BitVec 32 := Scalar.muli v2672 c8_i32_795
  let c96_i32_796 : BitVec 32 := 96#32
  let v2674 : BitVec 32 := Scalar.addi v2673 c96_i32_796
  v2674
def k0_mult41 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_807 : BitVec 32 := 8#32
  let v2718 : BitVec 32 := Scalar.muli v1213 c8_i32_807
  v2718
def k0_off33 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_807 : BitVec 32 := 8#32
  let v2718 : BitVec 32 := Scalar.muli v1213 c8_i32_807
  let v2719 : BitVec 32 := v2718
  let v2720 : Index := Scalar.indexCast v2719
  let c1024_808 : Index := 1024#32
  ![v2720.toNat, 1024]
def k0_mult42 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_809 : BitVec 32 := 16#32
  let v2722 : BitVec 32 := Scalar.muli v1213 c16_i32_809
  let c8_i32_810 : BitVec 32 := 8#32
  let v2723 : BitVec 32 := Scalar.muli v2722 c8_i32_810
  let c0_i32_811 : BitVec 32 := 0#32
  let v2724 : BitVec 32 := Scalar.addi v2723 c0_i32_811
  v2724
def k0_off34 (k0_t1 : Fin k0_t1_loop.trips) (c0_i32_811 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_809 : BitVec 32 := 16#32
  let v2722 : BitVec 32 := Scalar.muli v1213 c16_i32_809
  let c8_i32_810 : BitVec 32 := 8#32
  let v2723 : BitVec 32 := Scalar.muli v2722 c8_i32_810
  let v2724 : BitVec 32 := Scalar.addi v2723 c0_i32_811
  let v2725 : BitVec 32 := v2724
  let v2726 : Index := Scalar.indexCast v2725
  let c1024_812 : Index := 1024#32
  ![v2726.toNat, 1024]
def k0_off35 (k0_t1 : Fin k0_t1_loop.trips) (c0_i32_811 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_809 : BitVec 32 := 16#32
  let v2722 : BitVec 32 := Scalar.muli v1213 c16_i32_809
  let c8_i32_810 : BitVec 32 := 8#32
  let v2723 : BitVec 32 := Scalar.muli v2722 c8_i32_810
  let v2724 : BitVec 32 := Scalar.addi v2723 c0_i32_811
  let v2725 : BitVec 32 := v2724
  let v2757 : Index := Scalar.indexCast v2725
  let c1024_820 : Index := 1024#32
  ![v2757.toNat, 1024]
def k0_off36 (k0_t1 : Fin k0_t1_loop.trips) (c0_i32_811 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_809 : BitVec 32 := 16#32
  let v2722 : BitVec 32 := Scalar.muli v1213 c16_i32_809
  let c8_i32_810 : BitVec 32 := 8#32
  let v2723 : BitVec 32 := Scalar.muli v2722 c8_i32_810
  let v2724 : BitVec 32 := Scalar.addi v2723 c0_i32_811
  let v2725 : BitVec 32 := v2724
  let v2764 : Index := Scalar.indexCast v2725
  let c4608 : Index := 4608#32
  ![v2764.toNat, 4608]
def k0_mult43 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_821 : BitVec 32 := 16#32
  let v2768 : BitVec 32 := Scalar.muli v1213 c16_i32_821
  let c8_i32_822 : BitVec 32 := 8#32
  let v2769 : BitVec 32 := Scalar.muli v2768 c8_i32_822
  let c32_i32_823 : BitVec 32 := 32#32
  let v2770 : BitVec 32 := Scalar.addi v2769 c32_i32_823
  v2770
def k0_mult44 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_834 : BitVec 32 := 16#32
  let v2814 : BitVec 32 := Scalar.muli v1213 c16_i32_834
  let c8_i32_835 : BitVec 32 := 8#32
  let v2815 : BitVec 32 := Scalar.muli v2814 c8_i32_835
  let c64_i32_836 : BitVec 32 := 64#32
  let v2816 : BitVec 32 := Scalar.addi v2815 c64_i32_836
  v2816
def k0_mult45 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_847 : BitVec 32 := 16#32
  let v2860 : BitVec 32 := Scalar.muli v1213 c16_i32_847
  let c8_i32_848 : BitVec 32 := 8#32
  let v2861 : BitVec 32 := Scalar.muli v2860 c8_i32_848
  let c96_i32_849 : BitVec 32 := 96#32
  let v2862 : BitVec 32 := Scalar.addi v2861 c96_i32_849
  v2862
def k0_mult46 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_860 : BitVec 32 := 8#32
  let v2906 : BitVec 32 := Scalar.muli v1213 c8_i32_860
  v2906
def k0_off37 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_860 : BitVec 32 := 8#32
  let v2906 : BitVec 32 := Scalar.muli v1213 c8_i32_860
  let v2907 : BitVec 32 := v2906
  let v2908 : Index := Scalar.indexCast v2907
  let c1152_861 : Index := 1152#32
  ![v2908.toNat, 1152]
def k0_mult47 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_862 : BitVec 32 := 16#32
  let v2910 : BitVec 32 := Scalar.muli v1213 c16_i32_862
  let c8_i32_863 : BitVec 32 := 8#32
  let v2911 : BitVec 32 := Scalar.muli v2910 c8_i32_863
  let c0_i32_864 : BitVec 32 := 0#32
  let v2912 : BitVec 32 := Scalar.addi v2911 c0_i32_864
  v2912
def k0_off38 (k0_t1 : Fin k0_t1_loop.trips) (c0_i32_864 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_862 : BitVec 32 := 16#32
  let v2910 : BitVec 32 := Scalar.muli v1213 c16_i32_862
  let c8_i32_863 : BitVec 32 := 8#32
  let v2911 : BitVec 32 := Scalar.muli v2910 c8_i32_863
  let v2912 : BitVec 32 := Scalar.addi v2911 c0_i32_864
  let v2913 : BitVec 32 := v2912
  let v2914 : Index := Scalar.indexCast v2913
  let c1152_865 : Index := 1152#32
  ![v2914.toNat, 1152]
def k0_off39 (k0_t1 : Fin k0_t1_loop.trips) (c0_i32_864 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_862 : BitVec 32 := 16#32
  let v2910 : BitVec 32 := Scalar.muli v1213 c16_i32_862
  let c8_i32_863 : BitVec 32 := 8#32
  let v2911 : BitVec 32 := Scalar.muli v2910 c8_i32_863
  let v2912 : BitVec 32 := Scalar.addi v2911 c0_i32_864
  let v2913 : BitVec 32 := v2912
  let v2945 : Index := Scalar.indexCast v2913
  let c1152_873 : Index := 1152#32
  ![v2945.toNat, 1152]
def k0_off40 (k0_t1 : Fin k0_t1_loop.trips) (c0_i32_864 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_862 : BitVec 32 := 16#32
  let v2910 : BitVec 32 := Scalar.muli v1213 c16_i32_862
  let c8_i32_863 : BitVec 32 := 8#32
  let v2911 : BitVec 32 := Scalar.muli v2910 c8_i32_863
  let v2912 : BitVec 32 := Scalar.addi v2911 c0_i32_864
  let v2913 : BitVec 32 := v2912
  let v2952 : Index := Scalar.indexCast v2913
  let c4736 : Index := 4736#32
  ![v2952.toNat, 4736]
def k0_mult48 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_874 : BitVec 32 := 16#32
  let v2956 : BitVec 32 := Scalar.muli v1213 c16_i32_874
  let c8_i32_875 : BitVec 32 := 8#32
  let v2957 : BitVec 32 := Scalar.muli v2956 c8_i32_875
  let c32_i32_876 : BitVec 32 := 32#32
  let v2958 : BitVec 32 := Scalar.addi v2957 c32_i32_876
  v2958
def k0_mult49 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_887 : BitVec 32 := 16#32
  let v3002 : BitVec 32 := Scalar.muli v1213 c16_i32_887
  let c8_i32_888 : BitVec 32 := 8#32
  let v3003 : BitVec 32 := Scalar.muli v3002 c8_i32_888
  let c64_i32_889 : BitVec 32 := 64#32
  let v3004 : BitVec 32 := Scalar.addi v3003 c64_i32_889
  v3004
def k0_mult50 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_900 : BitVec 32 := 16#32
  let v3048 : BitVec 32 := Scalar.muli v1213 c16_i32_900
  let c8_i32_901 : BitVec 32 := 8#32
  let v3049 : BitVec 32 := Scalar.muli v3048 c8_i32_901
  let c96_i32_902 : BitVec 32 := 96#32
  let v3050 : BitVec 32 := Scalar.addi v3049 c96_i32_902
  v3050
def k0_mult51 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_913 : BitVec 32 := 8#32
  let v3094 : BitVec 32 := Scalar.muli v1213 c8_i32_913
  v3094
def k0_off41 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_913 : BitVec 32 := 8#32
  let v3094 : BitVec 32 := Scalar.muli v1213 c8_i32_913
  let v3095 : BitVec 32 := v3094
  let v3096 : Index := Scalar.indexCast v3095
  let c1280_914 : Index := 1280#32
  ![v3096.toNat, 1280]
def k0_mult52 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_915 : BitVec 32 := 16#32
  let v3098 : BitVec 32 := Scalar.muli v1213 c16_i32_915
  let c8_i32_916 : BitVec 32 := 8#32
  let v3099 : BitVec 32 := Scalar.muli v3098 c8_i32_916
  let c0_i32_917 : BitVec 32 := 0#32
  let v3100 : BitVec 32 := Scalar.addi v3099 c0_i32_917
  v3100
def k0_off42 (k0_t1 : Fin k0_t1_loop.trips) (c0_i32_917 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_915 : BitVec 32 := 16#32
  let v3098 : BitVec 32 := Scalar.muli v1213 c16_i32_915
  let c8_i32_916 : BitVec 32 := 8#32
  let v3099 : BitVec 32 := Scalar.muli v3098 c8_i32_916
  let v3100 : BitVec 32 := Scalar.addi v3099 c0_i32_917
  let v3101 : BitVec 32 := v3100
  let v3102 : Index := Scalar.indexCast v3101
  let c1280_918 : Index := 1280#32
  ![v3102.toNat, 1280]
def k0_off43 (k0_t1 : Fin k0_t1_loop.trips) (c0_i32_917 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_915 : BitVec 32 := 16#32
  let v3098 : BitVec 32 := Scalar.muli v1213 c16_i32_915
  let c8_i32_916 : BitVec 32 := 8#32
  let v3099 : BitVec 32 := Scalar.muli v3098 c8_i32_916
  let v3100 : BitVec 32 := Scalar.addi v3099 c0_i32_917
  let v3101 : BitVec 32 := v3100
  let v3133 : Index := Scalar.indexCast v3101
  let c1280_926 : Index := 1280#32
  ![v3133.toNat, 1280]
def k0_off44 (k0_t1 : Fin k0_t1_loop.trips) (c0_i32_917 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_915 : BitVec 32 := 16#32
  let v3098 : BitVec 32 := Scalar.muli v1213 c16_i32_915
  let c8_i32_916 : BitVec 32 := 8#32
  let v3099 : BitVec 32 := Scalar.muli v3098 c8_i32_916
  let v3100 : BitVec 32 := Scalar.addi v3099 c0_i32_917
  let v3101 : BitVec 32 := v3100
  let v3140 : Index := Scalar.indexCast v3101
  let c4864 : Index := 4864#32
  ![v3140.toNat, 4864]
def k0_mult53 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_927 : BitVec 32 := 16#32
  let v3144 : BitVec 32 := Scalar.muli v1213 c16_i32_927
  let c8_i32_928 : BitVec 32 := 8#32
  let v3145 : BitVec 32 := Scalar.muli v3144 c8_i32_928
  let c32_i32_929 : BitVec 32 := 32#32
  let v3146 : BitVec 32 := Scalar.addi v3145 c32_i32_929
  v3146
def k0_mult54 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_940 : BitVec 32 := 16#32
  let v3190 : BitVec 32 := Scalar.muli v1213 c16_i32_940
  let c8_i32_941 : BitVec 32 := 8#32
  let v3191 : BitVec 32 := Scalar.muli v3190 c8_i32_941
  let c64_i32_942 : BitVec 32 := 64#32
  let v3192 : BitVec 32 := Scalar.addi v3191 c64_i32_942
  v3192
def k0_mult55 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_953 : BitVec 32 := 16#32
  let v3236 : BitVec 32 := Scalar.muli v1213 c16_i32_953
  let c8_i32_954 : BitVec 32 := 8#32
  let v3237 : BitVec 32 := Scalar.muli v3236 c8_i32_954
  let c96_i32_955 : BitVec 32 := 96#32
  let v3238 : BitVec 32 := Scalar.addi v3237 c96_i32_955
  v3238
def k0_mult56 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_966 : BitVec 32 := 8#32
  let v3282 : BitVec 32 := Scalar.muli v1213 c8_i32_966
  v3282
def k0_off45 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_966 : BitVec 32 := 8#32
  let v3282 : BitVec 32 := Scalar.muli v1213 c8_i32_966
  let v3283 : BitVec 32 := v3282
  let v3284 : Index := Scalar.indexCast v3283
  let c1408_967 : Index := 1408#32
  ![v3284.toNat, 1408]
def k0_mult57 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_968 : BitVec 32 := 16#32
  let v3286 : BitVec 32 := Scalar.muli v1213 c16_i32_968
  let c8_i32_969 : BitVec 32 := 8#32
  let v3287 : BitVec 32 := Scalar.muli v3286 c8_i32_969
  let c0_i32_970 : BitVec 32 := 0#32
  let v3288 : BitVec 32 := Scalar.addi v3287 c0_i32_970
  v3288
def k0_off46 (k0_t1 : Fin k0_t1_loop.trips) (c0_i32_970 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_968 : BitVec 32 := 16#32
  let v3286 : BitVec 32 := Scalar.muli v1213 c16_i32_968
  let c8_i32_969 : BitVec 32 := 8#32
  let v3287 : BitVec 32 := Scalar.muli v3286 c8_i32_969
  let v3288 : BitVec 32 := Scalar.addi v3287 c0_i32_970
  let v3289 : BitVec 32 := v3288
  let v3290 : Index := Scalar.indexCast v3289
  let c1408_971 : Index := 1408#32
  ![v3290.toNat, 1408]
def k0_off47 (k0_t1 : Fin k0_t1_loop.trips) (c0_i32_970 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_968 : BitVec 32 := 16#32
  let v3286 : BitVec 32 := Scalar.muli v1213 c16_i32_968
  let c8_i32_969 : BitVec 32 := 8#32
  let v3287 : BitVec 32 := Scalar.muli v3286 c8_i32_969
  let v3288 : BitVec 32 := Scalar.addi v3287 c0_i32_970
  let v3289 : BitVec 32 := v3288
  let v3321 : Index := Scalar.indexCast v3289
  let c1408_979 : Index := 1408#32
  ![v3321.toNat, 1408]
def k0_off48 (k0_t1 : Fin k0_t1_loop.trips) (c0_i32_970 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_968 : BitVec 32 := 16#32
  let v3286 : BitVec 32 := Scalar.muli v1213 c16_i32_968
  let c8_i32_969 : BitVec 32 := 8#32
  let v3287 : BitVec 32 := Scalar.muli v3286 c8_i32_969
  let v3288 : BitVec 32 := Scalar.addi v3287 c0_i32_970
  let v3289 : BitVec 32 := v3288
  let v3328 : Index := Scalar.indexCast v3289
  let c4992 : Index := 4992#32
  ![v3328.toNat, 4992]
def k0_mult58 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_980 : BitVec 32 := 16#32
  let v3332 : BitVec 32 := Scalar.muli v1213 c16_i32_980
  let c8_i32_981 : BitVec 32 := 8#32
  let v3333 : BitVec 32 := Scalar.muli v3332 c8_i32_981
  let c32_i32_982 : BitVec 32 := 32#32
  let v3334 : BitVec 32 := Scalar.addi v3333 c32_i32_982
  v3334
def k0_mult59 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_993 : BitVec 32 := 16#32
  let v3378 : BitVec 32 := Scalar.muli v1213 c16_i32_993
  let c8_i32_994 : BitVec 32 := 8#32
  let v3379 : BitVec 32 := Scalar.muli v3378 c8_i32_994
  let c64_i32_995 : BitVec 32 := 64#32
  let v3380 : BitVec 32 := Scalar.addi v3379 c64_i32_995
  v3380
def k0_mult60 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1006 : BitVec 32 := 16#32
  let v3424 : BitVec 32 := Scalar.muli v1213 c16_i32_1006
  let c8_i32_1007 : BitVec 32 := 8#32
  let v3425 : BitVec 32 := Scalar.muli v3424 c8_i32_1007
  let c96_i32_1008 : BitVec 32 := 96#32
  let v3426 : BitVec 32 := Scalar.addi v3425 c96_i32_1008
  v3426
def k0_mult61 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1019 : BitVec 32 := 8#32
  let v3470 : BitVec 32 := Scalar.muli v1213 c8_i32_1019
  v3470
def k0_off49 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1019 : BitVec 32 := 8#32
  let v3470 : BitVec 32 := Scalar.muli v1213 c8_i32_1019
  let v3471 : BitVec 32 := v3470
  let v3472 : Index := Scalar.indexCast v3471
  let c1536_1020 : Index := 1536#32
  ![v3472.toNat, 1536]
def k0_mult62 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1021 : BitVec 32 := 16#32
  let v3474 : BitVec 32 := Scalar.muli v1213 c16_i32_1021
  let c8_i32_1022 : BitVec 32 := 8#32
  let v3475 : BitVec 32 := Scalar.muli v3474 c8_i32_1022
  let c0_i32_1023 : BitVec 32 := 0#32
  let v3476 : BitVec 32 := Scalar.addi v3475 c0_i32_1023
  v3476
def k0_off50 (k0_t1 : Fin k0_t1_loop.trips) (c0_i32_1023 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1021 : BitVec 32 := 16#32
  let v3474 : BitVec 32 := Scalar.muli v1213 c16_i32_1021
  let c8_i32_1022 : BitVec 32 := 8#32
  let v3475 : BitVec 32 := Scalar.muli v3474 c8_i32_1022
  let v3476 : BitVec 32 := Scalar.addi v3475 c0_i32_1023
  let v3477 : BitVec 32 := v3476
  let v3478 : Index := Scalar.indexCast v3477
  let c1536_1024 : Index := 1536#32
  ![v3478.toNat, 1536]
def k0_off51 (k0_t1 : Fin k0_t1_loop.trips) (c0_i32_1023 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1021 : BitVec 32 := 16#32
  let v3474 : BitVec 32 := Scalar.muli v1213 c16_i32_1021
  let c8_i32_1022 : BitVec 32 := 8#32
  let v3475 : BitVec 32 := Scalar.muli v3474 c8_i32_1022
  let v3476 : BitVec 32 := Scalar.addi v3475 c0_i32_1023
  let v3477 : BitVec 32 := v3476
  let v3509 : Index := Scalar.indexCast v3477
  let c1536_1032 : Index := 1536#32
  ![v3509.toNat, 1536]
def k0_off52 (k0_t1 : Fin k0_t1_loop.trips) (c0_i32_1023 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1021 : BitVec 32 := 16#32
  let v3474 : BitVec 32 := Scalar.muli v1213 c16_i32_1021
  let c8_i32_1022 : BitVec 32 := 8#32
  let v3475 : BitVec 32 := Scalar.muli v3474 c8_i32_1022
  let v3476 : BitVec 32 := Scalar.addi v3475 c0_i32_1023
  let v3477 : BitVec 32 := v3476
  let v3516 : Index := Scalar.indexCast v3477
  let c5120 : Index := 5120#32
  ![v3516.toNat, 5120]
def k0_mult63 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1033 : BitVec 32 := 16#32
  let v3520 : BitVec 32 := Scalar.muli v1213 c16_i32_1033
  let c8_i32_1034 : BitVec 32 := 8#32
  let v3521 : BitVec 32 := Scalar.muli v3520 c8_i32_1034
  let c32_i32_1035 : BitVec 32 := 32#32
  let v3522 : BitVec 32 := Scalar.addi v3521 c32_i32_1035
  v3522
def k0_mult64 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1046 : BitVec 32 := 16#32
  let v3566 : BitVec 32 := Scalar.muli v1213 c16_i32_1046
  let c8_i32_1047 : BitVec 32 := 8#32
  let v3567 : BitVec 32 := Scalar.muli v3566 c8_i32_1047
  let c64_i32_1048 : BitVec 32 := 64#32
  let v3568 : BitVec 32 := Scalar.addi v3567 c64_i32_1048
  v3568
def k0_mult65 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1059 : BitVec 32 := 16#32
  let v3612 : BitVec 32 := Scalar.muli v1213 c16_i32_1059
  let c8_i32_1060 : BitVec 32 := 8#32
  let v3613 : BitVec 32 := Scalar.muli v3612 c8_i32_1060
  let c96_i32_1061 : BitVec 32 := 96#32
  let v3614 : BitVec 32 := Scalar.addi v3613 c96_i32_1061
  v3614
def k0_mult66 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1072 : BitVec 32 := 8#32
  let v3658 : BitVec 32 := Scalar.muli v1213 c8_i32_1072
  v3658
def k0_off53 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1072 : BitVec 32 := 8#32
  let v3658 : BitVec 32 := Scalar.muli v1213 c8_i32_1072
  let v3659 : BitVec 32 := v3658
  let v3660 : Index := Scalar.indexCast v3659
  let c1664_1073 : Index := 1664#32
  ![v3660.toNat, 1664]
def k0_mult67 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1074 : BitVec 32 := 16#32
  let v3662 : BitVec 32 := Scalar.muli v1213 c16_i32_1074
  let c8_i32_1075 : BitVec 32 := 8#32
  let v3663 : BitVec 32 := Scalar.muli v3662 c8_i32_1075
  let c0_i32_1076 : BitVec 32 := 0#32
  let v3664 : BitVec 32 := Scalar.addi v3663 c0_i32_1076
  v3664
def k0_off54 (k0_t1 : Fin k0_t1_loop.trips) (c0_i32_1076 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1074 : BitVec 32 := 16#32
  let v3662 : BitVec 32 := Scalar.muli v1213 c16_i32_1074
  let c8_i32_1075 : BitVec 32 := 8#32
  let v3663 : BitVec 32 := Scalar.muli v3662 c8_i32_1075
  let v3664 : BitVec 32 := Scalar.addi v3663 c0_i32_1076
  let v3665 : BitVec 32 := v3664
  let v3666 : Index := Scalar.indexCast v3665
  let c1664_1077 : Index := 1664#32
  ![v3666.toNat, 1664]
def k0_off55 (k0_t1 : Fin k0_t1_loop.trips) (c0_i32_1076 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1074 : BitVec 32 := 16#32
  let v3662 : BitVec 32 := Scalar.muli v1213 c16_i32_1074
  let c8_i32_1075 : BitVec 32 := 8#32
  let v3663 : BitVec 32 := Scalar.muli v3662 c8_i32_1075
  let v3664 : BitVec 32 := Scalar.addi v3663 c0_i32_1076
  let v3665 : BitVec 32 := v3664
  let v3697 : Index := Scalar.indexCast v3665
  let c1664_1085 : Index := 1664#32
  ![v3697.toNat, 1664]
def k0_off56 (k0_t1 : Fin k0_t1_loop.trips) (c0_i32_1076 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1074 : BitVec 32 := 16#32
  let v3662 : BitVec 32 := Scalar.muli v1213 c16_i32_1074
  let c8_i32_1075 : BitVec 32 := 8#32
  let v3663 : BitVec 32 := Scalar.muli v3662 c8_i32_1075
  let v3664 : BitVec 32 := Scalar.addi v3663 c0_i32_1076
  let v3665 : BitVec 32 := v3664
  let v3704 : Index := Scalar.indexCast v3665
  let c5248 : Index := 5248#32
  ![v3704.toNat, 5248]
def k0_mult68 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1086 : BitVec 32 := 16#32
  let v3708 : BitVec 32 := Scalar.muli v1213 c16_i32_1086
  let c8_i32_1087 : BitVec 32 := 8#32
  let v3709 : BitVec 32 := Scalar.muli v3708 c8_i32_1087
  let c32_i32_1088 : BitVec 32 := 32#32
  let v3710 : BitVec 32 := Scalar.addi v3709 c32_i32_1088
  v3710
def k0_mult69 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1099 : BitVec 32 := 16#32
  let v3754 : BitVec 32 := Scalar.muli v1213 c16_i32_1099
  let c8_i32_1100 : BitVec 32 := 8#32
  let v3755 : BitVec 32 := Scalar.muli v3754 c8_i32_1100
  let c64_i32_1101 : BitVec 32 := 64#32
  let v3756 : BitVec 32 := Scalar.addi v3755 c64_i32_1101
  v3756
def k0_mult70 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1112 : BitVec 32 := 16#32
  let v3800 : BitVec 32 := Scalar.muli v1213 c16_i32_1112
  let c8_i32_1113 : BitVec 32 := 8#32
  let v3801 : BitVec 32 := Scalar.muli v3800 c8_i32_1113
  let c96_i32_1114 : BitVec 32 := 96#32
  let v3802 : BitVec 32 := Scalar.addi v3801 c96_i32_1114
  v3802
def k0_mult71 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1125 : BitVec 32 := 8#32
  let v3846 : BitVec 32 := Scalar.muli v1213 c8_i32_1125
  v3846
def k0_off57 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1125 : BitVec 32 := 8#32
  let v3846 : BitVec 32 := Scalar.muli v1213 c8_i32_1125
  let v3847 : BitVec 32 := v3846
  let v3848 : Index := Scalar.indexCast v3847
  let c1792_1126 : Index := 1792#32
  ![v3848.toNat, 1792]
def k0_mult72 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1127 : BitVec 32 := 16#32
  let v3850 : BitVec 32 := Scalar.muli v1213 c16_i32_1127
  let c8_i32_1128 : BitVec 32 := 8#32
  let v3851 : BitVec 32 := Scalar.muli v3850 c8_i32_1128
  let c0_i32_1129 : BitVec 32 := 0#32
  let v3852 : BitVec 32 := Scalar.addi v3851 c0_i32_1129
  v3852
def k0_off58 (k0_t1 : Fin k0_t1_loop.trips) (c0_i32_1129 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1127 : BitVec 32 := 16#32
  let v3850 : BitVec 32 := Scalar.muli v1213 c16_i32_1127
  let c8_i32_1128 : BitVec 32 := 8#32
  let v3851 : BitVec 32 := Scalar.muli v3850 c8_i32_1128
  let v3852 : BitVec 32 := Scalar.addi v3851 c0_i32_1129
  let v3853 : BitVec 32 := v3852
  let v3854 : Index := Scalar.indexCast v3853
  let c1792_1130 : Index := 1792#32
  ![v3854.toNat, 1792]
def k0_off59 (k0_t1 : Fin k0_t1_loop.trips) (c0_i32_1129 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1127 : BitVec 32 := 16#32
  let v3850 : BitVec 32 := Scalar.muli v1213 c16_i32_1127
  let c8_i32_1128 : BitVec 32 := 8#32
  let v3851 : BitVec 32 := Scalar.muli v3850 c8_i32_1128
  let v3852 : BitVec 32 := Scalar.addi v3851 c0_i32_1129
  let v3853 : BitVec 32 := v3852
  let v3885 : Index := Scalar.indexCast v3853
  let c1792_1138 : Index := 1792#32
  ![v3885.toNat, 1792]
def k0_off60 (k0_t1 : Fin k0_t1_loop.trips) (c0_i32_1129 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1127 : BitVec 32 := 16#32
  let v3850 : BitVec 32 := Scalar.muli v1213 c16_i32_1127
  let c8_i32_1128 : BitVec 32 := 8#32
  let v3851 : BitVec 32 := Scalar.muli v3850 c8_i32_1128
  let v3852 : BitVec 32 := Scalar.addi v3851 c0_i32_1129
  let v3853 : BitVec 32 := v3852
  let v3892 : Index := Scalar.indexCast v3853
  let c5376 : Index := 5376#32
  ![v3892.toNat, 5376]
def k0_mult73 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1139 : BitVec 32 := 16#32
  let v3896 : BitVec 32 := Scalar.muli v1213 c16_i32_1139
  let c8_i32_1140 : BitVec 32 := 8#32
  let v3897 : BitVec 32 := Scalar.muli v3896 c8_i32_1140
  let c32_i32_1141 : BitVec 32 := 32#32
  let v3898 : BitVec 32 := Scalar.addi v3897 c32_i32_1141
  v3898
def k0_mult74 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1152 : BitVec 32 := 16#32
  let v3942 : BitVec 32 := Scalar.muli v1213 c16_i32_1152
  let c8_i32_1153 : BitVec 32 := 8#32
  let v3943 : BitVec 32 := Scalar.muli v3942 c8_i32_1153
  let c64_i32_1154 : BitVec 32 := 64#32
  let v3944 : BitVec 32 := Scalar.addi v3943 c64_i32_1154
  v3944
def k0_mult75 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1165 : BitVec 32 := 16#32
  let v3988 : BitVec 32 := Scalar.muli v1213 c16_i32_1165
  let c8_i32_1166 : BitVec 32 := 8#32
  let v3989 : BitVec 32 := Scalar.muli v3988 c8_i32_1166
  let c96_i32_1167 : BitVec 32 := 96#32
  let v3990 : BitVec 32 := Scalar.addi v3989 c96_i32_1167
  v3990
def k0_mult76 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1178 : BitVec 32 := 8#32
  let v4034 : BitVec 32 := Scalar.muli v1213 c8_i32_1178
  v4034
def k0_off61 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1178 : BitVec 32 := 8#32
  let v4034 : BitVec 32 := Scalar.muli v1213 c8_i32_1178
  let v4035 : BitVec 32 := v4034
  let v4036 : Index := Scalar.indexCast v4035
  let c1920_1179 : Index := 1920#32
  ![v4036.toNat, 1920]
def k0_mult77 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1180 : BitVec 32 := 16#32
  let v4038 : BitVec 32 := Scalar.muli v1213 c16_i32_1180
  let c8_i32_1181 : BitVec 32 := 8#32
  let v4039 : BitVec 32 := Scalar.muli v4038 c8_i32_1181
  let c0_i32_1182 : BitVec 32 := 0#32
  let v4040 : BitVec 32 := Scalar.addi v4039 c0_i32_1182
  v4040
def k0_off62 (k0_t1 : Fin k0_t1_loop.trips) (c0_i32_1182 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1180 : BitVec 32 := 16#32
  let v4038 : BitVec 32 := Scalar.muli v1213 c16_i32_1180
  let c8_i32_1181 : BitVec 32 := 8#32
  let v4039 : BitVec 32 := Scalar.muli v4038 c8_i32_1181
  let v4040 : BitVec 32 := Scalar.addi v4039 c0_i32_1182
  let v4041 : BitVec 32 := v4040
  let v4042 : Index := Scalar.indexCast v4041
  let c1920_1183 : Index := 1920#32
  ![v4042.toNat, 1920]
def k0_off63 (k0_t1 : Fin k0_t1_loop.trips) (c0_i32_1182 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1180 : BitVec 32 := 16#32
  let v4038 : BitVec 32 := Scalar.muli v1213 c16_i32_1180
  let c8_i32_1181 : BitVec 32 := 8#32
  let v4039 : BitVec 32 := Scalar.muli v4038 c8_i32_1181
  let v4040 : BitVec 32 := Scalar.addi v4039 c0_i32_1182
  let v4041 : BitVec 32 := v4040
  let v4073 : Index := Scalar.indexCast v4041
  let c1920_1191 : Index := 1920#32
  ![v4073.toNat, 1920]
def k0_off64 (k0_t1 : Fin k0_t1_loop.trips) (c0_i32_1182 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1180 : BitVec 32 := 16#32
  let v4038 : BitVec 32 := Scalar.muli v1213 c16_i32_1180
  let c8_i32_1181 : BitVec 32 := 8#32
  let v4039 : BitVec 32 := Scalar.muli v4038 c8_i32_1181
  let v4040 : BitVec 32 := Scalar.addi v4039 c0_i32_1182
  let v4041 : BitVec 32 := v4040
  let v4080 : Index := Scalar.indexCast v4041
  let c5504 : Index := 5504#32
  ![v4080.toNat, 5504]
def k0_mult78 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1192 : BitVec 32 := 16#32
  let v4084 : BitVec 32 := Scalar.muli v1213 c16_i32_1192
  let c8_i32_1193 : BitVec 32 := 8#32
  let v4085 : BitVec 32 := Scalar.muli v4084 c8_i32_1193
  let c32_i32_1194 : BitVec 32 := 32#32
  let v4086 : BitVec 32 := Scalar.addi v4085 c32_i32_1194
  v4086
def k0_mult79 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1205 : BitVec 32 := 16#32
  let v4130 : BitVec 32 := Scalar.muli v1213 c16_i32_1205
  let c8_i32_1206 : BitVec 32 := 8#32
  let v4131 : BitVec 32 := Scalar.muli v4130 c8_i32_1206
  let c64_i32_1207 : BitVec 32 := 64#32
  let v4132 : BitVec 32 := Scalar.addi v4131 c64_i32_1207
  v4132
def k0_mult80 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1218 : BitVec 32 := 16#32
  let v4176 : BitVec 32 := Scalar.muli v1213 c16_i32_1218
  let c8_i32_1219 : BitVec 32 := 8#32
  let v4177 : BitVec 32 := Scalar.muli v4176 c8_i32_1219
  let c96_i32_1220 : BitVec 32 := 96#32
  let v4178 : BitVec 32 := Scalar.addi v4177 c96_i32_1220
  v4178
def k0_mult81 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1231 : BitVec 32 := 8#32
  let v4222 : BitVec 32 := Scalar.muli v1213 c8_i32_1231
  v4222
def k0_off65 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1231 : BitVec 32 := 8#32
  let v4222 : BitVec 32 := Scalar.muli v1213 c8_i32_1231
  let v4223 : BitVec 32 := v4222
  let v4224 : Index := Scalar.indexCast v4223
  let c2048_1232 : Index := 2048#32
  ![v4224.toNat, 2048]
def k0_mult82 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1233 : BitVec 32 := 16#32
  let v4226 : BitVec 32 := Scalar.muli v1213 c16_i32_1233
  let c8_i32_1234 : BitVec 32 := 8#32
  let v4227 : BitVec 32 := Scalar.muli v4226 c8_i32_1234
  let c0_i32_1235 : BitVec 32 := 0#32
  let v4228 : BitVec 32 := Scalar.addi v4227 c0_i32_1235
  v4228
def k0_off66 (k0_t1 : Fin k0_t1_loop.trips) (c0_i32_1235 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1233 : BitVec 32 := 16#32
  let v4226 : BitVec 32 := Scalar.muli v1213 c16_i32_1233
  let c8_i32_1234 : BitVec 32 := 8#32
  let v4227 : BitVec 32 := Scalar.muli v4226 c8_i32_1234
  let v4228 : BitVec 32 := Scalar.addi v4227 c0_i32_1235
  let v4229 : BitVec 32 := v4228
  let v4230 : Index := Scalar.indexCast v4229
  let c2048_1236 : Index := 2048#32
  ![v4230.toNat, 2048]
def k0_off67 (k0_t1 : Fin k0_t1_loop.trips) (c0_i32_1235 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1233 : BitVec 32 := 16#32
  let v4226 : BitVec 32 := Scalar.muli v1213 c16_i32_1233
  let c8_i32_1234 : BitVec 32 := 8#32
  let v4227 : BitVec 32 := Scalar.muli v4226 c8_i32_1234
  let v4228 : BitVec 32 := Scalar.addi v4227 c0_i32_1235
  let v4229 : BitVec 32 := v4228
  let v4261 : Index := Scalar.indexCast v4229
  let c2048_1244 : Index := 2048#32
  ![v4261.toNat, 2048]
def k0_off68 (k0_t1 : Fin k0_t1_loop.trips) (c0_i32_1235 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1233 : BitVec 32 := 16#32
  let v4226 : BitVec 32 := Scalar.muli v1213 c16_i32_1233
  let c8_i32_1234 : BitVec 32 := 8#32
  let v4227 : BitVec 32 := Scalar.muli v4226 c8_i32_1234
  let v4228 : BitVec 32 := Scalar.addi v4227 c0_i32_1235
  let v4229 : BitVec 32 := v4228
  let v4268 : Index := Scalar.indexCast v4229
  let c5632 : Index := 5632#32
  ![v4268.toNat, 5632]
def k0_mult83 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1245 : BitVec 32 := 16#32
  let v4272 : BitVec 32 := Scalar.muli v1213 c16_i32_1245
  let c8_i32_1246 : BitVec 32 := 8#32
  let v4273 : BitVec 32 := Scalar.muli v4272 c8_i32_1246
  let c32_i32_1247 : BitVec 32 := 32#32
  let v4274 : BitVec 32 := Scalar.addi v4273 c32_i32_1247
  v4274
def k0_mult84 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1258 : BitVec 32 := 16#32
  let v4318 : BitVec 32 := Scalar.muli v1213 c16_i32_1258
  let c8_i32_1259 : BitVec 32 := 8#32
  let v4319 : BitVec 32 := Scalar.muli v4318 c8_i32_1259
  let c64_i32_1260 : BitVec 32 := 64#32
  let v4320 : BitVec 32 := Scalar.addi v4319 c64_i32_1260
  v4320
def k0_mult85 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1271 : BitVec 32 := 16#32
  let v4364 : BitVec 32 := Scalar.muli v1213 c16_i32_1271
  let c8_i32_1272 : BitVec 32 := 8#32
  let v4365 : BitVec 32 := Scalar.muli v4364 c8_i32_1272
  let c96_i32_1273 : BitVec 32 := 96#32
  let v4366 : BitVec 32 := Scalar.addi v4365 c96_i32_1273
  v4366
def k0_mult86 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1284 : BitVec 32 := 8#32
  let v4410 : BitVec 32 := Scalar.muli v1213 c8_i32_1284
  v4410
def k0_off69 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1284 : BitVec 32 := 8#32
  let v4410 : BitVec 32 := Scalar.muli v1213 c8_i32_1284
  let v4411 : BitVec 32 := v4410
  let v4412 : Index := Scalar.indexCast v4411
  let c2176_1285 : Index := 2176#32
  ![v4412.toNat, 2176]
def k0_mult87 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1286 : BitVec 32 := 16#32
  let v4414 : BitVec 32 := Scalar.muli v1213 c16_i32_1286
  let c8_i32_1287 : BitVec 32 := 8#32
  let v4415 : BitVec 32 := Scalar.muli v4414 c8_i32_1287
  let c0_i32_1288 : BitVec 32 := 0#32
  let v4416 : BitVec 32 := Scalar.addi v4415 c0_i32_1288
  v4416
def k0_off70 (k0_t1 : Fin k0_t1_loop.trips) (c0_i32_1288 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1286 : BitVec 32 := 16#32
  let v4414 : BitVec 32 := Scalar.muli v1213 c16_i32_1286
  let c8_i32_1287 : BitVec 32 := 8#32
  let v4415 : BitVec 32 := Scalar.muli v4414 c8_i32_1287
  let v4416 : BitVec 32 := Scalar.addi v4415 c0_i32_1288
  let v4417 : BitVec 32 := v4416
  let v4418 : Index := Scalar.indexCast v4417
  let c2176_1289 : Index := 2176#32
  ![v4418.toNat, 2176]
def k0_off71 (k0_t1 : Fin k0_t1_loop.trips) (c0_i32_1288 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1286 : BitVec 32 := 16#32
  let v4414 : BitVec 32 := Scalar.muli v1213 c16_i32_1286
  let c8_i32_1287 : BitVec 32 := 8#32
  let v4415 : BitVec 32 := Scalar.muli v4414 c8_i32_1287
  let v4416 : BitVec 32 := Scalar.addi v4415 c0_i32_1288
  let v4417 : BitVec 32 := v4416
  let v4449 : Index := Scalar.indexCast v4417
  let c2176_1297 : Index := 2176#32
  ![v4449.toNat, 2176]
def k0_off72 (k0_t1 : Fin k0_t1_loop.trips) (c0_i32_1288 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1286 : BitVec 32 := 16#32
  let v4414 : BitVec 32 := Scalar.muli v1213 c16_i32_1286
  let c8_i32_1287 : BitVec 32 := 8#32
  let v4415 : BitVec 32 := Scalar.muli v4414 c8_i32_1287
  let v4416 : BitVec 32 := Scalar.addi v4415 c0_i32_1288
  let v4417 : BitVec 32 := v4416
  let v4456 : Index := Scalar.indexCast v4417
  let c5760 : Index := 5760#32
  ![v4456.toNat, 5760]
def k0_mult88 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1298 : BitVec 32 := 16#32
  let v4460 : BitVec 32 := Scalar.muli v1213 c16_i32_1298
  let c8_i32_1299 : BitVec 32 := 8#32
  let v4461 : BitVec 32 := Scalar.muli v4460 c8_i32_1299
  let c32_i32_1300 : BitVec 32 := 32#32
  let v4462 : BitVec 32 := Scalar.addi v4461 c32_i32_1300
  v4462
def k0_mult89 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1311 : BitVec 32 := 16#32
  let v4506 : BitVec 32 := Scalar.muli v1213 c16_i32_1311
  let c8_i32_1312 : BitVec 32 := 8#32
  let v4507 : BitVec 32 := Scalar.muli v4506 c8_i32_1312
  let c64_i32_1313 : BitVec 32 := 64#32
  let v4508 : BitVec 32 := Scalar.addi v4507 c64_i32_1313
  v4508
def k0_mult90 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1324 : BitVec 32 := 16#32
  let v4552 : BitVec 32 := Scalar.muli v1213 c16_i32_1324
  let c8_i32_1325 : BitVec 32 := 8#32
  let v4553 : BitVec 32 := Scalar.muli v4552 c8_i32_1325
  let c96_i32_1326 : BitVec 32 := 96#32
  let v4554 : BitVec 32 := Scalar.addi v4553 c96_i32_1326
  v4554
def k0_mult91 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1337 : BitVec 32 := 8#32
  let v4598 : BitVec 32 := Scalar.muli v1213 c8_i32_1337
  v4598
def k0_off73 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1337 : BitVec 32 := 8#32
  let v4598 : BitVec 32 := Scalar.muli v1213 c8_i32_1337
  let v4599 : BitVec 32 := v4598
  let v4600 : Index := Scalar.indexCast v4599
  let c2304_1338 : Index := 2304#32
  ![v4600.toNat, 2304]
def k0_mult92 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1339 : BitVec 32 := 16#32
  let v4602 : BitVec 32 := Scalar.muli v1213 c16_i32_1339
  let c8_i32_1340 : BitVec 32 := 8#32
  let v4603 : BitVec 32 := Scalar.muli v4602 c8_i32_1340
  let c0_i32_1341 : BitVec 32 := 0#32
  let v4604 : BitVec 32 := Scalar.addi v4603 c0_i32_1341
  v4604
def k0_off74 (k0_t1 : Fin k0_t1_loop.trips) (c0_i32_1341 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1339 : BitVec 32 := 16#32
  let v4602 : BitVec 32 := Scalar.muli v1213 c16_i32_1339
  let c8_i32_1340 : BitVec 32 := 8#32
  let v4603 : BitVec 32 := Scalar.muli v4602 c8_i32_1340
  let v4604 : BitVec 32 := Scalar.addi v4603 c0_i32_1341
  let v4605 : BitVec 32 := v4604
  let v4606 : Index := Scalar.indexCast v4605
  let c2304_1342 : Index := 2304#32
  ![v4606.toNat, 2304]
def k0_off75 (k0_t1 : Fin k0_t1_loop.trips) (c0_i32_1341 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1339 : BitVec 32 := 16#32
  let v4602 : BitVec 32 := Scalar.muli v1213 c16_i32_1339
  let c8_i32_1340 : BitVec 32 := 8#32
  let v4603 : BitVec 32 := Scalar.muli v4602 c8_i32_1340
  let v4604 : BitVec 32 := Scalar.addi v4603 c0_i32_1341
  let v4605 : BitVec 32 := v4604
  let v4637 : Index := Scalar.indexCast v4605
  let c2304_1350 : Index := 2304#32
  ![v4637.toNat, 2304]
def k0_off76 (k0_t1 : Fin k0_t1_loop.trips) (c0_i32_1341 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1339 : BitVec 32 := 16#32
  let v4602 : BitVec 32 := Scalar.muli v1213 c16_i32_1339
  let c8_i32_1340 : BitVec 32 := 8#32
  let v4603 : BitVec 32 := Scalar.muli v4602 c8_i32_1340
  let v4604 : BitVec 32 := Scalar.addi v4603 c0_i32_1341
  let v4605 : BitVec 32 := v4604
  let v4644 : Index := Scalar.indexCast v4605
  let c5888 : Index := 5888#32
  ![v4644.toNat, 5888]
def k0_mult93 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1351 : BitVec 32 := 16#32
  let v4648 : BitVec 32 := Scalar.muli v1213 c16_i32_1351
  let c8_i32_1352 : BitVec 32 := 8#32
  let v4649 : BitVec 32 := Scalar.muli v4648 c8_i32_1352
  let c32_i32_1353 : BitVec 32 := 32#32
  let v4650 : BitVec 32 := Scalar.addi v4649 c32_i32_1353
  v4650
def k0_mult94 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1364 : BitVec 32 := 16#32
  let v4694 : BitVec 32 := Scalar.muli v1213 c16_i32_1364
  let c8_i32_1365 : BitVec 32 := 8#32
  let v4695 : BitVec 32 := Scalar.muli v4694 c8_i32_1365
  let c64_i32_1366 : BitVec 32 := 64#32
  let v4696 : BitVec 32 := Scalar.addi v4695 c64_i32_1366
  v4696
def k0_mult95 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1377 : BitVec 32 := 16#32
  let v4740 : BitVec 32 := Scalar.muli v1213 c16_i32_1377
  let c8_i32_1378 : BitVec 32 := 8#32
  let v4741 : BitVec 32 := Scalar.muli v4740 c8_i32_1378
  let c96_i32_1379 : BitVec 32 := 96#32
  let v4742 : BitVec 32 := Scalar.addi v4741 c96_i32_1379
  v4742
def k0_mult96 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1390 : BitVec 32 := 8#32
  let v4786 : BitVec 32 := Scalar.muli v1213 c8_i32_1390
  v4786
def k0_off77 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1390 : BitVec 32 := 8#32
  let v4786 : BitVec 32 := Scalar.muli v1213 c8_i32_1390
  let v4787 : BitVec 32 := v4786
  let v4788 : Index := Scalar.indexCast v4787
  let c2432_1391 : Index := 2432#32
  ![v4788.toNat, 2432]
def k0_mult97 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1392 : BitVec 32 := 16#32
  let v4790 : BitVec 32 := Scalar.muli v1213 c16_i32_1392
  let c8_i32_1393 : BitVec 32 := 8#32
  let v4791 : BitVec 32 := Scalar.muli v4790 c8_i32_1393
  let c0_i32_1394 : BitVec 32 := 0#32
  let v4792 : BitVec 32 := Scalar.addi v4791 c0_i32_1394
  v4792
def k0_off78 (k0_t1 : Fin k0_t1_loop.trips) (c0_i32_1394 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1392 : BitVec 32 := 16#32
  let v4790 : BitVec 32 := Scalar.muli v1213 c16_i32_1392
  let c8_i32_1393 : BitVec 32 := 8#32
  let v4791 : BitVec 32 := Scalar.muli v4790 c8_i32_1393
  let v4792 : BitVec 32 := Scalar.addi v4791 c0_i32_1394
  let v4793 : BitVec 32 := v4792
  let v4794 : Index := Scalar.indexCast v4793
  let c2432_1395 : Index := 2432#32
  ![v4794.toNat, 2432]
def k0_off79 (k0_t1 : Fin k0_t1_loop.trips) (c0_i32_1394 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1392 : BitVec 32 := 16#32
  let v4790 : BitVec 32 := Scalar.muli v1213 c16_i32_1392
  let c8_i32_1393 : BitVec 32 := 8#32
  let v4791 : BitVec 32 := Scalar.muli v4790 c8_i32_1393
  let v4792 : BitVec 32 := Scalar.addi v4791 c0_i32_1394
  let v4793 : BitVec 32 := v4792
  let v4825 : Index := Scalar.indexCast v4793
  let c2432_1403 : Index := 2432#32
  ![v4825.toNat, 2432]
def k0_off80 (k0_t1 : Fin k0_t1_loop.trips) (c0_i32_1394 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1392 : BitVec 32 := 16#32
  let v4790 : BitVec 32 := Scalar.muli v1213 c16_i32_1392
  let c8_i32_1393 : BitVec 32 := 8#32
  let v4791 : BitVec 32 := Scalar.muli v4790 c8_i32_1393
  let v4792 : BitVec 32 := Scalar.addi v4791 c0_i32_1394
  let v4793 : BitVec 32 := v4792
  let v4832 : Index := Scalar.indexCast v4793
  let c6016 : Index := 6016#32
  ![v4832.toNat, 6016]
def k0_mult98 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1404 : BitVec 32 := 16#32
  let v4836 : BitVec 32 := Scalar.muli v1213 c16_i32_1404
  let c8_i32_1405 : BitVec 32 := 8#32
  let v4837 : BitVec 32 := Scalar.muli v4836 c8_i32_1405
  let c32_i32_1406 : BitVec 32 := 32#32
  let v4838 : BitVec 32 := Scalar.addi v4837 c32_i32_1406
  v4838
def k0_mult99 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1417 : BitVec 32 := 16#32
  let v4882 : BitVec 32 := Scalar.muli v1213 c16_i32_1417
  let c8_i32_1418 : BitVec 32 := 8#32
  let v4883 : BitVec 32 := Scalar.muli v4882 c8_i32_1418
  let c64_i32_1419 : BitVec 32 := 64#32
  let v4884 : BitVec 32 := Scalar.addi v4883 c64_i32_1419
  v4884
def k0_mult100 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1430 : BitVec 32 := 16#32
  let v4928 : BitVec 32 := Scalar.muli v1213 c16_i32_1430
  let c8_i32_1431 : BitVec 32 := 8#32
  let v4929 : BitVec 32 := Scalar.muli v4928 c8_i32_1431
  let c96_i32_1432 : BitVec 32 := 96#32
  let v4930 : BitVec 32 := Scalar.addi v4929 c96_i32_1432
  v4930
def k0_mult101 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1443 : BitVec 32 := 8#32
  let v4974 : BitVec 32 := Scalar.muli v1213 c8_i32_1443
  v4974
def k0_off81 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1443 : BitVec 32 := 8#32
  let v4974 : BitVec 32 := Scalar.muli v1213 c8_i32_1443
  let v4975 : BitVec 32 := v4974
  let v4976 : Index := Scalar.indexCast v4975
  let c2560_1444 : Index := 2560#32
  ![v4976.toNat, 2560]
def k0_mult102 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1445 : BitVec 32 := 16#32
  let v4978 : BitVec 32 := Scalar.muli v1213 c16_i32_1445
  let c8_i32_1446 : BitVec 32 := 8#32
  let v4979 : BitVec 32 := Scalar.muli v4978 c8_i32_1446
  let c0_i32_1447 : BitVec 32 := 0#32
  let v4980 : BitVec 32 := Scalar.addi v4979 c0_i32_1447
  v4980
def k0_off82 (k0_t1 : Fin k0_t1_loop.trips) (c0_i32_1447 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1445 : BitVec 32 := 16#32
  let v4978 : BitVec 32 := Scalar.muli v1213 c16_i32_1445
  let c8_i32_1446 : BitVec 32 := 8#32
  let v4979 : BitVec 32 := Scalar.muli v4978 c8_i32_1446
  let v4980 : BitVec 32 := Scalar.addi v4979 c0_i32_1447
  let v4981 : BitVec 32 := v4980
  let v4982 : Index := Scalar.indexCast v4981
  let c2560_1448 : Index := 2560#32
  ![v4982.toNat, 2560]
def k0_off83 (k0_t1 : Fin k0_t1_loop.trips) (c0_i32_1447 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1445 : BitVec 32 := 16#32
  let v4978 : BitVec 32 := Scalar.muli v1213 c16_i32_1445
  let c8_i32_1446 : BitVec 32 := 8#32
  let v4979 : BitVec 32 := Scalar.muli v4978 c8_i32_1446
  let v4980 : BitVec 32 := Scalar.addi v4979 c0_i32_1447
  let v4981 : BitVec 32 := v4980
  let v5013 : Index := Scalar.indexCast v4981
  let c2560_1456 : Index := 2560#32
  ![v5013.toNat, 2560]
def k0_off84 (k0_t1 : Fin k0_t1_loop.trips) (c0_i32_1447 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1445 : BitVec 32 := 16#32
  let v4978 : BitVec 32 := Scalar.muli v1213 c16_i32_1445
  let c8_i32_1446 : BitVec 32 := 8#32
  let v4979 : BitVec 32 := Scalar.muli v4978 c8_i32_1446
  let v4980 : BitVec 32 := Scalar.addi v4979 c0_i32_1447
  let v4981 : BitVec 32 := v4980
  let v5020 : Index := Scalar.indexCast v4981
  let c6144 : Index := 6144#32
  ![v5020.toNat, 6144]
def k0_mult103 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1457 : BitVec 32 := 16#32
  let v5024 : BitVec 32 := Scalar.muli v1213 c16_i32_1457
  let c8_i32_1458 : BitVec 32 := 8#32
  let v5025 : BitVec 32 := Scalar.muli v5024 c8_i32_1458
  let c32_i32_1459 : BitVec 32 := 32#32
  let v5026 : BitVec 32 := Scalar.addi v5025 c32_i32_1459
  v5026
def k0_mult104 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1470 : BitVec 32 := 16#32
  let v5070 : BitVec 32 := Scalar.muli v1213 c16_i32_1470
  let c8_i32_1471 : BitVec 32 := 8#32
  let v5071 : BitVec 32 := Scalar.muli v5070 c8_i32_1471
  let c64_i32_1472 : BitVec 32 := 64#32
  let v5072 : BitVec 32 := Scalar.addi v5071 c64_i32_1472
  v5072
def k0_mult105 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1483 : BitVec 32 := 16#32
  let v5116 : BitVec 32 := Scalar.muli v1213 c16_i32_1483
  let c8_i32_1484 : BitVec 32 := 8#32
  let v5117 : BitVec 32 := Scalar.muli v5116 c8_i32_1484
  let c96_i32_1485 : BitVec 32 := 96#32
  let v5118 : BitVec 32 := Scalar.addi v5117 c96_i32_1485
  v5118
def k0_mult106 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1496 : BitVec 32 := 8#32
  let v5162 : BitVec 32 := Scalar.muli v1213 c8_i32_1496
  v5162
def k0_off85 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1496 : BitVec 32 := 8#32
  let v5162 : BitVec 32 := Scalar.muli v1213 c8_i32_1496
  let v5163 : BitVec 32 := v5162
  let v5164 : Index := Scalar.indexCast v5163
  let c2688_1497 : Index := 2688#32
  ![v5164.toNat, 2688]
def k0_mult107 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1498 : BitVec 32 := 16#32
  let v5166 : BitVec 32 := Scalar.muli v1213 c16_i32_1498
  let c8_i32_1499 : BitVec 32 := 8#32
  let v5167 : BitVec 32 := Scalar.muli v5166 c8_i32_1499
  let c0_i32_1500 : BitVec 32 := 0#32
  let v5168 : BitVec 32 := Scalar.addi v5167 c0_i32_1500
  v5168
def k0_off86 (k0_t1 : Fin k0_t1_loop.trips) (c0_i32_1500 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1498 : BitVec 32 := 16#32
  let v5166 : BitVec 32 := Scalar.muli v1213 c16_i32_1498
  let c8_i32_1499 : BitVec 32 := 8#32
  let v5167 : BitVec 32 := Scalar.muli v5166 c8_i32_1499
  let v5168 : BitVec 32 := Scalar.addi v5167 c0_i32_1500
  let v5169 : BitVec 32 := v5168
  let v5170 : Index := Scalar.indexCast v5169
  let c2688_1501 : Index := 2688#32
  ![v5170.toNat, 2688]
def k0_off87 (k0_t1 : Fin k0_t1_loop.trips) (c0_i32_1500 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1498 : BitVec 32 := 16#32
  let v5166 : BitVec 32 := Scalar.muli v1213 c16_i32_1498
  let c8_i32_1499 : BitVec 32 := 8#32
  let v5167 : BitVec 32 := Scalar.muli v5166 c8_i32_1499
  let v5168 : BitVec 32 := Scalar.addi v5167 c0_i32_1500
  let v5169 : BitVec 32 := v5168
  let v5201 : Index := Scalar.indexCast v5169
  let c2688_1509 : Index := 2688#32
  ![v5201.toNat, 2688]
def k0_off88 (k0_t1 : Fin k0_t1_loop.trips) (c0_i32_1500 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1498 : BitVec 32 := 16#32
  let v5166 : BitVec 32 := Scalar.muli v1213 c16_i32_1498
  let c8_i32_1499 : BitVec 32 := 8#32
  let v5167 : BitVec 32 := Scalar.muli v5166 c8_i32_1499
  let v5168 : BitVec 32 := Scalar.addi v5167 c0_i32_1500
  let v5169 : BitVec 32 := v5168
  let v5208 : Index := Scalar.indexCast v5169
  let c6272 : Index := 6272#32
  ![v5208.toNat, 6272]
def k0_mult108 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1510 : BitVec 32 := 16#32
  let v5212 : BitVec 32 := Scalar.muli v1213 c16_i32_1510
  let c8_i32_1511 : BitVec 32 := 8#32
  let v5213 : BitVec 32 := Scalar.muli v5212 c8_i32_1511
  let c32_i32_1512 : BitVec 32 := 32#32
  let v5214 : BitVec 32 := Scalar.addi v5213 c32_i32_1512
  v5214
def k0_mult109 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1523 : BitVec 32 := 16#32
  let v5258 : BitVec 32 := Scalar.muli v1213 c16_i32_1523
  let c8_i32_1524 : BitVec 32 := 8#32
  let v5259 : BitVec 32 := Scalar.muli v5258 c8_i32_1524
  let c64_i32_1525 : BitVec 32 := 64#32
  let v5260 : BitVec 32 := Scalar.addi v5259 c64_i32_1525
  v5260
def k0_mult110 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1536 : BitVec 32 := 16#32
  let v5304 : BitVec 32 := Scalar.muli v1213 c16_i32_1536
  let c8_i32_1537 : BitVec 32 := 8#32
  let v5305 : BitVec 32 := Scalar.muli v5304 c8_i32_1537
  let c96_i32_1538 : BitVec 32 := 96#32
  let v5306 : BitVec 32 := Scalar.addi v5305 c96_i32_1538
  v5306
def k0_mult111 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1549 : BitVec 32 := 8#32
  let v5350 : BitVec 32 := Scalar.muli v1213 c8_i32_1549
  v5350
def k0_off89 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1549 : BitVec 32 := 8#32
  let v5350 : BitVec 32 := Scalar.muli v1213 c8_i32_1549
  let v5351 : BitVec 32 := v5350
  let v5352 : Index := Scalar.indexCast v5351
  let c2816_1550 : Index := 2816#32
  ![v5352.toNat, 2816]
def k0_mult112 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1551 : BitVec 32 := 16#32
  let v5354 : BitVec 32 := Scalar.muli v1213 c16_i32_1551
  let c8_i32_1552 : BitVec 32 := 8#32
  let v5355 : BitVec 32 := Scalar.muli v5354 c8_i32_1552
  let c0_i32_1553 : BitVec 32 := 0#32
  let v5356 : BitVec 32 := Scalar.addi v5355 c0_i32_1553
  v5356
def k0_off90 (k0_t1 : Fin k0_t1_loop.trips) (c0_i32_1553 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1551 : BitVec 32 := 16#32
  let v5354 : BitVec 32 := Scalar.muli v1213 c16_i32_1551
  let c8_i32_1552 : BitVec 32 := 8#32
  let v5355 : BitVec 32 := Scalar.muli v5354 c8_i32_1552
  let v5356 : BitVec 32 := Scalar.addi v5355 c0_i32_1553
  let v5357 : BitVec 32 := v5356
  let v5358 : Index := Scalar.indexCast v5357
  let c2816_1554 : Index := 2816#32
  ![v5358.toNat, 2816]
def k0_off91 (k0_t1 : Fin k0_t1_loop.trips) (c0_i32_1553 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1551 : BitVec 32 := 16#32
  let v5354 : BitVec 32 := Scalar.muli v1213 c16_i32_1551
  let c8_i32_1552 : BitVec 32 := 8#32
  let v5355 : BitVec 32 := Scalar.muli v5354 c8_i32_1552
  let v5356 : BitVec 32 := Scalar.addi v5355 c0_i32_1553
  let v5357 : BitVec 32 := v5356
  let v5389 : Index := Scalar.indexCast v5357
  let c2816_1562 : Index := 2816#32
  ![v5389.toNat, 2816]
def k0_off92 (k0_t1 : Fin k0_t1_loop.trips) (c0_i32_1553 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1551 : BitVec 32 := 16#32
  let v5354 : BitVec 32 := Scalar.muli v1213 c16_i32_1551
  let c8_i32_1552 : BitVec 32 := 8#32
  let v5355 : BitVec 32 := Scalar.muli v5354 c8_i32_1552
  let v5356 : BitVec 32 := Scalar.addi v5355 c0_i32_1553
  let v5357 : BitVec 32 := v5356
  let v5396 : Index := Scalar.indexCast v5357
  let c6400 : Index := 6400#32
  ![v5396.toNat, 6400]
def k0_mult113 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1563 : BitVec 32 := 16#32
  let v5400 : BitVec 32 := Scalar.muli v1213 c16_i32_1563
  let c8_i32_1564 : BitVec 32 := 8#32
  let v5401 : BitVec 32 := Scalar.muli v5400 c8_i32_1564
  let c32_i32_1565 : BitVec 32 := 32#32
  let v5402 : BitVec 32 := Scalar.addi v5401 c32_i32_1565
  v5402
def k0_mult114 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1576 : BitVec 32 := 16#32
  let v5446 : BitVec 32 := Scalar.muli v1213 c16_i32_1576
  let c8_i32_1577 : BitVec 32 := 8#32
  let v5447 : BitVec 32 := Scalar.muli v5446 c8_i32_1577
  let c64_i32_1578 : BitVec 32 := 64#32
  let v5448 : BitVec 32 := Scalar.addi v5447 c64_i32_1578
  v5448
def k0_mult115 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1589 : BitVec 32 := 16#32
  let v5492 : BitVec 32 := Scalar.muli v1213 c16_i32_1589
  let c8_i32_1590 : BitVec 32 := 8#32
  let v5493 : BitVec 32 := Scalar.muli v5492 c8_i32_1590
  let c96_i32_1591 : BitVec 32 := 96#32
  let v5494 : BitVec 32 := Scalar.addi v5493 c96_i32_1591
  v5494
def k0_mult116 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1602 : BitVec 32 := 8#32
  let v5538 : BitVec 32 := Scalar.muli v1213 c8_i32_1602
  v5538
def k0_off93 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1602 : BitVec 32 := 8#32
  let v5538 : BitVec 32 := Scalar.muli v1213 c8_i32_1602
  let v5539 : BitVec 32 := v5538
  let v5540 : Index := Scalar.indexCast v5539
  let c2944_1603 : Index := 2944#32
  ![v5540.toNat, 2944]
def k0_mult117 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1604 : BitVec 32 := 16#32
  let v5542 : BitVec 32 := Scalar.muli v1213 c16_i32_1604
  let c8_i32_1605 : BitVec 32 := 8#32
  let v5543 : BitVec 32 := Scalar.muli v5542 c8_i32_1605
  let c0_i32_1606 : BitVec 32 := 0#32
  let v5544 : BitVec 32 := Scalar.addi v5543 c0_i32_1606
  v5544
def k0_off94 (k0_t1 : Fin k0_t1_loop.trips) (c0_i32_1606 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1604 : BitVec 32 := 16#32
  let v5542 : BitVec 32 := Scalar.muli v1213 c16_i32_1604
  let c8_i32_1605 : BitVec 32 := 8#32
  let v5543 : BitVec 32 := Scalar.muli v5542 c8_i32_1605
  let v5544 : BitVec 32 := Scalar.addi v5543 c0_i32_1606
  let v5545 : BitVec 32 := v5544
  let v5546 : Index := Scalar.indexCast v5545
  let c2944_1607 : Index := 2944#32
  ![v5546.toNat, 2944]
def k0_off95 (k0_t1 : Fin k0_t1_loop.trips) (c0_i32_1606 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1604 : BitVec 32 := 16#32
  let v5542 : BitVec 32 := Scalar.muli v1213 c16_i32_1604
  let c8_i32_1605 : BitVec 32 := 8#32
  let v5543 : BitVec 32 := Scalar.muli v5542 c8_i32_1605
  let v5544 : BitVec 32 := Scalar.addi v5543 c0_i32_1606
  let v5545 : BitVec 32 := v5544
  let v5577 : Index := Scalar.indexCast v5545
  let c2944_1615 : Index := 2944#32
  ![v5577.toNat, 2944]
def k0_off96 (k0_t1 : Fin k0_t1_loop.trips) (c0_i32_1606 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1604 : BitVec 32 := 16#32
  let v5542 : BitVec 32 := Scalar.muli v1213 c16_i32_1604
  let c8_i32_1605 : BitVec 32 := 8#32
  let v5543 : BitVec 32 := Scalar.muli v5542 c8_i32_1605
  let v5544 : BitVec 32 := Scalar.addi v5543 c0_i32_1606
  let v5545 : BitVec 32 := v5544
  let v5584 : Index := Scalar.indexCast v5545
  let c6528 : Index := 6528#32
  ![v5584.toNat, 6528]
def k0_mult118 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1616 : BitVec 32 := 16#32
  let v5588 : BitVec 32 := Scalar.muli v1213 c16_i32_1616
  let c8_i32_1617 : BitVec 32 := 8#32
  let v5589 : BitVec 32 := Scalar.muli v5588 c8_i32_1617
  let c32_i32_1618 : BitVec 32 := 32#32
  let v5590 : BitVec 32 := Scalar.addi v5589 c32_i32_1618
  v5590
def k0_mult119 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1629 : BitVec 32 := 16#32
  let v5634 : BitVec 32 := Scalar.muli v1213 c16_i32_1629
  let c8_i32_1630 : BitVec 32 := 8#32
  let v5635 : BitVec 32 := Scalar.muli v5634 c8_i32_1630
  let c64_i32_1631 : BitVec 32 := 64#32
  let v5636 : BitVec 32 := Scalar.addi v5635 c64_i32_1631
  v5636
def k0_mult120 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1642 : BitVec 32 := 16#32
  let v5680 : BitVec 32 := Scalar.muli v1213 c16_i32_1642
  let c8_i32_1643 : BitVec 32 := 8#32
  let v5681 : BitVec 32 := Scalar.muli v5680 c8_i32_1643
  let c96_i32_1644 : BitVec 32 := 96#32
  let v5682 : BitVec 32 := Scalar.addi v5681 c96_i32_1644
  v5682
def k0_mult121 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1655 : BitVec 32 := 8#32
  let v5726 : BitVec 32 := Scalar.muli v1213 c8_i32_1655
  v5726
def k0_off97 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1655 : BitVec 32 := 8#32
  let v5726 : BitVec 32 := Scalar.muli v1213 c8_i32_1655
  let v5727 : BitVec 32 := v5726
  let v5728 : Index := Scalar.indexCast v5727
  let c3072_1656 : Index := 3072#32
  ![v5728.toNat, 3072]
def k0_mult122 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1657 : BitVec 32 := 16#32
  let v5730 : BitVec 32 := Scalar.muli v1213 c16_i32_1657
  let c8_i32_1658 : BitVec 32 := 8#32
  let v5731 : BitVec 32 := Scalar.muli v5730 c8_i32_1658
  let c0_i32_1659 : BitVec 32 := 0#32
  let v5732 : BitVec 32 := Scalar.addi v5731 c0_i32_1659
  v5732
def k0_off98 (k0_t1 : Fin k0_t1_loop.trips) (c0_i32_1659 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1657 : BitVec 32 := 16#32
  let v5730 : BitVec 32 := Scalar.muli v1213 c16_i32_1657
  let c8_i32_1658 : BitVec 32 := 8#32
  let v5731 : BitVec 32 := Scalar.muli v5730 c8_i32_1658
  let v5732 : BitVec 32 := Scalar.addi v5731 c0_i32_1659
  let v5733 : BitVec 32 := v5732
  let v5734 : Index := Scalar.indexCast v5733
  let c3072_1660 : Index := 3072#32
  ![v5734.toNat, 3072]
def k0_off99 (k0_t1 : Fin k0_t1_loop.trips) (c0_i32_1659 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1657 : BitVec 32 := 16#32
  let v5730 : BitVec 32 := Scalar.muli v1213 c16_i32_1657
  let c8_i32_1658 : BitVec 32 := 8#32
  let v5731 : BitVec 32 := Scalar.muli v5730 c8_i32_1658
  let v5732 : BitVec 32 := Scalar.addi v5731 c0_i32_1659
  let v5733 : BitVec 32 := v5732
  let v5765 : Index := Scalar.indexCast v5733
  let c3072_1668 : Index := 3072#32
  ![v5765.toNat, 3072]
def k0_off100 (k0_t1 : Fin k0_t1_loop.trips) (c0_i32_1659 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1657 : BitVec 32 := 16#32
  let v5730 : BitVec 32 := Scalar.muli v1213 c16_i32_1657
  let c8_i32_1658 : BitVec 32 := 8#32
  let v5731 : BitVec 32 := Scalar.muli v5730 c8_i32_1658
  let v5732 : BitVec 32 := Scalar.addi v5731 c0_i32_1659
  let v5733 : BitVec 32 := v5732
  let v5772 : Index := Scalar.indexCast v5733
  let c6656 : Index := 6656#32
  ![v5772.toNat, 6656]
def k0_mult123 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1669 : BitVec 32 := 16#32
  let v5776 : BitVec 32 := Scalar.muli v1213 c16_i32_1669
  let c8_i32_1670 : BitVec 32 := 8#32
  let v5777 : BitVec 32 := Scalar.muli v5776 c8_i32_1670
  let c32_i32_1671 : BitVec 32 := 32#32
  let v5778 : BitVec 32 := Scalar.addi v5777 c32_i32_1671
  v5778
def k0_mult124 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1682 : BitVec 32 := 16#32
  let v5822 : BitVec 32 := Scalar.muli v1213 c16_i32_1682
  let c8_i32_1683 : BitVec 32 := 8#32
  let v5823 : BitVec 32 := Scalar.muli v5822 c8_i32_1683
  let c64_i32_1684 : BitVec 32 := 64#32
  let v5824 : BitVec 32 := Scalar.addi v5823 c64_i32_1684
  v5824
def k0_mult125 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1695 : BitVec 32 := 16#32
  let v5868 : BitVec 32 := Scalar.muli v1213 c16_i32_1695
  let c8_i32_1696 : BitVec 32 := 8#32
  let v5869 : BitVec 32 := Scalar.muli v5868 c8_i32_1696
  let c96_i32_1697 : BitVec 32 := 96#32
  let v5870 : BitVec 32 := Scalar.addi v5869 c96_i32_1697
  v5870
def k0_mult126 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1708 : BitVec 32 := 8#32
  let v5914 : BitVec 32 := Scalar.muli v1213 c8_i32_1708
  v5914
def k0_off101 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1708 : BitVec 32 := 8#32
  let v5914 : BitVec 32 := Scalar.muli v1213 c8_i32_1708
  let v5915 : BitVec 32 := v5914
  let v5916 : Index := Scalar.indexCast v5915
  let c3200_1709 : Index := 3200#32
  ![v5916.toNat, 3200]
def k0_mult127 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1710 : BitVec 32 := 16#32
  let v5918 : BitVec 32 := Scalar.muli v1213 c16_i32_1710
  let c8_i32_1711 : BitVec 32 := 8#32
  let v5919 : BitVec 32 := Scalar.muli v5918 c8_i32_1711
  let c0_i32_1712 : BitVec 32 := 0#32
  let v5920 : BitVec 32 := Scalar.addi v5919 c0_i32_1712
  v5920
def k0_off102 (k0_t1 : Fin k0_t1_loop.trips) (c0_i32_1712 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1710 : BitVec 32 := 16#32
  let v5918 : BitVec 32 := Scalar.muli v1213 c16_i32_1710
  let c8_i32_1711 : BitVec 32 := 8#32
  let v5919 : BitVec 32 := Scalar.muli v5918 c8_i32_1711
  let v5920 : BitVec 32 := Scalar.addi v5919 c0_i32_1712
  let v5921 : BitVec 32 := v5920
  let v5922 : Index := Scalar.indexCast v5921
  let c3200_1713 : Index := 3200#32
  ![v5922.toNat, 3200]
def k0_off103 (k0_t1 : Fin k0_t1_loop.trips) (c0_i32_1712 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1710 : BitVec 32 := 16#32
  let v5918 : BitVec 32 := Scalar.muli v1213 c16_i32_1710
  let c8_i32_1711 : BitVec 32 := 8#32
  let v5919 : BitVec 32 := Scalar.muli v5918 c8_i32_1711
  let v5920 : BitVec 32 := Scalar.addi v5919 c0_i32_1712
  let v5921 : BitVec 32 := v5920
  let v5953 : Index := Scalar.indexCast v5921
  let c3200_1721 : Index := 3200#32
  ![v5953.toNat, 3200]
def k0_off104 (k0_t1 : Fin k0_t1_loop.trips) (c0_i32_1712 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1710 : BitVec 32 := 16#32
  let v5918 : BitVec 32 := Scalar.muli v1213 c16_i32_1710
  let c8_i32_1711 : BitVec 32 := 8#32
  let v5919 : BitVec 32 := Scalar.muli v5918 c8_i32_1711
  let v5920 : BitVec 32 := Scalar.addi v5919 c0_i32_1712
  let v5921 : BitVec 32 := v5920
  let v5960 : Index := Scalar.indexCast v5921
  let c6784 : Index := 6784#32
  ![v5960.toNat, 6784]
def k0_mult128 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1722 : BitVec 32 := 16#32
  let v5964 : BitVec 32 := Scalar.muli v1213 c16_i32_1722
  let c8_i32_1723 : BitVec 32 := 8#32
  let v5965 : BitVec 32 := Scalar.muli v5964 c8_i32_1723
  let c32_i32_1724 : BitVec 32 := 32#32
  let v5966 : BitVec 32 := Scalar.addi v5965 c32_i32_1724
  v5966
def k0_mult129 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1735 : BitVec 32 := 16#32
  let v6010 : BitVec 32 := Scalar.muli v1213 c16_i32_1735
  let c8_i32_1736 : BitVec 32 := 8#32
  let v6011 : BitVec 32 := Scalar.muli v6010 c8_i32_1736
  let c64_i32_1737 : BitVec 32 := 64#32
  let v6012 : BitVec 32 := Scalar.addi v6011 c64_i32_1737
  v6012
def k0_mult130 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1748 : BitVec 32 := 16#32
  let v6056 : BitVec 32 := Scalar.muli v1213 c16_i32_1748
  let c8_i32_1749 : BitVec 32 := 8#32
  let v6057 : BitVec 32 := Scalar.muli v6056 c8_i32_1749
  let c96_i32_1750 : BitVec 32 := 96#32
  let v6058 : BitVec 32 := Scalar.addi v6057 c96_i32_1750
  v6058
def k0_mult131 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1761 : BitVec 32 := 8#32
  let v6102 : BitVec 32 := Scalar.muli v1213 c8_i32_1761
  v6102
def k0_off105 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1761 : BitVec 32 := 8#32
  let v6102 : BitVec 32 := Scalar.muli v1213 c8_i32_1761
  let v6103 : BitVec 32 := v6102
  let v6104 : Index := Scalar.indexCast v6103
  let c3328_1762 : Index := 3328#32
  ![v6104.toNat, 3328]
def k0_mult132 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1763 : BitVec 32 := 16#32
  let v6106 : BitVec 32 := Scalar.muli v1213 c16_i32_1763
  let c8_i32_1764 : BitVec 32 := 8#32
  let v6107 : BitVec 32 := Scalar.muli v6106 c8_i32_1764
  let c0_i32_1765 : BitVec 32 := 0#32
  let v6108 : BitVec 32 := Scalar.addi v6107 c0_i32_1765
  v6108
def k0_off106 (k0_t1 : Fin k0_t1_loop.trips) (c0_i32_1765 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1763 : BitVec 32 := 16#32
  let v6106 : BitVec 32 := Scalar.muli v1213 c16_i32_1763
  let c8_i32_1764 : BitVec 32 := 8#32
  let v6107 : BitVec 32 := Scalar.muli v6106 c8_i32_1764
  let v6108 : BitVec 32 := Scalar.addi v6107 c0_i32_1765
  let v6109 : BitVec 32 := v6108
  let v6110 : Index := Scalar.indexCast v6109
  let c3328_1766 : Index := 3328#32
  ![v6110.toNat, 3328]
def k0_off107 (k0_t1 : Fin k0_t1_loop.trips) (c0_i32_1765 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1763 : BitVec 32 := 16#32
  let v6106 : BitVec 32 := Scalar.muli v1213 c16_i32_1763
  let c8_i32_1764 : BitVec 32 := 8#32
  let v6107 : BitVec 32 := Scalar.muli v6106 c8_i32_1764
  let v6108 : BitVec 32 := Scalar.addi v6107 c0_i32_1765
  let v6109 : BitVec 32 := v6108
  let v6141 : Index := Scalar.indexCast v6109
  let c3328_1774 : Index := 3328#32
  ![v6141.toNat, 3328]
def k0_off108 (k0_t1 : Fin k0_t1_loop.trips) (c0_i32_1765 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1763 : BitVec 32 := 16#32
  let v6106 : BitVec 32 := Scalar.muli v1213 c16_i32_1763
  let c8_i32_1764 : BitVec 32 := 8#32
  let v6107 : BitVec 32 := Scalar.muli v6106 c8_i32_1764
  let v6108 : BitVec 32 := Scalar.addi v6107 c0_i32_1765
  let v6109 : BitVec 32 := v6108
  let v6148 : Index := Scalar.indexCast v6109
  let c6912 : Index := 6912#32
  ![v6148.toNat, 6912]
def k0_mult133 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1775 : BitVec 32 := 16#32
  let v6152 : BitVec 32 := Scalar.muli v1213 c16_i32_1775
  let c8_i32_1776 : BitVec 32 := 8#32
  let v6153 : BitVec 32 := Scalar.muli v6152 c8_i32_1776
  let c32_i32_1777 : BitVec 32 := 32#32
  let v6154 : BitVec 32 := Scalar.addi v6153 c32_i32_1777
  v6154
def k0_mult134 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1788 : BitVec 32 := 16#32
  let v6198 : BitVec 32 := Scalar.muli v1213 c16_i32_1788
  let c8_i32_1789 : BitVec 32 := 8#32
  let v6199 : BitVec 32 := Scalar.muli v6198 c8_i32_1789
  let c64_i32_1790 : BitVec 32 := 64#32
  let v6200 : BitVec 32 := Scalar.addi v6199 c64_i32_1790
  v6200
def k0_mult135 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1801 : BitVec 32 := 16#32
  let v6244 : BitVec 32 := Scalar.muli v1213 c16_i32_1801
  let c8_i32_1802 : BitVec 32 := 8#32
  let v6245 : BitVec 32 := Scalar.muli v6244 c8_i32_1802
  let c96_i32_1803 : BitVec 32 := 96#32
  let v6246 : BitVec 32 := Scalar.addi v6245 c96_i32_1803
  v6246
def k0_mult136 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1814 : BitVec 32 := 8#32
  let v6290 : BitVec 32 := Scalar.muli v1213 c8_i32_1814
  v6290
def k0_off109 (k0_t1 : Fin k0_t1_loop.trips) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c8_i32_1814 : BitVec 32 := 8#32
  let v6290 : BitVec 32 := Scalar.muli v1213 c8_i32_1814
  let v6291 : BitVec 32 := v6290
  let v6292 : Index := Scalar.indexCast v6291
  let c3456_1815 : Index := 3456#32
  ![v6292.toNat, 3456]
def k0_mult137 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1816 : BitVec 32 := 16#32
  let v6294 : BitVec 32 := Scalar.muli v1213 c16_i32_1816
  let c8_i32_1817 : BitVec 32 := 8#32
  let v6295 : BitVec 32 := Scalar.muli v6294 c8_i32_1817
  let c0_i32_1818 : BitVec 32 := 0#32
  let v6296 : BitVec 32 := Scalar.addi v6295 c0_i32_1818
  v6296
def k0_off110 (k0_t1 : Fin k0_t1_loop.trips) (c0_i32_1818 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1816 : BitVec 32 := 16#32
  let v6294 : BitVec 32 := Scalar.muli v1213 c16_i32_1816
  let c8_i32_1817 : BitVec 32 := 8#32
  let v6295 : BitVec 32 := Scalar.muli v6294 c8_i32_1817
  let v6296 : BitVec 32 := Scalar.addi v6295 c0_i32_1818
  let v6297 : BitVec 32 := v6296
  let v6298 : Index := Scalar.indexCast v6297
  let c3456_1819 : Index := 3456#32
  ![v6298.toNat, 3456]
def k0_off111 (k0_t1 : Fin k0_t1_loop.trips) (c0_i32_1818 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1816 : BitVec 32 := 16#32
  let v6294 : BitVec 32 := Scalar.muli v1213 c16_i32_1816
  let c8_i32_1817 : BitVec 32 := 8#32
  let v6295 : BitVec 32 := Scalar.muli v6294 c8_i32_1817
  let v6296 : BitVec 32 := Scalar.addi v6295 c0_i32_1818
  let v6297 : BitVec 32 := v6296
  let v6329 : Index := Scalar.indexCast v6297
  let c3456_1827 : Index := 3456#32
  ![v6329.toNat, 3456]
def k0_off112 (k0_t1 : Fin k0_t1_loop.trips) (c0_i32_1818 : BitVec 32) : Fin 2 → Nat :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1816 : BitVec 32 := 16#32
  let v6294 : BitVec 32 := Scalar.muli v1213 c16_i32_1816
  let c8_i32_1817 : BitVec 32 := 8#32
  let v6295 : BitVec 32 := Scalar.muli v6294 c8_i32_1817
  let v6296 : BitVec 32 := Scalar.addi v6295 c0_i32_1818
  let v6297 : BitVec 32 := v6296
  let v6336 : Index := Scalar.indexCast v6297
  let c7040 : Index := 7040#32
  ![v6336.toNat, 7040]
def k0_mult138 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1828 : BitVec 32 := 16#32
  let v6340 : BitVec 32 := Scalar.muli v1213 c16_i32_1828
  let c8_i32_1829 : BitVec 32 := 8#32
  let v6341 : BitVec 32 := Scalar.muli v6340 c8_i32_1829
  let c32_i32_1830 : BitVec 32 := 32#32
  let v6342 : BitVec 32 := Scalar.addi v6341 c32_i32_1830
  v6342
def k0_mult139 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1841 : BitVec 32 := 16#32
  let v6386 : BitVec 32 := Scalar.muli v1213 c16_i32_1841
  let c8_i32_1842 : BitVec 32 := 8#32
  let v6387 : BitVec 32 := Scalar.muli v6386 c8_i32_1842
  let c64_i32_1843 : BitVec 32 := 64#32
  let v6388 : BitVec 32 := Scalar.addi v6387 c64_i32_1843
  v6388
def k0_mult140 (k0_t1 : Fin k0_t1_loop.trips) : BitVec 32 :=
  let c0_i32_384 : BitVec 32 := 0#32
  let c0_i32_380 : BitVec 32 := 0#32
  let c1_i32_381 : BitVec 32 := 1#32
  let arg11 : BitVec 32 := Scf.iv c0_i32_380 c1_i32_381 k0_t1
  let c1_i32_383 : BitVec 32 := 1#32
  let v1212 : BitVec 32 := Scalar.muli arg11 c1_i32_383
  let v1213 : BitVec 32 := Scalar.addi c0_i32_384 v1212
  let c16_i32_1854 : BitVec 32 := 16#32
  let v6432 : BitVec 32 := Scalar.muli v1213 c16_i32_1854
  let c8_i32_1855 : BitVec 32 := 8#32
  let v6433 : BitVec 32 := Scalar.muli v6432 c8_i32_1855
  let c96_i32_1856 : BitVec 32 := 96#32
  let v6434 : BitVec 32 := Scalar.addi v6433 c96_i32_1856
  v6434
@[reducible] def k0_t2_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult141 (k0_t2 : Fin k0_t2_loop.trips) : BitVec 32 :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  v117
def k0_off113 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v119 : Index := Scalar.indexCast v118
  let c0_70 : Index := 0#32
  ![v119.toNat, 0]
def k0_off114 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v123 : Index := Scalar.indexCast v118
  let c0_71 : Index := 0#32
  ![v123.toNat, 0]
def k0_off115 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v182 : Index := Scalar.indexCast v118
  let c0_85 : Index := 0#32
  ![v182.toNat, 0]
def k0_off116 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v189 : Index := Scalar.indexCast v118
  let c3584 : Index := 3584#32
  ![v189.toNat, 3584]
def k0_off117 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v193 : Index := Scalar.indexCast v118
  let c128 : Index := 128#32
  ![v193.toNat, 128]
def k0_off118 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v256 : Index := Scalar.indexCast v118
  let c128_104 : Index := 128#32
  ![v256.toNat, 128]
def k0_off119 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v263 : Index := Scalar.indexCast v118
  let c3712 : Index := 3712#32
  ![v263.toNat, 3712]
def k0_off120 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v267 : Index := Scalar.indexCast v118
  let c256_105 : Index := 256#32
  ![v267.toNat, 256]
def k0_off121 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v330 : Index := Scalar.indexCast v118
  let c256_124 : Index := 256#32
  ![v330.toNat, 256]
def k0_off122 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v337 : Index := Scalar.indexCast v118
  let c3840 : Index := 3840#32
  ![v337.toNat, 3840]
def k0_off123 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v341 : Index := Scalar.indexCast v118
  let c384 : Index := 384#32
  ![v341.toNat, 384]
def k0_off124 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v404 : Index := Scalar.indexCast v118
  let c384_142 : Index := 384#32
  ![v404.toNat, 384]
def k0_off125 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v411 : Index := Scalar.indexCast v118
  let c3968 : Index := 3968#32
  ![v411.toNat, 3968]
def k0_off126 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v415 : Index := Scalar.indexCast v118
  let c512_143 : Index := 512#32
  ![v415.toNat, 512]
def k0_off127 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v478 : Index := Scalar.indexCast v118
  let c512_161 : Index := 512#32
  ![v478.toNat, 512]
def k0_off128 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v485 : Index := Scalar.indexCast v118
  let c4096 : Index := 4096#32
  ![v485.toNat, 4096]
def k0_off129 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v489 : Index := Scalar.indexCast v118
  let c640 : Index := 640#32
  ![v489.toNat, 640]
def k0_off130 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v552 : Index := Scalar.indexCast v118
  let c640_179 : Index := 640#32
  ![v552.toNat, 640]
def k0_off131 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v559 : Index := Scalar.indexCast v118
  let c4224 : Index := 4224#32
  ![v559.toNat, 4224]
def k0_off132 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v563 : Index := Scalar.indexCast v118
  let c768_180 : Index := 768#32
  ![v563.toNat, 768]
def k0_off133 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v626 : Index := Scalar.indexCast v118
  let c768_198 : Index := 768#32
  ![v626.toNat, 768]
def k0_off134 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v633 : Index := Scalar.indexCast v118
  let c4352 : Index := 4352#32
  ![v633.toNat, 4352]
def k0_off135 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v637 : Index := Scalar.indexCast v118
  let c896 : Index := 896#32
  ![v637.toNat, 896]
def k0_off136 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v700 : Index := Scalar.indexCast v118
  let c896_216 : Index := 896#32
  ![v700.toNat, 896]
def k0_off137 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v707 : Index := Scalar.indexCast v118
  let c4480 : Index := 4480#32
  ![v707.toNat, 4480]
def k0_off138 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v711 : Index := Scalar.indexCast v118
  let c1024_217 : Index := 1024#32
  ![v711.toNat, 1024]
def k0_off139 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v715 : Index := Scalar.indexCast v118
  let c128_218 : Index := 128#32
  ![v715.toNat, 128]
def k0_off140 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v774 : Index := Scalar.indexCast v118
  let c1024_236 : Index := 1024#32
  ![v774.toNat, 1024]
def k0_off141 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v781 : Index := Scalar.indexCast v118
  let c4608 : Index := 4608#32
  ![v781.toNat, 4608]
def k0_off142 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v785 : Index := Scalar.indexCast v118
  let c1152 : Index := 1152#32
  ![v785.toNat, 1152]
def k0_off143 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v848 : Index := Scalar.indexCast v118
  let c1152_255 : Index := 1152#32
  ![v848.toNat, 1152]
def k0_off144 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v855 : Index := Scalar.indexCast v118
  let c4736 : Index := 4736#32
  ![v855.toNat, 4736]
def k0_off145 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v859 : Index := Scalar.indexCast v118
  let c1280_256 : Index := 1280#32
  ![v859.toNat, 1280]
def k0_off146 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v922 : Index := Scalar.indexCast v118
  let c1280_275 : Index := 1280#32
  ![v922.toNat, 1280]
def k0_off147 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v929 : Index := Scalar.indexCast v118
  let c4864 : Index := 4864#32
  ![v929.toNat, 4864]
def k0_off148 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v933 : Index := Scalar.indexCast v118
  let c1408 : Index := 1408#32
  ![v933.toNat, 1408]
def k0_off149 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v996 : Index := Scalar.indexCast v118
  let c1408_294 : Index := 1408#32
  ![v996.toNat, 1408]
def k0_off150 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1003 : Index := Scalar.indexCast v118
  let c4992 : Index := 4992#32
  ![v1003.toNat, 4992]
def k0_off151 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1007 : Index := Scalar.indexCast v118
  let c1536_295 : Index := 1536#32
  ![v1007.toNat, 1536]
def k0_off152 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1070 : Index := Scalar.indexCast v118
  let c1536_314 : Index := 1536#32
  ![v1070.toNat, 1536]
def k0_off153 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1077 : Index := Scalar.indexCast v118
  let c5120 : Index := 5120#32
  ![v1077.toNat, 5120]
def k0_off154 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1081 : Index := Scalar.indexCast v118
  let c1664 : Index := 1664#32
  ![v1081.toNat, 1664]
def k0_off155 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1144 : Index := Scalar.indexCast v118
  let c1664_333 : Index := 1664#32
  ![v1144.toNat, 1664]
def k0_off156 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1151 : Index := Scalar.indexCast v118
  let c5248 : Index := 5248#32
  ![v1151.toNat, 5248]
def k0_off157 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1155 : Index := Scalar.indexCast v118
  let c1792_334 : Index := 1792#32
  ![v1155.toNat, 1792]
def k0_off158 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1218 : Index := Scalar.indexCast v118
  let c1792_353 : Index := 1792#32
  ![v1218.toNat, 1792]
def k0_off159 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1225 : Index := Scalar.indexCast v118
  let c5376 : Index := 5376#32
  ![v1225.toNat, 5376]
def k0_off160 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1229 : Index := Scalar.indexCast v118
  let c1920 : Index := 1920#32
  ![v1229.toNat, 1920]
def k0_off161 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1292 : Index := Scalar.indexCast v118
  let c1920_372 : Index := 1920#32
  ![v1292.toNat, 1920]
def k0_off162 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1299 : Index := Scalar.indexCast v118
  let c5504 : Index := 5504#32
  ![v1299.toNat, 5504]
def k0_off163 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1303 : Index := Scalar.indexCast v118
  let c2048_373 : Index := 2048#32
  ![v1303.toNat, 2048]
def k0_off164 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1307 : Index := Scalar.indexCast v118
  let c256_374 : Index := 256#32
  ![v1307.toNat, 256]
def k0_off165 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1366 : Index := Scalar.indexCast v118
  let c2048_392 : Index := 2048#32
  ![v1366.toNat, 2048]
def k0_off166 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1373 : Index := Scalar.indexCast v118
  let c5632 : Index := 5632#32
  ![v1373.toNat, 5632]
def k0_off167 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1377 : Index := Scalar.indexCast v118
  let c2176 : Index := 2176#32
  ![v1377.toNat, 2176]
def k0_off168 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1440 : Index := Scalar.indexCast v118
  let c2176_411 : Index := 2176#32
  ![v1440.toNat, 2176]
def k0_off169 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1447 : Index := Scalar.indexCast v118
  let c5760 : Index := 5760#32
  ![v1447.toNat, 5760]
def k0_off170 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1451 : Index := Scalar.indexCast v118
  let c2304 : Index := 2304#32
  ![v1451.toNat, 2304]
def k0_off171 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1514 : Index := Scalar.indexCast v118
  let c2304_430 : Index := 2304#32
  ![v1514.toNat, 2304]
def k0_off172 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1521 : Index := Scalar.indexCast v118
  let c5888 : Index := 5888#32
  ![v1521.toNat, 5888]
def k0_off173 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1525 : Index := Scalar.indexCast v118
  let c2432 : Index := 2432#32
  ![v1525.toNat, 2432]
def k0_off174 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1588 : Index := Scalar.indexCast v118
  let c2432_449 : Index := 2432#32
  ![v1588.toNat, 2432]
def k0_off175 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1595 : Index := Scalar.indexCast v118
  let c6016 : Index := 6016#32
  ![v1595.toNat, 6016]
def k0_off176 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1599 : Index := Scalar.indexCast v118
  let c2560 : Index := 2560#32
  ![v1599.toNat, 2560]
def k0_off177 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1662 : Index := Scalar.indexCast v118
  let c2560_468 : Index := 2560#32
  ![v1662.toNat, 2560]
def k0_off178 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1669 : Index := Scalar.indexCast v118
  let c6144 : Index := 6144#32
  ![v1669.toNat, 6144]
def k0_off179 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1673 : Index := Scalar.indexCast v118
  let c2688 : Index := 2688#32
  ![v1673.toNat, 2688]
def k0_off180 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1736 : Index := Scalar.indexCast v118
  let c2688_487 : Index := 2688#32
  ![v1736.toNat, 2688]
def k0_off181 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1743 : Index := Scalar.indexCast v118
  let c6272 : Index := 6272#32
  ![v1743.toNat, 6272]
def k0_off182 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1747 : Index := Scalar.indexCast v118
  let c2816 : Index := 2816#32
  ![v1747.toNat, 2816]
def k0_off183 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1810 : Index := Scalar.indexCast v118
  let c2816_506 : Index := 2816#32
  ![v1810.toNat, 2816]
def k0_off184 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1817 : Index := Scalar.indexCast v118
  let c6400 : Index := 6400#32
  ![v1817.toNat, 6400]
def k0_off185 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1821 : Index := Scalar.indexCast v118
  let c2944 : Index := 2944#32
  ![v1821.toNat, 2944]
def k0_off186 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1884 : Index := Scalar.indexCast v118
  let c2944_525 : Index := 2944#32
  ![v1884.toNat, 2944]
def k0_off187 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1891 : Index := Scalar.indexCast v118
  let c6528 : Index := 6528#32
  ![v1891.toNat, 6528]
def k0_off188 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1895 : Index := Scalar.indexCast v118
  let c3072 : Index := 3072#32
  ![v1895.toNat, 3072]
def k0_off189 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1899 : Index := Scalar.indexCast v118
  let c384_526 : Index := 384#32
  ![v1899.toNat, 384]
def k0_off190 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1958 : Index := Scalar.indexCast v118
  let c3072_544 : Index := 3072#32
  ![v1958.toNat, 3072]
def k0_off191 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1965 : Index := Scalar.indexCast v118
  let c6656 : Index := 6656#32
  ![v1965.toNat, 6656]
def k0_off192 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v1969 : Index := Scalar.indexCast v118
  let c3200 : Index := 3200#32
  ![v1969.toNat, 3200]
def k0_off193 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v2032 : Index := Scalar.indexCast v118
  let c3200_563 : Index := 3200#32
  ![v2032.toNat, 3200]
def k0_off194 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v2039 : Index := Scalar.indexCast v118
  let c6784 : Index := 6784#32
  ![v2039.toNat, 6784]
def k0_off195 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v2043 : Index := Scalar.indexCast v118
  let c3328 : Index := 3328#32
  ![v2043.toNat, 3328]
def k0_off196 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v2106 : Index := Scalar.indexCast v118
  let c3328_582 : Index := 3328#32
  ![v2106.toNat, 3328]
def k0_off197 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v2113 : Index := Scalar.indexCast v118
  let c6912 : Index := 6912#32
  ![v2113.toNat, 6912]
def k0_off198 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v2117 : Index := Scalar.indexCast v118
  let c3456 : Index := 3456#32
  ![v2117.toNat, 3456]
def k0_off199 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v2180 : Index := Scalar.indexCast v118
  let c3456_601 : Index := 3456#32
  ![v2180.toNat, 3456]
def k0_off200 (k0_t2 : Fin k0_t2_loop.trips) : Fin 2 → Nat :=
  let c0_i32_69 : BitVec 32 := 0#32
  let c0_i32_1 : BitVec 32 := 0#32
  let c1_i32 : BitVec 32 := 1#32
  let arg11 : BitVec 32 := Scf.iv c0_i32_1 c1_i32 k0_t2
  let c1_i32_68 : BitVec 32 := 1#32
  let v115 : BitVec 32 := Scalar.muli arg11 c1_i32_68
  let v116 : BitVec 32 := Scalar.addi c0_i32_69 v115
  let c32_i32 : BitVec 32 := 32#32
  let v117 : BitVec 32 := Scalar.muli v116 c32_i32
  let v118 : BitVec 32 := v117
  let v2187 : Index := Scalar.indexCast v118
  let c7040 : Index := 7040#32
  ![v2187.toNat, 7040]
def k0_off201 (i : grid0.Coords) : Fin 1 → Nat :=
  let arg0 : BitVec 32 := BitVec.ofNat 32 (i 0).val
  let c0_i32_3 : BitVec 32 := 0#32
  let v5 : BitVec 1 := Scalar.cmpi .sgt arg0 c0_i32_3
  let v6 : BitVec 32 := Scalar.extui v5
  let c0_i32_4 : BitVec 32 := 0#32
  let v7 : BitVec 1 := Scalar.cmpi .slt arg0 c0_i32_4
  let v8 : BitVec 32 := Scalar.extui v7
  let v9 : BitVec 32 := Scalar.subi v6 v8
  let c2_i32 : BitVec 32 := 2#32
  let c0_i32_5 : BitVec 32 := 0#32
  let v10 : BitVec 1 := Scalar.cmpi .sgt c2_i32 c0_i32_5
  let v11 : BitVec 32 := Scalar.extui v10
  let c0_i32_6 : BitVec 32 := 0#32
  let v12 : BitVec 1 := Scalar.cmpi .slt c2_i32 c0_i32_6
  let v13 : BitVec 32 := Scalar.extui v12
  let v14 : BitVec 32 := Scalar.subi v11 v13
  let v15 : BitVec 1 := Scalar.cmpi .ne v9 v14
  let v16 : BitVec 32 := Scalar.remsi arg0 c2_i32
  let c0_i32_7 : BitVec 32 := 0#32
  let v17 : BitVec 1 := Scalar.cmpi .ne v16 c0_i32_7
  let v18 : BitVec 1 := Scalar.andi v15 v17
  let v4 : BitVec 32 := Scalar.divsi arg0 c2_i32
  let c1_i32_8 : BitVec 32 := 1#32
  let v19 : BitVec 32 := Scalar.subi v4 c1_i32_8
  let v20 : BitVec 32 := Scalar.select v18 v19 v4
  let c4_i32 : BitVec 32 := 4#32
  let c0_i32_9 : BitVec 32 := 0#32
  let v21 : BitVec 1 := Scalar.cmpi .eq c4_i32 c0_i32_9
  let c1_i32_10 : BitVec 32 := 1#32
  let v22 : BitVec 32 := Scalar.select v21 c1_i32_10 c4_i32
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let v31 : Index := Scalar.indexCast v30
  ![v31.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3584 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2304x3584 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S144x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2304 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x4096x3584 : Shape := ⟨3, ![2, 4096, 3584]⟩
abbrev S2x4096x448 : Shape := ⟨3, ![2, 4096, 448]⟩
abbrev S4 : Shape := ⟨1, ![4]⟩
abbrev S2304x3584 : Shape := ⟨2, ![2304, 3584]⟩
abbrev S144x448 : Shape := ⟨2, ![144, 448]⟩
abbrev S1 : Shape := ⟨1, ![1]⟩
abbrev S_ : Shape := ⟨0, ![]⟩
abbrev S2x4096x448x8 : Shape := ⟨4, ![2, 4096, 448, 8]⟩
abbrev S2x4096x448x1 : Shape := ⟨4, ![2, 4096, 448, 1]⟩
abbrev S144x16x448x8 : Shape := ⟨4, ![144, 16, 448, 8]⟩
abbrev S144x1x448x1 : Shape := ⟨4, ![144, 1, 448, 1]⟩
abbrev S2x4096x2304 : Shape := ⟨3, ![2, 4096, 2304]⟩
abbrev S4x1 : Shape := ⟨2, ![4, 1]⟩
abbrev S4x1024 : Shape := ⟨2, ![4, 1024]⟩
abbrev S1x4096x1 : Shape := ⟨3, ![1, 4096, 1]⟩
abbrev S8192x2304 : Shape := ⟨2, ![8192, 2304]⟩

abbrev nBuf : Space → Nat
  | .hbm => 251
  | .vmem => 4
  | .smem => 0
  | _ => 0

abbrev hbmTy0_0 (i : Nat) : BufTy := match i % 128 with
  | 0 => ⟨S2x4096x3584, .i8⟩
  | 1 => ⟨S2x4096x448, .fp8e4m3⟩
  | 2 => ⟨S4, .f32⟩
  | 3 => ⟨S2304x3584, .i8⟩
  | 4 => ⟨S144x448, .fp8e4m3⟩
  | 5 => ⟨S1, .f32⟩
  | 6 => ⟨S2x4096x448, .bf16⟩
  | 7 => ⟨S144x448, .bf16⟩
  | 8 => ⟨S2x4096x3584, .i32⟩
  | 9 => ⟨S2304x3584, .i32⟩
  | 10 => ⟨S_, .i32⟩
  | 11 => ⟨S2x4096x3584, .i32⟩
  | 12 => ⟨S2x4096x3584, .i32⟩
  | 13 => ⟨S_, .i32⟩
  | 14 => ⟨S2x4096x3584, .i32⟩
  | 15 => ⟨S2x4096x3584, .i32⟩
  | 16 => ⟨S_, .i32⟩
  | 17 => ⟨S2x4096x3584, .i32⟩
  | 18 => ⟨S2x4096x3584, .i1⟩
  | 19 => ⟨S_, .i32⟩
  | 20 => ⟨S2x4096x3584, .i32⟩
  | 21 => ⟨S2x4096x3584, .i32⟩
  | 22 => ⟨S_, .i32⟩
  | 23 => ⟨S2x4096x3584, .i32⟩
  | 24 => ⟨S2x4096x3584, .i1⟩
  | 25 => ⟨S_, .i32⟩
  | 26 => ⟨S2x4096x3584, .i32⟩
  | 27 => ⟨S2x4096x3584, .i32⟩
  | 28 => ⟨S_, .i32⟩
  | 29 => ⟨S2x4096x3584, .i32⟩
  | 30 => ⟨S2x4096x3584, .i1⟩
  | 31 => ⟨S_, .i32⟩
  | 32 => ⟨S2x4096x3584, .i32⟩
  | 33 => ⟨S2x4096x3584, .i32⟩
  | 34 => ⟨S_, .i32⟩
  | 35 => ⟨S2x4096x3584, .i32⟩
  | 36 => ⟨S2x4096x3584, .i1⟩
  | 37 => ⟨S_, .bf16⟩
  | 38 => ⟨S2x4096x3584, .bf16⟩
  | 39 => ⟨S_, .bf16⟩
  | 40 => ⟨S2x4096x3584, .bf16⟩
  | 41 => ⟨S2x4096x3584, .bf16⟩
  | 42 => ⟨S_, .bf16⟩
  | 43 => ⟨S2x4096x3584, .bf16⟩
  | 44 => ⟨S_, .bf16⟩
  | 45 => ⟨S2x4096x3584, .bf16⟩
  | 46 => ⟨S2x4096x3584, .bf16⟩
  | 47 => ⟨S_, .bf16⟩
  | 48 => ⟨S2x4096x3584, .bf16⟩
  | 49 => ⟨S_, .bf16⟩
  | 50 => ⟨S2x4096x3584, .bf16⟩
  | 51 => ⟨S2x4096x3584, .bf16⟩
  | 52 => ⟨S_, .bf16⟩
  | 53 => ⟨S2x4096x3584, .bf16⟩
  | 54 => ⟨S_, .bf16⟩
  | 55 => ⟨S2x4096x3584, .bf16⟩
  | 56 => ⟨S2x4096x3584, .bf16⟩
  | 57 => ⟨S2x4096x3584, .bf16⟩
  | 58 => ⟨S2x4096x3584, .bf16⟩
  | 59 => ⟨S2x4096x3584, .bf16⟩
  | 60 => ⟨S2x4096x3584, .bf16⟩
  | 61 => ⟨S2x4096x3584, .bf16⟩
  | 62 => ⟨S2x4096x448x8, .bf16⟩
  | 63 => ⟨S2x4096x448x1, .bf16⟩
  | 64 => ⟨S2x4096x448x8, .bf16⟩
  | 65 => ⟨S2x4096x448x8, .bf16⟩
  | 66 => ⟨S2x4096x3584, .bf16⟩
  | 67 => ⟨S_, .i32⟩
  | 68 => ⟨S2x4096x3584, .i32⟩
  | 69 => ⟨S2x4096x3584, .i32⟩
  | 70 => ⟨S_, .i32⟩
  | 71 => ⟨S2x4096x3584, .i32⟩
  | 72 => ⟨S2x4096x3584, .i32⟩
  | 73 => ⟨S_, .i32⟩
  | 74 => ⟨S2x4096x3584, .i32⟩
  | 75 => ⟨S2x4096x3584, .i1⟩
  | 76 => ⟨S_, .i32⟩
  | 77 => ⟨S2x4096x3584, .i32⟩
  | 78 => ⟨S2x4096x3584, .i32⟩
  | 79 => ⟨S_, .i32⟩
  | 80 => ⟨S2x4096x3584, .i32⟩
  | 81 => ⟨S2x4096x3584, .i1⟩
  | 82 => ⟨S_, .i32⟩
  | 83 => ⟨S2x4096x3584, .i32⟩
  | 84 => ⟨S2x4096x3584, .i32⟩
  | 85 => ⟨S_, .i32⟩
  | 86 => ⟨S2x4096x3584, .i32⟩
  | 87 => ⟨S2x4096x3584, .i1⟩
  | 88 => ⟨S_, .i32⟩
  | 89 => ⟨S2x4096x3584, .i32⟩
  | 90 => ⟨S2x4096x3584, .i32⟩
  | 91 => ⟨S_, .i32⟩
  | 92 => ⟨S2x4096x3584, .i32⟩
  | 93 => ⟨S2x4096x3584, .i1⟩
  | 94 => ⟨S_, .bf16⟩
  | 95 => ⟨S2x4096x3584, .bf16⟩
  | 96 => ⟨S_, .bf16⟩
  | 97 => ⟨S2x4096x3584, .bf16⟩
  | 98 => ⟨S2x4096x3584, .bf16⟩
  | 99 => ⟨S_, .bf16⟩
  | 100 => ⟨S2x4096x3584, .bf16⟩
  | 101 => ⟨S_, .bf16⟩
  | 102 => ⟨S2x4096x3584, .bf16⟩
  | 103 => ⟨S2x4096x3584, .bf16⟩
  | 104 => ⟨S_, .bf16⟩
  | 105 => ⟨S2x4096x3584, .bf16⟩
  | 106 => ⟨S_, .bf16⟩
  | 107 => ⟨S2x4096x3584, .bf16⟩
  | 108 => ⟨S2x4096x3584, .bf16⟩
  | 109 => ⟨S_, .bf16⟩
  | 110 => ⟨S2x4096x3584, .bf16⟩
  | 111 => ⟨S_, .bf16⟩
  | 112 => ⟨S2x4096x3584, .bf16⟩
  | 113 => ⟨S2x4096x3584, .bf16⟩
  | 114 => ⟨S2x4096x3584, .bf16⟩
  | 115 => ⟨S2x4096x3584, .bf16⟩
  | 116 => ⟨S2x4096x3584, .bf16⟩
  | 117 => ⟨S2x4096x3584, .bf16⟩
  | 118 => ⟨S2x4096x3584, .bf16⟩
  | 119 => ⟨S2x4096x448x8, .bf16⟩
  | 120 => ⟨S2x4096x448x1, .bf16⟩
  | 121 => ⟨S2x4096x448x8, .bf16⟩
  | 122 => ⟨S2x4096x448x8, .bf16⟩
  | 123 => ⟨S2x4096x3584, .bf16⟩
  | 124 => ⟨S_, .i32⟩
  | 125 => ⟨S2304x3584, .i32⟩
  | 126 => ⟨S2304x3584, .i32⟩
  | 127 => ⟨S_, .i32⟩
  | _ => ⟨S2x4096x3584, .i8⟩

abbrev hbmTy0_1 (i : Nat) : BufTy := match i % 128 with
  | 0 => ⟨S2304x3584, .i32⟩
  | 1 => ⟨S2304x3584, .i32⟩
  | 2 => ⟨S_, .i32⟩
  | 3 => ⟨S2304x3584, .i32⟩
  | 4 => ⟨S2304x3584, .i1⟩
  | 5 => ⟨S_, .i32⟩
  | 6 => ⟨S2304x3584, .i32⟩
  | 7 => ⟨S2304x3584, .i32⟩
  | 8 => ⟨S_, .i32⟩
  | 9 => ⟨S2304x3584, .i32⟩
  | 10 => ⟨S2304x3584, .i1⟩
  | 11 => ⟨S_, .i32⟩
  | 12 => ⟨S2304x3584, .i32⟩
  | 13 => ⟨S2304x3584, .i32⟩
  | 14 => ⟨S_, .i32⟩
  | 15 => ⟨S2304x3584, .i32⟩
  | 16 => ⟨S2304x3584, .i1⟩
  | 17 => ⟨S_, .i32⟩
  | 18 => ⟨S2304x3584, .i32⟩
  | 19 => ⟨S2304x3584, .i32⟩
  | 20 => ⟨S_, .i32⟩
  | 21 => ⟨S2304x3584, .i32⟩
  | 22 => ⟨S2304x3584, .i1⟩
  | 23 => ⟨S_, .bf16⟩
  | 24 => ⟨S2304x3584, .bf16⟩
  | 25 => ⟨S_, .bf16⟩
  | 26 => ⟨S2304x3584, .bf16⟩
  | 27 => ⟨S2304x3584, .bf16⟩
  | 28 => ⟨S_, .bf16⟩
  | 29 => ⟨S2304x3584, .bf16⟩
  | 30 => ⟨S_, .bf16⟩
  | 31 => ⟨S2304x3584, .bf16⟩
  | 32 => ⟨S2304x3584, .bf16⟩
  | 33 => ⟨S_, .bf16⟩
  | 34 => ⟨S2304x3584, .bf16⟩
  | 35 => ⟨S_, .bf16⟩
  | 36 => ⟨S2304x3584, .bf16⟩
  | 37 => ⟨S2304x3584, .bf16⟩
  | 38 => ⟨S_, .bf16⟩
  | 39 => ⟨S2304x3584, .bf16⟩
  | 40 => ⟨S_, .bf16⟩
  | 41 => ⟨S2304x3584, .bf16⟩
  | 42 => ⟨S2304x3584, .bf16⟩
  | 43 => ⟨S2304x3584, .bf16⟩
  | 44 => ⟨S2304x3584, .bf16⟩
  | 45 => ⟨S2304x3584, .bf16⟩
  | 46 => ⟨S2304x3584, .bf16⟩
  | 47 => ⟨S2304x3584, .bf16⟩
  | 48 => ⟨S144x16x448x8, .bf16⟩
  | 49 => ⟨S144x1x448x1, .bf16⟩
  | 50 => ⟨S144x16x448x8, .bf16⟩
  | 51 => ⟨S144x16x448x8, .bf16⟩
  | 52 => ⟨S2304x3584, .bf16⟩
  | 53 => ⟨S_, .i32⟩
  | 54 => ⟨S2304x3584, .i32⟩
  | 55 => ⟨S2304x3584, .i32⟩
  | 56 => ⟨S_, .i32⟩
  | 57 => ⟨S2304x3584, .i32⟩
  | 58 => ⟨S2304x3584, .i32⟩
  | 59 => ⟨S_, .i32⟩
  | 60 => ⟨S2304x3584, .i32⟩
  | 61 => ⟨S2304x3584, .i1⟩
  | 62 => ⟨S_, .i32⟩
  | 63 => ⟨S2304x3584, .i32⟩
  | 64 => ⟨S2304x3584, .i32⟩
  | 65 => ⟨S_, .i32⟩
  | 66 => ⟨S2304x3584, .i32⟩
  | 67 => ⟨S2304x3584, .i1⟩
  | 68 => ⟨S_, .i32⟩
  | 69 => ⟨S2304x3584, .i32⟩
  | 70 => ⟨S2304x3584, .i32⟩
  | 71 => ⟨S_, .i32⟩
  | 72 => ⟨S2304x3584, .i32⟩
  | 73 => ⟨S2304x3584, .i1⟩
  | 74 => ⟨S_, .i32⟩
  | 75 => ⟨S2304x3584, .i32⟩
  | 76 => ⟨S2304x3584, .i32⟩
  | 77 => ⟨S_, .i32⟩
  | 78 => ⟨S2304x3584, .i32⟩
  | 79 => ⟨S2304x3584, .i1⟩
  | 80 => ⟨S_, .bf16⟩
  | 81 => ⟨S2304x3584, .bf16⟩
  | 82 => ⟨S_, .bf16⟩
  | 83 => ⟨S2304x3584, .bf16⟩
  | 84 => ⟨S2304x3584, .bf16⟩
  | 85 => ⟨S_, .bf16⟩
  | 86 => ⟨S2304x3584, .bf16⟩
  | 87 => ⟨S_, .bf16⟩
  | 88 => ⟨S2304x3584, .bf16⟩
  | 89 => ⟨S2304x3584, .bf16⟩
  | 90 => ⟨S_, .bf16⟩
  | 91 => ⟨S2304x3584, .bf16⟩
  | 92 => ⟨S_, .bf16⟩
  | 93 => ⟨S2304x3584, .bf16⟩
  | 94 => ⟨S2304x3584, .bf16⟩
  | 95 => ⟨S_, .bf16⟩
  | 96 => ⟨S2304x3584, .bf16⟩
  | 97 => ⟨S_, .bf16⟩
  | 98 => ⟨S2304x3584, .bf16⟩
  | 99 => ⟨S2304x3584, .bf16⟩
  | 100 => ⟨S2304x3584, .bf16⟩
  | 101 => ⟨S2304x3584, .bf16⟩
  | 102 => ⟨S2304x3584, .bf16⟩
  | 103 => ⟨S2304x3584, .bf16⟩
  | 104 => ⟨S2304x3584, .bf16⟩
  | 105 => ⟨S144x16x448x8, .bf16⟩
  | 106 => ⟨S144x1x448x1, .bf16⟩
  | 107 => ⟨S144x16x448x8, .bf16⟩
  | 108 => ⟨S144x16x448x8, .bf16⟩
  | 109 => ⟨S2304x3584, .bf16⟩
  | 110 => ⟨S2x4096x2304, .f32⟩
  | 111 => ⟨S2x4096x2304, .f32⟩
  | 112 => ⟨S2x4096x2304, .f32⟩
  | 113 => ⟨S4x1, .f32⟩
  | 114 => ⟨S4x1024, .f32⟩
  | 115 => ⟨S1x4096x1, .f32⟩
  | 116 => ⟨S2x4096x2304, .f32⟩
  | 117 => ⟨S2x4096x2304, .f32⟩
  | 118 => ⟨S_, .f32⟩
  | 119 => ⟨S2x4096x2304, .f32⟩
  | 120 => ⟨S2x4096x2304, .f32⟩
  | 121 => ⟨S2x4096x2304, .bf16⟩
  | 122 => ⟨S8192x2304, .bf16⟩
  | _ => ⟨S2x4096x3584, .i8⟩

abbrev hbmTy (i : Nat) : BufTy := match i / 128 with
  | 0 => hbmTy0_0 i
  | 1 => hbmTy0_1 i
  | _ => ⟨S2x4096x3584, .i8⟩

abbrev bufTy : (tb : Table) → Fin (tcTables nBuf tb) → BufTy
  | .hbm, ⟨i, _⟩ => hbmTy i
  | .local _ .vmem, ⟨0, _⟩ => ⟨S2x4096x448, .fp8e4m3⟩
  | .local _ .vmem, ⟨1, _⟩ => ⟨S144x448, .fp8e4m3⟩
  | .local _ .vmem, ⟨2, _⟩ => ⟨S2x4096x448, .bf16⟩
  | .local _ .vmem, ⟨3, _⟩ => ⟨S144x448, .bf16⟩
  | _, _ => ⟨S2x4096x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_c_6 : Ref sig .tc := ⟨.hbm, 31, rfl⟩
abbrev main_v17 : Ref sig .tc := ⟨.hbm, 32, rfl⟩
abbrev main_v18 : Ref sig .tc := ⟨.hbm, 33, rfl⟩
abbrev main_c_7 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_cst_10 : Ref sig .tc := ⟨.hbm, 44, rfl⟩
abbrev main_v25 : Ref sig .tc := ⟨.hbm, 45, rfl⟩
abbrev main_v26 : Ref sig .tc := ⟨.hbm, 46, rfl⟩
abbrev main_cst_11 : Ref sig .tc := ⟨.hbm, 47, rfl⟩
abbrev main_v27 : Ref sig .tc := ⟨.hbm, 48, rfl⟩
abbrev main_cst_12 : Ref sig .tc := ⟨.hbm, 49, rfl⟩
abbrev main_v28 : Ref sig .tc := ⟨.hbm, 50, rfl⟩
abbrev main_v29 : Ref sig .tc := ⟨.hbm, 51, rfl⟩
abbrev main_cst_13 : Ref sig .tc := ⟨.hbm, 52, rfl⟩
abbrev main_v30 : Ref sig .tc := ⟨.hbm, 53, rfl⟩
abbrev main_cst_14 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_15 : Ref sig .tc := ⟨.hbm, 67, rfl⟩
abbrev main_v43 : Ref sig .tc := ⟨.hbm, 68, rfl⟩
abbrev main_v44 : Ref sig .tc := ⟨.hbm, 69, rfl⟩
abbrev main_c_16 : Ref sig .tc := ⟨.hbm, 70, rfl⟩
abbrev main_v45 : Ref sig .tc := ⟨.hbm, 71, rfl⟩
abbrev main_v46 : Ref sig .tc := ⟨.hbm, 72, rfl⟩
abbrev main_c_17 : Ref sig .tc := ⟨.hbm, 73, rfl⟩
abbrev main_v47 : Ref sig .tc := ⟨.hbm, 74, rfl⟩
abbrev main_v48 : Ref sig .tc := ⟨.hbm, 75, rfl⟩
abbrev main_c_18 : Ref sig .tc := ⟨.hbm, 76, rfl⟩
abbrev main_v49 : Ref sig .tc := ⟨.hbm, 77, rfl⟩
abbrev main_v50 : Ref sig .tc := ⟨.hbm, 78, rfl⟩
abbrev main_c_19 : Ref sig .tc := ⟨.hbm, 79, rfl⟩
abbrev main_v51 : Ref sig .tc := ⟨.hbm, 80, rfl⟩
abbrev main_v52 : Ref sig .tc := ⟨.hbm, 81, rfl⟩
abbrev main_c_20 : Ref sig .tc := ⟨.hbm, 82, rfl⟩
abbrev main_v53 : Ref sig .tc := ⟨.hbm, 83, rfl⟩
abbrev main_v54 : Ref sig .tc := ⟨.hbm, 84, rfl⟩
abbrev main_c_21 : Ref sig .tc := ⟨.hbm, 85, rfl⟩
abbrev main_v55 : Ref sig .tc := ⟨.hbm, 86, rfl⟩
abbrev main_v56 : Ref sig .tc := ⟨.hbm, 87, rfl⟩
abbrev main_c_22 : Ref sig .tc := ⟨.hbm, 88, rfl⟩
abbrev main_v57 : Ref sig .tc := ⟨.hbm, 89, rfl⟩
abbrev main_v58 : Ref sig .tc := ⟨.hbm, 90, rfl⟩
abbrev main_c_23 : Ref sig .tc := ⟨.hbm, 91, rfl⟩
abbrev main_v59 : Ref sig .tc := ⟨.hbm, 92, rfl⟩
abbrev main_v60 : Ref sig .tc := ⟨.hbm, 93, rfl⟩
abbrev main_cst_24 : Ref sig .tc := ⟨.hbm, 94, rfl⟩
abbrev main_v61 : Ref sig .tc := ⟨.hbm, 95, rfl⟩
abbrev main_cst_25 : Ref sig .tc := ⟨.hbm, 96, rfl⟩
abbrev main_v62 : Ref sig .tc := ⟨.hbm, 97, rfl⟩
abbrev main_v63 : Ref sig .tc := ⟨.hbm, 98, rfl⟩
abbrev main_cst_26 : Ref sig .tc := ⟨.hbm, 99, rfl⟩
abbrev main_v64 : Ref sig .tc := ⟨.hbm, 100, rfl⟩
abbrev main_cst_27 : Ref sig .tc := ⟨.hbm, 101, rfl⟩
abbrev main_v65 : Ref sig .tc := ⟨.hbm, 102, rfl⟩
abbrev main_v66 : Ref sig .tc := ⟨.hbm, 103, rfl⟩
abbrev main_cst_28 : Ref sig .tc := ⟨.hbm, 104, rfl⟩
abbrev main_v67 : Ref sig .tc := ⟨.hbm, 105, rfl⟩
abbrev main_cst_29 : Ref sig .tc := ⟨.hbm, 106, rfl⟩
abbrev main_v68 : Ref sig .tc := ⟨.hbm, 107, rfl⟩
abbrev main_v69 : Ref sig .tc := ⟨.hbm, 108, rfl⟩
abbrev main_cst_30 : Ref sig .tc := ⟨.hbm, 109, rfl⟩
abbrev main_v70 : Ref sig .tc := ⟨.hbm, 110, rfl⟩
abbrev main_cst_31 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_32 : Ref sig .tc := ⟨.hbm, 124, rfl⟩
abbrev main_v83 : Ref sig .tc := ⟨.hbm, 125, rfl⟩
abbrev main_v84 : Ref sig .tc := ⟨.hbm, 126, rfl⟩
abbrev main_c_33 : Ref sig .tc := ⟨.hbm, 127, rfl⟩
abbrev main_v85 : Ref sig .tc := ⟨.hbm, 128, rfl⟩
abbrev main_v86 : Ref sig .tc := ⟨.hbm, 129, rfl⟩
abbrev main_c_34 : Ref sig .tc := ⟨.hbm, 130, rfl⟩
abbrev main_v87 : Ref sig .tc := ⟨.hbm, 131, rfl⟩
abbrev main_v88 : Ref sig .tc := ⟨.hbm, 132, rfl⟩
abbrev main_c_35 : Ref sig .tc := ⟨.hbm, 133, rfl⟩
abbrev main_v89 : Ref sig .tc := ⟨.hbm, 134, rfl⟩
abbrev main_v90 : Ref sig .tc := ⟨.hbm, 135, rfl⟩
abbrev main_c_36 : Ref sig .tc := ⟨.hbm, 136, rfl⟩
abbrev main_v91 : Ref sig .tc := ⟨.hbm, 137, rfl⟩
abbrev main_v92 : Ref sig .tc := ⟨.hbm, 138, rfl⟩
abbrev main_c_37 : Ref sig .tc := ⟨.hbm, 139, rfl⟩
abbrev main_v93 : Ref sig .tc := ⟨.hbm, 140, rfl⟩
abbrev main_v94 : Ref sig .tc := ⟨.hbm, 141, rfl⟩
abbrev main_c_38 : Ref sig .tc := ⟨.hbm, 142, rfl⟩
abbrev main_v95 : Ref sig .tc := ⟨.hbm, 143, rfl⟩
abbrev main_v96 : Ref sig .tc := ⟨.hbm, 144, rfl⟩
abbrev main_c_39 : Ref sig .tc := ⟨.hbm, 145, rfl⟩
abbrev main_v97 : Ref sig .tc := ⟨.hbm, 146, rfl⟩
abbrev main_v98 : Ref sig .tc := ⟨.hbm, 147, rfl⟩
abbrev main_c_40 : Ref sig .tc := ⟨.hbm, 148, rfl⟩
abbrev main_v99 : Ref sig .tc := ⟨.hbm, 149, rfl⟩
abbrev main_v100 : Ref sig .tc := ⟨.hbm, 150, rfl⟩
abbrev main_cst_41 : Ref sig .tc := ⟨.hbm, 151, rfl⟩
abbrev main_v101 : Ref sig .tc := ⟨.hbm, 152, rfl⟩
abbrev main_cst_42 : Ref sig .tc := ⟨.hbm, 153, rfl⟩
abbrev main_v102 : Ref sig .tc := ⟨.hbm, 154, rfl⟩
abbrev main_v103 : Ref sig .tc := ⟨.hbm, 155, rfl⟩
abbrev main_cst_43 : Ref sig .tc := ⟨.hbm, 156, rfl⟩
abbrev main_v104 : Ref sig .tc := ⟨.hbm, 157, rfl⟩
abbrev main_cst_44 : Ref sig .tc := ⟨.hbm, 158, rfl⟩
abbrev main_v105 : Ref sig .tc := ⟨.hbm, 159, rfl⟩
abbrev main_v106 : Ref sig .tc := ⟨.hbm, 160, rfl⟩
abbrev main_cst_45 : Ref sig .tc := ⟨.hbm, 161, rfl⟩
abbrev main_v107 : Ref sig .tc := ⟨.hbm, 162, rfl⟩
abbrev main_cst_46 : Ref sig .tc := ⟨.hbm, 163, rfl⟩
abbrev main_v108 : Ref sig .tc := ⟨.hbm, 164, rfl⟩
abbrev main_v109 : Ref sig .tc := ⟨.hbm, 165, rfl⟩
abbrev main_cst_47 : Ref sig .tc := ⟨.hbm, 166, rfl⟩
abbrev main_v110 : Ref sig .tc := ⟨.hbm, 167, rfl⟩
abbrev main_cst_48 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_c_49 : Ref sig .tc := ⟨.hbm, 181, rfl⟩
abbrev main_v123 : Ref sig .tc := ⟨.hbm, 182, rfl⟩
abbrev main_v124 : Ref sig .tc := ⟨.hbm, 183, rfl⟩
abbrev main_c_50 : Ref sig .tc := ⟨.hbm, 184, rfl⟩
abbrev main_v125 : Ref sig .tc := ⟨.hbm, 185, rfl⟩
abbrev main_v126 : Ref sig .tc := ⟨.hbm, 186, rfl⟩
abbrev main_c_51 : Ref sig .tc := ⟨.hbm, 187, rfl⟩
abbrev main_v127 : Ref sig .tc := ⟨.hbm, 188, rfl⟩
abbrev main_v128 : Ref sig .tc := ⟨.hbm, 189, rfl⟩
abbrev main_c_52 : Ref sig .tc := ⟨.hbm, 190, rfl⟩
abbrev main_v129 : Ref sig .tc := ⟨.hbm, 191, rfl⟩
abbrev main_v130 : Ref sig .tc := ⟨.hbm, 192, rfl⟩
abbrev main_c_53 : Ref sig .tc := ⟨.hbm, 193, rfl⟩
abbrev main_v131 : Ref sig .tc := ⟨.hbm, 194, rfl⟩
abbrev main_v132 : Ref sig .tc := ⟨.hbm, 195, rfl⟩
abbrev main_c_54 : Ref sig .tc := ⟨.hbm, 196, rfl⟩
abbrev main_v133 : Ref sig .tc := ⟨.hbm, 197, rfl⟩
abbrev main_v134 : Ref sig .tc := ⟨.hbm, 198, rfl⟩
abbrev main_c_55 : Ref sig .tc := ⟨.hbm, 199, rfl⟩
abbrev main_v135 : Ref sig .tc := ⟨.hbm, 200, rfl⟩
abbrev main_v136 : Ref sig .tc := ⟨.hbm, 201, rfl⟩
abbrev main_c_56 : Ref sig .tc := ⟨.hbm, 202, rfl⟩
abbrev main_v137 : Ref sig .tc := ⟨.hbm, 203, rfl⟩
abbrev main_v138 : Ref sig .tc := ⟨.hbm, 204, rfl⟩
abbrev main_c_57 : Ref sig .tc := ⟨.hbm, 205, rfl⟩
abbrev main_v139 : Ref sig .tc := ⟨.hbm, 206, rfl⟩
abbrev main_v140 : Ref sig .tc := ⟨.hbm, 207, rfl⟩
abbrev main_cst_58 : Ref sig .tc := ⟨.hbm, 208, rfl⟩
abbrev main_v141 : Ref sig .tc := ⟨.hbm, 209, rfl⟩
abbrev main_cst_59 : Ref sig .tc := ⟨.hbm, 210, rfl⟩
abbrev main_v142 : Ref sig .tc := ⟨.hbm, 211, rfl⟩
abbrev main_v143 : Ref sig .tc := ⟨.hbm, 212, rfl⟩
abbrev main_cst_60 : Ref sig .tc := ⟨.hbm, 213, rfl⟩
abbrev main_v144 : Ref sig .tc := ⟨.hbm, 214, rfl⟩
abbrev main_cst_61 : Ref sig .tc := ⟨.hbm, 215, rfl⟩
abbrev main_v145 : Ref sig .tc := ⟨.hbm, 216, rfl⟩
abbrev main_v146 : Ref sig .tc := ⟨.hbm, 217, rfl⟩
abbrev main_cst_62 : Ref sig .tc := ⟨.hbm, 218, rfl⟩
abbrev main_v147 : Ref sig .tc := ⟨.hbm, 219, rfl⟩
abbrev main_cst_63 : Ref sig .tc := ⟨.hbm, 220, rfl⟩
abbrev main_v148 : Ref sig .tc := ⟨.hbm, 221, rfl⟩
abbrev main_v149 : Ref sig .tc := ⟨.hbm, 222, rfl⟩
abbrev main_cst_64 : Ref sig .tc := ⟨.hbm, 223, rfl⟩
abbrev main_v150 : Ref sig .tc := ⟨.hbm, 224, rfl⟩
abbrev main_cst_65 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x4096x448 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S144x448 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x448 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S144x448 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Bits.Runs.lean ====
/- What the runs of the body share: the branch condition in closed form, the staging and scratch memrefs, and the
   region's invariant with the scratch buffers as memrefs. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## The kernel body on any staging memrefs: a subtype the run finds -/

/-- One staging buffer of output window 6, through which its contents are stated (`View.read_writes_of_cover`: the
    choice does not matter). -/
abbrev VO0_6 : View sig .tc .vmem S512x2304 .bf16 := (Memref.whole cc0_stg6_0 : Memref sig .tc .vmem S512x2304 .bf16).view
/-- Each window's current staging memref at point `t`, spelled as the pipeline passes it (`bodyAt0`), and its wholeness. -/
abbrev ms0_0 (t : Fin cfg0.N) : Memref sig .tc .smem S4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x3584 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2304x3584 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S144x512 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2304 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x7168 .bf16 := Memref.whole cc0_scratch0
abbrev scM0_1 : Memref sig .tc .vmem S2304x7168 .bf16 := Memref.whole cc0_scratch1
abbrev scM0_2 : Memref sig .tc .vmem S144x3584 .f32 := Memref.whole cc0_scratch2
/-- The scratch `arg9` the kernel carries between points, as a view: what it holds is stated through it. -/
abbrev VS0_1 : View sig .tc .vmem S2304x7168 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Run

end
-- ==== Proof.Bits.RunA.lean ====
/- The body at the first grid point, where the weights are decoded. -/
module

public import proofs.«01_k».proof.Proof.Bits.Runs

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option backward.proofsInPublic true in
set_option maxHeartbeats 1072000 in
/-- The pieces that the body's stores leave in the output's staging buffer and in the weight scratch, last first, with
    the proof that the body runs from the staged inputs to a state with exactly these pieces written. Case A: the weights are
    decoded at this point. -/
noncomputable def kernelRun0_A (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : cond0_0 i)
    (x0 : Vec F S4 .f32) (x1 : Vec F S1 .f32) (x2 : Vec F S512x3584 .i8) (x3 : Vec F S512x512 .fp8e4m3) (x4 : Vec F S2304x3584 .i8) (x5 : Vec F S144x512 .fp8e4m3) :
    Σ' (L6 : List (View.Piece (Elt F) S512x2304 .bf16)), { LS1 : List (View.Piece (Elt F) S2304x7168 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ d, owns (c : Thread nD τ) arg8 fullShare d) ∗ (∃ f, arg9.view.loc (c : Thread nD τ) ↦[arg9.view.set]{fullShare} arg9.view.writes (Elt F) f LS1) ∗ (∃ d, owns (c : Thread nD τ) arg10 fullShare d)) -∗ K ⟨⟩))
          ⊢ wp frame (wpE (defs₀ (F := F)) Variants.none c none) E (cc0_nvfp4_linear i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0_nvfp4_linear_eq_skeleton]; unfold cc0_nvfp4_linear_skel
    simp only [k0_part189_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part190_eq_skeleton, k0_part191_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    have hrd0 : ∀ (𝒱 : Variants) (c : Dev nD) (bd : Option 𝒱.V) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (X_arg3 : BufTy.Contents (Elt F) arg3.view.ty) (X_arg4 : BufTy.Contents (Elt F) arg4.view.ty) (hrdF : BufTy.Contents (Elt F) arg8.view.ty) (hrdB : LoadRect S512x7168), arg8.view.readAt (Elt F) hrdB (arg8.view.writes (Elt F) hrdF (pb_k0_t2 (F := F) 𝒱 c bd i arg1 harg1 arg2 harg2 arg3 harg3 arg4 harg4 arg5 harg5 arg6 harg6 arg7 harg7 arg8 harg8 arg9 harg9 arg10 harg10 X_arg3 X_arg4 (Scf.trips k0_t2_loop.lb k0_t2_loop.ub k0_t2_loop.st))) = arg8.view.readCov (pb_k0_t2 (F := F) 𝒱 c bd i arg1 harg1 arg2 harg2 arg3 harg3 arg4 harg4 arg5 harg5 arg6 harg6 arg7 harg7 arg8 harg8 arg9 harg9 arg10 harg10 X_arg3 X_arg4 (Scf.trips k0_t2_loop.lb k0_t2_loop.ub k0_t2_loop.st)) hrdB := fun 𝒱 c bd i arg1 harg1 arg2 harg2 arg3 harg3 arg4 harg4 arg5 harg5 arg6 harg6 arg7 harg7 arg8 harg8 arg9 harg9 arg10 harg10 X_arg3 X_arg4 hrdF hrdB => View.readAt_writes_of_cover _ hrdF _ hrdB (fun hrdJ => View.cover_of_tiledL (pb_k0_t2 (F := F) 𝒱 c bd i arg1 harg1 arg2 harg2 arg3 harg3 arg4 harg4 arg5 harg5 arg6 harg6 arg7 harg7 arg8 harg8 arg9 harg9 arg10 harg10 X_arg3 X_arg4 (Scf.trips k0_t2_loop.lb k0_t2_loop.ub k0_t2_loop.st)) S32x128.size (by sl_kernel_rfl) (hrdB.idx hrdJ))
    have hrd1 : ∀ (𝒱 : Variants) (c : Dev nD) (bd : Option 𝒱.V) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (k0_h1 : k0_cond1 i = 1#1) (X_arg5 : BufTy.Contents (Elt F) arg5.view.ty) (X_arg10 : BufTy.Contents (Elt F) arg10.view.ty) (hrdF : BufTy.Contents (Elt F) arg9.view.ty) (hrdB : LoadRect S2304x7168), arg9.view.readAt (Elt F) hrdB (arg9.view.writes (Elt F) hrdF (pb_k0_t1 (F := F) 𝒱 c bd i arg1 harg1 arg2 harg2 arg3 harg3 arg4 harg4 arg5 harg5 arg6 harg6 arg7 harg7 arg8 harg8 arg9 harg9 arg10 harg10 k0_h1 X_arg5 X_arg10 (Scf.trips k0_t1_loop.lb k0_t1_loop.ub k0_t1_loop.st))) = arg9.view.readCov (pb_k0_t1 (F := F) 𝒱 c bd i arg1 harg1 arg2 harg2 arg3 harg3 arg4 harg4 arg5 harg5 arg6 harg6 arg7 harg7 arg8 harg8 arg9 harg9 arg10 harg10 k0_h1 X_arg5 X_arg10 (Scf.trips k0_t1_loop.lb k0_t1_loop.ub k0_t1_loop.st)) hrdB := fun 𝒱 c bd i arg1 harg1 arg2 harg2 arg3 harg3 arg4 harg4 arg5 harg5 arg6 harg6 arg7 harg7 arg8 harg8 arg9 harg9 arg10 harg10 k0_h1 X_arg5 X_arg10 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 k0_h1 X_arg5 X_arg10 (Scf.trips k0_t1_loop.lb k0_t1_loop.ub k0_t1_loop.st)) S32x128.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _, _; isplitr; swap; · iexact HS0
      ipureintro; rfl
    isplitl [HS1]; · iexists _; iexact HS1
    iexists _, _; isplitr; swap; · iexact HS2
    ipureintro; rfl

end Cert.Kernel.Run

end
-- ==== Proof.Bits.RunB.lean ====
/- The body at a later grid point, where the decoded weights are already in scratch. -/
module

public import proofs.«01_k».proof.Proof.Bits.RunA

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option backward.proofsInPublic true in
set_option maxHeartbeats 1000000 in
/-- The pieces that the body's stores leave in the output's staging buffer and in the weight scratch, last first, with
    the proof that the body runs from the staged inputs to a state with exactly these pieces written. Case B: the weights
    were decoded at an earlier point. -/
noncomputable def kernelRun0_B (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : ¬cond0_0 i)
    (x0 : Vec F S4 .f32) (x1 : Vec F S1 .f32) (x2 : Vec F S512x3584 .i8) (x3 : Vec F S512x512 .fp8e4m3) (x4 : Vec F S2304x3584 .i8) (x5 : Vec F S144x512 .fp8e4m3) (xs1 : Vec F S2304x7168 .bf16) :
    Σ' (L6 : List (View.Piece (Elt F) S512x2304 .bf16)), { LS1 : List (View.Piece (Elt F) S2304x7168 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs1 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ d, owns (c : Thread nD τ) arg8 fullShare d) ∗ owns (c : Thread nD τ) arg9 fullShare xs1 ∗ (∃ d, owns (c : Thread nD τ) arg10 fullShare d)) -∗ K ⟨⟩))
          ⊢ wp frame (wpE (defs₀ (F := F)) Variants.none c none) E (cc0_nvfp4_linear i arg1 harg1 arg2 harg2 arg3 harg3 arg4 harg4 arg5 harg5 arg6 harg6 arg7 harg7 arg8 harg8 arg9 harg9 arg10 harg10) K } := by
  refine ⟨?_, [], fun E K => ?run⟩
  case run =>
    simp only [cc0_nvfp4_linear_eq_skeleton]; unfold cc0_nvfp4_linear_skel
    simp only [k0_part189_eq_skeleton, k0_part190_eq_skeleton, k0_part191_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1
    have hrd0 : ∀ (𝒱 : Variants) (c : Dev nD) (bd : Option 𝒱.V) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (X_arg3 : BufTy.Contents (Elt F) arg3.view.ty) (X_arg4 : BufTy.Contents (Elt F) arg4.view.ty) (hrdF : BufTy.Contents (Elt F) arg8.view.ty) (hrdB : LoadRect S512x7168), arg8.view.readAt (Elt F) hrdB (arg8.view.writes (Elt F) hrdF (pb_k0_t2 (F := F) 𝒱 c bd i arg1 harg1 arg2 harg2 arg3 harg3 arg4 harg4 arg5 harg5 arg6 harg6 arg7 harg7 arg8 harg8 arg9 harg9 arg10 harg10 X_arg3 X_arg4 (Scf.trips k0_t2_loop.lb k0_t2_loop.ub k0_t2_loop.st))) = arg8.view.readCov (pb_k0_t2 (F := F) 𝒱 c bd i arg1 harg1 arg2 harg2 arg3 harg3 arg4 harg4 arg5 harg5 arg6 harg6 arg7 harg7 arg8 harg8 arg9 harg9 arg10 harg10 X_arg3 X_arg4 (Scf.trips k0_t2_loop.lb k0_t2_loop.ub k0_t2_loop.st)) hrdB := fun 𝒱 c bd i arg1 harg1 arg2 harg2 arg3 harg3 arg4 harg4 arg5 harg5 arg6 harg6 arg7 harg7 arg8 harg8 arg9 harg9 arg10 harg10 X_arg3 X_arg4 hrdF hrdB => View.readAt_writes_of_cover _ hrdF _ hrdB (fun hrdJ => View.cover_of_tiledL (pb_k0_t2 (F := F) 𝒱 c bd i arg1 harg1 arg2 harg2 arg3 harg3 arg4 harg4 arg5 harg5 arg6 harg6 arg7 harg7 arg8 harg8 arg9 harg9 arg10 harg10 X_arg3 X_arg4 (Scf.trips k0_t2_loop.lb k0_t2_loop.ub k0_t2_loop.st)) S32x128.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _, _; isplitr; swap; · iexact HS0
      ipureintro; rfl
    isplitl [HS1]
    · iexists _; isplitr; · ipureintro; exact harg9.read_unread _
      iexact HS1
    iexists _, _; isplitr; swap; · iexact HS2
    ipureintro; rfl

end Cert.Kernel.Run

end
-- ==== Proof.Spec.lean ====
/- What the two decoded operands of the kernel's product hold, element by element, in any arithmetic, and how one printed
   tile (32 rows of 128 lanes) spells it: codes joined four to a word, masked, split again; scales spread over the lanes. -/
module

public import Idealize.ShloMosaic.Lib.BitcastFour
public import Idealize.ShloMosaic.Lib.Pipeline.Value
public import Idealize.ShloMosaic.Lib.Tactic
public import Idealize.ShloMosaic.Lib.Pointwise

@[expose] public section

set_option maxRecDepth 16384

noncomputable section

namespace Cert.Spec

open Idealize.ShloMosaic

variable {F : FTy → Type} [FloatOps F]

abbrev T32 : Shape := ⟨2, ![32, 128]⟩
abbrev T8 : Shape := ⟨2, ![8, 128]⟩
abbrev T1 : Shape := ⟨2, ![1, 128]⟩
abbrev T16 : Shape := ⟨2, ![16, 128]⟩
abbrev T32x1 : Shape := ⟨3, ![32, 128, 1]⟩

/-! ## The entries -/

/-- The byte a low nibble is moved to: magnitude in bits 2–4, sign in bit 7. -/
def loB (b : BitVec 8) : BitVec 8 := ((b <<< 2) &&& 0x1C#8) ||| ((b <<< 4) &&& 0x80#8)
/-- The byte a high nibble is moved to. -/
def hiB (b : BitVec 8) : BitVec 8 := ((b >>> 2) &&& 0x1C#8) ||| (b &&& 0x80#8)

/-- A moved nibble read as an 8-bit float and widened. -/
def val8 (b : BitVec 8) : F .bf16 := FloatOps.extf .bf16 (by decide) (FloatOps.ofBits (F := F) .fp8e4m3 b)

/-- One decoded activation: the code times its block's scale. -/
def xEnt (b : BitVec 8) (s : F .fp8e4m3) : F .bf16 :=
  FloatOps.mulf (val8 b) (FloatOps.truncf .bf16 (by decide) (FloatOps.extf .f32 (by decide) s))

/-- A weight scale in f32, multiplied by 4096. -/
def wScl (s : F .fp8e4m3) : F .f32 :=
  FloatOps.mulf (FloatOps.extf .f32 (by decide) s) (Scalar.ofBits .f32 0x45800000#32)

/-- One decoded weight, from its scale in f32. -/
def wEnt (b : BitVec 8) (s : F .f32) : F .bf16 :=
  FloatOps.mulf (val8 b) (FloatOps.truncf .bf16 (by decide) s)

/-- The code column of a decoded column: the low nibbles come first, the high ones after. -/
def col (k : Fin 7168) : Fin 3584 := ⟨k.val % 3584, Nat.mod_lt _ (by decide)⟩
/-- The moved byte of a decoded column. -/
def nib (k : Fin 7168) (b : BitVec 8) : BitVec 8 := if k.val < 3584 then loB b else hiB b
/-- The scale column of a code column (blocks of 16 values, 8 bytes). -/
def blk (c : Fin 3584) : Fin 512 := ⟨c.val / 8, by omega⟩

/-- The decoded activations of one block of 512 rows. -/
def xBuf (x : (⟨2, ![512, 3584]⟩ : Shape).Idx → BitVec 8) (s : (⟨2, ![512, 512]⟩ : Shape).Idx → F .fp8e4m3) :
    (⟨2, ![512, 7168]⟩ : Shape).Idx → F .bf16 :=
  fun y => xEnt (nib (y 1) (x (ix2 (y 0) (col (y 1))))) (s (ix2 (y 0) (blk (col (y 1)))))

/-- The weight scales, one per 16 rows and code column. -/
def eBuf (s : (⟨2, ![144, 512]⟩ : Shape).Idx → F .fp8e4m3) : (⟨2, ![144, 3584]⟩ : Shape).Idx → F .f32 :=
  fun y => wScl (s (ix2 (y 0) (blk (y 1))))

/-- The decoded weights, from the spread scales. -/
def wBufE (w : (⟨2, ![2304, 3584]⟩ : Shape).Idx → BitVec 8) (e : (⟨2, ![144, 3584]⟩ : Shape).Idx → F .f32) :
    (⟨2, ![2304, 7168]⟩ : Shape).Idx → F .bf16 :=
  fun y => wEnt (nib (y 1) (w (ix2 (y 0) (col (y 1)))))
    (e (ix2 (⟨(y 0).val / 16, by have h : (y 0).val < 2304 := (y 0).isLt; omega⟩ : Fin 144) (col (y 1))))

/-- The decoded weights. -/
def wBuf (w : (⟨2, ![2304, 3584]⟩ : Shape).Idx → BitVec 8) (s : (⟨2, ![144, 512]⟩ : Shape).Idx → F .fp8e4m3) :
    (⟨2, ![2304, 7168]⟩ : Shape).Idx → F .bf16 := wBufE w (eBuf s)

/-! ## The words -/

def words (w : T32.Idx → BitVec 8) (h : T32.Bitcasts 8 T8 32) : IVec T8 32 := bitcast T8 32 w h

def loW (v : IVec T8 32) : IVec T8 32 :=
  ori (andi (shli v (broadcast T8 2#32)) (broadcast T8 471604252#32)) (andi (shli v (broadcast T8 4#32)) (broadcast T8 2155905152#32))
def hiW (v : IVec T8 32) : IVec T8 32 :=
  ori (andi (shrsi v (broadcast T8 2#32)) (broadcast T8 471604252#32)) (andi v (broadcast T8 2155905152#32))

theorem bit_back (v : IVec T8 32) (h : T8.Bitcasts 32 T32 8) (r : Fin 32) (l : Fin 128) (q : Nat) (hq : q < 8) :
    (bitcast T32 8 v h (ix2 r l)).getLsbD q
      = (v (ix2 (⟨r.val / 4, by omega⟩ : Fin 8) l)).getLsbD (8 * (r.val % 4) + q) := by
  rw [bitcast_getLsbD v h _ q hq (by decide)]
  have e1 : (T32.row (ix2 r l) * 8 + q) / 32 = r.val / 4 := by
    have : T32.row (ix2 r l) = r.val := rfl
    omega
  have e2 : (T32.row (ix2 r l) * 8 + q) % 32 = 8 * (r.val % 4) + q := by
    have : T32.row (ix2 r l) = r.val := rfl
    omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

theorem word_bit (w : T32.Idx → BitVec 8) (h : T32.Bitcasts 8 T8 32) (r : Fin 32) (l : Fin 128) (q : Nat) (hq : q < 8) :
    (words w h (ix2 (⟨r.val / 4, by omega⟩ : Fin 8) l)).getLsbD (8 * (r.val % 4) + q) = (w (ix2 r l)).getLsbD q := by
  unfold words
  refine (bitcast_8_32_getLsbD_ix2 w h _ l (8 * (r.val % 4) + q) (by omega) r (by show r.val = 4 * (r.val / 4) + _; omega)).trans ?_
  have e : (8 * (r.val % 4) + q) % 8 = q := by omega
  rw [e]
  rfl

theorem lo_bit (v : BitVec 32) (m q : Nat) (hm : m < 4) (hq : q < 8) (b : BitVec 8)
    (hb : ∀ q < 8, v.getLsbD (8 * m + q) = b.getLsbD q) :
    (((v <<< 2) &&& 471604252#32) ||| ((v <<< 4) &&& 2155905152#32)).getLsbD (8 * m + q) = (loB b).getLsbD q := by
  have h0 := hb 0 (by decide); have h1 := hb 1 (by decide); have h2 := hb 2 (by decide); have h3 := hb 3 (by decide)
  clear hb
  unfold loB
  interval_cases m <;> interval_cases q <;> simp_all [BitVec.getLsbD_or, BitVec.getLsbD_and, BitVec.getLsbD_shiftLeft]

theorem hi_bit (v : BitVec 32) (m q : Nat) (hm : m < 4) (hq : q < 8) (b : BitVec 8)
    (hb : ∀ q < 8, v.getLsbD (8 * m + q) = b.getLsbD q) :
    (((v.sshiftRight 2) &&& 471604252#32) ||| (v &&& 2155905152#32)).getLsbD (8 * m + q) = (hiB b).getLsbD q := by
  have h4 := hb 4 (by decide); have h5 := hb 5 (by decide); have h6 := hb 6 (by decide); have h7 := hb 7 (by decide)
  clear hb
  unfold hiB
  interval_cases m <;> interval_cases q <;> simp_all [BitVec.getLsbD_or, BitVec.getLsbD_and, BitVec.getLsbD_sshiftRight, BitVec.getElem_sshiftRight, BitVec.getLsbD_ushiftRight]

theorem lo_back (w : T32.Idx → BitVec 8) (h : T32.Bitcasts 8 T8 32) (h' : T8.Bitcasts 32 T32 8) (j : T32.Idx) :
    bitcast T32 8 (loW (words w h)) h' j = loB (w j) := by
  obtain ⟨r, l, rfl⟩ : ∃ r l, j = ix2 (n0 := 32) (n1 := 128) r l := ⟨j 0, j 1, eq_ix2 j⟩
  apply BitVec.eq_of_getLsbD_eq
  intro q hq
  rw [bit_back _ h' r l q hq]
  exact lo_bit _ _ q (Nat.mod_lt _ (by decide)) hq _ fun q hq => word_bit w h r l q hq

theorem hi_back (w : T32.Idx → BitVec 8) (h : T32.Bitcasts 8 T8 32) (h' : T8.Bitcasts 32 T32 8) (j : T32.Idx) :
    bitcast T32 8 (hiW (words w h)) h' j = hiB (w j) := by
  obtain ⟨r, l, rfl⟩ : ∃ r l, j = ix2 (n0 := 32) (n1 := 128) r l := ⟨j 0, j 1, eq_ix2 j⟩
  apply BitVec.eq_of_getLsbD_eq
  intro q hq
  rw [bit_back _ h' r l q hq]
  exact hi_bit _ _ q (Nat.mod_lt _ (by decide)) hq _ fun q hq => word_bit w h r l q hq

/-- The split words as floats, widened. -/
def vals (v : IVec T8 32) (h' : T8.Bitcasts 32 T32 8) (hb : FTy.bits .fp8e4m3 < FTy.bits .bf16) : FVec F T32 .bf16 :=
  extf .bf16 (bitcastToFloat .fp8e4m3 (bitcast T32 8 v h')) hb

/-! ## The lanes of a spread scale -/

/-- The printed lane index `lane // 8 + q` of a vector of lane numbers. -/
def laneOf (S : Shape) (v127 : IVec S 32) (h1 : 1 < 32) (q : BitVec 32) : IVec S 32 :=
  have v128 : IVec S 32 := broadcast S 8#32
  have v129 : IVec S 32 := divsi v127 v128
  have v130 : IVec S 32 := broadcast S 0#32
  have v131 : IVec S 1 := cmpi .sgt v127 v130
  have v132 : IVec S 32 := extui 32 v131 h1
  have v133 : IVec S 32 := broadcast S 0#32
  have v134 : IVec S 1 := cmpi .slt v127 v133
  have v135 : IVec S 32 := extui 32 v134 h1
  have v136 : IVec S 32 := subi v132 v135
  let v137 : BitVec 1 := Scalar.cmpi .sgt 8#32 0#32
  let v138 : BitVec 32 := Scalar.extui v137
  let v139 : BitVec 1 := Scalar.cmpi .slt 8#32 0#32
  let v140 : BitVec 32 := Scalar.extui v139
  let v141 : BitVec 32 := Scalar.subi v138 v140
  have v142 : IVec S 32 := broadcast S v141
  have v143 : IVec S 1 := cmpi .ne v136 v142
  have v144 : IVec S 32 := broadcast S 8#32
  have v145 : IVec S 32 := remsi v127 v144
  have v146 : IVec S 32 := broadcast S 0#32
  have v147 : IVec S 1 := cmpi .ne v145 v146
  have v148 : IVec S 1 := andi v143 v147
  have v149 : IVec S 32 := broadcast S 1#32
  have v150 : IVec S 32 := subi v129 v149
  have v151 : IVec S 32 := select v148 v150 v129
  have v152 : IVec S 32 := broadcast S q
  have v153 : IVec S 32 := addi v151 v152
  have v154 : IVec S 32 := broadcast S 0#32
  have v155 : IVec S 1 := cmpi .slt v153 v154
  have v156 : IVec S 32 := broadcast S 128#32
  have v157 : IVec S 32 := addi v153 v156
  select v155 v157 v153

/-- The same on one word. -/
def laneW (x q : BitVec 32) : BitVec 32 := laneOf ⟨0, ![]⟩ (fun _ => x) (by decide) q (fun a => a.elim0)

theorem laneOf_apply (S : Shape) (v : IVec S 32) (h1 : 1 < 32) (q : BitVec 32) (j : S.Idx) : laneOf S v h1 q j = laneW (v j) q := rfl

/-- In lane `l`, at the offset `16 * q`, the index is `l / 8 + 16 * q`. -/
theorem laneW_eq : ∀ (l : Fin 128) (q : Fin 8), (laneW (BitVec.ofNat 32 l.val) (BitVec.ofNat 32 (16 * q.val))).toNat = l.val / 8 + 16 * q.val := by
  decide +kernel

/-- The index vector as it is passed to the gather: there and back through a shape with a unit axis. -/
def gix {n : ℕ} (hi : (⟨2, ![n, 128]⟩ : Shape).Iotas .tc 32 [1]) (h1 : 1 < 32) (h2 : (⟨2, ![n, 128]⟩ : Shape).ShapeCasts ⟨3, ![n, 128, 1]⟩)
    (h3 : (⟨3, ![n, 128, 1]⟩ : Shape).ShapeCasts ⟨2, ![n, 128]⟩) (q : BitVec 32) : IVec ⟨2, ![n, 128]⟩ 32 :=
  shapeCast ⟨2, ![n, 128]⟩ (shapeCast ⟨3, ![n, 128, 1]⟩ (laneOf ⟨2, ![n, 128]⟩ (iota .tc ⟨2, ![n, 128]⟩ 32 [1] hi) h1 q) h2) h3

theorem gather_eq {n : ℕ} {α : Type} (hi : (⟨2, ![n, 128]⟩ : Shape).Iotas .tc 32 [1]) (h1 : 1 < 32)
    (h2 : (⟨2, ![n, 128]⟩ : Shape).ShapeCasts ⟨3, ![n, 128, 1]⟩)
    (h3 : (⟨3, ![n, 128, 1]⟩ : Shape).ShapeCasts ⟨2, ![n, 128]⟩) (q : Fin 8) (x : (⟨2, ![n, 128]⟩ : Shape).Idx → α) (r : Fin n) (l : Fin 128) :
    dynamicGather 1 x (gix hi h1 h2 h3 (BitVec.ofNat 32 (16 * q.val))) (ix2 r l)
      = x (ix2 r (⟨l.val / 8 + 16 * q.val, by omega⟩ : Fin 128)) := by
  unfold gix
  rw [shapeCast_shapeCast]
  unfold dynamicGather
  congr 1
  funext c
  match c with
  | ⟨0, _⟩ => rfl
  | ⟨1, _⟩ =>
    refine Fin.ext ?_
    show (laneW (BitVec.ofNat 32 ([1].foldl (fun m (a : Fin 2) => m * (![n, 128] : Fin 2 → ℕ) a + ((ix2 r l : (⟨2, ![n, 128]⟩ : Shape).Idx) a).val) 0)) (BitVec.ofNat 32 (16 * q.val))).toNat % 128 = _
    have e : ([1].foldl (fun m (a : Fin 2) => m * (![n, 128] : Fin 2 → ℕ) a + ((ix2 r l : (⟨2, ![n, 128]⟩ : Shape).Idx) a).val) 0) = l.val := by
      show 0 * _ + l.val = l.val
      omega
    rw [e, laneW_eq]
    exact Nat.mod_eq_of_lt (by omega)

/-! ## A printed tile is the tile of the whole -/

section Tiles

variable {sig : RefSig} {κ κ' κ'' : Kind} {sp sp' sp'' : Space}

/-- A block of rows and columns of an array, read at an index. -/
theorem emb2 {n0 n1 m0 m1 : ℕ} {off : Fin 2 → ℕ} (a b : ℕ) (h : off = ![a, b])
    (inb : ∀ x, off x + (![m0, m1] : Fin 2 → ℕ) x ≤ (⟨2, ![n0, n1]⟩ : Shape).size x) (r : Fin m0) (l : Fin m1) (r' : Fin n0) (l' : Fin n1)
    (hr : r'.val = a + r.val) (hl : l'.val = b + l.val) :
    (Rect.unit (s := ⟨2, ![n0, n1]⟩) off ![m0, m1] inb).emb (ix2 r l) = ix2 r' l' := by
  subst h
  funext c
  match c with
  | ⟨0, _⟩ => exact Fin.ext (by show a + 1 * r.val = r'.val; omega)
  | ⟨1, _⟩ => exact Fin.ext (by show b + 1 * l.val = l'.val; omega)

theorem col_lo (T : Fin 28) (l : Fin 128) (k : Fin 7168) (hk : k.val = 128 * T.val + l.val) :
    k.val < 3584 ∧ (col k).val = 128 * T.val + l.val := by
  have := T.isLt; have := l.isLt
  refine ⟨by omega, ?_⟩
  show k.val % 3584 = _
  omega

theorem col_hi (T : Fin 28) (l : Fin 128) (k : Fin 7168) (hk : k.val = 3584 + 128 * T.val + l.val) :
    ¬ k.val < 3584 ∧ (col k).val = 128 * T.val + l.val := by
  have := T.isLt; have := l.isLt
  refine ⟨by omega, ?_⟩
  show k.val % 3584 = _
  omega

/-- The spread scales of a tile of activations, rounded to bf16. -/
def scaleX (s : T32.Idx → F .fp8e4m3) (hx : FTy.bits .fp8e4m3 < FTy.bits .f32) (ht : FTy.bits .bf16 < FTy.bits .f32)
    (hi : T32.Iotas .tc 32 [1]) (h1 : 1 < 32) (h2 : T32.ShapeCasts T32x1) (h3 : T32x1.ShapeCasts T32) (q : BitVec 32) : FVec F T32 .bf16 :=
  truncf .bf16 (dynamicGather (s := T32) 1 (extf .f32 (s := T32) s hx) (gix hi h1 h2 h3 q)) ht

theorem scaleX_apply (s : T32.Idx → F .fp8e4m3) (hx : FTy.bits .fp8e4m3 < FTy.bits .f32) (ht : FTy.bits .bf16 < FTy.bits .f32)
    (hi : T32.Iotas .tc 32 [1]) (h1 : 1 < 32) (h2 : T32.ShapeCasts T32x1) (h3 : T32x1.ShapeCasts T32) (q : Fin 8) (r : Fin 32) (l : Fin 128) :
    scaleX s hx ht hi h1 h2 h3 (BitVec.ofNat 32 (16 * q.val)) (ix2 r l)
      = FloatOps.truncf .bf16 ht (FloatOps.extf .f32 hx (s (ix2 r (⟨l.val / 8 + 16 * q.val, by omega⟩ : Fin 128)))) := by
  unfold scaleX
  show FloatOps.truncf .bf16 ht (dynamicGather (s := T32) 1 (extf .f32 (s := T32) s hx) (gix hi h1 h2 h3 (BitVec.ofNat 32 (16 * q.val))) (ix2 r l)) = _
  rw [gather_eq hi h1 h2 h3 q]
  rfl

theorem nib_lo (k : Fin 7168) (b : BitVec 8) (h : k.val < 3584) : nib k b = loB b := if_pos h
theorem nib_hi (k : Fin 7168) (b : BitVec 8) (h : ¬ k.val < 3584) : nib k b = hiB b := if_neg h
theorem xBuf_apply (x : (⟨2, ![512, 3584]⟩ : Shape).Idx → BitVec 8) (s : (⟨2, ![512, 512]⟩ : Shape).Idx → F .fp8e4m3) (r : Fin 512) (k : Fin 7168) :
    xBuf x s (ix2 r k) = xEnt (nib k (x (ix2 r (col k)))) (s (ix2 r (blk (col k)))) := rfl
theorem wBufE_apply (w : (⟨2, ![2304, 3584]⟩ : Shape).Idx → BitVec 8) (e : (⟨2, ![144, 3584]⟩ : Shape).Idx → F .f32) (r : Fin 2304) (k : Fin 7168) :
    wBufE w e (ix2 r k) = wEnt (nib k (w (ix2 r (col k)))) (e (ix2 (⟨r.val / 16, by omega⟩ : Fin 144) (col k))) := rfl

theorem tileX_lo (w : T32.Idx → BitVec 8) (s : T32.Idx → F .fp8e4m3) {p1 p2 p3 p4 p5 p6 p7 p8 p9 p10 p11} (T : ℕ) (r : Fin 32) (l : Fin 128) :
    shapeCast T32 (mulf (vals (F := F) (loW (words (shapeCast T32 w p1) p2)) p3 p4)
        (scaleX (shapeCast T32 s p5) p6 p7 p8 p9 p10 p11 (BitVec.ofNat 32 (16 * (T % 8))))) p1 (ix2 r l)
      = xEnt (loB (w (ix2 r l))) (s (ix2 r (⟨l.val / 8 + 16 * (T % 8), by omega⟩ : Fin 128))) := by
  rw [shapeCast_self, shapeCast_self, shapeCast_self]
  show FloatOps.mulf (FloatOps.extf .bf16 p4 (FloatOps.ofBits (F := F) .fp8e4m3 (bitcast T32 8 (loW (words _ p2)) p3 (ix2 r l)))) (scaleX _ _ _ _ _ _ _ _ (ix2 r l)) = _
  rw [lo_back, scaleX_apply _ _ _ _ _ _ _ ⟨T % 8, Nat.mod_lt _ (by decide)⟩]
  rfl

theorem tileW_lo (w : T32.Idx → BitVec 8) (s : FVec F T32 .bf16) {p1 p2 p3 p4} (j : T32.Idx) :
    shapeCast T32 (mulf (vals (F := F) (loW (words w p2)) p3 p4) s) p1 j
      = FloatOps.mulf (val8 (loB (w j))) (s j) := by
  rw [shapeCast_self]
  show FloatOps.mulf (FloatOps.extf .bf16 p4 (FloatOps.ofBits (F := F) .fp8e4m3 (bitcast T32 8 (loW (words _ p2)) p3 j))) (s j) = _
  rw [lo_back]
  rfl

theorem tileX_hi (w : T32.Idx → BitVec 8) (s : T32.Idx → F .fp8e4m3) {p1 p2 p3 p4 p5 p6 p7 p8 p9 p10 p11} (T : ℕ) (r : Fin 32) (l : Fin 128) :
    shapeCast T32 (mulf (vals (F := F) (hiW (words (shapeCast T32 w p1) p2)) p3 p4)
        (scaleX (shapeCast T32 s p5) p6 p7 p8 p9 p10 p11 (BitVec.ofNat 32 (16 * (T % 8))))) p1 (ix2 r l)
      = xEnt (hiB (w (ix2 r l))) (s (ix2 r (⟨l.val / 8 + 16 * (T % 8), by omega⟩ : Fin 128))) := by
  rw [shapeCast_self, shapeCast_self, shapeCast_self]
  show FloatOps.mulf (FloatOps.extf .bf16 p4 (FloatOps.ofBits (F := F) .fp8e4m3 (bitcast T32 8 (hiW (words _ p2)) p3 (ix2 r l)))) (scaleX _ _ _ _ _ _ _ _ (ix2 r l)) = _
  rw [hi_back, scaleX_apply _ _ _ _ _ _ _ ⟨T % 8, Nat.mod_lt _ (by decide)⟩]
  rfl

theorem tileW_hi (w : T32.Idx → BitVec 8) (s : FVec F T32 .bf16) {p1 p2 p3 p4} (j : T32.Idx) :
    shapeCast T32 (mulf (vals (F := F) (hiW (words w p2)) p3 p4) s) p1 j
      = FloatOps.mulf (val8 (hiB (w j))) (s j) := by
  rw [shapeCast_self]
  show FloatOps.mulf (FloatOps.extf .bf16 p4 (FloatOps.ofBits (F := F) .fp8e4m3 (bitcast T32 8 (hiW (words _ p2)) p3 j))) (s j) = _
  rw [hi_back]
  rfl

variable (v3 : View sig κ sp ⟨2, ![512, 3584]⟩ .i8) (X3 : v3.ty.Contents (Elt F))
  (v4 : View sig κ' sp' ⟨2, ![512, 512]⟩ .fp8e4m3) (X4 : v4.ty.Contents (Elt F))

/-- A stored tile of the low nibbles of the activations. -/
theorem pieceX_lo (T : Fin 28) (k : ℕ) {off1 off2 off3 : Fin 2 → ℕ} {inb1 inb2 inb3}
    (h1 : off1 = ![32 * k, 128 * T.val]) (h2 : off2 = ![32 * k, 128 * (T.val / 8)]) (h3 : off3 = ![32 * k, 128 * T.val])
    {p1 p2 p3 p4 p5 p6 p7 p8 p9 p10 p11} (q : BitVec 32) (hq : q = BitVec.ofNat 32 (16 * (T.val % 8))) :
    ∀ x, shapeCast T32 (mulf (vals (F := F) (loW (words (shapeCast T32 (s := T32) (v3.readAt (Elt F) (Rect.unit (s := ⟨2, ![512, 3584]⟩) off1 ![32, 128] inb1).toLoadRect X3) p1) p2)) p3 p4)
        (scaleX (shapeCast T32 (s := T32) (v4.readAt (Elt F) (Rect.unit (s := ⟨2, ![512, 512]⟩) off2 ![32, 128] inb2).toLoadRect X4) p5) p6 p7 p8 p9 p10 p11 q)) p1 x
      = xBuf (v3.read (Elt F) X3) (v4.read (Elt F) X4) ((Rect.unit (s := ⟨2, ![512, 7168]⟩) off3 ![32, 128] inb3).emb x) := by
  intro x
  obtain ⟨r, l, rfl⟩ : ∃ r l, x = ix2 (n0 := 32) (n1 := 128) r l := ⟨x 0, x 1, eq_ix2 x⟩
  have hT := T.isLt
  have hk : 32 * k + 32 ≤ 512 := by have := inb3 0; rw [h3] at this; exact this
  subst hq
  obtain ⟨c1, c2⟩ := col_lo T l ⟨128 * T.val + l.val, by omega⟩ rfl
  have e1 : v3.readAt (Elt F) (Rect.unit (s := ⟨2, ![512, 3584]⟩) off1 ![32, 128] inb1).toLoadRect X3 (ix2 r l)
      = v3.read (Elt F) X3 (ix2 (⟨32 * k + r.val, by omega⟩ : Fin 512) (col ⟨128 * T.val + l.val, by omega⟩)) :=
    congrArg (v3.read (Elt F) X3) (emb2 _ _ h1 inb1 r l _ _ rfl c2)
  have e2 : v4.readAt (Elt F) (Rect.unit (s := ⟨2, ![512, 512]⟩) off2 ![32, 128] inb2).toLoadRect X4
        (ix2 r (⟨l.val / 8 + 16 * (T.val % 8), by omega⟩ : Fin 128))
      = v4.read (Elt F) X4 (ix2 (⟨32 * k + r.val, by omega⟩ : Fin 512) (blk (col ⟨128 * T.val + l.val, by omega⟩))) :=
    congrArg (v4.read (Elt F) X4) (emb2 _ _ h2 inb2 r _ _ _ rfl (by
      show (col ⟨128 * T.val + l.val, by omega⟩).val / 8 = _
      rw [c2]
      show _ = 128 * (T.val / 8) + (l.val / 8 + 16 * (T.val % 8))
      omega))
  refine (tileX_lo _ _ T.val r l).trans ?_
  rw [emb2 _ _ h3 inb3 r l (⟨32 * k + r.val, by omega⟩ : Fin 512) (⟨128 * T.val + l.val, by omega⟩ : Fin 7168) rfl rfl, xBuf_apply, nib_lo _ _ c1, ← e1, ← e2]

/-- A stored tile of the high nibbles of the activations. -/
theorem pieceX_hi (T : Fin 28) (k : ℕ) {off1 off2 off3 : Fin 2 → ℕ} {inb1 inb2 inb3}
    (h1 : off1 = ![32 * k, 128 * T.val]) (h2 : off2 = ![32 * k, 128 * (T.val / 8)]) (h3 : off3 = ![32 * k, 3584 + 128 * T.val])
    {p1 p2 p3 p4 p5 p6 p7 p8 p9 p10 p11} (q : BitVec 32) (hq : q = BitVec.ofNat 32 (16 * (T.val % 8))) :
    ∀ x, shapeCast T32 (mulf (vals (F := F) (hiW (words (shapeCast T32 (s := T32) (v3.readAt (Elt F) (Rect.unit (s := ⟨2, ![512, 3584]⟩) off1 ![32, 128] inb1).toLoadRect X3) p1) p2)) p3 p4)
        (scaleX (shapeCast T32 (s := T32) (v4.readAt (Elt F) (Rect.unit (s := ⟨2, ![512, 512]⟩) off2 ![32, 128] inb2).toLoadRect X4) p5) p6 p7 p8 p9 p10 p11 q)) p1 x
      = xBuf (v3.read (Elt F) X3) (v4.read (Elt F) X4) ((Rect.unit (s := ⟨2, ![512, 7168]⟩) off3 ![32, 128] inb3).emb x) := by
  intro x
  obtain ⟨r, l, rfl⟩ : ∃ r l, x = ix2 (n0 := 32) (n1 := 128) r l := ⟨x 0, x 1, eq_ix2 x⟩
  have hT := T.isLt
  have hk : 32 * k + 32 ≤ 512 := by have := inb3 0; rw [h3] at this; exact this
  subst hq
  obtain ⟨c1, c2⟩ := col_hi T l ⟨3584 + 128 * T.val + l.val, by omega⟩ rfl
  have e1 : v3.readAt (Elt F) (Rect.unit (s := ⟨2, ![512, 3584]⟩) off1 ![32, 128] inb1).toLoadRect X3 (ix2 r l)
      = v3.read (Elt F) X3 (ix2 (⟨32 * k + r.val, by omega⟩ : Fin 512) (col ⟨3584 + 128 * T.val + l.val, by omega⟩)) :=
    congrArg (v3.read (Elt F) X3) (emb2 _ _ h1 inb1 r l _ _ rfl c2)
  have e2 : v4.readAt (Elt F) (Rect.unit (s := ⟨2, ![512, 512]⟩) off2 ![32, 128] inb2).toLoadRect X4
        (ix2 r (⟨l.val / 8 + 16 * (T.val % 8), by omega⟩ : Fin 128))
      = v4.read (Elt F) X4 (ix2 (⟨32 * k + r.val, by omega⟩ : Fin 512) (blk (col ⟨3584 + 128 * T.val + l.val, by omega⟩))) :=
    congrArg (v4.read (Elt F) X4) (emb2 _ _ h2 inb2 r _ _ _ rfl (by
      show (col ⟨3584 + 128 * T.val + l.val, by omega⟩).val / 8 = _
      rw [c2]
      show _ = 128 * (T.val / 8) + (l.val / 8 + 16 * (T.val % 8))
      omega))
  refine (tileX_hi _ _ T.val r l).trans ?_
  rw [emb2 _ _ h3 inb3 r l (⟨32 * k + r.val, by omega⟩ : Fin 512) (⟨3584 + 128 * T.val + l.val, by omega⟩ : Fin 7168) rfl rfl, xBuf_apply, nib_hi _ _ c1, ← e1, ← e2]

/-- The scales of 32 rows of weights: two rows of the spread scales, each for 16 rows, rounded to bf16. -/
def scaleW (e : T8.Idx → F .f32) (o1 o2 : Fin 2 → ℕ) (p5 : T8.Slices o1 T1) (p6 : T8.Slices o2 T1) (p7 : T1.ShapeCasts T1) (p8 : T1.Broadcasts T16)
    (p9 : FTy.bits .bf16 < FTy.bits .f32) (p10 : Shape.Concatenates [T16, T16] T32 0) : FVec F T32 .bf16 :=
  concatenate T32 0 [⟨T16, truncf .bf16 (broadcastTo T16 (shapeCast T1 (extractStridedSlice T1 o1 e p5) p7) p8) p9⟩,
    ⟨T16, truncf .bf16 (broadcastTo T16 (shapeCast T1 (extractStridedSlice T1 o2 e p6) p7) p8) p9⟩] p10

theorem scaleW_apply (e : T8.Idx → F .f32) (p : Fin 4) {o1 o2 : Fin 2 → ℕ} (ho1 : o1 = ![2 * p.val, 0]) (ho2 : o2 = ![2 * p.val + 1, 0])
    {p5 p6 p7 p8 p9 p10} (r : Fin 32) (l : Fin 128) :
    scaleW e o1 o2 p5 p6 p7 p8 p9 p10 (ix2 r l)
      = FloatOps.truncf .bf16 p9 (e (ix2 (⟨2 * p.val + r.val / 16, by have := r.isLt; have := p.isLt; omega⟩ : Fin 8) l)) := by
  subst ho1 ho2
  unfold scaleW
  rw [shapeCast_self, shapeCast_self]
  pointwise
  split
  · rename_i h
    have : r.val / 16 = 0 := by omega
    simp only [this, Nat.add_zero]
  · rename_i h
    have : r.val / 16 = 1 := by omega
    simp only [this]

variable (v5 : View sig κ sp ⟨2, ![2304, 3584]⟩ .i8) (X5 : v5.ty.Contents (Elt F))
  (v10 : View sig κ' sp' ⟨2, ![144, 3584]⟩ .f32) (X10 : v10.ty.Contents (Elt F))

/-- A stored tile of the low nibbles of the weights. -/
theorem pieceW_lo (T : Fin 28) (p : Fin 4) (k : ℕ) {off1 off2 off3 : Fin 2 → ℕ} {inb1 inb2 inb3}
    (h1 : off1 = ![128 * k + 32 * p.val, 128 * T.val]) (h2 : off2 = ![8 * k, 128 * T.val]) (h3 : off3 = ![128 * k + 32 * p.val, 128 * T.val])
    {o1 o2 : Fin 2 → ℕ} {p1 p2 p3 p4 p5 p6 p7 p8 p9 p10} (ho1 : o1 = ![2 * p.val, 0]) (ho2 : o2 = ![2 * p.val + 1, 0]) :
    ∀ x, shapeCast T32 (mulf (vals (F := F) (loW (words (v5.readAt (Elt F) (Rect.unit (s := ⟨2, ![2304, 3584]⟩) off1 ![32, 128] inb1).toLoadRect X5) p2)) p3 p4)
        (scaleW (v10.readAt (Elt F) (Rect.unit (s := ⟨2, ![144, 3584]⟩) off2 ![8, 128] inb2).toLoadRect X10) o1 o2 p5 p6 p7 p8 p9 p10)) p1 x
      = wBufE (v5.read (Elt F) X5) (v10.read (Elt F) X10) ((Rect.unit (s := ⟨2, ![2304, 7168]⟩) off3 ![32, 128] inb3).emb x) := by
  intro x
  obtain ⟨r, l, rfl⟩ : ∃ r l, x = ix2 (n0 := 32) (n1 := 128) r l := ⟨x 0, x 1, eq_ix2 x⟩
  have hT := T.isLt
  have hp := p.isLt
  have hr := r.isLt
  have hk : 128 * k + 32 * p.val + 32 ≤ 2304 := by have := inb3 0; rw [h3] at this; exact this
  have hk2 : 8 * k + 8 ≤ 144 := by have := inb2 0; rw [h2] at this; exact this
  obtain ⟨c1, c2⟩ := col_lo T l ⟨128 * T.val + l.val, by omega⟩ rfl
  have e1 : v5.readAt (Elt F) (Rect.unit (s := ⟨2, ![2304, 3584]⟩) off1 ![32, 128] inb1).toLoadRect X5 (ix2 r l)
      = v5.read (Elt F) X5 (ix2 (⟨128 * k + 32 * p.val + r.val, by omega⟩ : Fin 2304) (col ⟨128 * T.val + l.val, by omega⟩)) :=
    congrArg (v5.read (Elt F) X5) (emb2 _ _ h1 inb1 r l _ _ rfl c2)
  have e2 : v10.readAt (Elt F) (Rect.unit (s := ⟨2, ![144, 3584]⟩) off2 ![8, 128] inb2).toLoadRect X10
        (ix2 (⟨2 * p.val + r.val / 16, by omega⟩ : Fin 8) l)
      = v10.read (Elt F) X10 (ix2 (⟨(128 * k + 32 * p.val + r.val) / 16, by omega⟩ : Fin 144) (col ⟨128 * T.val + l.val, by omega⟩)) :=
    congrArg (v10.read (Elt F) X10) (emb2 _ _ h2 inb2 _ l _ _ (by
      show (128 * k + 32 * p.val + r.val) / 16 = 8 * k + (2 * p.val + r.val / 16)
      omega) c2)
  refine (tileW_lo _ _ _).trans ?_
  rw [emb2 _ _ h3 inb3 r l (⟨128 * k + 32 * p.val + r.val, by omega⟩ : Fin 2304) (⟨128 * T.val + l.val, by omega⟩ : Fin 7168) rfl rfl, wBufE_apply, nib_lo _ _ c1, ← e1, ← e2, scaleW_apply _ p ho1 ho2]
  rfl

/-- A stored tile of the high nibbles of the weights. -/
theorem pieceW_hi (T : Fin 28) (p : Fin 4) (k : ℕ) {off1 off2 off3 : Fin 2 → ℕ} {inb1 inb2 inb3}
    (h1 : off1 = ![128 * k + 32 * p.val, 128 * T.val]) (h2 : off2 = ![8 * k, 128 * T.val]) (h3 : off3 = ![128 * k + 32 * p.val, 3584 + 128 * T.val])
    {o1 o2 : Fin 2 → ℕ} {p1 p2 p3 p4 p5 p6 p7 p8 p9 p10} (ho1 : o1 = ![2 * p.val, 0]) (ho2 : o2 = ![2 * p.val + 1, 0]) :
    ∀ x, shapeCast T32 (mulf (vals (F := F) (hiW (words (v5.readAt (Elt F) (Rect.unit (s := ⟨2, ![2304, 3584]⟩) off1 ![32, 128] inb1).toLoadRect X5) p2)) p3 p4)
        (scaleW (v10.readAt (Elt F) (Rect.unit (s := ⟨2, ![144, 3584]⟩) off2 ![8, 128] inb2).toLoadRect X10) o1 o2 p5 p6 p7 p8 p9 p10)) p1 x
      = wBufE (v5.read (Elt F) X5) (v10.read (Elt F) X10) ((Rect.unit (s := ⟨2, ![2304, 7168]⟩) off3 ![32, 128] inb3).emb x) := by
  intro x
  obtain ⟨r, l, rfl⟩ : ∃ r l, x = ix2 (n0 := 32) (n1 := 128) r l := ⟨x 0, x 1, eq_ix2 x⟩
  have hT := T.isLt
  have hp := p.isLt
  have hr := r.isLt
  have hk : 128 * k + 32 * p.val + 32 ≤ 2304 := by have := inb3 0; rw [h3] at this; exact this
  have hk2 : 8 * k + 8 ≤ 144 := by have := inb2 0; rw [h2] at this; exact this
  obtain ⟨c1, c2⟩ := col_hi T l ⟨3584 + 128 * T.val + l.val, by omega⟩ rfl
  have e1 : v5.readAt (Elt F) (Rect.unit (s := ⟨2, ![2304, 3584]⟩) off1 ![32, 128] inb1).toLoadRect X5 (ix2 r l)
      = v5.read (Elt F) X5 (ix2 (⟨128 * k + 32 * p.val + r.val, by omega⟩ : Fin 2304) (col ⟨3584 + 128 * T.val + l.val, by omega⟩)) :=
    congrArg (v5.read (Elt F) X5) (emb2 _ _ h1 inb1 r l _ _ rfl c2)
  have e2 : v10.readAt (Elt F) (Rect.unit (s := ⟨2, ![144, 3584]⟩) off2 ![8, 128] inb2).toLoadRect X10
        (ix2 (⟨2 * p.val + r.val / 16, by omega⟩ : Fin 8) l)
      = v10.read (Elt F) X10 (ix2 (⟨(128 * k + 32 * p.val + r.val) / 16, by omega⟩ : Fin 144) (col ⟨3584 + 128 * T.val + l.val, by omega⟩)) :=
    congrArg (v10.read (Elt F) X10) (emb2 _ _ h2 inb2 _ l _ _ (by
      show (128 * k + 32 * p.val + r.val) / 16 = 8 * k + (2 * p.val + r.val / 16)
      omega) c2)
  refine (tileW_hi _ _ _).trans ?_
  rw [emb2 _ _ h3 inb3 r l (⟨128 * k + 32 * p.val + r.val, by omega⟩ : Fin 2304) (⟨3584 + 128 * T.val + l.val, by omega⟩ : Fin 7168) rfl rfl, wBufE_apply, nib_hi _ _ c1, ← e1, ← e2, scaleW_apply _ p ho1 ho2]
  rfl

/-- A tile of the spread weight scales. -/
def tileE (s : (⟨2, ![144, 512]⟩ : Shape).Idx → F .fp8e4m3) (o : Fin 2 → ℕ) (hx : FTy.bits .fp8e4m3 < FTy.bits .f32)
    (ho : (⟨2, ![144, 512]⟩ : Shape).Slices o ⟨2, ![144, 128]⟩)
    (hi : (⟨2, ![144, 128]⟩ : Shape).Iotas .tc 32 [1]) (h1 : 1 < 32) (h2 : (⟨2, ![144, 128]⟩ : Shape).ShapeCasts ⟨3, ![144, 128, 1]⟩)
    (h3 : (⟨3, ![144, 128, 1]⟩ : Shape).ShapeCasts ⟨2, ![144, 128]⟩) (q : BitVec 32) (h4 : (⟨2, ![144, 128]⟩ : Shape).ShapeCasts ⟨2, ![144, 128]⟩) :
    FVec F ⟨2, ![144, 128]⟩ .f32 :=
  shapeCast ⟨2, ![144, 128]⟩ (dynamicGather (s := ⟨2, ![144, 128]⟩) 1 (extractStridedSlice ⟨2, ![144, 128]⟩ o
    (mulf (extf .f32 (s := ⟨2, ![144, 512]⟩) s hx) (broadcast ⟨2, ![144, 512]⟩ (Scalar.ofBits .f32 0x45800000#32))) ho) (gix hi h1 h2 h3 q)) h4

/-- A stored tile of the spread weight scales. -/
theorem pieceE (s : (⟨2, ![144, 512]⟩ : Shape).Idx → F .fp8e4m3) (T : Fin 28) {o : Fin 2 → ℕ} (h : o = ![0, 128 * (T.val / 8)]) {hx ho hi h1 h2 h3 h4}
    {off : Fin 2 → ℕ} {inb} (h' : off = ![0, 128 * T.val]) :
    ∀ x, tileE s o hx ho hi h1 h2 h3 (BitVec.ofNat 32 (16 * (T.val % 8))) h4 x
      = eBuf s ((Rect.unit (s := ⟨2, ![144, 3584]⟩) off ![144, 128] inb).emb x) := by
  intro x
  obtain ⟨r, l, rfl⟩ : ∃ r l, x = ix2 (n0 := 144) (n1 := 128) r l := ⟨x 0, x 1, eq_ix2 x⟩
  have hT := T.isLt
  have hl := l.isLt
  rw [emb2 _ _ h' inb r l r (⟨128 * T.val + l.val, by omega⟩ : Fin 3584) (by omega) rfl]
  unfold tileE
  rw [shapeCast_self, gather_eq hi h1 h2 h3 ⟨T.val % 8, Nat.mod_lt _ (by decide)⟩]
  subst h
  show wScl (s _) = wScl (s _)
  congr 2
  funext c
  match c with
  | ⟨0, _⟩ => exact Fin.ext (by show 0 + r.val = r.val; omega)
  | ⟨1, _⟩ => exact Fin.ext (by show 128 * (T.val / 8) + (l.val / 8 + 16 * (T.val % 8)) = (128 * T.val + l.val) / 8; omega)

end Tiles

end Cert.Spec

end
-- ==== Proof.Bits.TripX.lean ====
/- One trip of the loop that decodes the activations, tile by tile. -/
module

public import proofs.«01_k».proof.Proof.Gen.Kernel.Loops
public import proofs.«01_k».proof.Proof.Spec

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec

/-- Every tile that one trip of the activation loop stores is that tile of the decoded activations. -/
theorem tripX (𝒱 : Variants) (c : Dev nD) (bd : Option 𝒱.V) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (X_arg3 : BufTy.Contents (Elt F) arg3.view.ty) (X_arg4 : BufTy.Contents (Elt F) arg4.view.ty) (k : Fin k0_t2_loop.trips) :
    ∀ p ∈ tripL_k0_t2 (F := F) 𝒱 c bd i arg1 harg1 arg2 harg2 arg3 harg3 arg4 harg4 arg5 harg5 arg6 harg6 arg7 harg7 arg8 harg8 arg9 harg9 arg10 harg10 X_arg3 X_arg4 k,
      ∀ x : p.1.shape.Idx, p.2 x = xBuf (arg3.view.read (Elt F) X_arg3) (arg4.view.read (Elt F) X_arg4) (p.1.emb x) := by
  unfold tripL_k0_t2
  unfold trip_k0_t2
  dsimp only
  refine List.forall_mem_cons.2 ⟨fun x => (congrFun (by sl_kernel_rfl) x).trans (pieceX_hi (F := F) arg3.view X_arg3 arg4.view X_arg4 ⟨27, Nat.le_of_ble_eq_true rfl⟩ k.val (ClosedOff.eq (off := k0_off198 k)) (ClosedOff.eq (off := k0_off189 k)) (ClosedOff.eq (off := k0_off200 k)) (inb1 := (k0_off198_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off189_inb k)) (inb3 := (k0_off200_inb k)) 48#32 rfl x), ?_⟩
  refine List.forall_mem_cons.2 ⟨fun x => (congrFun (by sl_kernel_rfl) x).trans (pieceX_lo (F := F) arg3.view X_arg3 arg4.view X_arg4 ⟨27, Nat.le_of_ble_eq_true rfl⟩ k.val (ClosedOff.eq (off := k0_off198 k)) (ClosedOff.eq (off := k0_off189 k)) (ClosedOff.eq (off := k0_off199 k)) (inb1 := (k0_off198_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off189_inb k)) (inb3 := (k0_off199_inb k)) 48#32 rfl x), ?_⟩
  refine List.forall_mem_cons.2 ⟨fun x => (congrFun (by sl_kernel_rfl) x).trans (pieceX_hi (F := F) arg3.view X_arg3 arg4.view X_arg4 ⟨26, Nat.le_of_ble_eq_true rfl⟩ k.val (ClosedOff.eq (off := k0_off195 k)) (ClosedOff.eq (off := k0_off189 k)) (ClosedOff.eq (off := k0_off197 k)) (inb1 := (k0_off195_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off189_inb k)) (inb3 := (k0_off197_inb k)) 32#32 rfl x), ?_⟩
  refine List.forall_mem_cons.2 ⟨fun x => (congrFun (by sl_kernel_rfl) x).trans (pieceX_lo (F := F) arg3.view X_arg3 arg4.view X_arg4 ⟨26, Nat.le_of_ble_eq_true rfl⟩ k.val (ClosedOff.eq (off := k0_off195 k)) (ClosedOff.eq (off := k0_off189 k)) (ClosedOff.eq (off := k0_off196 k)) (inb1 := (k0_off195_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off189_inb k)) (inb3 := (k0_off196_inb k)) 32#32 rfl x), ?_⟩
  refine List.forall_mem_cons.2 ⟨fun x => (congrFun (by sl_kernel_rfl) x).trans (pieceX_hi (F := F) arg3.view X_arg3 arg4.view X_arg4 ⟨25, Nat.le_of_ble_eq_true rfl⟩ k.val (ClosedOff.eq (off := k0_off192 k)) (ClosedOff.eq (off := k0_off189 k)) (ClosedOff.eq (off := k0_off194 k)) (inb1 := (k0_off192_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off189_inb k)) (inb3 := (k0_off194_inb k)) 16#32 rfl x), ?_⟩
  refine List.forall_mem_cons.2 ⟨fun x => (congrFun (by sl_kernel_rfl) x).trans (pieceX_lo (F := F) arg3.view X_arg3 arg4.view X_arg4 ⟨25, Nat.le_of_ble_eq_true rfl⟩ k.val (ClosedOff.eq (off := k0_off192 k)) (ClosedOff.eq (off := k0_off189 k)) (ClosedOff.eq (off := k0_off193 k)) (inb1 := (k0_off192_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off189_inb k)) (inb3 := (k0_off193_inb k)) 16#32 rfl x), ?_⟩
  refine List.forall_mem_cons.2 ⟨fun x => (congrFun (by sl_kernel_rfl) x).trans (pieceX_hi (F := F) arg3.view X_arg3 arg4.view X_arg4 ⟨24, Nat.le_of_ble_eq_true rfl⟩ k.val (ClosedOff.eq (off := k0_off188 k)) (ClosedOff.eq (off := k0_off189 k)) (ClosedOff.eq (off := k0_off191 k)) (inb1 := (k0_off188_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off189_inb k)) (inb3 := (k0_off191_inb k)) 0#32 rfl x), ?_⟩
  refine List.forall_mem_cons.2 ⟨fun x => (congrFun (by sl_kernel_rfl) x).trans (pieceX_lo (F := F) arg3.view X_arg3 arg4.view X_arg4 ⟨24, Nat.le_of_ble_eq_true rfl⟩ k.val (ClosedOff.eq (off := k0_off188 k)) (ClosedOff.eq (off := k0_off189 k)) (ClosedOff.eq (off := k0_off190 k)) (inb1 := (k0_off188_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off189_inb k)) (inb3 := (k0_off190_inb k)) 0#32 rfl x), ?_⟩
  refine List.forall_mem_cons.2 ⟨fun x => (congrFun (by sl_kernel_rfl) x).trans (pieceX_hi (F := F) arg3.view X_arg3 arg4.view X_arg4 ⟨23, Nat.le_of_ble_eq_true rfl⟩ k.val (ClosedOff.eq (off := k0_off185 k)) (ClosedOff.eq (off := k0_off164 k)) (ClosedOff.eq (off := k0_off187 k)) (inb1 := (k0_off185_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off187_inb k)) 112#32 rfl x), ?_⟩
  refine List.forall_mem_cons.2 ⟨fun x => (congrFun (by sl_kernel_rfl) x).trans (pieceX_lo (F := F) arg3.view X_arg3 arg4.view X_arg4 ⟨23, Nat.le_of_ble_eq_true rfl⟩ k.val (ClosedOff.eq (off := k0_off185 k)) (ClosedOff.eq (off := k0_off164 k)) (ClosedOff.eq (off := k0_off186 k)) (inb1 := (k0_off185_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off186_inb k)) 112#32 rfl x), ?_⟩
  refine List.forall_mem_cons.2 ⟨fun x => (congrFun (by sl_kernel_rfl) x).trans (pieceX_hi (F := F) arg3.view X_arg3 arg4.view X_arg4 ⟨22, Nat.le_of_ble_eq_true rfl⟩ k.val (ClosedOff.eq (off := k0_off182 k)) (ClosedOff.eq (off := k0_off164 k)) (ClosedOff.eq (off := k0_off184 k)) (inb1 := (k0_off182_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off184_inb k)) 96#32 rfl x), ?_⟩
  refine List.forall_mem_cons.2 ⟨fun x => (congrFun (by sl_kernel_rfl) x).trans (pieceX_lo (F := F) arg3.view X_arg3 arg4.view X_arg4 ⟨22, Nat.le_of_ble_eq_true rfl⟩ k.val (ClosedOff.eq (off := k0_off182 k)) (ClosedOff.eq (off := k0_off164 k)) (ClosedOff.eq (off := k0_off183 k)) (inb1 := (k0_off182_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off183_inb k)) 96#32 rfl x), ?_⟩
  refine List.forall_mem_cons.2 ⟨fun x => (congrFun (by sl_kernel_rfl) x).trans (pieceX_hi (F := F) arg3.view X_arg3 arg4.view X_arg4 ⟨21, Nat.le_of_ble_eq_true rfl⟩ k.val (ClosedOff.eq (off := k0_off179 k)) (ClosedOff.eq (off := k0_off164 k)) (ClosedOff.eq (off := k0_off181 k)) (inb1 := (k0_off179_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off181_inb k)) 80#32 rfl x), ?_⟩
  refine List.forall_mem_cons.2 ⟨fun x => (congrFun (by sl_kernel_rfl) x).trans (pieceX_lo (F := F) arg3.view X_arg3 arg4.view X_arg4 ⟨21, Nat.le_of_ble_eq_true rfl⟩ k.val (ClosedOff.eq (off := k0_off179 k)) (ClosedOff.eq (off := k0_off164 k)) (ClosedOff.eq (off := k0_off180 k)) (inb1 := (k0_off179_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off180_inb k)) 80#32 rfl x), ?_⟩
  refine List.forall_mem_cons.2 ⟨fun x => (congrFun (by sl_kernel_rfl) x).trans (pieceX_hi (F := F) arg3.view X_arg3 arg4.view X_arg4 ⟨20, Nat.le_of_ble_eq_true rfl⟩ k.val (ClosedOff.eq (off := k0_off176 k)) (ClosedOff.eq (off := k0_off164 k)) (ClosedOff.eq (off := k0_off178 k)) (inb1 := (k0_off176_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off178_inb k)) 64#32 rfl x), ?_⟩
  refine List.forall_mem_cons.2 ⟨fun x => (congrFun (by sl_kernel_rfl) x).trans (pieceX_lo (F := F) arg3.view X_arg3 arg4.view X_arg4 ⟨20, Nat.le_of_ble_eq_true rfl⟩ k.val (ClosedOff.eq (off := k0_off176 k)) (ClosedOff.eq (off := k0_off164 k)) (ClosedOff.eq (off := k0_off177 k)) (inb1 := (k0_off176_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off177_inb k)) 64#32 rfl x), ?_⟩
  refine List.forall_mem_cons.2 ⟨fun x => (congrFun (by sl_kernel_rfl) x).trans (pieceX_hi (F := F) arg3.view X_arg3 arg4.view X_arg4 ⟨19, Nat.le_of_ble_eq_true rfl⟩ k.val (ClosedOff.eq (off := k0_off173 k)) (ClosedOff.eq (off := k0_off164 k)) (ClosedOff.eq (off := k0_off175 k)) (inb1 := (k0_off173_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off175_inb k)) 48#32 rfl x), ?_⟩
  refine List.forall_mem_cons.2 ⟨fun x => (congrFun (by sl_kernel_rfl) x).trans (pieceX_lo (F := F) arg3.view X_arg3 arg4.view X_arg4 ⟨19, Nat.le_of_ble_eq_true rfl⟩ k.val (ClosedOff.eq (off := k0_off173 k)) (ClosedOff.eq (off := k0_off164 k)) (ClosedOff.eq (off := k0_off174 k)) (inb1 := (k0_off173_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off174_inb k)) 48#32 rfl x), ?_⟩
  refine List.forall_mem_cons.2 ⟨fun x => (congrFun (by sl_kernel_rfl) x).trans (pieceX_hi (F := F) arg3.view X_arg3 arg4.view X_arg4 ⟨18, Nat.le_of_ble_eq_true rfl⟩ k.val (ClosedOff.eq (off := k0_off170 k)) (ClosedOff.eq (off := k0_off164 k)) (ClosedOff.eq (off := k0_off172 k)) (inb1 := (k0_off170_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off172_inb k)) 32#32 rfl x), ?_⟩
  refine List.forall_mem_cons.2 ⟨fun x => (congrFun (by sl_kernel_rfl) x).trans (pieceX_lo (F := F) arg3.view X_arg3 arg4.view X_arg4 ⟨18, Nat.le_of_ble_eq_true rfl⟩ k.val (ClosedOff.eq (off := k0_off170 k)) (ClosedOff.eq (off := k0_off164 k)) (ClosedOff.eq (off := k0_off171 k)) (inb1 := (k0_off170_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off171_inb k)) 32#32 rfl x), ?_⟩
  refine List.forall_mem_cons.2 ⟨fun x => (congrFun (by sl_kernel_rfl) x).trans (pieceX_hi (F := F) arg3.view X_arg3 arg4.view X_arg4 ⟨17, Nat.le_of_ble_eq_true rfl⟩ k.val (ClosedOff.eq (off := k0_off167 k)) (ClosedOff.eq (off := k0_off164 k)) (ClosedOff.eq (off := k0_off169 k)) (inb1 := (k0_off167_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off169_inb k)) 16#32 rfl x), ?_⟩
  refine List.forall_mem_cons.2 ⟨fun x => (congrFun (by sl_kernel_rfl) x).trans (pieceX_lo (F := F) arg3.view X_arg3 arg4.view X_arg4 ⟨17, Nat.le_of_ble_eq_true rfl⟩ k.val (ClosedOff.eq (off := k0_off167 k)) (ClosedOff.eq (off := k0_off164 k)) (ClosedOff.eq (off := k0_off168 k)) (inb1 := (k0_off167_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off168_inb k)) 16#32 rfl x), ?_⟩
  refine List.forall_mem_cons.2 ⟨fun x => (congrFun (by sl_kernel_rfl) x).trans (pieceX_hi (F := F) arg3.view X_arg3 arg4.view X_arg4 ⟨16, Nat.le_of_ble_eq_true rfl⟩ k.val (ClosedOff.eq (off := k0_off163 k)) (ClosedOff.eq (off := k0_off164 k)) (ClosedOff.eq (off := k0_off166 k)) (inb1 := (k0_off163_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off166_inb k)) 0#32 rfl x), ?_⟩
  refine List.forall_mem_cons.2 ⟨fun x => (congrFun (by sl_kernel_rfl) x).trans (pieceX_lo (F := F) arg3.view X_arg3 arg4.view X_arg4 ⟨16, Nat.le_of_ble_eq_true rfl⟩ k.val (ClosedOff.eq (off := k0_off163 k)) (ClosedOff.eq (off := k0_off164 k)) (ClosedOff.eq (off := k0_off165 k)) (inb1 := (k0_off163_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off165_inb k)) 0#32 rfl x), ?_⟩
  refine List.forall_mem_cons.2 ⟨fun x => (congrFun (by sl_kernel_rfl) x).trans (pieceX_hi (F := F) arg3.view X_arg3 arg4.view X_arg4 ⟨15, Nat.le_of_ble_eq_true rfl⟩ k.val (ClosedOff.eq (off := k0_off160 k)) (ClosedOff.eq (off := k0_off139 k)) (ClosedOff.eq (off := k0_off162 k)) (inb1 := (k0_off160_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off162_inb k)) 112#32 rfl x), ?_⟩
  refine List.forall_mem_cons.2 ⟨fun x => (congrFun (by sl_kernel_rfl) x).trans (pieceX_lo (F := F) arg3.view X_arg3 arg4.view X_arg4 ⟨15, Nat.le_of_ble_eq_true rfl⟩ k.val (ClosedOff.eq (off := k0_off160 k)) (ClosedOff.eq (off := k0_off139 k)) (ClosedOff.eq (off := k0_off161 k)) (inb1 := (k0_off160_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off161_inb k)) 112#32 rfl x), ?_⟩
  refine List.forall_mem_cons.2 ⟨fun x => (congrFun (by sl_kernel_rfl) x).trans (pieceX_hi (F := F) arg3.view X_arg3 arg4.view X_arg4 ⟨14, Nat.le_of_ble_eq_true rfl⟩ k.val (ClosedOff.eq (off := k0_off157 k)) (ClosedOff.eq (off := k0_off139 k)) (ClosedOff.eq (off := k0_off159 k)) (inb1 := (k0_off157_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off159_inb k)) 96#32 rfl x), ?_⟩
  refine List.forall_mem_cons.2 ⟨fun x => (congrFun (by sl_kernel_rfl) x).trans (pieceX_lo (F := F) arg3.view X_arg3 arg4.view X_arg4 ⟨14, Nat.le_of_ble_eq_true rfl⟩ k.val (ClosedOff.eq (off := k0_off157 k)) (ClosedOff.eq (off := k0_off139 k)) (ClosedOff.eq (off := k0_off158 k)) (inb1 := (k0_off157_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off158_inb k)) 96#32 rfl x), ?_⟩
  refine List.forall_mem_cons.2 ⟨fun x => (congrFun (by sl_kernel_rfl) x).trans (pieceX_hi (F := F) arg3.view X_arg3 arg4.view X_arg4 ⟨13, Nat.le_of_ble_eq_true rfl⟩ k.val (ClosedOff.eq (off := k0_off154 k)) (ClosedOff.eq (off := k0_off139 k)) (ClosedOff.eq (off := k0_off156 k)) (inb1 := (k0_off154_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off156_inb k)) 80#32 rfl x), ?_⟩
  refine List.forall_mem_cons.2 ⟨fun x => (congrFun (by sl_kernel_rfl) x).trans (pieceX_lo (F := F) arg3.view X_arg3 arg4.view X_arg4 ⟨13, Nat.le_of_ble_eq_true rfl⟩ k.val (ClosedOff.eq (off := k0_off154 k)) (ClosedOff.eq (off := k0_off139 k)) (ClosedOff.eq (off := k0_off155 k)) (inb1 := (k0_off154_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off155_inb k)) 80#32 rfl x), ?_⟩
  refine List.forall_mem_cons.2 ⟨fun x => (congrFun (by sl_kernel_rfl) x).trans (pieceX_hi (F := F) arg3.view X_arg3 arg4.view X_arg4 ⟨12, Nat.le_of_ble_eq_true rfl⟩ k.val (ClosedOff.eq (off := k0_off151 k)) (ClosedOff.eq (off := k0_off139 k)) (ClosedOff.eq (off := k0_off153 k)) (inb1 := (k0_off151_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off153_inb k)) 64#32 rfl x), ?_⟩
  refine List.forall_mem_cons.2 ⟨fun x => (congrFun (by sl_kernel_rfl) x).trans (pieceX_lo (F := F) arg3.view X_arg3 arg4.view X_arg4 ⟨12, Nat.le_of_ble_eq_true rfl⟩ k.val (ClosedOff.eq (off := k0_off151 k)) (ClosedOff.eq (off := k0_off139 k)) (ClosedOff.eq (off := k0_off152 k)) (inb1 := (k0_off151_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off152_inb k)) 64#32 rfl x), ?_⟩
  refine List.forall_mem_cons.2 ⟨fun x => (congrFun (by sl_kernel_rfl) x).trans (pieceX_hi (F := F) arg3.view X_arg3 arg4.view X_arg4 ⟨11, Nat.le_of_ble_eq_true rfl⟩ k.val (ClosedOff.eq (off := k0_off148 k)) (ClosedOff.eq (off := k0_off139 k)) (ClosedOff.eq (off := k0_off150 k)) (inb1 := (k0_off148_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off150_inb k)) 48#32 rfl x), ?_⟩
  refine List.forall_mem_cons.2 ⟨fun x => (congrFun (by sl_kernel_rfl) x).trans (pieceX_lo (F := F) arg3.view X_arg3 arg4.view X_arg4 ⟨11, Nat.le_of_ble_eq_true rfl⟩ k.val (ClosedOff.eq (off := k0_off148 k)) (ClosedOff.eq (off := k0_off139 k)) (ClosedOff.eq (off := k0_off149 k)) (inb1 := (k0_off148_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off149_inb k)) 48#32 rfl x), ?_⟩
  refine List.forall_mem_cons.2 ⟨fun x => (congrFun (by sl_kernel_rfl) x).trans (pieceX_hi (F := F) arg3.view X_arg3 arg4.view X_arg4 ⟨10, Nat.le_of_ble_eq_true rfl⟩ k.val (ClosedOff.eq (off := k0_off145 k)) (ClosedOff.eq (off := k0_off139 k)) (ClosedOff.eq (off := k0_off147 k)) (inb1 := (k0_off145_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off147_inb k)) 32#32 rfl x), ?_⟩
  refine List.forall_mem_cons.2 ⟨fun x => (congrFun (by sl_kernel_rfl) x).trans (pieceX_lo (F := F) arg3.view X_arg3 arg4.view X_arg4 ⟨10, Nat.le_of_ble_eq_true rfl⟩ k.val (ClosedOff.eq (off := k0_off145 k)) (ClosedOff.eq (off := k0_off139 k)) (ClosedOff.eq (off := k0_off146 k)) (inb1 := (k0_off145_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off146_inb k)) 32#32 rfl x), ?_⟩
  refine List.forall_mem_cons.2 ⟨fun x => (congrFun (by sl_kernel_rfl) x).trans (pieceX_hi (F := F) arg3.view X_arg3 arg4.view X_arg4 ⟨9, Nat.le_of_ble_eq_true rfl⟩ k.val (ClosedOff.eq (off := k0_off142 k)) (ClosedOff.eq (off := k0_off139 k)) (ClosedOff.eq (off := k0_off144 k)) (inb1 := (k0_off142_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off144_inb k)) 16#32 rfl x), ?_⟩
  refine List.forall_mem_cons.2 ⟨fun x => (congrFun (by sl_kernel_rfl) x).trans (pieceX_lo (F := F) arg3.view X_arg3 arg4.view X_arg4 ⟨9, Nat.le_of_ble_eq_true rfl⟩ k.val (ClosedOff.eq (off := k0_off142 k)) (ClosedOff.eq (off := k0_off139 k)) (ClosedOff.eq (off := k0_off143 k)) (inb1 := (k0_off142_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off143_inb k)) 16#32 rfl x), ?_⟩
  refine List.forall_mem_cons.2 ⟨fun x => (congrFun (by sl_kernel_rfl) x).trans (pieceX_hi (F := F) arg3.view X_arg3 arg4.view X_arg4 ⟨8, Nat.le_of_ble_eq_true rfl⟩ k.val (ClosedOff.eq (off := k0_off138 k)) (ClosedOff.eq (off := k0_off139 k)) (ClosedOff.eq (off := k0_off141 k)) (inb1 := (k0_off138_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off141_inb k)) 0#32 rfl x), ?_⟩
  refine List.forall_mem_cons.2 ⟨fun x => (congrFun (by sl_kernel_rfl) x).trans (pieceX_lo (F := F) arg3.view X_arg3 arg4.view X_arg4 ⟨8, Nat.le_of_ble_eq_true rfl⟩ k.val (ClosedOff.eq (off := k0_off138 k)) (ClosedOff.eq (off := k0_off139 k)) (ClosedOff.eq (off := k0_off140 k)) (inb1 := (k0_off138_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off140_inb k)) 0#32 rfl x), ?_⟩
  refine List.forall_mem_cons.2 ⟨fun x => (congrFun (by sl_kernel_rfl) x).trans (pieceX_hi (F := F) arg3.view X_arg3 arg4.view X_arg4 ⟨7, Nat.le_of_ble_eq_true rfl⟩ k.val (ClosedOff.eq (off := k0_off135 k)) (ClosedOff.eq (off := k0_off114 k)) (ClosedOff.eq (off := k0_off137 k)) (inb1 := (k0_off135_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off137_inb k)) 112#32 rfl x), ?_⟩
  refine List.forall_mem_cons.2 ⟨fun x => (congrFun (by sl_kernel_rfl) x).trans (pieceX_lo (F := F) arg3.view X_arg3 arg4.view X_arg4 ⟨7, Nat.le_of_ble_eq_true rfl⟩ k.val (ClosedOff.eq (off := k0_off135 k)) (ClosedOff.eq (off := k0_off114 k)) (ClosedOff.eq (off := k0_off136 k)) (inb1 := (k0_off135_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off136_inb k)) 112#32 rfl x), ?_⟩
  refine List.forall_mem_cons.2 ⟨fun x => (congrFun (by sl_kernel_rfl) x).trans (pieceX_hi (F := F) arg3.view X_arg3 arg4.view X_arg4 ⟨6, Nat.le_of_ble_eq_true rfl⟩ k.val (ClosedOff.eq (off := k0_off132 k)) (ClosedOff.eq (off := k0_off114 k)) (ClosedOff.eq (off := k0_off134 k)) (inb1 := (k0_off132_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off134_inb k)) 96#32 rfl x), ?_⟩
  refine List.forall_mem_cons.2 ⟨fun x => (congrFun (by sl_kernel_rfl) x).trans (pieceX_lo (F := F) arg3.view X_arg3 arg4.view X_arg4 ⟨6, Nat.le_of_ble_eq_true rfl⟩ k.val (ClosedOff.eq (off := k0_off132 k)) (ClosedOff.eq (off := k0_off114 k)) (ClosedOff.eq (off := k0_off133 k)) (inb1 := (k0_off132_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off133_inb k)) 96#32 rfl x), ?_⟩
  refine List.forall_mem_cons.2 ⟨fun x => (congrFun (by sl_kernel_rfl) x).trans (pieceX_hi (F := F) arg3.view X_arg3 arg4.view X_arg4 ⟨5, Nat.le_of_ble_eq_true rfl⟩ k.val (ClosedOff.eq (off := k0_off129 k)) (ClosedOff.eq (off := k0_off114 k)) (ClosedOff.eq (off := k0_off131 k)) (inb1 := (k0_off129_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off131_inb k)) 80#32 rfl x), ?_⟩
  refine List.forall_mem_cons.2 ⟨fun x => (congrFun (by sl_kernel_rfl) x).trans (pieceX_lo (F := F) arg3.view X_arg3 arg4.view X_arg4 ⟨5, Nat.le_of_ble_eq_true rfl⟩ k.val (ClosedOff.eq (off := k0_off129 k)) (ClosedOff.eq (off := k0_off114 k)) (ClosedOff.eq (off := k0_off130 k)) (inb1 := (k0_off129_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off130_inb k)) 80#32 rfl x), ?_⟩
  refine List.forall_mem_cons.2 ⟨fun x => (congrFun (by sl_kernel_rfl) x).trans (pieceX_hi (F := F) arg3.view X_arg3 arg4.view X_arg4 ⟨4, Nat.le_of_ble_eq_true rfl⟩ k.val (ClosedOff.eq (off := k0_off126 k)) (ClosedOff.eq (off := k0_off114 k)) (ClosedOff.eq (off := k0_off128 k)) (inb1 := (k0_off126_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off128_inb k)) 64#32 rfl x), ?_⟩
  refine List.forall_mem_cons.2 ⟨fun x => (congrFun (by sl_kernel_rfl) x).trans (pieceX_lo (F := F) arg3.view X_arg3 arg4.view X_arg4 ⟨4, Nat.le_of_ble_eq_true rfl⟩ k.val (ClosedOff.eq (off := k0_off126 k)) (ClosedOff.eq (off := k0_off114 k)) (ClosedOff.eq (off := k0_off127 k)) (inb1 := (k0_off126_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off127_inb k)) 64#32 rfl x), ?_⟩
  refine List.forall_mem_cons.2 ⟨fun x => (congrFun (by sl_kernel_rfl) x).trans (pieceX_hi (F := F) arg3.view X_arg3 arg4.view X_arg4 ⟨3, Nat.le_of_ble_eq_true rfl⟩ k.val (ClosedOff.eq (off := k0_off123 k)) (ClosedOff.eq (off := k0_off114 k)) (ClosedOff.eq (off := k0_off125 k)) (inb1 := (k0_off123_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off125_inb k)) 48#32 rfl x), ?_⟩
  refine List.forall_mem_cons.2 ⟨fun x => (congrFun (by sl_kernel_rfl) x).trans (pieceX_lo (F := F) arg3.view X_arg3 arg4.view X_arg4 ⟨3, Nat.le_of_ble_eq_true rfl⟩ k.val (ClosedOff.eq (off := k0_off123 k)) (ClosedOff.eq (off := k0_off114 k)) (ClosedOff.eq (off := k0_off124 k)) (inb1 := (k0_off123_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off124_inb k)) 48#32 rfl x), ?_⟩
  refine List.forall_mem_cons.2 ⟨fun x => (congrFun (by sl_kernel_rfl) x).trans (pieceX_hi (F := F) arg3.view X_arg3 arg4.view X_arg4 ⟨2, Nat.le_of_ble_eq_true rfl⟩ k.val (ClosedOff.eq (off := k0_off120 k)) (ClosedOff.eq (off := k0_off114 k)) (ClosedOff.eq (off := k0_off122 k)) (inb1 := (k0_off120_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off122_inb k)) 32#32 rfl x), ?_⟩
  refine List.forall_mem_cons.2 ⟨fun x => (congrFun (by sl_kernel_rfl) x).trans (pieceX_lo (F := F) arg3.view X_arg3 arg4.view X_arg4 ⟨2, Nat.le_of_ble_eq_true rfl⟩ k.val (ClosedOff.eq (off := k0_off120 k)) (ClosedOff.eq (off := k0_off114 k)) (ClosedOff.eq (off := k0_off121 k)) (inb1 := (k0_off120_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off121_inb k)) 32#32 rfl x), ?_⟩
  refine List.forall_mem_cons.2 ⟨fun x => (congrFun (by sl_kernel_rfl) x).trans (pieceX_hi (F := F) arg3.view X_arg3 arg4.view X_arg4 ⟨1, Nat.le_of_ble_eq_true rfl⟩ k.val (ClosedOff.eq (off := k0_off117 k)) (ClosedOff.eq (off := k0_off114 k)) (ClosedOff.eq (off := k0_off119 k)) (inb1 := (k0_off117_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off119_inb k)) 16#32 rfl x), ?_⟩
  refine List.forall_mem_cons.2 ⟨fun x => (congrFun (by sl_kernel_rfl) x).trans (pieceX_lo (F := F) arg3.view X_arg3 arg4.view X_arg4 ⟨1, Nat.le_of_ble_eq_true rfl⟩ k.val (ClosedOff.eq (off := k0_off117 k)) (ClosedOff.eq (off := k0_off114 k)) (ClosedOff.eq (off := k0_off118 k)) (inb1 := (k0_off117_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off118_inb k)) 16#32 rfl x), ?_⟩
  refine List.forall_mem_cons.2 ⟨fun x => (congrFun (by sl_kernel_rfl) x).trans (pieceX_hi (F := F) arg3.view X_arg3 arg4.view X_arg4 ⟨0, Nat.le_of_ble_eq_true rfl⟩ k.val (ClosedOff.eq (off := k0_off113 k)) (ClosedOff.eq (off := k0_off114 k)) (ClosedOff.eq (off := k0_off116 k)) (inb1 := (k0_off113_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off116_inb k)) 0#32 rfl x), ?_⟩
  refine List.forall_mem_cons.2 ⟨fun x => (congrFun (by sl_kernel_rfl) x).trans (pieceX_lo (F := F) arg3.view X_arg3 arg4.view X_arg4 ⟨0, Nat.le_of_ble_eq_true rfl⟩ k.val (ClosedOff.eq (off := k0_off113 k)) (ClosedOff.eq (off := k0_off114 k)) (ClosedOff.eq (off := k0_off115 k)) (inb1 := (k0_off113_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off115_inb k)) 0#32 rfl x), ?_⟩
  exact List.forall_mem_nil _

end Cert.Kernel.Run

end
-- ==== Proof.Bits.TripW.lean ====
/- One trip of the loop that decodes the weights, tile by tile. -/
module

public import proofs.«01_k».proof.Proof.Gen.Kernel.Loops
public import proofs.«01_k».proof.Proof.Spec

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec

theorem w_lo {sp sp' : Space} (v5 : View sig .tc sp S2304x3584 .i8) (X5 : BufTy.Contents (Elt F) v5.ty) (v10 : View sig .tc sp' S144x3584 .f32) (X10 : BufTy.Contents (Elt F) v10.ty)
    (T : Fin 28) (p : Fin 4) (k : ℕ) {off1 off2 off3 : Fin 2 → ℕ}
    (h1 : off1 = ![128 * k + 32 * p.val, 128 * T.val]) (h2 : off2 = ![8 * k, 128 * T.val]) (h3 : off3 = ![128 * k + 32 * p.val, 128 * T.val]) (inb1) (inb2) (inb3)
    {o1 o2 : Fin 2 → ℕ} (p5) (p6) (ho1 : o1 = ![2 * p.val, 0]) (ho2 : o2 = ![2 * p.val + 1, 0]) :
    ∀ x, shapeCast S32x128 (mulf (vals (F := F) (loW (words (v5.readAt (Elt F) (Rect.unit (s := S2304x3584) off1 ![32, 128] inb1).toLoadRect X5) bitcasts_S32x128_w8_S8x128_w32)) bitcasts_S8x128_w32_S32x128_w8 bitsLt_fp8e4m3_bf16)
        (scaleW (v10.readAt (Elt F) (Rect.unit (s := S144x3584) off2 ![8, 128] inb2).toLoadRect X10) o1 o2 p5 p6 shapeCasts_S1x128_S1x128 broadcasts_S1x128_S16x128 bitsLt_bf16_f32 concatenates_S16x128_S16x128_S32x128_d0)) shapeCasts_S32x128_S32x128 x
      = wBufE (v5.read (Elt F) X5) (v10.read (Elt F) X10) ((Rect.unit (s := S2304x7168) off3 ![32, 128] inb3).emb x) :=
  pieceW_lo (F := F) v5 X5 v10 X10 T p k h1 h2 h3 (inb1 := inb1) (inb2 := inb2) (inb3 := inb3) (p1 := shapeCasts_S32x128_S32x128) (p2 := bitcasts_S32x128_w8_S8x128_w32)
    (p3 := bitcasts_S8x128_w32_S32x128_w8) (p4 := bitsLt_fp8e4m3_bf16) (p5 := p5) (p6 := p6) (p7 := shapeCasts_S1x128_S1x128) (p8 := broadcasts_S1x128_S16x128)
    (p9 := bitsLt_bf16_f32) (p10 := concatenates_S16x128_S16x128_S32x128_d0) ho1 ho2

theorem w_hi {sp sp' : Space} (v5 : View sig .tc sp S2304x3584 .i8) (X5 : BufTy.Contents (Elt F) v5.ty) (v10 : View sig .tc sp' S144x3584 .f32) (X10 : BufTy.Contents (Elt F) v10.ty)
    (T : Fin 28) (p : Fin 4) (k : ℕ) {off1 off2 off3 : Fin 2 → ℕ}
    (h1 : off1 = ![128 * k + 32 * p.val, 128 * T.val]) (h2 : off2 = ![8 * k, 128 * T.val]) (h3 : off3 = ![128 * k + 32 * p.val, 3584 + 128 * T.val]) (inb1) (inb2) (inb3)
    {o1 o2 : Fin 2 → ℕ} (p5) (p6) (ho1 : o1 = ![2 * p.val, 0]) (ho2 : o2 = ![2 * p.val + 1, 0]) :
    ∀ x, shapeCast S32x128 (mulf (vals (F := F) (hiW (words (v5.readAt (Elt F) (Rect.unit (s := S2304x3584) off1 ![32, 128] inb1).toLoadRect X5) bitcasts_S32x128_w8_S8x128_w32)) bitcasts_S8x128_w32_S32x128_w8 bitsLt_fp8e4m3_bf16)
        (scaleW (v10.readAt (Elt F) (Rect.unit (s := S144x3584) off2 ![8, 128] inb2).toLoadRect X10) o1 o2 p5 p6 shapeCasts_S1x128_S1x128 broadcasts_S1x128_S16x128 bitsLt_bf16_f32 concatenates_S16x128_S16x128_S32x128_d0)) shapeCasts_S32x128_S32x128 x
      = wBufE (v5.read (Elt F) X5) (v10.read (Elt F) X10) ((Rect.unit (s := S2304x7168) off3 ![32, 128] inb3).emb x) :=
  pieceW_hi (F := F) v5 X5 v10 X10 T p k h1 h2 h3 (inb1 := inb1) (inb2 := inb2) (inb3 := inb3) (p1 := shapeCasts_S32x128_S32x128) (p2 := bitcasts_S32x128_w8_S8x128_w32)
    (p3 := bitcasts_S8x128_w32_S32x128_w8) (p4 := bitsLt_fp8e4m3_bf16) (p5 := p5) (p6 := p6) (p7 := shapeCasts_S1x128_S1x128) (p8 := broadcasts_S1x128_S16x128)
    (p9 := bitsLt_bf16_f32) (p10 := concatenates_S16x128_S16x128_S32x128_d0) ho1 ho2

set_option maxHeartbeats 4000000 in

/-- Every tile that one trip of the weight loop stores is that tile of the decoded weights, over the spread scales. -/
theorem tripW (𝒱 : Variants) (c : Dev nD) (bd : Option 𝒱.V) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (k0_h1 : k0_cond1 i = 1#1) (X_arg5 : BufTy.Contents (Elt F) arg5.view.ty) (X_arg10 : BufTy.Contents (Elt F) arg10.view.ty) (k : Fin k0_t1_loop.trips) :
    ∀ p ∈ tripL_k0_t1 (F := F) 𝒱 c bd i arg1 harg1 arg2 harg2 arg3 harg3 arg4 harg4 arg5 harg5 arg6 harg6 arg7 harg7 arg8 harg8 arg9 harg9 arg10 harg10 k0_h1 X_arg5 X_arg10 k,
      ∀ x : p.1.shape.Idx, p.2 x = wBufE (arg5.view.read (Elt F) X_arg5) (arg10.view.read (Elt F) X_arg10) (p.1.emb x) := by
  unfold tripL_k0_t1
  unfold trip_k0_t1
  dsimp only
  refine List.forall_mem_cons.2 ⟨fun x => (congrFun (by sl_kernel_rfl) x).trans (w_hi arg5.view X_arg5 arg10.view X_arg10 ⟨27, Nat.le_of_ble_eq_true rfl⟩ ⟨3, Nat.le_of_ble_eq_true rfl⟩ k.val (ClosedOff.eq (off := k0_off110 k 96#32)) (ClosedOff.eq (off := k0_off109 k)) (ClosedOff.eq (off := k0_off112 k 96#32)) (k0_off110_inb i k k0_h1 3) (k0_off109_inb i k k0_h1) (k0_off112_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨27, Nat.le_of_ble_eq_true rfl⟩ ⟨3, Nat.le_of_ble_eq_true rfl⟩ k.val (ClosedOff.eq (off := k0_off110 k 96#32)) (ClosedOff.eq (off := k0_off109 k)) (ClosedOff.eq (off := k0_off111 k 96#32)) (k0_off110_inb i k k0_h1 3) (k0_off109_inb i k k0_h1) (k0_off111_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨27, Nat.le_of_ble_eq_true rfl⟩ ⟨2, Nat.le_of_ble_eq_true rfl⟩ k.val (ClosedOff.eq (off := k0_off110 k 64#32)) (ClosedOff.eq (off := k0_off109 k)) (ClosedOff.eq (off := k0_off112 k 64#32)) (k0_off110_inb i k k0_h1 2) (k0_off109_inb i k k0_h1) (k0_off112_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨27, Nat.le_of_ble_eq_true rfl⟩ ⟨2, Nat.le_of_ble_eq_true rfl⟩ k.val (ClosedOff.eq (off := k0_off110 k 64#32)) (ClosedOff.eq (off := k0_off109 k)) (ClosedOff.eq (off := k0_off111 k 64#32)) (k0_off110_inb i k k0_h1 2) (k0_off109_inb i k k0_h1) (k0_off111_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨27, Nat.le_of_ble_eq_true rfl⟩ ⟨1, Nat.le_of_ble_eq_true rfl⟩ k.val (ClosedOff.eq (off := k0_off110 k 32#32)) (ClosedOff.eq (off := k0_off109 k)) (ClosedOff.eq (off := k0_off112 k 32#32)) (k0_off110_inb i k k0_h1 1) (k0_off109_inb i k k0_h1) (k0_off112_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨27, Nat.le_of_ble_eq_true rfl⟩ ⟨1, Nat.le_of_ble_eq_true rfl⟩ k.val (ClosedOff.eq (off := k0_off110 k 32#32)) (ClosedOff.eq (off := k0_off109 k)) (ClosedOff.eq (off := k0_off111 k 32#32)) (k0_off110_inb i k k0_h1 1) (k0_off109_inb i k k0_h1) (k0_off111_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨27, Nat.le_of_ble_eq_true rfl⟩ ⟨0, Nat.le_of_ble_eq_true rfl⟩ k.val (ClosedOff.eq (off := k0_off110 k 0#32)) (ClosedOff.eq (off := k0_off109 k)) (ClosedOff.eq (off := k0_off112 k 0#32)) (k0_off110_inb i k k0_h1 0) (k0_off109_inb i k k0_h1) (k0_off112_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨27, Nat.le_of_ble_eq_true rfl⟩ ⟨0, Nat.le_of_ble_eq_true rfl⟩ k.val (ClosedOff.eq (off := k0_off110 k 0#32)) (ClosedOff.eq (off := k0_off109 k)) (ClosedOff.eq (off := k0_off111 k 0#32)) (k0_off110_inb i k k0_h1 0) (k0_off109_inb i k k0_h1) (k0_off111_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨26, Nat.le_of_ble_eq_true rfl⟩ ⟨3, Nat.le_of_ble_eq_true rfl⟩ k.val (ClosedOff.eq (off := k0_off106 k 96#32)) (ClosedOff.eq (off := k0_off105 k)) (ClosedOff.eq (off := k0_off108 k 96#32)) (k0_off106_inb i k k0_h1 3) (k0_off105_inb i k k0_h1) (k0_off108_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨26, Nat.le_of_ble_eq_true rfl⟩ ⟨3, Nat.le_of_ble_eq_true rfl⟩ k.val (ClosedOff.eq (off := k0_off106 k 96#32)) (ClosedOff.eq (off := k0_off105 k)) (ClosedOff.eq (off := k0_off107 k 96#32)) (k0_off106_inb i k k0_h1 3) (k0_off105_inb i k k0_h1) (k0_off107_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨26, Nat.le_of_ble_eq_true rfl⟩ ⟨2, Nat.le_of_ble_eq_true rfl⟩ k.val (ClosedOff.eq (off := k0_off106 k 64#32)) (ClosedOff.eq (off := k0_off105 k)) (ClosedOff.eq (off := k0_off108 k 64#32)) (k0_off106_inb i k k0_h1 2) (k0_off105_inb i k k0_h1) (k0_off108_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨26, Nat.le_of_ble_eq_true rfl⟩ ⟨2, Nat.le_of_ble_eq_true rfl⟩ k.val (ClosedOff.eq (off := k0_off106 k 64#32)) (ClosedOff.eq (off := k0_off105 k)) (ClosedOff.eq (off := k0_off107 k 64#32)) (k0_off106_inb i k k0_h1 2) (k0_off105_inb i k k0_h1) (k0_off107_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨26, Nat.le_of_ble_eq_true rfl⟩ ⟨1, Nat.le_of_ble_eq_true rfl⟩ k.val (ClosedOff.eq (off := k0_off106 k 32#32)) (ClosedOff.eq (off := k0_off105 k)) (ClosedOff.eq (off := k0_off108 k 32#32)) (k0_off106_inb i k k0_h1 1) (k0_off105_inb i k k0_h1) (k0_off108_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨26, Nat.le_of_ble_eq_true rfl⟩ ⟨1, Nat.le_of_ble_eq_true rfl⟩ k.val (ClosedOff.eq (off := k0_off106 k 32#32)) (ClosedOff.eq (off := k0_off105 k)) (ClosedOff.eq (off := k0_off107 k 32#32)) (k0_off106_inb i k k0_h1 1) (k0_off105_inb i k k0_h1) (k0_off107_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨26, Nat.le_of_ble_eq_true rfl⟩ ⟨0, Nat.le_of_ble_eq_true rfl⟩ k.val (ClosedOff.eq (off := k0_off106 k 0#32)) (ClosedOff.eq (off := k0_off105 k)) (ClosedOff.eq (off := k0_off108 k 0#32)) (k0_off106_inb i k k0_h1 0) (k0_off105_inb i k k0_h1) (k0_off108_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨26, Nat.le_of_ble_eq_true rfl⟩ ⟨0, Nat.le_of_ble_eq_true rfl⟩ k.val (ClosedOff.eq (off := k0_off106 k 0#32)) (ClosedOff.eq (off := k0_off105 k)) (ClosedOff.eq (off := k0_off107 k 0#32)) (k0_off106_inb i k k0_h1 0) (k0_off105_inb i k k0_h1) (k0_off107_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨25, Nat.le_of_ble_eq_true rfl⟩ ⟨3, Nat.le_of_ble_eq_true rfl⟩ k.val (ClosedOff.eq (off := k0_off102 k 96#32)) (ClosedOff.eq (off := k0_off101 k)) (ClosedOff.eq (off := k0_off104 k 96#32)) (k0_off102_inb i k k0_h1 3) (k0_off101_inb i k k0_h1) (k0_off104_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨25, Nat.le_of_ble_eq_true rfl⟩ ⟨3, Nat.le_of_ble_eq_true rfl⟩ k.val (ClosedOff.eq (off := k0_off102 k 96#32)) (ClosedOff.eq (off := k0_off101 k)) (ClosedOff.eq (off := k0_off103 k 96#32)) (k0_off102_inb i k k0_h1 3) (k0_off101_inb i k k0_h1) (k0_off103_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨25, Nat.le_of_ble_eq_true rfl⟩ ⟨2, Nat.le_of_ble_eq_true rfl⟩ k.val (ClosedOff.eq (off := k0_off102 k 64#32)) (ClosedOff.eq (off := k0_off101 k)) (ClosedOff.eq (off := k0_off104 k 64#32)) (k0_off102_inb i k k0_h1 2) (k0_off101_inb i k k0_h1) (k0_off104_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨25, Nat.le_of_ble_eq_true rfl⟩ ⟨2, Nat.le_of_ble_eq_true rfl⟩ k.val (ClosedOff.eq (off := k0_off102 k 64#32)) (ClosedOff.eq (off := k0_off101 k)) (ClosedOff.eq (off := k0_off103 k 64#32)) (k0_off102_inb i k k0_h1 2) (k0_off101_inb i k k0_h1) (k0_off103_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨25, Nat.le_of_ble_eq_true rfl⟩ ⟨1, Nat.le_of_ble_eq_true rfl⟩ k.val (ClosedOff.eq (off := k0_off102 k 32#32)) (ClosedOff.eq (off := k0_off101 k)) (ClosedOff.eq (off := k0_off104 k 32#32)) (k0_off102_inb i k k0_h1 1) (k0_off101_inb i k k0_h1) (k0_off104_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨25, Nat.le_of_ble_eq_true rfl⟩ ⟨1, Nat.le_of_ble_eq_true rfl⟩ k.val (ClosedOff.eq (off := k0_off102 k 32#32)) (ClosedOff.eq (off := k0_off101 k)) (ClosedOff.eq (off := k0_off103 k 32#32)) (k0_off102_inb i k k0_h1 1) (k0_off101_inb i k k0_h1) (k0_off103_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨25, Nat.le_of_ble_eq_true rfl⟩ ⟨0, Nat.le_of_ble_eq_true rfl⟩ k.val (ClosedOff.eq (off := k0_off102 k 0#32)) (ClosedOff.eq (off := k0_off101 k)) (ClosedOff.eq (off := k0_off104 k 0#32)) (k0_off102_inb i k k0_h1 0) (k0_off101_inb i k k0_h1) (k0_off104_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨25, Nat.le_of_ble_eq_true rfl⟩ ⟨0, Nat.le_of_ble_eq_true rfl⟩ k.val (ClosedOff.eq (off := k0_off102 k 0#32)) (ClosedOff.eq (off := k0_off101 k)) (ClosedOff.eq (off := k0_off103 k 0#32)) (k0_off102_inb i k k0_h1 0) (k0_off101_inb i k k0_h1) (k0_off103_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨24, Nat.le_of_ble_eq_true rfl⟩ ⟨3, Nat.le_of_ble_eq_true rfl⟩ k.val (ClosedOff.eq (off := k0_off98 k 96#32)) (ClosedOff.eq (off := k0_off97 k)) (ClosedOff.eq (off := k0_off100 k 96#32)) (k0_off98_inb i k k0_h1 3) (k0_off97_inb i k k0_h1) (k0_off100_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨24, Nat.le_of_ble_eq_true rfl⟩ ⟨3, Nat.le_of_ble_eq_true rfl⟩ k.val (ClosedOff.eq (off := k0_off98 k 96#32)) (ClosedOff.eq (off := k0_off97 k)) (ClosedOff.eq (off := k0_off99 k 96#32)) (k0_off98_inb i k k0_h1 3) (k0_off97_inb i k k0_h1) (k0_off99_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨24, Nat.le_of_ble_eq_true rfl⟩ ⟨2, Nat.le_of_ble_eq_true rfl⟩ k.val (ClosedOff.eq (off := k0_off98 k 64#32)) (ClosedOff.eq (off := k0_off97 k)) (ClosedOff.eq (off := k0_off100 k 64#32)) (k0_off98_inb i k k0_h1 2) (k0_off97_inb i k k0_h1) (k0_off100_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨24, Nat.le_of_ble_eq_true rfl⟩ ⟨2, Nat.le_of_ble_eq_true rfl⟩ k.val (ClosedOff.eq (off := k0_off98 k 64#32)) (ClosedOff.eq (off := k0_off97 k)) (ClosedOff.eq (off := k0_off99 k 64#32)) (k0_off98_inb i k k0_h1 2) (k0_off97_inb i k k0_h1) (k0_off99_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨24, Nat.le_of_ble_eq_true rfl⟩ ⟨1, Nat.le_of_ble_eq_true rfl⟩ k.val (ClosedOff.eq (off := k0_off98 k 32#32)) (ClosedOff.eq (off := k0_off97 k)) (ClosedOff.eq (off := k0_off100 k 32#32)) (k0_off98_inb i k k0_h1 1) (k0_off97_inb i k k0_h1) (k0_off100_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨24, Nat.le_of_ble_eq_true rfl⟩ ⟨1, Nat.le_of_ble_eq_true rfl⟩ k.val (ClosedOff.eq (off := k0_off98 k 32#32)) (ClosedOff.eq (off := k0_off97 k)) (ClosedOff.eq (off := k0_off99 k 32#32)) (k0_off98_inb i k k0_h1 1) (k0_off97_inb i k k0_h1) (k0_off99_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨24, Nat.le_of_ble_eq_true rfl⟩ ⟨0, Nat.le_of_ble_eq_true rfl⟩ k.val (ClosedOff.eq (off := k0_off98 k 0#32)) (ClosedOff.eq (off := k0_off97 k)) (ClosedOff.eq (off := k0_off100 k 0#32)) (k0_off98_inb i k k0_h1 0) (k0_off97_inb i k k0_h1) (k0_off100_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨24, Nat.le_of_ble_eq_true rfl⟩ ⟨0, Nat.le_of_ble_eq_true rfl⟩ k.val (ClosedOff.eq (off := k0_off98 k 0#32)) (ClosedOff.eq (off := k0_off97 k)) (ClosedOff.eq (off := k0_off99 k 0#32)) (k0_off98_inb i k k0_h1 0) (k0_off97_inb i k k0_h1) (k0_off99_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨23, Nat.le_of_ble_eq_true rfl⟩ ⟨3, Nat.le_of_ble_eq_true rfl⟩ k.val (ClosedOff.eq (off := k0_off94 k 96#32)) (ClosedOff.eq (off := k0_off93 k)) (ClosedOff.eq (off := k0_off96 k 96#32)) (k0_off94_inb i k k0_h1 3) (k0_off93_inb i k k0_h1) (k0_off96_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨23, Nat.le_of_ble_eq_true rfl⟩ ⟨3, Nat.le_of_ble_eq_true rfl⟩ k.val (ClosedOff.eq (off := k0_off94 k 96#32)) (ClosedOff.eq (off := k0_off93 k)) (ClosedOff.eq (off := k0_off95 k 96#32)) (k0_off94_inb i k k0_h1 3) (k0_off93_inb i k k0_h1) (k0_off95_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨23, Nat.le_of_ble_eq_true rfl⟩ ⟨2, Nat.le_of_ble_eq_true rfl⟩ k.val (ClosedOff.eq (off := k0_off94 k 64#32)) (ClosedOff.eq (off := k0_off93 k)) (ClosedOff.eq (off := k0_off96 k 64#32)) (k0_off94_inb i k k0_h1 2) (k0_off93_inb i k k0_h1) (k0_off96_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨23, Nat.le_of_ble_eq_true rfl⟩ ⟨2, Nat.le_of_ble_eq_true rfl⟩ k.val (ClosedOff.eq (off := k0_off94 k 64#32)) (ClosedOff.eq (off := k0_off93 k)) (ClosedOff.eq (off := k0_off95 k 64#32)) (k0_off94_inb i k k0_h1 2) (k0_off93_inb i k k0_h1) (k0_off95_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨23, Nat.le_of_ble_eq_true rfl⟩ ⟨1, Nat.le_of_ble_eq_true rfl⟩ k.val (ClosedOff.eq (off := k0_off94 k 32#32)) (ClosedOff.eq (off := k0_off93 k)) (ClosedOff.eq (off := k0_off96 k 32#32)) (k0_off94_inb i k k0_h1 1) (k0_off93_inb i k k0_h1) (k0_off96_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨23, Nat.le_of_ble_eq_true rfl⟩ ⟨1, Nat.le_of_ble_eq_true rfl⟩ k.val (ClosedOff.eq (off := k0_off94 k 32#32)) (ClosedOff.eq (off := k0_off93 k)) (ClosedOff.eq (off := k0_off95 k 32#32)) (k0_off94_inb i k k0_h1 1) (k0_off93_inb i k k0_h1) (k0_off95_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨23, Nat.le_of_ble_eq_true rfl⟩ ⟨0, Nat.le_of_ble_eq_true rfl⟩ k.val (ClosedOff.eq (off := k0_off94 k 0#32)) (ClosedOff.eq (off := k0_off93 k)) (ClosedOff.eq (off := k0_off96 k 0#32)) (k0_off94_inb i k k0_h1 0) (k0_off93_inb i k k0_h1) (k0_off96_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨23, Nat.le_of_ble_eq_true rfl⟩ ⟨0, Nat.le_of_ble_eq_true rfl⟩ k.val (ClosedOff.eq (off := k0_off94 k 0#32)) (ClosedOff.eq (off := k0_off93 k)) (ClosedOff.eq (off := k0_off95 k 0#32)) (k0_off94_inb i k k0_h1 0) (k0_off93_inb i k k0_h1) (k0_off95_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨22, Nat.le_of_ble_eq_true rfl⟩ ⟨3, Nat.le_of_ble_eq_true rfl⟩ k.val (ClosedOff.eq (off := k0_off90 k 96#32)) (ClosedOff.eq (off := k0_off89 k)) (ClosedOff.eq (off := k0_off92 k 96#32)) (k0_off90_inb i k k0_h1 3) (k0_off89_inb i k k0_h1) (k0_off92_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨22, Nat.le_of_ble_eq_true rfl⟩ ⟨3, Nat.le_of_ble_eq_true rfl⟩ k.val (ClosedOff.eq (off := k0_off90 k 96#32)) (ClosedOff.eq (off := k0_off89 k)) (ClosedOff.eq (off := k0_off91 k 96#32)) (k0_off90_inb i k k0_h1 3) (k0_off89_inb i k k0_h1) (k0_off91_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨22, Nat.le_of_ble_eq_true rfl⟩ ⟨2, Nat.le_of_ble_eq_true rfl⟩ k.val (ClosedOff.eq (off := k0_off90 k 64#32)) (ClosedOff.eq (off := k0_off89 k)) (ClosedOff.eq (off := k0_off92 k 64#32)) (k0_off90_inb i k k0_h1 2) (k0_off89_inb i k k0_h1) (k0_off92_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨22, Nat.le_of_ble_eq_true rfl⟩ ⟨2, Nat.le_of_ble_eq_true rfl⟩ k.val (ClosedOff.eq (off := k0_off90 k 64#32)) (ClosedOff.eq (off := k0_off89 k)) (ClosedOff.eq (off := k0_off91 k 64#32)) (k0_off90_inb i k k0_h1 2) (k0_off89_inb i k k0_h1) (k0_off91_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨22, Nat.le_of_ble_eq_true rfl⟩ ⟨1, Nat.le_of_ble_eq_true rfl⟩ k.val (ClosedOff.eq (off := k0_off90 k 32#32)) (ClosedOff.eq (off := k0_off89 k)) (ClosedOff.eq (off := k0_off92 k 32#32)) (k0_off90_inb i k k0_h1 1) (k0_off89_inb i k k0_h1) (k0_off92_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨22, Nat.le_of_ble_eq_true rfl⟩ ⟨1, Nat.le_of_ble_eq_true rfl⟩ k.val (ClosedOff.eq (off := k0_off90 k 32#32)) (ClosedOff.eq (off := k0_off89 k)) (ClosedOff.eq (off := k0_off91 k 32#32)) (k0_off90_inb i k k0_h1 1) (k0_off89_inb i k k0_h1) (k0_off91_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨22, Nat.le_of_ble_eq_true rfl⟩ ⟨0, Nat.le_of_ble_eq_true rfl⟩ k.val (ClosedOff.eq (off := k0_off90 k 0#32)) (ClosedOff.eq (off := k0_off89 k)) (ClosedOff.eq (off := k0_off92 k 0#32)) (k0_off90_inb i k k0_h1 0) (k0_off89_inb i k k0_h1) (k0_off92_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨22, Nat.le_of_ble_eq_true rfl⟩ ⟨0, Nat.le_of_ble_eq_true rfl⟩ k.val (ClosedOff.eq (off := k0_off90 k 0#32)) (ClosedOff.eq (off := k0_off89 k)) (ClosedOff.eq (off := k0_off91 k 0#32)) (k0_off90_inb i k k0_h1 0) (k0_off89_inb i k k0_h1) (k0_off91_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨21, Nat.le_of_ble_eq_true rfl⟩ ⟨3, Nat.le_of_ble_eq_true rfl⟩ k.val (ClosedOff.eq (off := k0_off86 k 96#32)) (ClosedOff.eq (off := k0_off85 k)) (ClosedOff.eq (off := k0_off88 k 96#32)) (k0_off86_inb i k k0_h1 3) (k0_off85_inb i k k0_h1) (k0_off88_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨21, Nat.le_of_ble_eq_true rfl⟩ ⟨3, Nat.le_of_ble_eq_true rfl⟩ k.val (ClosedOff.eq (off := k0_off86 k 96#32)) (ClosedOff.eq (off := k0_off85 k)) (ClosedOff.eq (off := k0_off87 k 96#32)) (k0_off86_inb i k k0_h1 3) (k0_off85_inb i k k0_h1) (k0_off87_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨21, Nat.le_of_ble_eq_true rfl⟩ ⟨2, Nat.le_of_ble_eq_true rfl⟩ k.val (ClosedOff.eq (off := k0_off86 k 64#32)) (ClosedOff.eq (off := k0_off85 k)) (ClosedOff.eq (off := k0_off88 k 64#32)) (k0_off86_inb i k k0_h1 2) (k0_off85_inb i k k0_h1) (k0_off88_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨21, Nat.le_of_ble_eq_true rfl⟩ ⟨2, Nat.le_of_ble_eq_true rfl⟩ k.val (ClosedOff.eq (off := k0_off86 k 64#32)) (ClosedOff.eq (off := k0_off85 k)) (ClosedOff.eq (off := k0_off87 k 64#32)) (k0_off86_inb i k k0_h1 2) (k0_off85_inb i k k0_h1) (k0_off87_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨21, Nat.le_of_ble_eq_true rfl⟩ ⟨1, Nat.le_of_ble_eq_true rfl⟩ k.val (ClosedOff.eq (off := k0_off86 k 32#32)) (ClosedOff.eq (off := k0_off85 k)) (ClosedOff.eq (off := k0_off88 k 32#32)) (k0_off86_inb i k k0_h1 1) (k0_off85_inb i k k0_h1) (k0_off88_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨21, Nat.le_of_ble_eq_true rfl⟩ ⟨1, Nat.le_of_ble_eq_true rfl⟩ k.val (ClosedOff.eq (off := k0_off86 k 32#32)) (ClosedOff.eq (off := k0_off85 k)) (ClosedOff.eq (off := k0_off87 k 32#32)) (k0_off86_inb i k k0_h1 1) (k0_off85_inb i k k0_h1) (k0_off87_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨21, Nat.le_of_ble_eq_true rfl⟩ ⟨0, Nat.le_of_ble_eq_true rfl⟩ k.val (ClosedOff.eq (off := k0_off86 k 0#32)) (ClosedOff.eq (off := k0_off85 k)) (ClosedOff.eq (off := k0_off88 k 0#32)) (k0_off86_inb i k k0_h1 0) (k0_off85_inb i k k0_h1) (k0_off88_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨21, Nat.le_of_ble_eq_true rfl⟩ ⟨0, Nat.le_of_ble_eq_true rfl⟩ k.val (ClosedOff.eq (off := k0_off86 k 0#32)) (ClosedOff.eq (off := k0_off85 k)) (ClosedOff.eq (off := k0_off87 k 0#32)) (k0_off86_inb i k k0_h1 0) (k0_off85_inb i k k0_h1) (k0_off87_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨20, Nat.le_of_ble_eq_true rfl⟩ ⟨3, Nat.le_of_ble_eq_true rfl⟩ k.val (ClosedOff.eq (off := k0_off82 k 96#32)) (ClosedOff.eq (off := k0_off81 k)) (ClosedOff.eq (off := k0_off84 k 96#32)) (k0_off82_inb i k k0_h1 3) (k0_off81_inb i k k0_h1) (k0_off84_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨20, Nat.le_of_ble_eq_true rfl⟩ ⟨3, Nat.le_of_ble_eq_true rfl⟩ k.val (ClosedOff.eq (off := k0_off82 k 96#32)) (ClosedOff.eq (off := k0_off81 k)) (ClosedOff.eq (off := k0_off83 k 96#32)) (k0_off82_inb i k k0_h1 3) (k0_off81_inb i k k0_h1) (k0_off83_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨20, Nat.le_of_ble_eq_true rfl⟩ ⟨2, Nat.le_of_ble_eq_true rfl⟩ k.val (ClosedOff.eq (off := k0_off82 k 64#32)) (ClosedOff.eq (off := k0_off81 k)) (ClosedOff.eq (off := k0_off84 k 64#32)) (k0_off82_inb i k k0_h1 2) (k0_off81_inb i k k0_h1) (k0_off84_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨20, Nat.le_of_ble_eq_true rfl⟩ ⟨2, Nat.le_of_ble_eq_true rfl⟩ k.val (ClosedOff.eq (off := k0_off82 k 64#32)) (ClosedOff.eq (off := k0_off81 k)) (ClosedOff.eq (off := k0_off83 k 64#32)) (k0_off82_inb i k k0_h1 2) (k0_off81_inb i k k0_h1) (k0_off83_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨20, Nat.le_of_ble_eq_true rfl⟩ ⟨1, Nat.le_of_ble_eq_true rfl⟩ k.val (ClosedOff.eq (off := k0_off82 k 32#32)) (ClosedOff.eq (off := k0_off81 k)) (ClosedOff.eq (off := k0_off84 k 32#32)) (k0_off82_inb i k k0_h1 1) (k0_off81_inb i k k0_h1) (k0_off84_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨20, Nat.le_of_ble_eq_true rfl⟩ ⟨1, Nat.le_of_ble_eq_true rfl⟩ k.val (ClosedOff.eq (off := k0_off82 k 32#32)) (ClosedOff.eq (off := k0_off81 k)) (ClosedOff.eq (off := k0_off83 k 32#32)) (k0_off82_inb i k k0_h1 1) (k0_off81_inb i k k0_h1) (k0_off83_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨20, Nat.le_of_ble_eq_true rfl⟩ ⟨0, Nat.le_of_ble_eq_true rfl⟩ k.val (ClosedOff.eq (off := k0_off82 k 0#32)) (ClosedOff.eq (off := k0_off81 k)) (ClosedOff.eq (off := k0_off84 k 0#32)) (k0_off82_inb i k k0_h1 0) (k0_off81_inb i k k0_h1) (k0_off84_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨20, Nat.le_of_ble_eq_true rfl⟩ ⟨0, Nat.le_of_ble_eq_true rfl⟩ k.val (ClosedOff.eq (off := k0_off82 k 0#32)) (ClosedOff.eq (off := k0_off81 k)) (ClosedOff.eq (off := k0_off83 k 0#32)) (k0_off82_inb i k k0_h1 0) (k0_off81_inb i k k0_h1) (k0_off83_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨19, Nat.le_of_ble_eq_true rfl⟩ ⟨3, Nat.le_of_ble_eq_true rfl⟩ k.val (ClosedOff.eq (off := k0_off78 k 96#32)) (ClosedOff.eq (off := k0_off77 k)) (ClosedOff.eq (off := k0_off80 k 96#32)) (k0_off78_inb i k k0_h1 3) (k0_off77_inb i k k0_h1) (k0_off80_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨19, Nat.le_of_ble_eq_true rfl⟩ ⟨3, Nat.le_of_ble_eq_true rfl⟩ k.val (ClosedOff.eq (off := k0_off78 k 96#32)) (ClosedOff.eq (off := k0_off77 k)) (ClosedOff.eq (off := k0_off79 k 96#32)) (k0_off78_inb i k k0_h1 3) (k0_off77_inb i k k0_h1) (k0_off79_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨19, Nat.le_of_ble_eq_true rfl⟩ ⟨2, Nat.le_of_ble_eq_true rfl⟩ k.val (ClosedOff.eq (off := k0_off78 k 64#32)) (ClosedOff.eq (off := k0_off77 k)) (ClosedOff.eq (off := k0_off80 k 64#32)) (k0_off78_inb i k k0_h1 2) (k0_off77_inb i k k0_h1) (k0_off80_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨19, Nat.le_of_ble_eq_true rfl⟩ ⟨2, Nat.le_of_ble_eq_true rfl⟩ k.val (ClosedOff.eq (off := k0_off78 k 64#32)) (ClosedOff.eq (off := k0_off77 k)) (ClosedOff.eq (off := k0_off79 k 64#32)) (k0_off78_inb i k k0_h1 2) (k0_off77_inb i k k0_h1) (k0_off79_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨19, Nat.le_of_ble_eq_true rfl⟩ ⟨1, Nat.le_of_ble_eq_true rfl⟩ k.val (ClosedOff.eq (off := k0_off78 k 32#32)) (ClosedOff.eq (off := k0_off77 k)) (ClosedOff.eq (off := k0_off80 k 32#32)) (k0_off78_inb i k k0_h1 1) (k0_off77_inb i k k0_h1) (k0_off80_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨19, Nat.le_of_ble_eq_true rfl⟩ ⟨1, Nat.le_of_ble_eq_true rfl⟩ k.val (ClosedOff.eq (off := k0_off78 k 32#32)) (ClosedOff.eq (off := k0_off77 k)) (ClosedOff.eq (off := k0_off79 k 32#32)) (k0_off78_inb i k k0_h1 1) (k0_off77_inb i k k0_h1) (k0_off79_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨19, Nat.le_of_ble_eq_true rfl⟩ ⟨0, Nat.le_of_ble_eq_true rfl⟩ k.val (ClosedOff.eq (off := k0_off78 k 0#32)) (ClosedOff.eq (off := k0_off77 k)) (ClosedOff.eq (off := k0_off80 k 0#32)) (k0_off78_inb i k k0_h1 0) (k0_off77_inb i k k0_h1) (k0_off80_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨19, Nat.le_of_ble_eq_true rfl⟩ ⟨0, Nat.le_of_ble_eq_true rfl⟩ k.val (ClosedOff.eq (off := k0_off78 k 0#32)) (ClosedOff.eq (off := k0_off77 k)) (ClosedOff.eq (off := k0_off79 k 0#32)) (k0_off78_inb i k k0_h1 0) (k0_off77_inb i k k0_h1) (k0_off79_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨18, Nat.le_of_ble_eq_true rfl⟩ ⟨3, Nat.le_of_ble_eq_true rfl⟩ k.val (ClosedOff.eq (off := k0_off74 k 96#32)) (ClosedOff.eq (off := k0_off73 k)) (ClosedOff.eq (off := k0_off76 k 96#32)) (k0_off74_inb i k k0_h1 3) (k0_off73_inb i k k0_h1) (k0_off76_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨18, Nat.le_of_ble_eq_true rfl⟩ ⟨3, Nat.le_of_ble_eq_true rfl⟩ k.val (ClosedOff.eq (off := k0_off74 k 96#32)) (ClosedOff.eq (off := k0_off73 k)) (ClosedOff.eq (off := k0_off75 k 96#32)) (k0_off74_inb i k k0_h1 3) (k0_off73_inb i k k0_h1) (k0_off75_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨18, Nat.le_of_ble_eq_true rfl⟩ ⟨2, Nat.le_of_ble_eq_true rfl⟩ k.val (ClosedOff.eq (off := k0_off74 k 64#32)) (ClosedOff.eq (off := k0_off73 k)) (ClosedOff.eq (off := k0_off76 k 64#32)) (k0_off74_inb i k k0_h1 2) (k0_off73_inb i k k0_h1) (k0_off76_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨18, Nat.le_of_ble_eq_true rfl⟩ ⟨2, Nat.le_of_ble_eq_true rfl⟩ k.val (ClosedOff.eq (off := k0_off74 k 64#32)) (ClosedOff.eq (off := k0_off73 k)) (ClosedOff.eq (off := k0_off75 k 64#32)) (k0_off74_inb i k k0_h1 2) (k0_off73_inb i k k0_h1) (k0_off75_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨18, Nat.le_of_ble_eq_true rfl⟩ ⟨1, Nat.le_of_ble_eq_true rfl⟩ k.val (ClosedOff.eq (off := k0_off74 k 32#32)) (ClosedOff.eq (off := k0_off73 k)) (ClosedOff.eq (off := k0_off76 k 32#32)) (k0_off74_inb i k k0_h1 1) (k0_off73_inb i k k0_h1) (k0_off76_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨18, Nat.le_of_ble_eq_true rfl⟩ ⟨1, Nat.le_of_ble_eq_true rfl⟩ k.val (ClosedOff.eq (off := k0_off74 k 32#32)) (ClosedOff.eq (off := k0_off73 k)) (ClosedOff.eq (off := k0_off75 k 32#32)) (k0_off74_inb i k k0_h1 1) (k0_off73_inb i k k0_h1) (k0_off75_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨18, Nat.le_of_ble_eq_true rfl⟩ ⟨0, Nat.le_of_ble_eq_true rfl⟩ k.val (ClosedOff.eq (off := k0_off74 k 0#32)) (ClosedOff.eq (off := k0_off73 k)) (ClosedOff.eq (off := k0_off76 k 0#32)) (k0_off74_inb i k k0_h1 0) (k0_off73_inb i k k0_h1) (k0_off76_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨18, Nat.le_of_ble_eq_true rfl⟩ ⟨0, Nat.le_of_ble_eq_true rfl⟩ k.val (ClosedOff.eq (off := k0_off74 k 0#32)) (ClosedOff.eq (off := k0_off73 k)) (ClosedOff.eq (off := k0_off75 k 0#32)) (k0_off74_inb i k k0_h1 0) (k0_off73_inb i k k0_h1) (k0_off75_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨17, Nat.le_of_ble_eq_true rfl⟩ ⟨3, Nat.le_of_ble_eq_true rfl⟩ k.val (ClosedOff.eq (off := k0_off70 k 96#32)) (ClosedOff.eq (off := k0_off69 k)) (ClosedOff.eq (off := k0_off72 k 96#32)) (k0_off70_inb i k k0_h1 3) (k0_off69_inb i k k0_h1) (k0_off72_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨17, Nat.le_of_ble_eq_true rfl⟩ ⟨3, Nat.le_of_ble_eq_true rfl⟩ k.val (ClosedOff.eq (off := k0_off70 k 96#32)) (ClosedOff.eq (off := k0_off69 k)) (ClosedOff.eq (off := k0_off71 k 96#32)) (k0_off70_inb i k k0_h1 3) (k0_off69_inb i k k0_h1) (k0_off71_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨17, Nat.le_of_ble_eq_true rfl⟩ ⟨2, Nat.le_of_ble_eq_true rfl⟩ k.val (ClosedOff.eq (off := k0_off70 k 64#32)) (ClosedOff.eq (off := k0_off69 k)) (ClosedOff.eq (off := k0_off72 k 64#32)) (k0_off70_inb i k k0_h1 2) (k0_off69_inb i k k0_h1) (k0_off72_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨17, Nat.le_of_ble_eq_true rfl⟩ ⟨2, Nat.le_of_ble_eq_true rfl⟩ k.val (ClosedOff.eq (off := k0_off70 k 64#32)) (ClosedOff.eq (off := k0_off69 k)) (ClosedOff.eq (off := k0_off71 k 64#32)) (k0_off70_inb i k k0_h1 2) (k0_off69_inb i k k0_h1) (k0_off71_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨17, Nat.le_of_ble_eq_true rfl⟩ ⟨1, Nat.le_of_ble_eq_true rfl⟩ k.val (ClosedOff.eq (off := k0_off70 k 32#32)) (ClosedOff.eq (off := k0_off69 k)) (ClosedOff.eq (off := k0_off72 k 32#32)) (k0_off70_inb i k k0_h1 1) (k0_off69_inb i k k0_h1) (k0_off72_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨17, Nat.le_of_ble_eq_true rfl⟩ ⟨1, Nat.le_of_ble_eq_true rfl⟩ k.val (ClosedOff.eq (off := k0_off70 k 32#32)) (ClosedOff.eq (off := k0_off69 k)) (ClosedOff.eq (off := k0_off71 k 32#32)) (k0_off70_inb i k k0_h1 1) (k0_off69_inb i k k0_h1) (k0_off71_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨17, Nat.le_of_ble_eq_true rfl⟩ ⟨0, Nat.le_of_ble_eq_true rfl⟩ k.val (ClosedOff.eq (off := k0_off70 k 0#32)) (ClosedOff.eq (off := k0_off69 k)) (ClosedOff.eq (off := k0_off72 k 0#32)) (k0_off70_inb i k k0_h1 0) (k0_off69_inb i k k0_h1) (k0_off72_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨17, Nat.le_of_ble_eq_true rfl⟩ ⟨0, Nat.le_of_ble_eq_true rfl⟩ k.val (ClosedOff.eq (off := k0_off70 k 0#32)) (ClosedOff.eq (off := k0_off69 k)) (ClosedOff.eq (off := k0_off71 k 0#32)) (k0_off70_inb i k k0_h1 0) (k0_off69_inb i k k0_h1) (k0_off71_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨16, Nat.le_of_ble_eq_true rfl⟩ ⟨3, Nat.le_of_ble_eq_true rfl⟩ k.val (ClosedOff.eq (off := k0_off66 k 96#32)) (ClosedOff.eq (off := k0_off65 k)) (ClosedOff.eq (off := k0_off68 k 96#32)) (k0_off66_inb i k k0_h1 3) (k0_off65_inb i k k0_h1) (k0_off68_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨16, Nat.le_of_ble_eq_true rfl⟩ ⟨3, Nat.le_of_ble_eq_true rfl⟩ k.val (ClosedOff.eq (off := k0_off66 k 96#32)) (ClosedOff.eq (off := k0_off65 k)) (ClosedOff.eq (off := k0_off67 k 96#32)) (k0_off66_inb i k k0_h1 3) (k0_off65_inb i k k0_h1) (k0_off67_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨16, Nat.le_of_ble_eq_true rfl⟩ ⟨2, Nat.le_of_ble_eq_true rfl⟩ k.val (ClosedOff.eq (off := k0_off66 k 64#32)) (ClosedOff.eq (off := k0_off65 k)) (ClosedOff.eq (off := k0_off68 k 64#32)) (k0_off66_inb i k k0_h1 2) (k0_off65_inb i k k0_h1) (k0_off68_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨16, Nat.le_of_ble_eq_true rfl⟩ ⟨2, Nat.le_of_ble_eq_true rfl⟩ k.val (ClosedOff.eq (off := k0_off66 k 64#32)) (ClosedOff.eq (off := k0_off65 k)) (ClosedOff.eq (off := k0_off67 k 64#32)) (k0_off66_inb i k k0_h1 2) (k0_off65_inb i k k0_h1) (k0_off67_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨16, Nat.le_of_ble_eq_true rfl⟩ ⟨1, Nat.le_of_ble_eq_true rfl⟩ k.val (ClosedOff.eq (off := k0_off66 k 32#32)) (ClosedOff.eq (off := k0_off65 k)) (ClosedOff.eq (off := k0_off68 k 32#32)) (k0_off66_inb i k k0_h1 1) (k0_off65_inb i k k0_h1) (k0_off68_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨16, Nat.le_of_ble_eq_true rfl⟩ ⟨1, Nat.le_of_ble_eq_true rfl⟩ k.val (ClosedOff.eq (off := k0_off66 k 32#32)) (ClosedOff.eq (off := k0_off65 k)) (ClosedOff.eq (off := k0_off67 k 32#32)) (k0_off66_inb i k k0_h1 1) (k0_off65_inb i k k0_h1) (k0_off67_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨16, Nat.le_of_ble_eq_true rfl⟩ ⟨0, Nat.le_of_ble_eq_true rfl⟩ k.val (ClosedOff.eq (off := k0_off66 k 0#32)) (ClosedOff.eq (off := k0_off65 k)) (ClosedOff.eq (off := k0_off68 k 0#32)) (k0_off66_inb i k k0_h1 0) (k0_off65_inb i k k0_h1) (k0_off68_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨16, Nat.le_of_ble_eq_true rfl⟩ ⟨0, Nat.le_of_ble_eq_true rfl⟩ k.val (ClosedOff.eq (off := k0_off66 k 0#32)) (ClosedOff.eq (off := k0_off65 k)) (ClosedOff.eq (off := k0_off67 k 0#32)) (k0_off66_inb i k k0_h1 0) (k0_off65_inb i k k0_h1) (k0_off67_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨15, Nat.le_of_ble_eq_true rfl⟩ ⟨3, Nat.le_of_ble_eq_true rfl⟩ k.val (ClosedOff.eq (off := k0_off62 k 96#32)) (ClosedOff.eq (off := k0_off61 k)) (ClosedOff.eq (off := k0_off64 k 96#32)) (k0_off62_inb i k k0_h1 3) (k0_off61_inb i k k0_h1) (k0_off64_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨15, Nat.le_of_ble_eq_true rfl⟩ ⟨3, Nat.le_of_ble_eq_true rfl⟩ k.val (ClosedOff.eq (off := k0_off62 k 96#32)) (ClosedOff.eq (off := k0_off61 k)) (ClosedOff.eq (off := k0_off63 k 96#32)) (k0_off62_inb i k k0_h1 3) (k0_off61_inb i k k0_h1) (k0_off63_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨15, Nat.le_of_ble_eq_true rfl⟩ ⟨2, Nat.le_of_ble_eq_true rfl⟩ k.val (ClosedOff.eq (off := k0_off62 k 64#32)) (ClosedOff.eq (off := k0_off61 k)) (ClosedOff.eq (off := k0_off64 k 64#32)) (k0_off62_inb i k k0_h1 2) (k0_off61_inb i k k0_h1) (k0_off64_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨15, Nat.le_of_ble_eq_true rfl⟩ ⟨2, Nat.le_of_ble_eq_true rfl⟩ k.val (ClosedOff.eq (off := k0_off62 k 64#32)) (ClosedOff.eq (off := k0_off61 k)) (ClosedOff.eq (off := k0_off63 k 64#32)) (k0_off62_inb i k k0_h1 2) (k0_off61_inb i k k0_h1) (k0_off63_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨15, Nat.le_of_ble_eq_true rfl⟩ ⟨1, Nat.le_of_ble_eq_true rfl⟩ k.val (ClosedOff.eq (off := k0_off62 k 32#32)) (ClosedOff.eq (off := k0_off61 k)) (ClosedOff.eq (off := k0_off64 k 32#32)) (k0_off62_inb i k k0_h1 1) (k0_off61_inb i k k0_h1) (k0_off64_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨15, Nat.le_of_ble_eq_true rfl⟩ ⟨1, Nat.le_of_ble_eq_true rfl⟩ k.val (ClosedOff.eq (off := k0_off62 k 32#32)) (ClosedOff.eq (off := k0_off61 k)) (ClosedOff.eq (off := k0_off63 k 32#32)) (k0_off62_inb i k k0_h1 1) (k0_off61_inb i k k0_h1) (k0_off63_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨15, Nat.le_of_ble_eq_true rfl⟩ ⟨0, Nat.le_of_ble_eq_true rfl⟩ k.val (ClosedOff.eq (off := k0_off62 k 0#32)) (ClosedOff.eq (off := k0_off61 k)) (ClosedOff.eq (off := k0_off64 k 0#32)) (k0_off62_inb i k k0_h1 0) (k0_off61_inb i k k0_h1) (k0_off64_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨15, Nat.le_of_ble_eq_true rfl⟩ ⟨0, Nat.le_of_ble_eq_true rfl⟩ k.val (ClosedOff.eq (off := k0_off62 k 0#32)) (ClosedOff.eq (off := k0_off61 k)) (ClosedOff.eq (off := k0_off63 k 0#32)) (k0_off62_inb i k k0_h1 0) (k0_off61_inb i k k0_h1) (k0_off63_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨14, Nat.le_of_ble_eq_true rfl⟩ ⟨3, Nat.le_of_ble_eq_true rfl⟩ k.val (ClosedOff.eq (off := k0_off58 k 96#32)) (ClosedOff.eq (off := k0_off57 k)) (ClosedOff.eq (off := k0_off60 k 96#32)) (k0_off58_inb i k k0_h1 3) (k0_off57_inb i k k0_h1) (k0_off60_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨14, Nat.le_of_ble_eq_true rfl⟩ ⟨3, Nat.le_of_ble_eq_true rfl⟩ k.val (ClosedOff.eq (off := k0_off58 k 96#32)) (ClosedOff.eq (off := k0_off57 k)) (ClosedOff.eq (off := k0_off59 k 96#32)) (k0_off58_inb i k k0_h1 3) (k0_off57_inb i k k0_h1) (k0_off59_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨14, Nat.le_of_ble_eq_true rfl⟩ ⟨2, Nat.le_of_ble_eq_true rfl⟩ k.val (ClosedOff.eq (off := k0_off58 k 64#32)) (ClosedOff.eq (off := k0_off57 k)) (ClosedOff.eq (off := k0_off60 k 64#32)) (k0_off58_inb i k k0_h1 2) (k0_off57_inb i k k0_h1) (k0_off60_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨14, Nat.le_of_ble_eq_true rfl⟩ ⟨2, Nat.le_of_ble_eq_true rfl⟩ k.val (ClosedOff.eq (off := k0_off58 k 64#32)) (ClosedOff.eq (off := k0_off57 k)) (ClosedOff.eq (off := k0_off59 k 64#32)) (k0_off58_inb i k k0_h1 2) (k0_off57_inb i k k0_h1) (k0_off59_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨14, Nat.le_of_ble_eq_true rfl⟩ ⟨1, Nat.le_of_ble_eq_true rfl⟩ k.val (ClosedOff.eq (off := k0_off58 k 32#32)) (ClosedOff.eq (off := k0_off57 k)) (ClosedOff.eq (off := k0_off60 k 32#32)) (k0_off58_inb i k k0_h1 1) (k0_off57_inb i k k0_h1) (k0_off60_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨14, Nat.le_of_ble_eq_true rfl⟩ ⟨1, Nat.le_of_ble_eq_true rfl⟩ k.val (ClosedOff.eq (off := k0_off58 k 32#32)) (ClosedOff.eq (off := k0_off57 k)) (ClosedOff.eq (off := k0_off59 k 32#32)) (k0_off58_inb i k k0_h1 1) (k0_off57_inb i k k0_h1) (k0_off59_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨14, Nat.le_of_ble_eq_true rfl⟩ ⟨0, Nat.le_of_ble_eq_true rfl⟩ k.val (ClosedOff.eq (off := k0_off58 k 0#32)) (ClosedOff.eq (off := k0_off57 k)) (ClosedOff.eq (off := k0_off60 k 0#32)) (k0_off58_inb i k k0_h1 0) (k0_off57_inb i k k0_h1) (k0_off60_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨14, Nat.le_of_ble_eq_true rfl⟩ ⟨0, Nat.le_of_ble_eq_true rfl⟩ k.val (ClosedOff.eq (off := k0_off58 k 0#32)) (ClosedOff.eq (off := k0_off57 k)) (ClosedOff.eq (off := k0_off59 k 0#32)) (k0_off58_inb i k k0_h1 0) (k0_off57_inb i k k0_h1) (k0_off59_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨13, Nat.le_of_ble_eq_true rfl⟩ ⟨3, Nat.le_of_ble_eq_true rfl⟩ k.val (ClosedOff.eq (off := k0_off54 k 96#32)) (ClosedOff.eq (off := k0_off53 k)) (ClosedOff.eq (off := k0_off56 k 96#32)) (k0_off54_inb i k k0_h1 3) (k0_off53_inb i k k0_h1) (k0_off56_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨13, Nat.le_of_ble_eq_true rfl⟩ ⟨3, Nat.le_of_ble_eq_true rfl⟩ k.val (ClosedOff.eq (off := k0_off54 k 96#32)) (ClosedOff.eq (off := k0_off53 k)) (ClosedOff.eq (off := k0_off55 k 96#32)) (k0_off54_inb i k k0_h1 3) (k0_off53_inb i k k0_h1) (k0_off55_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨13, Nat.le_of_ble_eq_true rfl⟩ ⟨2, Nat.le_of_ble_eq_true rfl⟩ k.val (ClosedOff.eq (off := k0_off54 k 64#32)) (ClosedOff.eq (off := k0_off53 k)) (ClosedOff.eq (off := k0_off56 k 64#32)) (k0_off54_inb i k k0_h1 2) (k0_off53_inb i k k0_h1) (k0_off56_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨13, Nat.le_of_ble_eq_true rfl⟩ ⟨2, Nat.le_of_ble_eq_true rfl⟩ k.val (ClosedOff.eq (off := k0_off54 k 64#32)) (ClosedOff.eq (off := k0_off53 k)) (ClosedOff.eq (off := k0_off55 k 64#32)) (k0_off54_inb i k k0_h1 2) (k0_off53_inb i k k0_h1) (k0_off55_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨13, Nat.le_of_ble_eq_true rfl⟩ ⟨1, Nat.le_of_ble_eq_true rfl⟩ k.val (ClosedOff.eq (off := k0_off54 k 32#32)) (ClosedOff.eq (off := k0_off53 k)) (ClosedOff.eq (off := k0_off56 k 32#32)) (k0_off54_inb i k k0_h1 1) (k0_off53_inb i k k0_h1) (k0_off56_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨13, Nat.le_of_ble_eq_true rfl⟩ ⟨1, Nat.le_of_ble_eq_true rfl⟩ k.val (ClosedOff.eq (off := k0_off54 k 32#32)) (ClosedOff.eq (off := k0_off53 k)) (ClosedOff.eq (off := k0_off55 k 32#32)) (k0_off54_inb i k k0_h1 1) (k0_off53_inb i k k0_h1) (k0_off55_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨13, Nat.le_of_ble_eq_true rfl⟩ ⟨0, Nat.le_of_ble_eq_true rfl⟩ k.val (ClosedOff.eq (off := k0_off54 k 0#32)) (ClosedOff.eq (off := k0_off53 k)) (ClosedOff.eq (off := k0_off56 k 0#32)) (k0_off54_inb i k k0_h1 0) (k0_off53_inb i k k0_h1) (k0_off56_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨13, Nat.le_of_ble_eq_true rfl⟩ ⟨0, Nat.le_of_ble_eq_true rfl⟩ k.val (ClosedOff.eq (off := k0_off54 k 0#32)) (ClosedOff.eq (off := k0_off53 k)) (ClosedOff.eq (off := k0_off55 k 0#32)) (k0_off54_inb i k k0_h1 0) (k0_off53_inb i k k0_h1) (k0_off55_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨12, Nat.le_of_ble_eq_true rfl⟩ ⟨3, Nat.le_of_ble_eq_true rfl⟩ k.val (ClosedOff.eq (off := k0_off50 k 96#32)) (ClosedOff.eq (off := k0_off49 k)) (ClosedOff.eq (off := k0_off52 k 96#32)) (k0_off50_inb i k k0_h1 3) (k0_off49_inb i k k0_h1) (k0_off52_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨12, Nat.le_of_ble_eq_true rfl⟩ ⟨3, Nat.le_of_ble_eq_true rfl⟩ k.val (ClosedOff.eq (off := k0_off50 k 96#32)) (ClosedOff.eq (off := k0_off49 k)) (ClosedOff.eq (off := k0_off51 k 96#32)) (k0_off50_inb i k k0_h1 3) (k0_off49_inb i k k0_h1) (k0_off51_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨12, Nat.le_of_ble_eq_true rfl⟩ ⟨2, Nat.le_of_ble_eq_true rfl⟩ k.val (ClosedOff.eq (off := k0_off50 k 64#32)) (ClosedOff.eq (off := k0_off49 k)) (ClosedOff.eq (off := k0_off52 k 64#32)) (k0_off50_inb i k k0_h1 2) (k0_off49_inb i k k0_h1) (k0_off52_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨12, Nat.le_of_ble_eq_true rfl⟩ ⟨2, Nat.le_of_ble_eq_true rfl⟩ k.val (ClosedOff.eq (off := k0_off50 k 64#32)) (ClosedOff.eq (off := k0_off49 k)) (ClosedOff.eq (off := k0_off51 k 64#32)) (k0_off50_inb i k k0_h1 2) (k0_off49_inb i k k0_h1) (k0_off51_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨12, Nat.le_of_ble_eq_true rfl⟩ ⟨1, Nat.le_of_ble_eq_true rfl⟩ k.val (ClosedOff.eq (off := k0_off50 k 32#32)) (ClosedOff.eq (off := k0_off49 k)) (ClosedOff.eq (off := k0_off52 k 32#32)) (k0_off50_inb i k k0_h1 1) (k0_off49_inb i k k0_h1) (k0_off52_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨12, Nat.le_of_ble_eq_true rfl⟩ ⟨1, Nat.le_of_ble_eq_true rfl⟩ k.val (ClosedOff.eq (off := k0_off50 k 32#32)) (ClosedOff.eq (off := k0_off49 k)) (ClosedOff.eq (off := k0_off51 k 32#32)) (k0_off50_inb i k k0_h1 1) (k0_off49_inb i k k0_h1) (k0_off51_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨12, Nat.le_of_ble_eq_true rfl⟩ ⟨0, Nat.le_of_ble_eq_true rfl⟩ k.val (ClosedOff.eq (off := k0_off50 k 0#32)) (ClosedOff.eq (off := k0_off49 k)) (ClosedOff.eq (off := k0_off52 k 0#32)) (k0_off50_inb i k k0_h1 0) (k0_off49_inb i k k0_h1) (k0_off52_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨12, Nat.le_of_ble_eq_true rfl⟩ ⟨0, Nat.le_of_ble_eq_true rfl⟩ k.val (ClosedOff.eq (off := k0_off50 k 0#32)) (ClosedOff.eq (off := k0_off49 k)) (ClosedOff.eq (off := k0_off51 k 0#32)) (k0_off50_inb i k k0_h1 0) (k0_off49_inb i k k0_h1) (k0_off51_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨11, Nat.le_of_ble_eq_true rfl⟩ ⟨3, Nat.le_of_ble_eq_true rfl⟩ k.val (ClosedOff.eq (off := k0_off46 k 96#32)) (ClosedOff.eq (off := k0_off45 k)) (ClosedOff.eq (off := k0_off48 k 96#32)) (k0_off46_inb i k k0_h1 3) (k0_off45_inb i k k0_h1) (k0_off48_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨11, Nat.le_of_ble_eq_true rfl⟩ ⟨3, Nat.le_of_ble_eq_true rfl⟩ k.val (ClosedOff.eq (off := k0_off46 k 96#32)) (ClosedOff.eq (off := k0_off45 k)) (ClosedOff.eq (off := k0_off47 k 96#32)) (k0_off46_inb i k k0_h1 3) (k0_off45_inb i k k0_h1) (k0_off47_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨11, Nat.le_of_ble_eq_true rfl⟩ ⟨2, Nat.le_of_ble_eq_true rfl⟩ k.val (ClosedOff.eq (off := k0_off46 k 64#32)) (ClosedOff.eq (off := k0_off45 k)) (ClosedOff.eq (off := k0_off48 k 64#32)) (k0_off46_inb i k k0_h1 2) (k0_off45_inb i k k0_h1) (k0_off48_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨11, Nat.le_of_ble_eq_true rfl⟩ ⟨2, Nat.le_of_ble_eq_true rfl⟩ k.val (ClosedOff.eq (off := k0_off46 k 64#32)) (ClosedOff.eq (off := k0_off45 k)) (ClosedOff.eq (off := k0_off47 k 64#32)) (k0_off46_inb i k k0_h1 2) (k0_off45_inb i k k0_h1) (k0_off47_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨11, Nat.le_of_ble_eq_true rfl⟩ ⟨1, Nat.le_of_ble_eq_true rfl⟩ k.val (ClosedOff.eq (off := k0_off46 k 32#32)) (ClosedOff.eq (off := k0_off45 k)) (ClosedOff.eq (off := k0_off48 k 32#32)) (k0_off46_inb i k k0_h1 1) (k0_off45_inb i k k0_h1) (k0_off48_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨11, Nat.le_of_ble_eq_true rfl⟩ ⟨1, Nat.le_of_ble_eq_true rfl⟩ k.val (ClosedOff.eq (off := k0_off46 k 32#32)) (ClosedOff.eq (off := k0_off45 k)) (ClosedOff.eq (off := k0_off47 k 32#32)) (k0_off46_inb i k k0_h1 1) (k0_off45_inb i k k0_h1) (k0_off47_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨11, Nat.le_of_ble_eq_true rfl⟩ ⟨0, Nat.le_of_ble_eq_true rfl⟩ k.val (ClosedOff.eq (off := k0_off46 k 0#32)) (ClosedOff.eq (off := k0_off45 k)) (ClosedOff.eq (off := k0_off48 k 0#32)) (k0_off46_inb i k k0_h1 0) (k0_off45_inb i k k0_h1) (k0_off48_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨11, Nat.le_of_ble_eq_true rfl⟩ ⟨0, Nat.le_of_ble_eq_true rfl⟩ k.val (ClosedOff.eq (off := k0_off46 k 0#32)) (ClosedOff.eq (off := k0_off45 k)) (ClosedOff.eq (off := k0_off47 k 0#32)) (k0_off46_inb i k k0_h1 0) (k0_off45_inb i k k0_h1) (k0_off47_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨10, Nat.le_of_ble_eq_true rfl⟩ ⟨3, Nat.le_of_ble_eq_true rfl⟩ k.val (ClosedOff.eq (off := k0_off42 k 96#32)) (ClosedOff.eq (off := k0_off41 k)) (ClosedOff.eq (off := k0_off44 k 96#32)) (k0_off42_inb i k k0_h1 3) (k0_off41_inb i k k0_h1) (k0_off44_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨10, Nat.le_of_ble_eq_true rfl⟩ ⟨3, Nat.le_of_ble_eq_true rfl⟩ k.val (ClosedOff.eq (off := k0_off42 k 96#32)) (ClosedOff.eq (off := k0_off41 k)) (ClosedOff.eq (off := k0_off43 k 96#32)) (k0_off42_inb i k k0_h1 3) (k0_off41_inb i k k0_h1) (k0_off43_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨10, Nat.le_of_ble_eq_true rfl⟩ ⟨2, Nat.le_of_ble_eq_true rfl⟩ k.val (ClosedOff.eq (off := k0_off42 k 64#32)) (ClosedOff.eq (off := k0_off41 k)) (ClosedOff.eq (off := k0_off44 k 64#32)) (k0_off42_inb i k k0_h1 2) (k0_off41_inb i k k0_h1) (k0_off44_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨10, Nat.le_of_ble_eq_true rfl⟩ ⟨2, Nat.le_of_ble_eq_true rfl⟩ k.val (ClosedOff.eq (off := k0_off42 k 64#32)) (ClosedOff.eq (off := k0_off41 k)) (ClosedOff.eq (off := k0_off43 k 64#32)) (k0_off42_inb i k k0_h1 2) (k0_off41_inb i k k0_h1) (k0_off43_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨10, Nat.le_of_ble_eq_true rfl⟩ ⟨1, Nat.le_of_ble_eq_true rfl⟩ k.val (ClosedOff.eq (off := k0_off42 k 32#32)) (ClosedOff.eq (off := k0_off41 k)) (ClosedOff.eq (off := k0_off44 k 32#32)) (k0_off42_inb i k k0_h1 1) (k0_off41_inb i k k0_h1) (k0_off44_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨10, Nat.le_of_ble_eq_true rfl⟩ ⟨1, Nat.le_of_ble_eq_true rfl⟩ k.val (ClosedOff.eq (off := k0_off42 k 32#32)) (ClosedOff.eq (off := k0_off41 k)) (ClosedOff.eq (off := k0_off43 k 32#32)) (k0_off42_inb i k k0_h1 1) (k0_off41_inb i k k0_h1) (k0_off43_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨10, Nat.le_of_ble_eq_true rfl⟩ ⟨0, Nat.le_of_ble_eq_true rfl⟩ k.val (ClosedOff.eq (off := k0_off42 k 0#32)) (ClosedOff.eq (off := k0_off41 k)) (ClosedOff.eq (off := k0_off44 k 0#32)) (k0_off42_inb i k k0_h1 0) (k0_off41_inb i k k0_h1) (k0_off44_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨10, Nat.le_of_ble_eq_true rfl⟩ ⟨0, Nat.le_of_ble_eq_true rfl⟩ k.val (ClosedOff.eq (off := k0_off42 k 0#32)) (ClosedOff.eq (off := k0_off41 k)) (ClosedOff.eq (off := k0_off43 k 0#32)) (k0_off42_inb i k k0_h1 0) (k0_off41_inb i k k0_h1) (k0_off43_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨9, Nat.le_of_ble_eq_true rfl⟩ ⟨3, Nat.le_of_ble_eq_true rfl⟩ k.val (ClosedOff.eq (off := k0_off38 k 96#32)) (ClosedOff.eq (off := k0_off37 k)) (ClosedOff.eq (off := k0_off40 k 96#32)) (k0_off38_inb i k k0_h1 3) (k0_off37_inb i k k0_h1) (k0_off40_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨9, Nat.le_of_ble_eq_true rfl⟩ ⟨3, Nat.le_of_ble_eq_true rfl⟩ k.val (ClosedOff.eq (off := k0_off38 k 96#32)) (ClosedOff.eq (off := k0_off37 k)) (ClosedOff.eq (off := k0_off39 k 96#32)) (k0_off38_inb i k k0_h1 3) (k0_off37_inb i k k0_h1) (k0_off39_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨9, Nat.le_of_ble_eq_true rfl⟩ ⟨2, Nat.le_of_ble_eq_true rfl⟩ k.val (ClosedOff.eq (off := k0_off38 k 64#32)) (ClosedOff.eq (off := k0_off37 k)) (ClosedOff.eq (off := k0_off40 k 64#32)) (k0_off38_inb i k k0_h1 2) (k0_off37_inb i k k0_h1) (k0_off40_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨9, Nat.le_of_ble_eq_true rfl⟩ ⟨2, Nat.le_of_ble_eq_true rfl⟩ k.val (ClosedOff.eq (off := k0_off38 k 64#32)) (ClosedOff.eq (off := k0_off37 k)) (ClosedOff.eq (off := k0_off39 k 64#32)) (k0_off38_inb i k k0_h1 2) (k0_off37_inb i k k0_h1) (k0_off39_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨9, Nat.le_of_ble_eq_true rfl⟩ ⟨1, Nat.le_of_ble_eq_true rfl⟩ k.val (ClosedOff.eq (off := k0_off38 k 32#32)) (ClosedOff.eq (off := k0_off37 k)) (ClosedOff.eq (off := k0_off40 k 32#32)) (k0_off38_inb i k k0_h1 1) (k0_off37_inb i k k0_h1) (k0_off40_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨9, Nat.le_of_ble_eq_true rfl⟩ ⟨1, Nat.le_of_ble_eq_true rfl⟩ k.val (ClosedOff.eq (off := k0_off38 k 32#32)) (ClosedOff.eq (off := k0_off37 k)) (ClosedOff.eq (off := k0_off39 k 32#32)) (k0_off38_inb i k k0_h1 1) (k0_off37_inb i k k0_h1) (k0_off39_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨9, Nat.le_of_ble_eq_true rfl⟩ ⟨0, Nat.le_of_ble_eq_true rfl⟩ k.val (ClosedOff.eq (off := k0_off38 k 0#32)) (ClosedOff.eq (off := k0_off37 k)) (ClosedOff.eq (off := k0_off40 k 0#32)) (k0_off38_inb i k k0_h1 0) (k0_off37_inb i k k0_h1) (k0_off40_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨9, Nat.le_of_ble_eq_true rfl⟩ ⟨0, Nat.le_of_ble_eq_true rfl⟩ k.val (ClosedOff.eq (off := k0_off38 k 0#32)) (ClosedOff.eq (off := k0_off37 k)) (ClosedOff.eq (off := k0_off39 k 0#32)) (k0_off38_inb i k k0_h1 0) (k0_off37_inb i k k0_h1) (k0_off39_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨8, Nat.le_of_ble_eq_true rfl⟩ ⟨3, Nat.le_of_ble_eq_true rfl⟩ k.val (ClosedOff.eq (off := k0_off34 k 96#32)) (ClosedOff.eq (off := k0_off33 k)) (ClosedOff.eq (off := k0_off36 k 96#32)) (k0_off34_inb i k k0_h1 3) (k0_off33_inb i k k0_h1) (k0_off36_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨8, Nat.le_of_ble_eq_true rfl⟩ ⟨3, Nat.le_of_ble_eq_true rfl⟩ k.val (ClosedOff.eq (off := k0_off34 k 96#32)) (ClosedOff.eq (off := k0_off33 k)) (ClosedOff.eq (off := k0_off35 k 96#32)) (k0_off34_inb i k k0_h1 3) (k0_off33_inb i k k0_h1) (k0_off35_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨8, Nat.le_of_ble_eq_true rfl⟩ ⟨2, Nat.le_of_ble_eq_true rfl⟩ k.val (ClosedOff.eq (off := k0_off34 k 64#32)) (ClosedOff.eq (off := k0_off33 k)) (ClosedOff.eq (off := k0_off36 k 64#32)) (k0_off34_inb i k k0_h1 2) (k0_off33_inb i k k0_h1) (k0_off36_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨8, Nat.le_of_ble_eq_true rfl⟩ ⟨2, Nat.le_of_ble_eq_true rfl⟩ k.val (ClosedOff.eq (off := k0_off34 k 64#32)) (ClosedOff.eq (off := k0_off33 k)) (ClosedOff.eq (off := k0_off35 k 64#32)) (k0_off34_inb i k k0_h1 2) (k0_off33_inb i k k0_h1) (k0_off35_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨8, Nat.le_of_ble_eq_true rfl⟩ ⟨1, Nat.le_of_ble_eq_true rfl⟩ k.val (ClosedOff.eq (off := k0_off34 k 32#32)) (ClosedOff.eq (off := k0_off33 k)) (ClosedOff.eq (off := k0_off36 k 32#32)) (k0_off34_inb i k k0_h1 1) (k0_off33_inb i k k0_h1) (k0_off36_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨8, Nat.le_of_ble_eq_true rfl⟩ ⟨1, Nat.le_of_ble_eq_true rfl⟩ k.val (ClosedOff.eq (off := k0_off34 k 32#32)) (ClosedOff.eq (off := k0_off33 k)) (ClosedOff.eq (off := k0_off35 k 32#32)) (k0_off34_inb i k k0_h1 1) (k0_off33_inb i k k0_h1) (k0_off35_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨8, Nat.le_of_ble_eq_true rfl⟩ ⟨0, Nat.le_of_ble_eq_true rfl⟩ k.val (ClosedOff.eq (off := k0_off34 k 0#32)) (ClosedOff.eq (off := k0_off33 k)) (ClosedOff.eq (off := k0_off36 k 0#32)) (k0_off34_inb i k k0_h1 0) (k0_off33_inb i k k0_h1) (k0_off36_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨8, Nat.le_of_ble_eq_true rfl⟩ ⟨0, Nat.le_of_ble_eq_true rfl⟩ k.val (ClosedOff.eq (off := k0_off34 k 0#32)) (ClosedOff.eq (off := k0_off33 k)) (ClosedOff.eq (off := k0_off35 k 0#32)) (k0_off34_inb i k k0_h1 0) (k0_off33_inb i k k0_h1) (k0_off35_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨7, Nat.le_of_ble_eq_true rfl⟩ ⟨3, Nat.le_of_ble_eq_true rfl⟩ k.val (ClosedOff.eq (off := k0_off30 k 96#32)) (ClosedOff.eq (off := k0_off29 k)) (ClosedOff.eq (off := k0_off32 k 96#32)) (k0_off30_inb i k k0_h1 3) (k0_off29_inb i k k0_h1) (k0_off32_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨7, Nat.le_of_ble_eq_true rfl⟩ ⟨3, Nat.le_of_ble_eq_true rfl⟩ k.val (ClosedOff.eq (off := k0_off30 k 96#32)) (ClosedOff.eq (off := k0_off29 k)) (ClosedOff.eq (off := k0_off31 k 96#32)) (k0_off30_inb i k k0_h1 3) (k0_off29_inb i k k0_h1) (k0_off31_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨7, Nat.le_of_ble_eq_true rfl⟩ ⟨2, Nat.le_of_ble_eq_true rfl⟩ k.val (ClosedOff.eq (off := k0_off30 k 64#32)) (ClosedOff.eq (off := k0_off29 k)) (ClosedOff.eq (off := k0_off32 k 64#32)) (k0_off30_inb i k k0_h1 2) (k0_off29_inb i k k0_h1) (k0_off32_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨7, Nat.le_of_ble_eq_true rfl⟩ ⟨2, Nat.le_of_ble_eq_true rfl⟩ k.val (ClosedOff.eq (off := k0_off30 k 64#32)) (ClosedOff.eq (off := k0_off29 k)) (ClosedOff.eq (off := k0_off31 k 64#32)) (k0_off30_inb i k k0_h1 2) (k0_off29_inb i k k0_h1) (k0_off31_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨7, Nat.le_of_ble_eq_true rfl⟩ ⟨1, Nat.le_of_ble_eq_true rfl⟩ k.val (ClosedOff.eq (off := k0_off30 k 32#32)) (ClosedOff.eq (off := k0_off29 k)) (ClosedOff.eq (off := k0_off32 k 32#32)) (k0_off30_inb i k k0_h1 1) (k0_off29_inb i k k0_h1) (k0_off32_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨7, Nat.le_of_ble_eq_true rfl⟩ ⟨1, Nat.le_of_ble_eq_true rfl⟩ k.val (ClosedOff.eq (off := k0_off30 k 32#32)) (ClosedOff.eq (off := k0_off29 k)) (ClosedOff.eq (off := k0_off31 k 32#32)) (k0_off30_inb i k k0_h1 1) (k0_off29_inb i k k0_h1) (k0_off31_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨7, Nat.le_of_ble_eq_true rfl⟩ ⟨0, Nat.le_of_ble_eq_true rfl⟩ k.val (ClosedOff.eq (off := k0_off30 k 0#32)) (ClosedOff.eq (off := k0_off29 k)) (ClosedOff.eq (off := k0_off32 k 0#32)) (k0_off30_inb i k k0_h1 0) (k0_off29_inb i k k0_h1) (k0_off32_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨7, Nat.le_of_ble_eq_true rfl⟩ ⟨0, Nat.le_of_ble_eq_true rfl⟩ k.val (ClosedOff.eq (off := k0_off30 k 0#32)) (ClosedOff.eq (off := k0_off29 k)) (ClosedOff.eq (off := k0_off31 k 0#32)) (k0_off30_inb i k k0_h1 0) (k0_off29_inb i k k0_h1) (k0_off31_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨6, Nat.le_of_ble_eq_true rfl⟩ ⟨3, Nat.le_of_ble_eq_true rfl⟩ k.val (ClosedOff.eq (off := k0_off26 k 96#32)) (ClosedOff.eq (off := k0_off25 k)) (ClosedOff.eq (off := k0_off28 k 96#32)) (k0_off26_inb i k k0_h1 3) (k0_off25_inb i k k0_h1) (k0_off28_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨6, Nat.le_of_ble_eq_true rfl⟩ ⟨3, Nat.le_of_ble_eq_true rfl⟩ k.val (ClosedOff.eq (off := k0_off26 k 96#32)) (ClosedOff.eq (off := k0_off25 k)) (ClosedOff.eq (off := k0_off27 k 96#32)) (k0_off26_inb i k k0_h1 3) (k0_off25_inb i k k0_h1) (k0_off27_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨6, Nat.le_of_ble_eq_true rfl⟩ ⟨2, Nat.le_of_ble_eq_true rfl⟩ k.val (ClosedOff.eq (off := k0_off26 k 64#32)) (ClosedOff.eq (off := k0_off25 k)) (ClosedOff.eq (off := k0_off28 k 64#32)) (k0_off26_inb i k k0_h1 2) (k0_off25_inb i k k0_h1) (k0_off28_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨6, Nat.le_of_ble_eq_true rfl⟩ ⟨2, Nat.le_of_ble_eq_true rfl⟩ k.val (ClosedOff.eq (off := k0_off26 k 64#32)) (ClosedOff.eq (off := k0_off25 k)) (ClosedOff.eq (off := k0_off27 k 64#32)) (k0_off26_inb i k k0_h1 2) (k0_off25_inb i k k0_h1) (k0_off27_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨6, Nat.le_of_ble_eq_true rfl⟩ ⟨1, Nat.le_of_ble_eq_true rfl⟩ k.val (ClosedOff.eq (off := k0_off26 k 32#32)) (ClosedOff.eq (off := k0_off25 k)) (ClosedOff.eq (off := k0_off28 k 32#32)) (k0_off26_inb i k k0_h1 1) (k0_off25_inb i k k0_h1) (k0_off28_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨6, Nat.le_of_ble_eq_true rfl⟩ ⟨1, Nat.le_of_ble_eq_true rfl⟩ k.val (ClosedOff.eq (off := k0_off26 k 32#32)) (ClosedOff.eq (off := k0_off25 k)) (ClosedOff.eq (off := k0_off27 k 32#32)) (k0_off26_inb i k k0_h1 1) (k0_off25_inb i k k0_h1) (k0_off27_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨6, Nat.le_of_ble_eq_true rfl⟩ ⟨0, Nat.le_of_ble_eq_true rfl⟩ k.val (ClosedOff.eq (off := k0_off26 k 0#32)) (ClosedOff.eq (off := k0_off25 k)) (ClosedOff.eq (off := k0_off28 k 0#32)) (k0_off26_inb i k k0_h1 0) (k0_off25_inb i k k0_h1) (k0_off28_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨6, Nat.le_of_ble_eq_true rfl⟩ ⟨0, Nat.le_of_ble_eq_true rfl⟩ k.val (ClosedOff.eq (off := k0_off26 k 0#32)) (ClosedOff.eq (off := k0_off25 k)) (ClosedOff.eq (off := k0_off27 k 0#32)) (k0_off26_inb i k k0_h1 0) (k0_off25_inb i k k0_h1) (k0_off27_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨5, Nat.le_of_ble_eq_true rfl⟩ ⟨3, Nat.le_of_ble_eq_true rfl⟩ k.val (ClosedOff.eq (off := k0_off22 k 96#32)) (ClosedOff.eq (off := k0_off21 k)) (ClosedOff.eq (off := k0_off24 k 96#32)) (k0_off22_inb i k k0_h1 3) (k0_off21_inb i k k0_h1) (k0_off24_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨5, Nat.le_of_ble_eq_true rfl⟩ ⟨3, Nat.le_of_ble_eq_true rfl⟩ k.val (ClosedOff.eq (off := k0_off22 k 96#32)) (ClosedOff.eq (off := k0_off21 k)) (ClosedOff.eq (off := k0_off23 k 96#32)) (k0_off22_inb i k k0_h1 3) (k0_off21_inb i k k0_h1) (k0_off23_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨5, Nat.le_of_ble_eq_true rfl⟩ ⟨2, Nat.le_of_ble_eq_true rfl⟩ k.val (ClosedOff.eq (off := k0_off22 k 64#32)) (ClosedOff.eq (off := k0_off21 k)) (ClosedOff.eq (off := k0_off24 k 64#32)) (k0_off22_inb i k k0_h1 2) (k0_off21_inb i k k0_h1) (k0_off24_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨5, Nat.le_of_ble_eq_true rfl⟩ ⟨2, Nat.le_of_ble_eq_true rfl⟩ k.val (ClosedOff.eq (off := k0_off22 k 64#32)) (ClosedOff.eq (off := k0_off21 k)) (ClosedOff.eq (off := k0_off23 k 64#32)) (k0_off22_inb i k k0_h1 2) (k0_off21_inb i k k0_h1) (k0_off23_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨5, Nat.le_of_ble_eq_true rfl⟩ ⟨1, Nat.le_of_ble_eq_true rfl⟩ k.val (ClosedOff.eq (off := k0_off22 k 32#32)) (ClosedOff.eq (off := k0_off21 k)) (ClosedOff.eq (off := k0_off24 k 32#32)) (k0_off22_inb i k k0_h1 1) (k0_off21_inb i k k0_h1) (k0_off24_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨5, Nat.le_of_ble_eq_true rfl⟩ ⟨1, Nat.le_of_ble_eq_true rfl⟩ k.val (ClosedOff.eq (off := k0_off22 k 32#32)) (ClosedOff.eq (off := k0_off21 k)) (ClosedOff.eq (off := k0_off23 k 32#32)) (k0_off22_inb i k k0_h1 1) (k0_off21_inb i k k0_h1) (k0_off23_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨5, Nat.le_of_ble_eq_true rfl⟩ ⟨0, Nat.le_of_ble_eq_true rfl⟩ k.val (ClosedOff.eq (off := k0_off22 k 0#32)) (ClosedOff.eq (off := k0_off21 k)) (ClosedOff.eq (off := k0_off24 k 0#32)) (k0_off22_inb i k k0_h1 0) (k0_off21_inb i k k0_h1) (k0_off24_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨5, Nat.le_of_ble_eq_true rfl⟩ ⟨0, Nat.le_of_ble_eq_true rfl⟩ k.val (ClosedOff.eq (off := k0_off22 k 0#32)) (ClosedOff.eq (off := k0_off21 k)) (ClosedOff.eq (off := k0_off23 k 0#32)) (k0_off22_inb i k k0_h1 0) (k0_off21_inb i k k0_h1) (k0_off23_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨4, Nat.le_of_ble_eq_true rfl⟩ ⟨3, Nat.le_of_ble_eq_true rfl⟩ k.val (ClosedOff.eq (off := k0_off18 k 96#32)) (ClosedOff.eq (off := k0_off17 k)) (ClosedOff.eq (off := k0_off20 k 96#32)) (k0_off18_inb i k k0_h1 3) (k0_off17_inb i k k0_h1) (k0_off20_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨4, Nat.le_of_ble_eq_true rfl⟩ ⟨3, Nat.le_of_ble_eq_true rfl⟩ k.val (ClosedOff.eq (off := k0_off18 k 96#32)) (ClosedOff.eq (off := k0_off17 k)) (ClosedOff.eq (off := k0_off19 k 96#32)) (k0_off18_inb i k k0_h1 3) (k0_off17_inb i k k0_h1) (k0_off19_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨4, Nat.le_of_ble_eq_true rfl⟩ ⟨2, Nat.le_of_ble_eq_true rfl⟩ k.val (ClosedOff.eq (off := k0_off18 k 64#32)) (ClosedOff.eq (off := k0_off17 k)) (ClosedOff.eq (off := k0_off20 k 64#32)) (k0_off18_inb i k k0_h1 2) (k0_off17_inb i k k0_h1) (k0_off20_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨4, Nat.le_of_ble_eq_true rfl⟩ ⟨2, Nat.le_of_ble_eq_true rfl⟩ k.val (ClosedOff.eq (off := k0_off18 k 64#32)) (ClosedOff.eq (off := k0_off17 k)) (ClosedOff.eq (off := k0_off19 k 64#32)) (k0_off18_inb i k k0_h1 2) (k0_off17_inb i k k0_h1) (k0_off19_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨4, Nat.le_of_ble_eq_true rfl⟩ ⟨1, Nat.le_of_ble_eq_true rfl⟩ k.val (ClosedOff.eq (off := k0_off18 k 32#32)) (ClosedOff.eq (off := k0_off17 k)) (ClosedOff.eq (off := k0_off20 k 32#32)) (k0_off18_inb i k k0_h1 1) (k0_off17_inb i k k0_h1) (k0_off20_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨4, Nat.le_of_ble_eq_true rfl⟩ ⟨1, Nat.le_of_ble_eq_true rfl⟩ k.val (ClosedOff.eq (off := k0_off18 k 32#32)) (ClosedOff.eq (off := k0_off17 k)) (ClosedOff.eq (off := k0_off19 k 32#32)) (k0_off18_inb i k k0_h1 1) (k0_off17_inb i k k0_h1) (k0_off19_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨4, Nat.le_of_ble_eq_true rfl⟩ ⟨0, Nat.le_of_ble_eq_true rfl⟩ k.val (ClosedOff.eq (off := k0_off18 k 0#32)) (ClosedOff.eq (off := k0_off17 k)) (ClosedOff.eq (off := k0_off20 k 0#32)) (k0_off18_inb i k k0_h1 0) (k0_off17_inb i k k0_h1) (k0_off20_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨4, Nat.le_of_ble_eq_true rfl⟩ ⟨0, Nat.le_of_ble_eq_true rfl⟩ k.val (ClosedOff.eq (off := k0_off18 k 0#32)) (ClosedOff.eq (off := k0_off17 k)) (ClosedOff.eq (off := k0_off19 k 0#32)) (k0_off18_inb i k k0_h1 0) (k0_off17_inb i k k0_h1) (k0_off19_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨3, Nat.le_of_ble_eq_true rfl⟩ ⟨3, Nat.le_of_ble_eq_true rfl⟩ k.val (ClosedOff.eq (off := k0_off14 k 96#32)) (ClosedOff.eq (off := k0_off13 k)) (ClosedOff.eq (off := k0_off16 k 96#32)) (k0_off14_inb i k k0_h1 3) (k0_off13_inb i k k0_h1) (k0_off16_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨3, Nat.le_of_ble_eq_true rfl⟩ ⟨3, Nat.le_of_ble_eq_true rfl⟩ k.val (ClosedOff.eq (off := k0_off14 k 96#32)) (ClosedOff.eq (off := k0_off13 k)) (ClosedOff.eq (off := k0_off15 k 96#32)) (k0_off14_inb i k k0_h1 3) (k0_off13_inb i k k0_h1) (k0_off15_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨3, Nat.le_of_ble_eq_true rfl⟩ ⟨2, Nat.le_of_ble_eq_true rfl⟩ k.val (ClosedOff.eq (off := k0_off14 k 64#32)) (ClosedOff.eq (off := k0_off13 k)) (ClosedOff.eq (off := k0_off16 k 64#32)) (k0_off14_inb i k k0_h1 2) (k0_off13_inb i k k0_h1) (k0_off16_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨3, Nat.le_of_ble_eq_true rfl⟩ ⟨2, Nat.le_of_ble_eq_true rfl⟩ k.val (ClosedOff.eq (off := k0_off14 k 64#32)) (ClosedOff.eq (off := k0_off13 k)) (ClosedOff.eq (off := k0_off15 k 64#32)) (k0_off14_inb i k k0_h1 2) (k0_off13_inb i k k0_h1) (k0_off15_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨3, Nat.le_of_ble_eq_true rfl⟩ ⟨1, Nat.le_of_ble_eq_true rfl⟩ k.val (ClosedOff.eq (off := k0_off14 k 32#32)) (ClosedOff.eq (off := k0_off13 k)) (ClosedOff.eq (off := k0_off16 k 32#32)) (k0_off14_inb i k k0_h1 1) (k0_off13_inb i k k0_h1) (k0_off16_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨3, Nat.le_of_ble_eq_true rfl⟩ ⟨1, Nat.le_of_ble_eq_true rfl⟩ k.val (ClosedOff.eq (off := k0_off14 k 32#32)) (ClosedOff.eq (off := k0_off13 k)) (ClosedOff.eq (off := k0_off15 k 32#32)) (k0_off14_inb i k k0_h1 1) (k0_off13_inb i k k0_h1) (k0_off15_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨3, Nat.le_of_ble_eq_true rfl⟩ ⟨0, Nat.le_of_ble_eq_true rfl⟩ k.val (ClosedOff.eq (off := k0_off14 k 0#32)) (ClosedOff.eq (off := k0_off13 k)) (ClosedOff.eq (off := k0_off16 k 0#32)) (k0_off14_inb i k k0_h1 0) (k0_off13_inb i k k0_h1) (k0_off16_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨3, Nat.le_of_ble_eq_true rfl⟩ ⟨0, Nat.le_of_ble_eq_true rfl⟩ k.val (ClosedOff.eq (off := k0_off14 k 0#32)) (ClosedOff.eq (off := k0_off13 k)) (ClosedOff.eq (off := k0_off15 k 0#32)) (k0_off14_inb i k k0_h1 0) (k0_off13_inb i k k0_h1) (k0_off15_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨2, Nat.le_of_ble_eq_true rfl⟩ ⟨3, Nat.le_of_ble_eq_true rfl⟩ k.val (ClosedOff.eq (off := k0_off10 k 96#32)) (ClosedOff.eq (off := k0_off9 k)) (ClosedOff.eq (off := k0_off12 k 96#32)) (k0_off10_inb i k k0_h1 3) (k0_off9_inb i k k0_h1) (k0_off12_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨2, Nat.le_of_ble_eq_true rfl⟩ ⟨3, Nat.le_of_ble_eq_true rfl⟩ k.val (ClosedOff.eq (off := k0_off10 k 96#32)) (ClosedOff.eq (off := k0_off9 k)) (ClosedOff.eq (off := k0_off11 k 96#32)) (k0_off10_inb i k k0_h1 3) (k0_off9_inb i k k0_h1) (k0_off11_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨2, Nat.le_of_ble_eq_true rfl⟩ ⟨2, Nat.le_of_ble_eq_true rfl⟩ k.val (ClosedOff.eq (off := k0_off10 k 64#32)) (ClosedOff.eq (off := k0_off9 k)) (ClosedOff.eq (off := k0_off12 k 64#32)) (k0_off10_inb i k k0_h1 2) (k0_off9_inb i k k0_h1) (k0_off12_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨2, Nat.le_of_ble_eq_true rfl⟩ ⟨2, Nat.le_of_ble_eq_true rfl⟩ k.val (ClosedOff.eq (off := k0_off10 k 64#32)) (ClosedOff.eq (off := k0_off9 k)) (ClosedOff.eq (off := k0_off11 k 64#32)) (k0_off10_inb i k k0_h1 2) (k0_off9_inb i k k0_h1) (k0_off11_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨2, Nat.le_of_ble_eq_true rfl⟩ ⟨1, Nat.le_of_ble_eq_true rfl⟩ k.val (ClosedOff.eq (off := k0_off10 k 32#32)) (ClosedOff.eq (off := k0_off9 k)) (ClosedOff.eq (off := k0_off12 k 32#32)) (k0_off10_inb i k k0_h1 1) (k0_off9_inb i k k0_h1) (k0_off12_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨2, Nat.le_of_ble_eq_true rfl⟩ ⟨1, Nat.le_of_ble_eq_true rfl⟩ k.val (ClosedOff.eq (off := k0_off10 k 32#32)) (ClosedOff.eq (off := k0_off9 k)) (ClosedOff.eq (off := k0_off11 k 32#32)) (k0_off10_inb i k k0_h1 1) (k0_off9_inb i k k0_h1) (k0_off11_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨2, Nat.le_of_ble_eq_true rfl⟩ ⟨0, Nat.le_of_ble_eq_true rfl⟩ k.val (ClosedOff.eq (off := k0_off10 k 0#32)) (ClosedOff.eq (off := k0_off9 k)) (ClosedOff.eq (off := k0_off12 k 0#32)) (k0_off10_inb i k k0_h1 0) (k0_off9_inb i k k0_h1) (k0_off12_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨2, Nat.le_of_ble_eq_true rfl⟩ ⟨0, Nat.le_of_ble_eq_true rfl⟩ k.val (ClosedOff.eq (off := k0_off10 k 0#32)) (ClosedOff.eq (off := k0_off9 k)) (ClosedOff.eq (off := k0_off11 k 0#32)) (k0_off10_inb i k k0_h1 0) (k0_off9_inb i k k0_h1) (k0_off11_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨1, Nat.le_of_ble_eq_true rfl⟩ ⟨3, Nat.le_of_ble_eq_true rfl⟩ k.val (ClosedOff.eq (off := k0_off6 k 96#32)) (ClosedOff.eq (off := k0_off5 k)) (ClosedOff.eq (off := k0_off8 k 96#32)) (k0_off6_inb i k k0_h1 3) (k0_off5_inb i k k0_h1) (k0_off8_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨1, Nat.le_of_ble_eq_true rfl⟩ ⟨3, Nat.le_of_ble_eq_true rfl⟩ k.val (ClosedOff.eq (off := k0_off6 k 96#32)) (ClosedOff.eq (off := k0_off5 k)) (ClosedOff.eq (off := k0_off7 k 96#32)) (k0_off6_inb i k k0_h1 3) (k0_off5_inb i k k0_h1) (k0_off7_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨1, Nat.le_of_ble_eq_true rfl⟩ ⟨2, Nat.le_of_ble_eq_true rfl⟩ k.val (ClosedOff.eq (off := k0_off6 k 64#32)) (ClosedOff.eq (off := k0_off5 k)) (ClosedOff.eq (off := k0_off8 k 64#32)) (k0_off6_inb i k k0_h1 2) (k0_off5_inb i k k0_h1) (k0_off8_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨1, Nat.le_of_ble_eq_true rfl⟩ ⟨2, Nat.le_of_ble_eq_true rfl⟩ k.val (ClosedOff.eq (off := k0_off6 k 64#32)) (ClosedOff.eq (off := k0_off5 k)) (ClosedOff.eq (off := k0_off7 k 64#32)) (k0_off6_inb i k k0_h1 2) (k0_off5_inb i k k0_h1) (k0_off7_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨1, Nat.le_of_ble_eq_true rfl⟩ ⟨1, Nat.le_of_ble_eq_true rfl⟩ k.val (ClosedOff.eq (off := k0_off6 k 32#32)) (ClosedOff.eq (off := k0_off5 k)) (ClosedOff.eq (off := k0_off8 k 32#32)) (k0_off6_inb i k k0_h1 1) (k0_off5_inb i k k0_h1) (k0_off8_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨1, Nat.le_of_ble_eq_true rfl⟩ ⟨1, Nat.le_of_ble_eq_true rfl⟩ k.val (ClosedOff.eq (off := k0_off6 k 32#32)) (ClosedOff.eq (off := k0_off5 k)) (ClosedOff.eq (off := k0_off7 k 32#32)) (k0_off6_inb i k k0_h1 1) (k0_off5_inb i k k0_h1) (k0_off7_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨1, Nat.le_of_ble_eq_true rfl⟩ ⟨0, Nat.le_of_ble_eq_true rfl⟩ k.val (ClosedOff.eq (off := k0_off6 k 0#32)) (ClosedOff.eq (off := k0_off5 k)) (ClosedOff.eq (off := k0_off8 k 0#32)) (k0_off6_inb i k k0_h1 0) (k0_off5_inb i k k0_h1) (k0_off8_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨1, Nat.le_of_ble_eq_true rfl⟩ ⟨0, Nat.le_of_ble_eq_true rfl⟩ k.val (ClosedOff.eq (off := k0_off6 k 0#32)) (ClosedOff.eq (off := k0_off5 k)) (ClosedOff.eq (off := k0_off7 k 0#32)) (k0_off6_inb i k k0_h1 0) (k0_off5_inb i k k0_h1) (k0_off7_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨0, Nat.le_of_ble_eq_true rfl⟩ ⟨3, Nat.le_of_ble_eq_true rfl⟩ k.val (ClosedOff.eq (off := k0_off2 k 96#32)) (ClosedOff.eq (off := k0_off1 k)) (ClosedOff.eq (off := k0_off4 k 96#32)) (k0_off2_inb i k k0_h1 3) (k0_off1_inb i k k0_h1) (k0_off4_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨0, Nat.le_of_ble_eq_true rfl⟩ ⟨3, Nat.le_of_ble_eq_true rfl⟩ k.val (ClosedOff.eq (off := k0_off2 k 96#32)) (ClosedOff.eq (off := k0_off1 k)) (ClosedOff.eq (off := k0_off3 k 96#32)) (k0_off2_inb i k k0_h1 3) (k0_off1_inb i k k0_h1) (k0_off3_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨0, Nat.le_of_ble_eq_true rfl⟩ ⟨2, Nat.le_of_ble_eq_true rfl⟩ k.val (ClosedOff.eq (off := k0_off2 k 64#32)) (ClosedOff.eq (off := k0_off1 k)) (ClosedOff.eq (off := k0_off4 k 64#32)) (k0_off2_inb i k k0_h1 2) (k0_off1_inb i k k0_h1) (k0_off4_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨0, Nat.le_of_ble_eq_true rfl⟩ ⟨2, Nat.le_of_ble_eq_true rfl⟩ k.val (ClosedOff.eq (off := k0_off2 k 64#32)) (ClosedOff.eq (off := k0_off1 k)) (ClosedOff.eq (off := k0_off3 k 64#32)) (k0_off2_inb i k k0_h1 2) (k0_off1_inb i k k0_h1) (k0_off3_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨0, Nat.le_of_ble_eq_true rfl⟩ ⟨1, Nat.le_of_ble_eq_true rfl⟩ k.val (ClosedOff.eq (off := k0_off2 k 32#32)) (ClosedOff.eq (off := k0_off1 k)) (ClosedOff.eq (off := k0_off4 k 32#32)) (k0_off2_inb i k k0_h1 1) (k0_off1_inb i k k0_h1) (k0_off4_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨0, Nat.le_of_ble_eq_true rfl⟩ ⟨1, Nat.le_of_ble_eq_true rfl⟩ k.val (ClosedOff.eq (off := k0_off2 k 32#32)) (ClosedOff.eq (off := k0_off1 k)) (ClosedOff.eq (off := k0_off3 k 32#32)) (k0_off2_inb i k k0_h1 1) (k0_off1_inb i k k0_h1) (k0_off3_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨0, Nat.le_of_ble_eq_true rfl⟩ ⟨0, Nat.le_of_ble_eq_true rfl⟩ k.val (ClosedOff.eq (off := k0_off2 k 0#32)) (ClosedOff.eq (off := k0_off1 k)) (ClosedOff.eq (off := k0_off4 k 0#32)) (k0_off2_inb i k k0_h1 0) (k0_off1_inb i k k0_h1) (k0_off4_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨0, Nat.le_of_ble_eq_true rfl⟩ ⟨0, Nat.le_of_ble_eq_true rfl⟩ k.val (ClosedOff.eq (off := k0_off2 k 0#32)) (ClosedOff.eq (off := k0_off1 k)) (ClosedOff.eq (off := k0_off3 k 0#32)) (k0_off2_inb i k k0_h1 0) (k0_off1_inb i k k0_h1) (k0_off3_inb i k k0_h1 0) slices_S8x128_o0_0_S1x128 slices_S8x128_o1_0_S1x128 rfl rfl x), ?_⟩
  exact List.forall_mem_nil _

end Cert.Kernel.Run

end
-- ==== Proof.Bits.Wexp.lean ====
/- The weight scales, spread over the code columns. -/
module

public import proofs.«01_k».proof.Proof.Bits.RunA
public import proofs.«01_k».proof.Proof.Spec
public import Idealize.ShloMosaic.Lib.VecWindow

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec

/-- The tiles stored into the buffer of the spread scales, each a tile of the spread scales. -/
theorem wexp_pieces (c : Dev nD) (arg6 : Memref sig .tc .vmem S144x512 .fp8e4m3) (harg6 : arg6.IsWhole) (x5 : Vec F S144x512 .fp8e4m3) :
    ∀ p ∈ kernelRun0_A.sl.HS2_28 c arg6 harg6 x5, ∀ x : p.1.shape.Idx,
      p.2 x = eBuf (arg6.view.readAt (Elt F) (Rect.unit (s := S144x512) ![0, 0] S144x512.size inb_S144x512_S144x512_0_0).toLoadRect (harg6.unread x5)) (p.1.emb x) := by
  unfold kernelRun0_A.sl.HS2_28
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨27, Nat.le_of_ble_eq_true rfl⟩ (o := ![0, 384]) rfl (hx := bitsLt_fp8e4m3_f32) (ho := slices_S144x512_o0_384_S144x128) (hi := iota_S144x128_d1_w32) (h1 := natLt_1_32) (h2 := shapeCasts_S144x128_S144x128x1) (h3 := shapeCasts_S144x128x1_S144x128) (h4 := shapeCasts_S144x128_S144x128) (off := ![0, 3456]) (inb := inb_S144x3584_S144x128_0_3456) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨26, Nat.le_of_ble_eq_true rfl⟩ (o := ![0, 384]) rfl (hx := bitsLt_fp8e4m3_f32) (ho := slices_S144x512_o0_384_S144x128) (hi := iota_S144x128_d1_w32) (h1 := natLt_1_32) (h2 := shapeCasts_S144x128_S144x128x1) (h3 := shapeCasts_S144x128x1_S144x128) (h4 := shapeCasts_S144x128_S144x128) (off := ![0, 3328]) (inb := inb_S144x3584_S144x128_0_3328) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨25, Nat.le_of_ble_eq_true rfl⟩ (o := ![0, 384]) rfl (hx := bitsLt_fp8e4m3_f32) (ho := slices_S144x512_o0_384_S144x128) (hi := iota_S144x128_d1_w32) (h1 := natLt_1_32) (h2 := shapeCasts_S144x128_S144x128x1) (h3 := shapeCasts_S144x128x1_S144x128) (h4 := shapeCasts_S144x128_S144x128) (off := ![0, 3200]) (inb := inb_S144x3584_S144x128_0_3200) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨24, Nat.le_of_ble_eq_true rfl⟩ (o := ![0, 384]) rfl (hx := bitsLt_fp8e4m3_f32) (ho := slices_S144x512_o0_384_S144x128) (hi := iota_S144x128_d1_w32) (h1 := natLt_1_32) (h2 := shapeCasts_S144x128_S144x128x1) (h3 := shapeCasts_S144x128x1_S144x128) (h4 := shapeCasts_S144x128_S144x128) (off := ![0, 3072]) (inb := inb_S144x3584_S144x128_0_3072) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨23, Nat.le_of_ble_eq_true rfl⟩ (o := ![0, 256]) rfl (hx := bitsLt_fp8e4m3_f32) (ho := slices_S144x512_o0_256_S144x128) (hi := iota_S144x128_d1_w32) (h1 := natLt_1_32) (h2 := shapeCasts_S144x128_S144x128x1) (h3 := shapeCasts_S144x128x1_S144x128) (h4 := shapeCasts_S144x128_S144x128) (off := ![0, 2944]) (inb := inb_S144x3584_S144x128_0_2944) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨22, Nat.le_of_ble_eq_true rfl⟩ (o := ![0, 256]) rfl (hx := bitsLt_fp8e4m3_f32) (ho := slices_S144x512_o0_256_S144x128) (hi := iota_S144x128_d1_w32) (h1 := natLt_1_32) (h2 := shapeCasts_S144x128_S144x128x1) (h3 := shapeCasts_S144x128x1_S144x128) (h4 := shapeCasts_S144x128_S144x128) (off := ![0, 2816]) (inb := inb_S144x3584_S144x128_0_2816) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨21, Nat.le_of_ble_eq_true rfl⟩ (o := ![0, 256]) rfl (hx := bitsLt_fp8e4m3_f32) (ho := slices_S144x512_o0_256_S144x128) (hi := iota_S144x128_d1_w32) (h1 := natLt_1_32) (h2 := shapeCasts_S144x128_S144x128x1) (h3 := shapeCasts_S144x128x1_S144x128) (h4 := shapeCasts_S144x128_S144x128) (off := ![0, 2688]) (inb := inb_S144x3584_S144x128_0_2688) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨20, Nat.le_of_ble_eq_true rfl⟩ (o := ![0, 256]) rfl (hx := bitsLt_fp8e4m3_f32) (ho := slices_S144x512_o0_256_S144x128) (hi := iota_S144x128_d1_w32) (h1 := natLt_1_32) (h2 := shapeCasts_S144x128_S144x128x1) (h3 := shapeCasts_S144x128x1_S144x128) (h4 := shapeCasts_S144x128_S144x128) (off := ![0, 2560]) (inb := inb_S144x3584_S144x128_0_2560) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨19, Nat.le_of_ble_eq_true rfl⟩ (o := ![0, 256]) rfl (hx := bitsLt_fp8e4m3_f32) (ho := slices_S144x512_o0_256_S144x128) (hi := iota_S144x128_d1_w32) (h1 := natLt_1_32) (h2 := shapeCasts_S144x128_S144x128x1) (h3 := shapeCasts_S144x128x1_S144x128) (h4 := shapeCasts_S144x128_S144x128) (off := ![0, 2432]) (inb := inb_S144x3584_S144x128_0_2432) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨18, Nat.le_of_ble_eq_true rfl⟩ (o := ![0, 256]) rfl (hx := bitsLt_fp8e4m3_f32) (ho := slices_S144x512_o0_256_S144x128) (hi := iota_S144x128_d1_w32) (h1 := natLt_1_32) (h2 := shapeCasts_S144x128_S144x128x1) (h3 := shapeCasts_S144x128x1_S144x128) (h4 := shapeCasts_S144x128_S144x128) (off := ![0, 2304]) (inb := inb_S144x3584_S144x128_0_2304) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨17, Nat.le_of_ble_eq_true rfl⟩ (o := ![0, 256]) rfl (hx := bitsLt_fp8e4m3_f32) (ho := slices_S144x512_o0_256_S144x128) (hi := iota_S144x128_d1_w32) (h1 := natLt_1_32) (h2 := shapeCasts_S144x128_S144x128x1) (h3 := shapeCasts_S144x128x1_S144x128) (h4 := shapeCasts_S144x128_S144x128) (off := ![0, 2176]) (inb := inb_S144x3584_S144x128_0_2176) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨16, Nat.le_of_ble_eq_true rfl⟩ (o := ![0, 256]) rfl (hx := bitsLt_fp8e4m3_f32) (ho := slices_S144x512_o0_256_S144x128) (hi := iota_S144x128_d1_w32) (h1 := natLt_1_32) (h2 := shapeCasts_S144x128_S144x128x1) (h3 := shapeCasts_S144x128x1_S144x128) (h4 := shapeCasts_S144x128_S144x128) (off := ![0, 2048]) (inb := inb_S144x3584_S144x128_0_2048) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨15, Nat.le_of_ble_eq_true rfl⟩ (o := ![0, 128]) rfl (hx := bitsLt_fp8e4m3_f32) (ho := slices_S144x512_o0_128_S144x128) (hi := iota_S144x128_d1_w32) (h1 := natLt_1_32) (h2 := shapeCasts_S144x128_S144x128x1) (h3 := shapeCasts_S144x128x1_S144x128) (h4 := shapeCasts_S144x128_S144x128) (off := ![0, 1920]) (inb := inb_S144x3584_S144x128_0_1920) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨14, Nat.le_of_ble_eq_true rfl⟩ (o := ![0, 128]) rfl (hx := bitsLt_fp8e4m3_f32) (ho := slices_S144x512_o0_128_S144x128) (hi := iota_S144x128_d1_w32) (h1 := natLt_1_32) (h2 := shapeCasts_S144x128_S144x128x1) (h3 := shapeCasts_S144x128x1_S144x128) (h4 := shapeCasts_S144x128_S144x128) (off := ![0, 1792]) (inb := inb_S144x3584_S144x128_0_1792) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨13, Nat.le_of_ble_eq_true rfl⟩ (o := ![0, 128]) rfl (hx := bitsLt_fp8e4m3_f32) (ho := slices_S144x512_o0_128_S144x128) (hi := iota_S144x128_d1_w32) (h1 := natLt_1_32) (h2 := shapeCasts_S144x128_S144x128x1) (h3 := shapeCasts_S144x128x1_S144x128) (h4 := shapeCasts_S144x128_S144x128) (off := ![0, 1664]) (inb := inb_S144x3584_S144x128_0_1664) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨12, Nat.le_of_ble_eq_true rfl⟩ (o := ![0, 128]) rfl (hx := bitsLt_fp8e4m3_f32) (ho := slices_S144x512_o0_128_S144x128) (hi := iota_S144x128_d1_w32) (h1 := natLt_1_32) (h2 := shapeCasts_S144x128_S144x128x1) (h3 := shapeCasts_S144x128x1_S144x128) (h4 := shapeCasts_S144x128_S144x128) (off := ![0, 1536]) (inb := inb_S144x3584_S144x128_0_1536) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨11, Nat.le_of_ble_eq_true rfl⟩ (o := ![0, 128]) rfl (hx := bitsLt_fp8e4m3_f32) (ho := slices_S144x512_o0_128_S144x128) (hi := iota_S144x128_d1_w32) (h1 := natLt_1_32) (h2 := shapeCasts_S144x128_S144x128x1) (h3 := shapeCasts_S144x128x1_S144x128) (h4 := shapeCasts_S144x128_S144x128) (off := ![0, 1408]) (inb := inb_S144x3584_S144x128_0_1408) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨10, Nat.le_of_ble_eq_true rfl⟩ (o := ![0, 128]) rfl (hx := bitsLt_fp8e4m3_f32) (ho := slices_S144x512_o0_128_S144x128) (hi := iota_S144x128_d1_w32) (h1 := natLt_1_32) (h2 := shapeCasts_S144x128_S144x128x1) (h3 := shapeCasts_S144x128x1_S144x128) (h4 := shapeCasts_S144x128_S144x128) (off := ![0, 1280]) (inb := inb_S144x3584_S144x128_0_1280) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨9, Nat.le_of_ble_eq_true rfl⟩ (o := ![0, 128]) rfl (hx := bitsLt_fp8e4m3_f32) (ho := slices_S144x512_o0_128_S144x128) (hi := iota_S144x128_d1_w32) (h1 := natLt_1_32) (h2 := shapeCasts_S144x128_S144x128x1) (h3 := shapeCasts_S144x128x1_S144x128) (h4 := shapeCasts_S144x128_S144x128) (off := ![0, 1152]) (inb := inb_S144x3584_S144x128_0_1152) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨8, Nat.le_of_ble_eq_true rfl⟩ (o := ![0, 128]) rfl (hx := bitsLt_fp8e4m3_f32) (ho := slices_S144x512_o0_128_S144x128) (hi := iota_S144x128_d1_w32) (h1 := natLt_1_32) (h2 := shapeCasts_S144x128_S144x128x1) (h3 := shapeCasts_S144x128x1_S144x128) (h4 := shapeCasts_S144x128_S144x128) (off := ![0, 1024]) (inb := inb_S144x3584_S144x128_0_1024) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨7, Nat.le_of_ble_eq_true rfl⟩ (o := ![0, 0]) rfl (hx := bitsLt_fp8e4m3_f32) (ho := slices_S144x512_o0_0_S144x128) (hi := iota_S144x128_d1_w32) (h1 := natLt_1_32) (h2 := shapeCasts_S144x128_S144x128x1) (h3 := shapeCasts_S144x128x1_S144x128) (h4 := shapeCasts_S144x128_S144x128) (off := ![0, 896]) (inb := inb_S144x3584_S144x128_0_896) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨6, Nat.le_of_ble_eq_true rfl⟩ (o := ![0, 0]) rfl (hx := bitsLt_fp8e4m3_f32) (ho := slices_S144x512_o0_0_S144x128) (hi := iota_S144x128_d1_w32) (h1 := natLt_1_32) (h2 := shapeCasts_S144x128_S144x128x1) (h3 := shapeCasts_S144x128x1_S144x128) (h4 := shapeCasts_S144x128_S144x128) (off := ![0, 768]) (inb := inb_S144x3584_S144x128_0_768) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨5, Nat.le_of_ble_eq_true rfl⟩ (o := ![0, 0]) rfl (hx := bitsLt_fp8e4m3_f32) (ho := slices_S144x512_o0_0_S144x128) (hi := iota_S144x128_d1_w32) (h1 := natLt_1_32) (h2 := shapeCasts_S144x128_S144x128x1) (h3 := shapeCasts_S144x128x1_S144x128) (h4 := shapeCasts_S144x128_S144x128) (off := ![0, 640]) (inb := inb_S144x3584_S144x128_0_640) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨4, Nat.le_of_ble_eq_true rfl⟩ (o := ![0, 0]) rfl (hx := bitsLt_fp8e4m3_f32) (ho := slices_S144x512_o0_0_S144x128) (hi := iota_S144x128_d1_w32) (h1 := natLt_1_32) (h2 := shapeCasts_S144x128_S144x128x1) (h3 := shapeCasts_S144x128x1_S144x128) (h4 := shapeCasts_S144x128_S144x128) (off := ![0, 512]) (inb := inb_S144x3584_S144x128_0_512) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨3, Nat.le_of_ble_eq_true rfl⟩ (o := ![0, 0]) rfl (hx := bitsLt_fp8e4m3_f32) (ho := slices_S144x512_o0_0_S144x128) (hi := iota_S144x128_d1_w32) (h1 := natLt_1_32) (h2 := shapeCasts_S144x128_S144x128x1) (h3 := shapeCasts_S144x128x1_S144x128) (h4 := shapeCasts_S144x128_S144x128) (off := ![0, 384]) (inb := inb_S144x3584_S144x128_0_384) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨2, Nat.le_of_ble_eq_true rfl⟩ (o := ![0, 0]) rfl (hx := bitsLt_fp8e4m3_f32) (ho := slices_S144x512_o0_0_S144x128) (hi := iota_S144x128_d1_w32) (h1 := natLt_1_32) (h2 := shapeCasts_S144x128_S144x128x1) (h3 := shapeCasts_S144x128x1_S144x128) (h4 := shapeCasts_S144x128_S144x128) (off := ![0, 256]) (inb := inb_S144x3584_S144x128_0_256) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨1, Nat.le_of_ble_eq_true rfl⟩ (o := ![0, 0]) rfl (hx := bitsLt_fp8e4m3_f32) (ho := slices_S144x512_o0_0_S144x128) (hi := iota_S144x128_d1_w32) (h1 := natLt_1_32) (h2 := shapeCasts_S144x128_S144x128x1) (h3 := shapeCasts_S144x128x1_S144x128) (h4 := shapeCasts_S144x128_S144x128) (off := ![0, 128]) (inb := inb_S144x3584_S144x128_0_128) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨0, Nat.le_of_ble_eq_true rfl⟩ (o := ![0, 0]) rfl (hx := bitsLt_fp8e4m3_f32) (ho := slices_S144x512_o0_0_S144x128) (hi := iota_S144x128_d1_w32) (h1 := natLt_1_32) (h2 := shapeCasts_S144x128_S144x128x1) (h3 := shapeCasts_S144x128x1_S144x128) (h4 := shapeCasts_S144x128_S144x128) (off := ![0, 0]) (inb := inb_S144x3584_S144x128_0_0) rfl x), ?_⟩
  exact List.forall_mem_nil _

/-- Reading the buffer of the spread scales after its tiles are stored. -/
theorem wexp_read (c : Dev nD) (arg6 : Memref sig .tc .vmem S144x512 .fp8e4m3) (harg6 : arg6.IsWhole) (arg10 : Memref sig .tc .vmem S144x3584 .f32) (x5 : Vec F S144x512 .fp8e4m3)
    (f : BufTy.Contents (Elt F) arg10.view.ty) :
    arg10.view.read (Elt F) (arg10.view.writes (Elt F) f (kernelRun0_A.sl.HS2_28 c arg6 harg6 x5)) = eBuf x5 := by
  have h : arg6.view.readAt (Elt F) (Rect.unit (s := S144x512) ![0, 0] S144x512.size inb_S144x512_S144x512_0_0).toLoadRect (harg6.unread x5) = x5 :=
    (View.readAt_full arg6.view _ _).trans (harg6.read_unread x5)
  funext y
  refine (View.read_writes_apply_of_pieces _ _ _ (kernelRun0_A.sl.HS2_28 c arg6 harg6 x5) (wexp_pieces c arg6 harg6 x5) y
    (View.cover_of_tiledL (kernelRun0_A.sl.HS2_28 c arg6 harg6 x5) S144x128.size (by sl_kernel_rfl) y)).trans ?_
  rw [h]

end Cert.Kernel.Run

end
-- ==== Proof.Bits.Pieces.lean ====
/- What the body leaves in the scratch and in the output block, as one function of the staged inputs. -/
module

public import proofs.«01_k».proof.Proof.Bits.RunA
public import proofs.«01_k».proof.Proof.Bits.RunB
public import proofs.«01_k».proof.Proof.Bits.TripX
public import proofs.«01_k».proof.Proof.Bits.TripW
public import proofs.«01_k».proof.Proof.Bits.Wexp
public import proofs.«01_k».proof.Proof.Spec
public import Idealize.ShloMosaic.Lib.VecWindow

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec

/-- The global scale of a block of rows: entry `(i / 2) % 4` of the four. -/
def gOf (x0 : Vec F S4 .f32) (i : grid0.Coords) : Elt F .f32 := x0 ((Rect.unit (s := S4) (k0_off201 i) S1.size (k0_off201_inb i)).toLoadRect.idx (Shape.Idx.first (s := S1) (by decide)))

/-- The global scale of the weights. -/
def wOf (x1 : Vec F S1 .f32) : Elt F .f32 := x1 ((Rect.unit (s := S1) ![0] S1.size inb_S1_S1_0).toLoadRect.idx (Shape.Idx.first (s := S1) (by decide)))

theorem g_eq (arg1 : Memref sig .tc .smem S4 .f32) (harg1 : arg1.IsWhole) (i : grid0.Coords) (x0 : Vec F S4 .f32) :
    (arg1.view.readAt (Elt F) (Rect.unit (s := S4) (k0_off201 i) S1.size (k0_off201_inb i)).toLoadRect (harg1.unread x0) (Shape.Idx.first (s := S1) (by decide))) = gOf x0 i := congrFun (harg1.read_unread x0) _

theorem w_eq (arg2 : Memref sig .tc .smem S1 .f32) (harg2 : arg2.IsWhole) (x1 : Vec F S1 .f32) :
    (arg2.view.readAt (Elt F) (Rect.unit (s := S1) ![0] S1.size inb_S1_S1_0).toLoadRect (harg2.unread x1) (Shape.Idx.first (s := S1) (by decide))) = wOf x1 := congrFun (harg2.read_unread x1) _

/-- The 256 rows of the weights from row `256 q`. -/
def wRows (W : Vec F S2304x7168 .bf16) (q : Fin 9) : Vec F S256x7168 .bf16 :=
  fun j => W (ix2 (⟨256 * q.val + (j 0).val, by have h : (j 0).val < 256 := (j 0).isLt; omega⟩ : Fin 2304) (⟨(j 1).val, (j 1).isLt⟩ : Fin 7168))

/-- What the body leaves in the output block, from the two global scales, the decoded activations and the decoded weights. -/
def outB (g w : Elt F .f32) (X : Vec F S512x7168 .bf16) (W : Vec F S2304x7168 .bf16) : Vec F S512x2304 .bf16 :=
  fun y => k0_pay920 g w X (wRows W ⟨(y 1).val / 256, by have h : (y 1).val < 2304 := (y 1).isLt; omega⟩)
    (ix2 (⟨(y 0).val, (y 0).isLt⟩ : Fin 512) (⟨(y 1).val % 256, Nat.mod_lt _ (by decide)⟩ : Fin 256))

theorem pieceOut (q : Fin 9) (g w g' w' : Elt F .f32) (X' X : Vec F S512x7168 .bf16) (W' : Vec F S256x7168 .bf16) (W : Vec F S2304x7168 .bf16)
    (hg : g' = g) (hw : w' = w) (hX : X' = X) (hW : W' = wRows W q) {off : Fin 2 → ℕ} {inb} (h : off = ![0, 256 * q.val]) :
    ∀ x, k0_pay920 g' w' X' W' x = outB g w X W ((Rect.unit (s := S512x2304) off ![512, 256] inb).emb x) := by
  intro x
  subst hg hw hX hW
  obtain ⟨r, l, rfl⟩ : ∃ r l, x = ix2 (n0 := 512) (n1 := 256) r l := ⟨x 0, x 1, eq_ix2 x⟩
  have hq := q.isLt
  have hl := l.isLt
  rw [emb2 (n0 := 512) (n1 := 2304) _ _ h inb r l r (⟨256 * q.val + l.val, by omega⟩ : Fin 2304) (by omega) rfl]
  have e1 : (⟨(256 * q.val + l.val) / 256, by omega⟩ : Fin 9) = q := Fin.ext (by show (256 * q.val + l.val) / 256 = q.val; omega)
  have e2 : (⟨(256 * q.val + l.val) % 256, Nat.mod_lt _ (by decide)⟩ : Fin 256) = l := Fin.ext (by show (256 * q.val + l.val) % 256 = l.val; omega)
  show _ = k0_pay920 g' w' X' (wRows W (⟨(256 * q.val + l.val) / 256, by omega⟩ : Fin 9)) (ix2 r (⟨(256 * q.val + l.val) % 256, Nat.mod_lt _ (by decide)⟩ : Fin 256))
  rw [e1, e2]

theorem rows {sp : Space} (v : View sig .tc sp S2304x7168 .bf16) (f : BufTy.Contents (Elt F) v.ty) (W : Vec F S2304x7168 .bf16) {off : Fin 2 → ℕ} {inb} (q : Fin 9)
    (h : off = ![256 * q.val, 0]) (hr : v.read (Elt F) f = W) :
    v.readAt (Elt F) (Rect.unit (s := S2304x7168) off ![256, 7168] inb).toLoadRect f = wRows W q := by
  subst hr
  funext x
  obtain ⟨r, l, rfl⟩ : ∃ r l, x = ix2 (n0 := 256) (n1 := 7168) r l := ⟨x 0, x 1, eq_ix2 x⟩
  exact congrArg (v.read (Elt F) f) (emb2 (n0 := 2304) (n1 := 7168) _ _ h inb r l _ _ rfl (Nat.zero_add _).symm)

/-- The tiles stored by the first trips of the activation loop. -/
theorem xpb_pieces (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (x2 : Vec F S512x3584 .i8) (x3 : Vec F S512x512 .fp8e4m3) : ∀ n, n ≤ k0_t2_loop.trips →
    ∀ p ∈ pb_k0_t2 (F := F) Variants.none c none i arg1 harg1 arg2 harg2 arg3 harg3 arg4 harg4 arg5 harg5 arg6 harg6 arg7 harg7 arg8 harg8 arg9 harg9 arg10 harg10 (harg3.unread x2) (harg4.unread x3) n, ∀ x : p.1.shape.Idx, p.2 x = xBuf x2 x3 (p.1.emb x)
  | 0, _ => fun p hp => absurd hp List.not_mem_nil
  | n + 1, hn => by
    intro p hp
    rw [pb_k0_t2_succ Variants.none c none i arg1 harg1 arg2 harg2 arg3 harg3 arg4 harg4 arg5 harg5 arg6 harg6 arg7 harg7 arg8 harg8 arg9 harg9 arg10 harg10 (harg3.unread x2) (harg4.unread x3) ⟨n, hn⟩] at hp
    rcases List.mem_append.mp hp with hp | hp
    · intro x
      have h := tripX Variants.none c none i arg1 harg1 arg2 harg2 arg3 harg3 arg4 harg4 arg5 harg5 arg6 harg6 arg7 harg7 arg8 harg8 arg9 harg9 arg10 harg10 (harg3.unread x2) (harg4.unread x3) ⟨n, hn⟩ p hp x
      rwa [harg3.read_unread, harg4.read_unread] at h
    · exact xpb_pieces c i arg1 harg1 arg2 harg2 arg3 harg3 arg4 harg4 arg5 harg5 arg6 harg6 arg7 harg7 arg8 harg8 arg9 harg9 arg10 harg10 x2 x3 n (Nat.le_of_succ_le hn) p hp

/-- The activation scratch after its loop. -/
theorem read_xpb (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (x2 : Vec F S512x3584 .i8) (x3 : Vec F S512x512 .fp8e4m3) :
    (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) = xBuf x2 x3 := by
  refine (View.readAt_full arg8.view _ _).trans ?_
  funext y
  exact View.read_writes_apply_of_pieces _ _ _ _ (xpb_pieces c i arg1 harg1 arg2 harg2 arg3 harg3 arg4 harg4 arg5 harg5 arg6 harg6 arg7 harg7 arg8 harg8 arg9 harg9 arg10 harg10 x2 x3 _ (Nat.le_of_ble_eq_true (by sl_kernel_rfl))) y
    (View.cover_of_tiledL (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) S32x128.size (by sl_kernel_rfl) y)

/-- The tiles stored by the first trips of the weight loop. -/
theorem wpb_pieces (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : cond0_0 i) (x4 : Vec F S2304x3584 .i8) (x5 : Vec F S144x512 .fp8e4m3) : ∀ n, n ≤ k0_t1_loop.trips →
    ∀ p ∈ pb_k0_t1 (F := F) Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) n, ∀ x : p.1.shape.Idx, p.2 x = wBuf x4 x5 (p.1.emb x)
  | 0, _ => fun p hp => absurd hp List.not_mem_nil
  | n + 1, hn => by
    intro p hp
    rw [pb_k0_t1_succ Variants.none c none i arg1 harg1 arg2 harg2 arg3 harg3 arg4 harg4 arg5 harg5 arg6 harg6 arg7 harg7 arg8 harg8 arg9 harg9 arg10 harg10 hc0 (harg5.unread x4) _ ⟨n, hn⟩] at hp
    rcases List.mem_append.mp hp with hp | hp
    · intro x
      have h := tripW Variants.none c none i arg1 harg1 arg2 harg2 arg3 harg3 arg4 harg4 arg5 harg5 arg6 harg6 arg7 harg7 arg8 harg8 arg9 harg9 arg10 harg10 hc0 (harg5.unread x4) _ ⟨n, hn⟩ p hp x
      rwa [harg5.read_unread, wexp_read] at h
    · exact wpb_pieces c i arg1 harg1 arg2 harg2 arg3 harg3 arg4 harg4 arg5 harg5 arg6 harg6 arg7 harg7 arg8 harg8 arg9 harg9 arg10 harg10 hc0 x4 x5 n (Nat.le_of_succ_le hn) p hp

/-- The weight scratch after its loop. -/
theorem read_wpb (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : cond0_0 i) (x4 : Vec F S2304x3584 .i8) (x5 : Vec F S144x512 .fp8e4m3) (f : BufTy.Contents (Elt F) arg9.view.ty) :
    arg9.view.read (Elt F) (arg9.view.writes (Elt F) f (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32))) = wBuf x4 x5 := by
  funext y
  exact View.read_writes_apply_of_pieces _ _ _ _ (wpb_pieces c i arg1 harg1 arg2 harg2 arg3 harg3 arg4 harg4 arg5 harg5 arg6 harg6 arg7 harg7 arg8 harg8 arg9 harg9 arg10 harg10 hc0 x4 x5 _ (Nat.le_of_ble_eq_true (by sl_kernel_rfl))) y
    (View.cover_of_tiledL (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) S32x128.size (by sl_kernel_rfl) y)

/-- What the first point leaves in the weight scratch. -/
theorem scratch_A (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : cond0_0 i) (x0 : Vec F S4 .f32) (x1 : Vec F S1 .f32) (x2 : Vec F S512x3584 .i8) (x3 : Vec F S512x512 .fp8e4m3) (x4 : Vec F S2304x3584 .i8) (x5 : Vec F S144x512 .fp8e4m3) (f : BufTy.Contents (Elt F) arg9.view.ty) :
    arg9.view.read (Elt F) (arg9.view.writes (Elt F) f (kernelRun0_A c i arg1 harg1 arg2 harg2 arg3 harg3 arg4 harg4 arg5 harg5 arg6 harg6 arg7 harg7 arg8 harg8 arg9 harg9 arg10 harg10 hc0 x0 x1 x2 x3 x4 x5).2.1) = wBuf x4 x5 := by
  unfold kernelRun0_A
  dsimp only
  exact read_wpb c i arg1 harg1 arg2 harg2 arg3 harg3 arg4 harg4 arg5 harg5 arg6 harg6 arg7 harg7 arg8 harg8 arg9 harg9 arg10 harg10 hc0 x4 x5 f

theorem out_pieces_A (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : cond0_0 i) (x0 : Vec F S4 .f32) (x1 : Vec F S1 .f32) (x2 : Vec F S512x3584 .i8) (x3 : Vec F S512x512 .fp8e4m3) (x4 : Vec F S2304x3584 .i8) (x5 : Vec F S144x512 .fp8e4m3) :
    ∀ p ∈ (kernelRun0_A c i arg1 harg1 arg2 harg2 arg3 harg3 arg4 harg4 arg5 harg5 arg6 harg6 arg7 harg7 arg8 harg8 arg9 harg9 arg10 harg10 hc0 x0 x1 x2 x3 x4 x5).1, ∀ x : p.1.shape.Idx, p.2 x = outB (gOf x0 i) (wOf x1) (xBuf x2 x3) (wBuf x4 x5) (p.1.emb x) := by
  unfold kernelRun0_A
  dsimp only
  refine List.forall_mem_cons.2 ⟨fun x => (congrFun (by sl_kernel_rfl) x).trans (pieceOut (F := F) ⟨8, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![2048, 0] ![256, 7168] inb_S2304x7168_S256x7168_2048_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![2048, 0]) (inb := inb_S2304x7168_S256x7168_2048_0) ⟨8, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 2048]) (inb := inb_S512x2304_S512x256_0_2048) rfl x), ?_⟩
  refine List.forall_mem_cons.2 ⟨fun x => (congrFun (by sl_kernel_rfl) x).trans (pieceOut (F := F) ⟨7, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![1792, 0] ![256, 7168] inb_S2304x7168_S256x7168_1792_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![1792, 0]) (inb := inb_S2304x7168_S256x7168_1792_0) ⟨7, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 1792]) (inb := inb_S512x2304_S512x256_0_1792) rfl x), ?_⟩
  refine List.forall_mem_cons.2 ⟨fun x => (congrFun (by sl_kernel_rfl) x).trans (pieceOut (F := F) ⟨6, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![1536, 0] ![256, 7168] inb_S2304x7168_S256x7168_1536_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![1536, 0]) (inb := inb_S2304x7168_S256x7168_1536_0) ⟨6, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 1536]) (inb := inb_S512x2304_S512x256_0_1536) rfl x), ?_⟩
  refine List.forall_mem_cons.2 ⟨fun x => (congrFun (by sl_kernel_rfl) x).trans (pieceOut (F := F) ⟨5, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![1280, 0] ![256, 7168] inb_S2304x7168_S256x7168_1280_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![1280, 0]) (inb := inb_S2304x7168_S256x7168_1280_0) ⟨5, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 1280]) (inb := inb_S512x2304_S512x256_0_1280) rfl x), ?_⟩
  refine List.forall_mem_cons.2 ⟨fun x => (congrFun (by sl_kernel_rfl) x).trans (pieceOut (F := F) ⟨4, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![1024, 0] ![256, 7168] inb_S2304x7168_S256x7168_1024_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![1024, 0]) (inb := inb_S2304x7168_S256x7168_1024_0) ⟨4, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 1024]) (inb := inb_S512x2304_S512x256_0_1024) rfl x), ?_⟩
  refine List.forall_mem_cons.2 ⟨fun x => (congrFun (by sl_kernel_rfl) x).trans (pieceOut (F := F) ⟨3, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![768, 0] ![256, 7168] inb_S2304x7168_S256x7168_768_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![768, 0]) (inb := inb_S2304x7168_S256x7168_768_0) ⟨3, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 768]) (inb := inb_S512x2304_S512x256_0_768) rfl x), ?_⟩
  refine List.forall_mem_cons.2 ⟨fun x => (congrFun (by sl_kernel_rfl) x).trans (pieceOut (F := F) ⟨2, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![512, 0] ![256, 7168] inb_S2304x7168_S256x7168_512_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![512, 0]) (inb := inb_S2304x7168_S256x7168_512_0) ⟨2, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 512]) (inb := inb_S512x2304_S512x256_0_512) rfl x), ?_⟩
  refine List.forall_mem_cons.2 ⟨fun x => (congrFun (by sl_kernel_rfl) x).trans (pieceOut (F := F) ⟨1, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![256, 0] ![256, 7168] inb_S2304x7168_S256x7168_256_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![256, 0]) (inb := inb_S2304x7168_S256x7168_256_0) ⟨1, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 256]) (inb := inb_S512x2304_S512x256_0_256) rfl x), ?_⟩
  refine List.forall_mem_cons.2 ⟨fun x => (congrFun (by sl_kernel_rfl) x).trans (pieceOut (F := F) ⟨0, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![0, 0] ![256, 7168] inb_S2304x7168_S256x7168_0_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![0, 0]) (inb := inb_S2304x7168_S256x7168_0_0) ⟨0, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 0]) (inb := inb_S512x2304_S512x256_0_0) rfl x), ?_⟩
  exact List.forall_mem_nil _

/-- What the first point leaves in the output block. -/
theorem out_A (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : cond0_0 i) (x0 : Vec F S4 .f32) (x1 : Vec F S1 .f32) (x2 : Vec F S512x3584 .i8) (x3 : Vec F S512x512 .fp8e4m3) (x4 : Vec F S2304x3584 .i8) (x5 : Vec F S144x512 .fp8e4m3) (f : BufTy.Contents (Elt F) arg7.view.ty) :
    arg7.view.read (Elt F) (arg7.view.writes (Elt F) f (kernelRun0_A c i arg1 harg1 arg2 harg2 arg3 harg3 arg4 harg4 arg5 harg5 arg6 harg6 arg7 harg7 arg8 harg8 arg9 harg9 arg10 harg10 hc0 x0 x1 x2 x3 x4 x5).1) = outB (gOf x0 i) (wOf x1) (xBuf x2 x3) (wBuf x4 x5) := by
  funext y
  exact View.read_writes_apply_of_pieces _ _ _ _ (out_pieces_A c i arg1 harg1 arg2 harg2 arg3 harg3 arg4 harg4 arg5 harg5 arg6 harg6 arg7 harg7 arg8 harg8 arg9 harg9 arg10 harg10 hc0 x0 x1 x2 x3 x4 x5) y
    (View.cover_of_tiledL (kernelRun0_A c i arg1 harg1 arg2 harg2 arg3 harg3 arg4 harg4 arg5 harg5 arg6 harg6 arg7 harg7 arg8 harg8 arg9 harg9 arg10 harg10 hc0 x0 x1 x2 x3 x4 x5).1 S512x256.size (by sl_kernel_rfl) y)

theorem out_pieces_B (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : ¬cond0_0 i) (x0 : Vec F S4 .f32) (x1 : Vec F S1 .f32) (x2 : Vec F S512x3584 .i8) (x3 : Vec F S512x512 .fp8e4m3) (x4 : Vec F S2304x3584 .i8) (x5 : Vec F S144x512 .fp8e4m3) (xs1 : Vec F S2304x7168 .bf16) :
    ∀ p ∈ (kernelRun0_B c i arg1 harg1 arg2 harg2 arg3 harg3 arg4 harg4 arg5 harg5 arg6 harg6 arg7 harg7 arg8 harg8 arg9 harg9 arg10 harg10 hc0 x0 x1 x2 x3 x4 x5 xs1).1, ∀ x : p.1.shape.Idx, p.2 x = outB (gOf x0 i) (wOf x1) (xBuf x2 x3) xs1 (p.1.emb x) := by
  unfold kernelRun0_B
  dsimp only
  refine List.forall_mem_cons.2 ⟨fun x => (congrFun (by sl_kernel_rfl) x).trans (pieceOut (F := F) ⟨8, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![2048, 0] ![256, 7168] inb_S2304x7168_S256x7168_2048_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![2048, 0]) (inb := inb_S2304x7168_S256x7168_2048_0) ⟨8, Nat.le_of_ble_eq_true rfl⟩ rfl (harg9.read_unread xs1)) (off := ![0, 2048]) (inb := inb_S512x2304_S512x256_0_2048) rfl x), ?_⟩
  refine List.forall_mem_cons.2 ⟨fun x => (congrFun (by sl_kernel_rfl) x).trans (pieceOut (F := F) ⟨7, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![1792, 0] ![256, 7168] inb_S2304x7168_S256x7168_1792_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![1792, 0]) (inb := inb_S2304x7168_S256x7168_1792_0) ⟨7, Nat.le_of_ble_eq_true rfl⟩ rfl (harg9.read_unread xs1)) (off := ![0, 1792]) (inb := inb_S512x2304_S512x256_0_1792) rfl x), ?_⟩
  refine List.forall_mem_cons.2 ⟨fun x => (congrFun (by sl_kernel_rfl) x).trans (pieceOut (F := F) ⟨6, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![1536, 0] ![256, 7168] inb_S2304x7168_S256x7168_1536_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![1536, 0]) (inb := inb_S2304x7168_S256x7168_1536_0) ⟨6, Nat.le_of_ble_eq_true rfl⟩ rfl (harg9.read_unread xs1)) (off := ![0, 1536]) (inb := inb_S512x2304_S512x256_0_1536) rfl x), ?_⟩
  refine List.forall_mem_cons.2 ⟨fun x => (congrFun (by sl_kernel_rfl) x).trans (pieceOut (F := F) ⟨5, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![1280, 0] ![256, 7168] inb_S2304x7168_S256x7168_1280_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![1280, 0]) (inb := inb_S2304x7168_S256x7168_1280_0) ⟨5, Nat.le_of_ble_eq_true rfl⟩ rfl (harg9.read_unread xs1)) (off := ![0, 1280]) (inb := inb_S512x2304_S512x256_0_1280) rfl x), ?_⟩
  refine List.forall_mem_cons.2 ⟨fun x => (congrFun (by sl_kernel_rfl) x).trans (pieceOut (F := F) ⟨4, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![1024, 0] ![256, 7168] inb_S2304x7168_S256x7168_1024_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![1024, 0]) (inb := inb_S2304x7168_S256x7168_1024_0) ⟨4, Nat.le_of_ble_eq_true rfl⟩ rfl (harg9.read_unread xs1)) (off := ![0, 1024]) (inb := inb_S512x2304_S512x256_0_1024) rfl x), ?_⟩
  refine List.forall_mem_cons.2 ⟨fun x => (congrFun (by sl_kernel_rfl) x).trans (pieceOut (F := F) ⟨3, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![768, 0] ![256, 7168] inb_S2304x7168_S256x7168_768_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![768, 0]) (inb := inb_S2304x7168_S256x7168_768_0) ⟨3, Nat.le_of_ble_eq_true rfl⟩ rfl (harg9.read_unread xs1)) (off := ![0, 768]) (inb := inb_S512x2304_S512x256_0_768) rfl x), ?_⟩
  refine List.forall_mem_cons.2 ⟨fun x => (congrFun (by sl_kernel_rfl) x).trans (pieceOut (F := F) ⟨2, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![512, 0] ![256, 7168] inb_S2304x7168_S256x7168_512_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![512, 0]) (inb := inb_S2304x7168_S256x7168_512_0) ⟨2, Nat.le_of_ble_eq_true rfl⟩ rfl (harg9.read_unread xs1)) (off := ![0, 512]) (inb := inb_S512x2304_S512x256_0_512) rfl x), ?_⟩
  refine List.forall_mem_cons.2 ⟨fun x => (congrFun (by sl_kernel_rfl) x).trans (pieceOut (F := F) ⟨1, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![256, 0] ![256, 7168] inb_S2304x7168_S256x7168_256_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![256, 0]) (inb := inb_S2304x7168_S256x7168_256_0) ⟨1, Nat.le_of_ble_eq_true rfl⟩ rfl (harg9.read_unread xs1)) (off := ![0, 256]) (inb := inb_S512x2304_S512x256_0_256) rfl x), ?_⟩
  refine List.forall_mem_cons.2 ⟨fun x => (congrFun (by sl_kernel_rfl) x).trans (pieceOut (F := F) ⟨0, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![0, 0] ![256, 7168] inb_S2304x7168_S256x7168_0_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![0, 0]) (inb := inb_S2304x7168_S256x7168_0_0) ⟨0, Nat.le_of_ble_eq_true rfl⟩ rfl (harg9.read_unread xs1)) (off := ![0, 0]) (inb := inb_S512x2304_S512x256_0_0) rfl x), ?_⟩
  exact List.forall_mem_nil _

/-- What a later point leaves in the output block, from the weights in the scratch. -/
theorem out_B (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : ¬cond0_0 i) (x0 : Vec F S4 .f32) (x1 : Vec F S1 .f32) (x2 : Vec F S512x3584 .i8) (x3 : Vec F S512x512 .fp8e4m3) (x4 : Vec F S2304x3584 .i8) (x5 : Vec F S144x512 .fp8e4m3) (xs1 : Vec F S2304x7168 .bf16) (f : BufTy.Contents (Elt F) arg7.view.ty) :
    arg7.view.read (Elt F) (arg7.view.writes (Elt F) f (kernelRun0_B c i arg1 harg1 arg2 harg2 arg3 harg3 arg4 harg4 arg5 harg5 arg6 harg6 arg7 harg7 arg8 harg8 arg9 harg9 arg10 harg10 hc0 x0 x1 x2 x3 x4 x5 xs1).1) = outB (gOf x0 i) (wOf x1) (xBuf x2 x3) xs1 := by
  funext y
  exact View.read_writes_apply_of_pieces _ _ _ _ (out_pieces_B c i arg1 harg1 arg2 harg2 arg3 harg3 arg4 harg4 arg5 harg5 arg6 harg6 arg7 harg7 arg8 harg8 arg9 harg9 arg10 harg10 hc0 x0 x1 x2 x3 x4 x5 xs1) y
    (View.cover_of_tiledL (kernelRun0_B c i arg1 harg1 arg2 harg2 arg3 harg3 arg4 harg4 arg5 harg5 arg6 harg6 arg7 harg7 arg8 harg8 arg9 harg9 arg10 harg10 hc0 x0 x1 x2 x3 x4 x5 xs1).1 S512x256.size (by sl_kernel_rfl) y)

end Cert.Kernel.Run

end
-- ==== Proof.Bits.Run.lean ====
/- The run of the kernel and its frame. -/
module

public import proofs.«01_k».proof.Proof.Bits.Pieces
public import Idealize.ShloMosaic.Lib.Claim

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec
open Idealize.ShloMosaic.Pipeline (BodyObligationLoose)

variable (m : (ℓ : Loc nD τ sig) → Buf (Elt F) ℓ) (ρ : Dev nD → PrngReg)

/-! ## The scale blocks past their arrays' end

The two windows of block scales are wider than their arrays: columns 448 to 511 of the staged block hold words nothing
names. No decoded entry reads them. -/

/-- The word the proof fills those columns with. -/
def fz : F .fp8e4m3 := Scalar.ofBits .fp8e4m3 0#8

theorem moved3 (t : Fin cfg0.N) (r : Fin 512) (k : Fin 512) (hk : k.val < 448) : win0_3.moved (grid0.coords t) (ix2 r k) = true := by
  refine (win0_3.moved_iff _ _).mpr fun a => ?_
  have ht : t.val < 16 := Nat.lt_of_lt_of_eq t.isLt N_0
  have e0 : (grid0.coords t 0).val = t.val / 1 % 16 := Pipeline.Grid.coords_val t 0 (by decide) rfl
  match a with
  | ⟨0, _⟩ =>
    show r.val < (Pipeline.Clip.of ((BitVec.ofNat 32 (grid0.coords t 0).val).toNat) 512 8192).extent 512
    have e : (BitVec.ofNat 32 (grid0.coords t 0).val).toNat = t.val := by rw [e0, BitVec.toNat_ofNat]; omega
    rw [e]; unfold Pipeline.Clip.of
    rw [if_pos (by omega)]; exact r.isLt
  | ⟨1, _⟩ => exact hk

theorem moved5 (t : Fin cfg0.N) (r : Fin 144) (k : Fin 512) (hk : k.val < 448) : win0_5.moved (grid0.coords t) (ix2 r k) = true := by
  refine (win0_5.moved_iff _ _).mpr fun a => ?_
  match a with
  | ⟨0, _⟩ => exact r.isLt
  | ⟨1, _⟩ => exact hk

theorem blk_lt (c : Fin 3584) : (blk c).val < 448 := by
  have := c.isLt
  show c.val / 8 < 448
  omega

/-- The decoded activations do not depend on what the scale block holds past the array's end. -/
theorem xBuf_fill (t : Fin cfg0.N) (x : Vec F S512x3584 .i8) (d d' : S512x512.Idx → F .fp8e4m3) (g) :
    xBuf x (win0_3.fill (grid0.coords t) d g) = xBuf x (win0_3.fill (grid0.coords t) d' g) := by
  funext y
  unfold xBuf
  have h := moved3 t (y 0) (blk (col (y 1))) (blk_lt _)
  unfold Window.fill
  rw [dif_pos h, dif_pos h]

/-- Nor do the decoded weights. -/
theorem wBuf_fill (t : Fin cfg0.N) (w : Vec F S2304x3584 .i8) (d d' : S144x512.Idx → F .fp8e4m3) (g) :
    wBuf w (win0_5.fill (grid0.coords t) d g) = wBuf w (win0_5.fill (grid0.coords t) d' g) := by
  funext y
  have h : ∀ r, win0_5.fill (grid0.coords t) d g (ix2 r (blk (col (y 1)))) = win0_5.fill (grid0.coords t) d' g (ix2 r (blk (col (y 1)))) := fun r => by
    have h := moved5 t r (blk (col (y 1))) (blk_lt _)
    unfold Window.fill
    rw [dif_pos h, dif_pos h]
  exact congrArg (fun s => wEnt (nib (y 1) (w (ix2 (y 0) (col (y 1))))) (wScl s)) (h _)

/-! ## The proof data -/

/-- The first point. -/
def t00 : Fin cfg0.N := ⟨0, by rw [show cfg0.N = 16 from N_0]; decide⟩

/-- The activations' scale block at a point. -/
def xs3 (c : Dev nD) (t : Fin cfg0.N) : S512x512.Idx → F .fp8e4m3 := win0_3.fill (grid0.coords t) (fun _ => fz) (iblk m c 3 t)

/-- The weights' scale block. -/
def ws5 (c : Dev nD) (t : Fin cfg0.N) : S144x512.Idx → F .fp8e4m3 := win0_5.fill (grid0.coords t) (fun _ => fz) (iblk m c 5 t)

/-- The decoded weights. -/
def W0 (c : Dev nD) : Vec F S2304x7168 .bf16 := wBuf (iblk m c 4 t00) (ws5 m c t00)

/-- The output block at a point. -/
def O6 (c : Dev nD) (t : Fin cfg0.N) : Vec F S512x2304 .bf16 :=
  outB (gOf (iblk m c 0 t) (grid0.coords t)) (wOf (iblk m c 1 t)) (xBuf (iblk m c 2 t) (xs3 m c t)) (W0 m c)

/-- The invariant before position `n`: at first every scratch at anything; afterwards the weight scratch at the decoded weights. -/
def PhiS (c : Dev nD) : ℕ → sProp 𝕄
  | 0 => Pipeline.ΦA spec0 c
  | n + 1 => iprop(iprop((∃ d, owns (c : Thread nD τ) scM0_0 fullShare d) ∗ owns (c : Thread nD τ) scM0_1 fullShare (W0 m c) ∗ (∃ d, owns (c : Thread nD τ) scM0_2 fullShare d)) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop((∃ d, owns (c : Thread nD τ) scM0_0 fullShare d) ∗ owns (c : Thread nD τ) scM0_1 fullShare (W0 m c) ∗ (∃ d, owns (c : Thread nD τ) scM0_2 fullShare d)) ∗ (∃ r, prngReg c r)) := rfl

theorem PhiS_pos (c : Dev nD) (n : ℕ) (hz : n ≠ 0) :
    PhiS m c n = iprop(iprop((∃ d, owns (c : Thread nD τ) scM0_0 fullShare d) ∗ owns (c : Thread nD τ) scM0_1 fullShare (W0 m c) ∗ (∃ d, owns (c : Thread nD τ) scM0_2 fullShare d)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => xs3 m c t
    | ⟨4, _⟩ => iblk m c 4 t
    | ⟨5, _⟩ => ws5 m c t
    | ⟨6, _⟩ => O6 m c t
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = xs3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = ws5 m c t := by dsimp only [dats]
theorem after0_6 (c : Dev nD) (t : Fin cfg0.N) : (dats m 0 c).after 6 t = O6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_4 (c : Dev nD) (t : Fin cfg0.N) (d) : (dats m 0 c).before 4 t d = iblk m c 4 t :=
  before0_4_of m (dats m 0 c) (A_eq m c 4) (after0_4 m c) t d

theorem clip3 (t t' : Fin cfg0.N) (h : (cfg0.win 3).index t = (cfg0.win 3).index t') :
    (cfg0.win 3).clip (cfg0.grid.coords t) = (cfg0.win 3).clip (cfg0.grid.coords t') :=
  congrArg (fun ix : Fin 2 → ℕ => fun a => Pipeline.Clip.of (ix a) (S512x512.size a) (S8192x448.size a)) h

/-- The activations' scale block is staged at every point: the array's columns, and anything past them. -/
theorem before0_3 (c : Dev nD) (t : Fin cfg0.N) (d) : (dats m 0 c).before 3 t d = win0_3.fill (grid0.coords t) d (iblk m c 3 t) :=
  ((dats m 0 c).before_in_eq_fetched 3 rfl (fun _ => rfl) clip3
    (fun t => by rw [after0_3]; exact (win0_3.cut_fill _ _ _).trans (by unfold Dat.blockOf iblk; rw [A_eq])) t d).trans
    (by unfold Dat.fetched Dat.blockOf iblk; rw [A_eq]; try rfl)

/-- The weights' scale block likewise, fetched once and kept. -/
theorem before0_5 (c : Dev nD) (t : Fin cfg0.N) (d) : (dats m 0 c).before 5 t d = win0_5.fill (grid0.coords t) d (iblk m c 5 t) :=
  ((dats m 0 c).before_in_eq_fetched 5 rfl (fun _ => rfl) (fun _ _ _ => rfl)
    (fun t => by rw [after0_5]; exact (win0_5.cut_fill _ _ _).trans (by unfold Dat.blockOf iblk; rw [A_eq])) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns: the two scale blocks stated on the array's columns only. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare (win0_3.fill (grid0.coords t) d (win0_3.cut (grid0.coords t) ((dats m 0 c).after 3 t))))
    ∗ owns (c : Thread nD τ) (ms0_4 t) fullShare ((dats m 0 c).after 4 t)
    ∗ (∃ d, owns (c : Thread nD τ) (ms0_5 t) fullShare (win0_5.fill (grid0.coords t) d (win0_5.cut (grid0.coords t) ((dats m 0 c).after 5 t))))
    ∗ owns (c : Thread nD τ) (ms0_6 t) fullShare ((dats m 0 c).after 6 t))

theorem cut_xs3 (c : Dev nD) (t : Fin cfg0.N) : win0_3.cut (grid0.coords t) (xs3 m c t) = iblk m c 3 t := win0_3.cut_fill _ _ _
theorem cut_ws5 (c : Dev nD) (t : Fin cfg0.N) : win0_5.cut (grid0.coords t) (ws5 m c t) = iblk m c 5 t := win0_5.cut_fill _ _ _

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, cut_xs3, cut_ws5]
  rw [show (dats m 0 c).Φ t.succ = PhiS m c (t.val + 1) from rfl, PhiS_succ]
  have hN : t.val < 16 := lt_of_lt_of_eq t.isLt (show cfg0.N = 16 from N_0)
  by_cases h0 : t.val % 16 = 0
  · by_cases hz : t.val = 0
    · have hW : ∀ d5, wBuf (iblk m c 4 t) (win0_5.fill (grid0.coords t) d5 (iblk m c 5 t)) = W0 m c := fun d5 => by
        obtain rfl : t = t00 := Fin.ext hz
        exact wBuf_fill _ _ _ _ _
      rw [PhiS_castSucc m c t, PhiS_zero m c _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (win0_3.fill (grid0.coords t) d3 (iblk m c 3 t)) (iblk m c 4 t) (win0_5.fill (grid0.coords t) d5 (iblk m c 5 t))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, HS0, ⟨%es1, HS1⟩, HS2⟩
      isplitl [HS0 HS1 HS2 Hg]
      · isplitl [HS0 HS1 HS2]
        · isplitl [HS0]
          · iexact HS0
          isplitl [HS1]
          · unfold owns; iexists _; isplitr
            swap; · iexact HS1
            ipureintro; exact (scratch_A c _ _ _ _ _ _ _ _ _ _ _ _ _ _ _ _ _ _ _ _ _ _ _ _ _ _ _ _ _).trans (hW d5)
          iexact HS2
        iexact Hg
      isplitl [Ho]; · iexact Ho
      isplitl [H0]; · iexact H0
      isplitl [H1]; · iexact H1
      isplitl [H2]; · iexact H2
      isplitl [H3]; · iexists d3; iexact H3
      isplitl [H4]; · iexact H4
      isplitl [H5]; · iexists d5; iexact H5
      unfold owns; iexists _; isplitr
      swap; · iexact H6
      ipureintro; refine (out_A c _ _ _ _ _ _ _ _ _ _ _ _ _ _ _ _ _ _ _ _ _ _ _ _ _ _ _ _ _).trans ?_; rw [hW d5]; exact congrArg (fun X => outB _ _ X _) (xBuf_fill t _ d3 (fun _ => fz) _)
    · exfalso; omega
  · by_cases hz : t.val = 0
    · exfalso; omega
    · rw [PhiS_castSucc m c t, PhiS_pos m c _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (win0_3.fill (grid0.coords t) d3 (iblk m c 3 t)) (iblk m c 4 t) (win0_5.fill (grid0.coords t) d5 (iblk m c 5 t)) (W0 m c)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexists d3; iexact H3
      isplitl [H4]; · iexact H4
      isplitl [H5]; · iexists d5; iexact H5
      unfold owns; iexists _; isplitr
      swap; · iexact H6
      ipureintro; refine (out_B c _ _ _ _ _ _ _ _ _ _ _ _ _ _ _ _ _ _ _ _ _ _ _ _ _ _ _ _ _ _).trans ?_; exact congrArg (fun X => outB _ _ X _) (xBuf_fill t _ d3 (fun _ => fz) _)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2⟩, Hg⟩
  isplitl [HS0 HS1 HS2]
  · isplitl [HS0]
    · iexact HS0
    isplitl [HS1]
    · iexists _; iexact HS1
    iexact HS2
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- The run: every weakly fair execution ends, in a state the library computes from the proof data, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel.Run

end
-- ==== Proof.Ideal.Runs.lean ====
/- What the runs of the body share: the branch condition in closed form, the staging and scratch memrefs, and the
   region's invariant with the scratch buffers as memrefs. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## The kernel body on any staging memrefs: a subtype the run finds -/

/-- One staging buffer of output window 6, through which its contents are stated (`View.read_writes_of_cover`: the
    choice does not matter). -/
abbrev VO0_6 : View sig .tc .vmem S512x2304 .bf16 := (Memref.whole cc0_stg6_0 : Memref sig .tc .vmem S512x2304 .bf16).view
/-- Each window's current staging memref at point `t`, spelled as the pipeline passes it (`bodyAt0`), and its wholeness. -/
abbrev ms0_0 (t : Fin cfg0.N) : Memref sig .tc .smem S4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x3584 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2304x3584 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S144x512 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2304 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x7168 .bf16 := Memref.whole cc0_scratch0
abbrev scM0_1 : Memref sig .tc .vmem S2304x7168 .bf16 := Memref.whole cc0_scratch1
abbrev scM0_2 : Memref sig .tc .vmem S144x3584 .f32 := Memref.whole cc0_scratch2
/-- The scratch `arg9` the kernel carries between points, as a view: what it holds is stated through it. -/
abbrev VS0_1 : View sig .tc .vmem S2304x7168 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Run

end
-- ==== Proof.Ideal.RunA.lean ====
/- The body at the first grid point, where the weights are decoded. -/
module

public import proofs.«01_k».proof.Proof.Ideal.Runs

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option backward.proofsInPublic true in
set_option maxHeartbeats 1072000 in
/-- The pieces that the body's stores leave in the output's staging buffer and in the weight scratch, last first, with
    the proof that the body runs from the staged inputs to a state with exactly these pieces written. Case A: the weights are
    decoded at this point. -/
noncomputable def kernelRun0_A (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : cond0_0 i)
    (x0 : Vec F S4 .f32) (x1 : Vec F S1 .f32) (x2 : Vec F S512x3584 .i8) (x3 : Vec F S512x512 .fp8e4m3) (x4 : Vec F S2304x3584 .i8) (x5 : Vec F S144x512 .fp8e4m3) :
    Σ' (L6 : List (View.Piece (Elt F) S512x2304 .bf16)), { LS1 : List (View.Piece (Elt F) S2304x7168 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ d, owns (c : Thread nD τ) arg8 fullShare d) ∗ (∃ f, arg9.view.loc (c : Thread nD τ) ↦[arg9.view.set]{fullShare} arg9.view.writes (Elt F) f LS1) ∗ (∃ d, owns (c : Thread nD τ) arg10 fullShare d)) -∗ K ⟨⟩))
          ⊢ wp frame (wpE (defs₀ (F := F)) Variants.none c none) E (cc0_nvfp4_linear i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0_nvfp4_linear_eq_skeleton]; unfold cc0_nvfp4_linear_skel
    simp only [k0_part189_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part190_eq_skeleton, k0_part191_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    have hrd0 : ∀ (𝒱 : Variants) (c : Dev nD) (bd : Option 𝒱.V) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (X_arg3 : BufTy.Contents (Elt F) arg3.view.ty) (X_arg4 : BufTy.Contents (Elt F) arg4.view.ty) (hrdF : BufTy.Contents (Elt F) arg8.view.ty) (hrdB : LoadRect S512x7168), arg8.view.readAt (Elt F) hrdB (arg8.view.writes (Elt F) hrdF (pb_k0_t2 (F := F) 𝒱 c bd i arg1 harg1 arg2 harg2 arg3 harg3 arg4 harg4 arg5 harg5 arg6 harg6 arg7 harg7 arg8 harg8 arg9 harg9 arg10 harg10 X_arg3 X_arg4 (Scf.trips k0_t2_loop.lb k0_t2_loop.ub k0_t2_loop.st))) = arg8.view.readCov (pb_k0_t2 (F := F) 𝒱 c bd i arg1 harg1 arg2 harg2 arg3 harg3 arg4 harg4 arg5 harg5 arg6 harg6 arg7 harg7 arg8 harg8 arg9 harg9 arg10 harg10 X_arg3 X_arg4 (Scf.trips k0_t2_loop.lb k0_t2_loop.ub k0_t2_loop.st)) hrdB := fun 𝒱 c bd i arg1 harg1 arg2 harg2 arg3 harg3 arg4 harg4 arg5 harg5 arg6 harg6 arg7 harg7 arg8 harg8 arg9 harg9 arg10 harg10 X_arg3 X_arg4 hrdF hrdB => View.readAt_writes_of_cover _ hrdF _ hrdB (fun hrdJ => View.cover_of_tiledL (pb_k0_t2 (F := F) 𝒱 c bd i arg1 harg1 arg2 harg2 arg3 harg3 arg4 harg4 arg5 harg5 arg6 harg6 arg7 harg7 arg8 harg8 arg9 harg9 arg10 harg10 X_arg3 X_arg4 (Scf.trips k0_t2_loop.lb k0_t2_loop.ub k0_t2_loop.st)) S32x128.size (by sl_kernel_rfl) (hrdB.idx hrdJ))
    have hrd1 : ∀ (𝒱 : Variants) (c : Dev nD) (bd : Option 𝒱.V) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (k0_h1 : k0_cond1 i = 1#1) (X_arg5 : BufTy.Contents (Elt F) arg5.view.ty) (X_arg10 : BufTy.Contents (Elt F) arg10.view.ty) (hrdF : BufTy.Contents (Elt F) arg9.view.ty) (hrdB : LoadRect S2304x7168), arg9.view.readAt (Elt F) hrdB (arg9.view.writes (Elt F) hrdF (pb_k0_t1 (F := F) 𝒱 c bd i arg1 harg1 arg2 harg2 arg3 harg3 arg4 harg4 arg5 harg5 arg6 harg6 arg7 harg7 arg8 harg8 arg9 harg9 arg10 harg10 k0_h1 X_arg5 X_arg10 (Scf.trips k0_t1_loop.lb k0_t1_loop.ub k0_t1_loop.st))) = arg9.view.readCov (pb_k0_t1 (F := F) 𝒱 c bd i arg1 harg1 arg2 harg2 arg3 harg3 arg4 harg4 arg5 harg5 arg6 harg6 arg7 harg7 arg8 harg8 arg9 harg9 arg10 harg10 k0_h1 X_arg5 X_arg10 (Scf.trips k0_t1_loop.lb k0_t1_loop.ub k0_t1_loop.st)) hrdB := fun 𝒱 c bd i arg1 harg1 arg2 harg2 arg3 harg3 arg4 harg4 arg5 harg5 arg6 harg6 arg7 harg7 arg8 harg8 arg9 harg9 arg10 harg10 k0_h1 X_arg5 X_arg10 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 k0_h1 X_arg5 X_arg10 (Scf.trips k0_t1_loop.lb k0_t1_loop.ub k0_t1_loop.st)) S32x128.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _, _; isplitr; swap; · iexact HS0
      ipureintro; rfl
    isplitl [HS1]; · iexists _; iexact HS1
    iexists _, _; isplitr; swap; · iexact HS2
    ipureintro; rfl

end Cert.KernelIdeal.Run

end
-- ==== Proof.Ideal.RunB.lean ====
/- The body at a later grid point, where the decoded weights are already in scratch. -/
module

public import proofs.«01_k».proof.Proof.Ideal.RunA

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option backward.proofsInPublic true in
set_option maxHeartbeats 1000000 in
/-- The pieces that the body's stores leave in the output's staging buffer and in the weight scratch, last first, with
    the proof that the body runs from the staged inputs to a state with exactly these pieces written. Case B: the weights
    were decoded at an earlier point. -/
noncomputable def kernelRun0_B (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : ¬cond0_0 i)
    (x0 : Vec F S4 .f32) (x1 : Vec F S1 .f32) (x2 : Vec F S512x3584 .i8) (x3 : Vec F S512x512 .fp8e4m3) (x4 : Vec F S2304x3584 .i8) (x5 : Vec F S144x512 .fp8e4m3) (xs1 : Vec F S2304x7168 .bf16) :
    Σ' (L6 : List (View.Piece (Elt F) S512x2304 .bf16)), { LS1 : List (View.Piece (Elt F) S2304x7168 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs1 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ d, owns (c : Thread nD τ) arg8 fullShare d) ∗ owns (c : Thread nD τ) arg9 fullShare xs1 ∗ (∃ d, owns (c : Thread nD τ) arg10 fullShare d)) -∗ K ⟨⟩))
          ⊢ wp frame (wpE (defs₀ (F := F)) Variants.none c none) E (cc0_nvfp4_linear i arg1 harg1 arg2 harg2 arg3 harg3 arg4 harg4 arg5 harg5 arg6 harg6 arg7 harg7 arg8 harg8 arg9 harg9 arg10 harg10) K } := by
  refine ⟨?_, [], fun E K => ?run⟩
  case run =>
    simp only [cc0_nvfp4_linear_eq_skeleton]; unfold cc0_nvfp4_linear_skel
    simp only [k0_part189_eq_skeleton, k0_part190_eq_skeleton, k0_part191_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1
    have hrd0 : ∀ (𝒱 : Variants) (c : Dev nD) (bd : Option 𝒱.V) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (X_arg3 : BufTy.Contents (Elt F) arg3.view.ty) (X_arg4 : BufTy.Contents (Elt F) arg4.view.ty) (hrdF : BufTy.Contents (Elt F) arg8.view.ty) (hrdB : LoadRect S512x7168), arg8.view.readAt (Elt F) hrdB (arg8.view.writes (Elt F) hrdF (pb_k0_t2 (F := F) 𝒱 c bd i arg1 harg1 arg2 harg2 arg3 harg3 arg4 harg4 arg5 harg5 arg6 harg6 arg7 harg7 arg8 harg8 arg9 harg9 arg10 harg10 X_arg3 X_arg4 (Scf.trips k0_t2_loop.lb k0_t2_loop.ub k0_t2_loop.st))) = arg8.view.readCov (pb_k0_t2 (F := F) 𝒱 c bd i arg1 harg1 arg2 harg2 arg3 harg3 arg4 harg4 arg5 harg5 arg6 harg6 arg7 harg7 arg8 harg8 arg9 harg9 arg10 harg10 X_arg3 X_arg4 (Scf.trips k0_t2_loop.lb k0_t2_loop.ub k0_t2_loop.st)) hrdB := fun 𝒱 c bd i arg1 harg1 arg2 harg2 arg3 harg3 arg4 harg4 arg5 harg5 arg6 harg6 arg7 harg7 arg8 harg8 arg9 harg9 arg10 harg10 X_arg3 X_arg4 hrdF hrdB => View.readAt_writes_of_cover _ hrdF _ hrdB (fun hrdJ => View.cover_of_tiledL (pb_k0_t2 (F := F) 𝒱 c bd i arg1 harg1 arg2 harg2 arg3 harg3 arg4 harg4 arg5 harg5 arg6 harg6 arg7 harg7 arg8 harg8 arg9 harg9 arg10 harg10 X_arg3 X_arg4 (Scf.trips k0_t2_loop.lb k0_t2_loop.ub k0_t2_loop.st)) S32x128.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _, _; isplitr; swap; · iexact HS0
      ipureintro; rfl
    isplitl [HS1]
    · iexists _; isplitr; · ipureintro; exact harg9.read_unread _
      iexact HS1
    iexists _, _; isplitr; swap; · iexact HS2
    ipureintro; rfl

end Cert.KernelIdeal.Run

end
-- ==== Proof.Ideal.TripX.lean ====
/- One trip of the loop that decodes the activations, tile by tile. -/
module

public import proofs.«01_k».proof.Proof.Gen.KernelIdeal.Loops
public import proofs.«01_k».proof.Proof.Spec

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec

/-- Every tile that one trip of the activation loop stores is that tile of the decoded activations. -/
theorem tripX (𝒱 : Variants) (c : Dev nD) (bd : Option 𝒱.V) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (X_arg3 : BufTy.Contents (Elt F) arg3.view.ty) (X_arg4 : BufTy.Contents (Elt F) arg4.view.ty) (k : Fin k0_t2_loop.trips) :
    ∀ p ∈ tripL_k0_t2 (F := F) 𝒱 c bd i arg1 harg1 arg2 harg2 arg3 harg3 arg4 harg4 arg5 harg5 arg6 harg6 arg7 harg7 arg8 harg8 arg9 harg9 arg10 harg10 X_arg3 X_arg4 k,
      ∀ x : p.1.shape.Idx, p.2 x = xBuf (arg3.view.read (Elt F) X_arg3) (arg4.view.read (Elt F) X_arg4) (p.1.emb x) := by
  unfold tripL_k0_t2
  unfold trip_k0_t2
  dsimp only
  refine List.forall_mem_cons.2 ⟨fun x => (congrFun (by sl_kernel_rfl) x).trans (pieceX_hi (F := F) arg3.view X_arg3 arg4.view X_arg4 ⟨27, Nat.le_of_ble_eq_true rfl⟩ k.val (ClosedOff.eq (off := k0_off198 k)) (ClosedOff.eq (off := k0_off189 k)) (ClosedOff.eq (off := k0_off200 k)) (inb1 := (k0_off198_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off189_inb k)) (inb3 := (k0_off200_inb k)) 48#32 rfl x), ?_⟩
  refine List.forall_mem_cons.2 ⟨fun x => (congrFun (by sl_kernel_rfl) x).trans (pieceX_lo (F := F) arg3.view X_arg3 arg4.view X_arg4 ⟨27, Nat.le_of_ble_eq_true rfl⟩ k.val (ClosedOff.eq (off := k0_off198 k)) (ClosedOff.eq (off := k0_off189 k)) (ClosedOff.eq (off := k0_off199 k)) (inb1 := (k0_off198_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off189_inb k)) (inb3 := (k0_off199_inb k)) 48#32 rfl x), ?_⟩
  refine List.forall_mem_cons.2 ⟨fun x => (congrFun (by sl_kernel_rfl) x).trans (pieceX_hi (F := F) arg3.view X_arg3 arg4.view X_arg4 ⟨26, Nat.le_of_ble_eq_true rfl⟩ k.val (ClosedOff.eq (off := k0_off195 k)) (ClosedOff.eq (off := k0_off189 k)) (ClosedOff.eq (off := k0_off197 k)) (inb1 := (k0_off195_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off189_inb k)) (inb3 := (k0_off197_inb k)) 32#32 rfl x), ?_⟩
  refine List.forall_mem_cons.2 ⟨fun x => (congrFun (by sl_kernel_rfl) x).trans (pieceX_lo (F := F) arg3.view X_arg3 arg4.view X_arg4 ⟨26, Nat.le_of_ble_eq_true rfl⟩ k.val (ClosedOff.eq (off := k0_off195 k)) (ClosedOff.eq (off := k0_off189 k)) (ClosedOff.eq (off := k0_off196 k)) (inb1 := (k0_off195_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off189_inb k)) (inb3 := (k0_off196_inb k)) 32#32 rfl x), ?_⟩
  refine List.forall_mem_cons.2 ⟨fun x => (congrFun (by sl_kernel_rfl) x).trans (pieceX_hi (F := F) arg3.view X_arg3 arg4.view X_arg4 ⟨25, Nat.le_of_ble_eq_true rfl⟩ k.val (ClosedOff.eq (off := k0_off192 k)) (ClosedOff.eq (off := k0_off189 k)) (ClosedOff.eq (off := k0_off194 k)) (inb1 := (k0_off192_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off189_inb k)) (inb3 := (k0_off194_inb k)) 16#32 rfl x), ?_⟩
  refine List.forall_mem_cons.2 ⟨fun x => (congrFun (by sl_kernel_rfl) x).trans (pieceX_lo (F := F) arg3.view X_arg3 arg4.view X_arg4 ⟨25, Nat.le_of_ble_eq_true rfl⟩ k.val (ClosedOff.eq (off := k0_off192 k)) (ClosedOff.eq (off := k0_off189 k)) (ClosedOff.eq (off := k0_off193 k)) (inb1 := (k0_off192_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off189_inb k)) (inb3 := (k0_off193_inb k)) 16#32 rfl x), ?_⟩
  refine List.forall_mem_cons.2 ⟨fun x => (congrFun (by sl_kernel_rfl) x).trans (pieceX_hi (F := F) arg3.view X_arg3 arg4.view X_arg4 ⟨24, Nat.le_of_ble_eq_true rfl⟩ k.val (ClosedOff.eq (off := k0_off188 k)) (ClosedOff.eq (off := k0_off189 k)) (ClosedOff.eq (off := k0_off191 k)) (inb1 := (k0_off188_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off189_inb k)) (inb3 := (k0_off191_inb k)) 0#32 rfl x), ?_⟩
  refine List.forall_mem_cons.2 ⟨fun x => (congrFun (by sl_kernel_rfl) x).trans (pieceX_lo (F := F) arg3.view X_arg3 arg4.view X_arg4 ⟨24, Nat.le_of_ble_eq_true rfl⟩ k.val (ClosedOff.eq (off := k0_off188 k)) (ClosedOff.eq (off := k0_off189 k)) (ClosedOff.eq (off := k0_off190 k)) (inb1 := (k0_off188_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off189_inb k)) (inb3 := (k0_off190_inb k)) 0#32 rfl x), ?_⟩
  refine List.forall_mem_cons.2 ⟨fun x => (congrFun (by sl_kernel_rfl) x).trans (pieceX_hi (F := F) arg3.view X_arg3 arg4.view X_arg4 ⟨23, Nat.le_of_ble_eq_true rfl⟩ k.val (ClosedOff.eq (off := k0_off185 k)) (ClosedOff.eq (off := k0_off164 k)) (ClosedOff.eq (off := k0_off187 k)) (inb1 := (k0_off185_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off187_inb k)) 112#32 rfl x), ?_⟩
  refine List.forall_mem_cons.2 ⟨fun x => (congrFun (by sl_kernel_rfl) x).trans (pieceX_lo (F := F) arg3.view X_arg3 arg4.view X_arg4 ⟨23, Nat.le_of_ble_eq_true rfl⟩ k.val (ClosedOff.eq (off := k0_off185 k)) (ClosedOff.eq (off := k0_off164 k)) (ClosedOff.eq (off := k0_off186 k)) (inb1 := (k0_off185_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off186_inb k)) 112#32 rfl x), ?_⟩
  refine List.forall_mem_cons.2 ⟨fun x => (congrFun (by sl_kernel_rfl) x).trans (pieceX_hi (F := F) arg3.view X_arg3 arg4.view X_arg4 ⟨22, Nat.le_of_ble_eq_true rfl⟩ k.val (ClosedOff.eq (off := k0_off182 k)) (ClosedOff.eq (off := k0_off164 k)) (ClosedOff.eq (off := k0_off184 k)) (inb1 := (k0_off182_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off184_inb k)) 96#32 rfl x), ?_⟩
  refine List.forall_mem_cons.2 ⟨fun x => (congrFun (by sl_kernel_rfl) x).trans (pieceX_lo (F := F) arg3.view X_arg3 arg4.view X_arg4 ⟨22, Nat.le_of_ble_eq_true rfl⟩ k.val (ClosedOff.eq (off := k0_off182 k)) (ClosedOff.eq (off := k0_off164 k)) (ClosedOff.eq (off := k0_off183 k)) (inb1 := (k0_off182_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off183_inb k)) 96#32 rfl x), ?_⟩
  refine List.forall_mem_cons.2 ⟨fun x => (congrFun (by sl_kernel_rfl) x).trans (pieceX_hi (F := F) arg3.view X_arg3 arg4.view X_arg4 ⟨21, Nat.le_of_ble_eq_true rfl⟩ k.val (ClosedOff.eq (off := k0_off179 k)) (ClosedOff.eq (off := k0_off164 k)) (ClosedOff.eq (off := k0_off181 k)) (inb1 := (k0_off179_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off181_inb k)) 80#32 rfl x), ?_⟩
  refine List.forall_mem_cons.2 ⟨fun x => (congrFun (by sl_kernel_rfl) x).trans (pieceX_lo (F := F) arg3.view X_arg3 arg4.view X_arg4 ⟨21, Nat.le_of_ble_eq_true rfl⟩ k.val (ClosedOff.eq (off := k0_off179 k)) (ClosedOff.eq (off := k0_off164 k)) (ClosedOff.eq (off := k0_off180 k)) (inb1 := (k0_off179_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off180_inb k)) 80#32 rfl x), ?_⟩
  refine List.forall_mem_cons.2 ⟨fun x => (congrFun (by sl_kernel_rfl) x).trans (pieceX_hi (F := F) arg3.view X_arg3 arg4.view X_arg4 ⟨20, Nat.le_of_ble_eq_true rfl⟩ k.val (ClosedOff.eq (off := k0_off176 k)) (ClosedOff.eq (off := k0_off164 k)) (ClosedOff.eq (off := k0_off178 k)) (inb1 := (k0_off176_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off178_inb k)) 64#32 rfl x), ?_⟩
  refine List.forall_mem_cons.2 ⟨fun x => (congrFun (by sl_kernel_rfl) x).trans (pieceX_lo (F := F) arg3.view X_arg3 arg4.view X_arg4 ⟨20, Nat.le_of_ble_eq_true rfl⟩ k.val (ClosedOff.eq (off := k0_off176 k)) (ClosedOff.eq (off := k0_off164 k)) (ClosedOff.eq (off := k0_off177 k)) (inb1 := (k0_off176_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off177_inb k)) 64#32 rfl x), ?_⟩
  refine List.forall_mem_cons.2 ⟨fun x => (congrFun (by sl_kernel_rfl) x).trans (pieceX_hi (F := F) arg3.view X_arg3 arg4.view X_arg4 ⟨19, Nat.le_of_ble_eq_true rfl⟩ k.val (ClosedOff.eq (off := k0_off173 k)) (ClosedOff.eq (off := k0_off164 k)) (ClosedOff.eq (off := k0_off175 k)) (inb1 := (k0_off173_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off175_inb k)) 48#32 rfl x), ?_⟩
  refine List.forall_mem_cons.2 ⟨fun x => (congrFun (by sl_kernel_rfl) x).trans (pieceX_lo (F := F) arg3.view X_arg3 arg4.view X_arg4 ⟨19, Nat.le_of_ble_eq_true rfl⟩ k.val (ClosedOff.eq (off := k0_off173 k)) (ClosedOff.eq (off := k0_off164 k)) (ClosedOff.eq (off := k0_off174 k)) (inb1 := (k0_off173_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off174_inb k)) 48#32 rfl x), ?_⟩
  refine List.forall_mem_cons.2 ⟨fun x => (congrFun (by sl_kernel_rfl) x).trans (pieceX_hi (F := F) arg3.view X_arg3 arg4.view X_arg4 ⟨18, Nat.le_of_ble_eq_true rfl⟩ k.val (ClosedOff.eq (off := k0_off170 k)) (ClosedOff.eq (off := k0_off164 k)) (ClosedOff.eq (off := k0_off172 k)) (inb1 := (k0_off170_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off172_inb k)) 32#32 rfl x), ?_⟩
  refine List.forall_mem_cons.2 ⟨fun x => (congrFun (by sl_kernel_rfl) x).trans (pieceX_lo (F := F) arg3.view X_arg3 arg4.view X_arg4 ⟨18, Nat.le_of_ble_eq_true rfl⟩ k.val (ClosedOff.eq (off := k0_off170 k)) (ClosedOff.eq (off := k0_off164 k)) (ClosedOff.eq (off := k0_off171 k)) (inb1 := (k0_off170_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off171_inb k)) 32#32 rfl x), ?_⟩
  refine List.forall_mem_cons.2 ⟨fun x => (congrFun (by sl_kernel_rfl) x).trans (pieceX_hi (F := F) arg3.view X_arg3 arg4.view X_arg4 ⟨17, Nat.le_of_ble_eq_true rfl⟩ k.val (ClosedOff.eq (off := k0_off167 k)) (ClosedOff.eq (off := k0_off164 k)) (ClosedOff.eq (off := k0_off169 k)) (inb1 := (k0_off167_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off169_inb k)) 16#32 rfl x), ?_⟩
  refine List.forall_mem_cons.2 ⟨fun x => (congrFun (by sl_kernel_rfl) x).trans (pieceX_lo (F := F) arg3.view X_arg3 arg4.view X_arg4 ⟨17, Nat.le_of_ble_eq_true rfl⟩ k.val (ClosedOff.eq (off := k0_off167 k)) (ClosedOff.eq (off := k0_off164 k)) (ClosedOff.eq (off := k0_off168 k)) (inb1 := (k0_off167_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off168_inb k)) 16#32 rfl x), ?_⟩
  refine List.forall_mem_cons.2 ⟨fun x => (congrFun (by sl_kernel_rfl) x).trans (pieceX_hi (F := F) arg3.view X_arg3 arg4.view X_arg4 ⟨16, Nat.le_of_ble_eq_true rfl⟩ k.val (ClosedOff.eq (off := k0_off163 k)) (ClosedOff.eq (off := k0_off164 k)) (ClosedOff.eq (off := k0_off166 k)) (inb1 := (k0_off163_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off166_inb k)) 0#32 rfl x), ?_⟩
  refine List.forall_mem_cons.2 ⟨fun x => (congrFun (by sl_kernel_rfl) x).trans (pieceX_lo (F := F) arg3.view X_arg3 arg4.view X_arg4 ⟨16, Nat.le_of_ble_eq_true rfl⟩ k.val (ClosedOff.eq (off := k0_off163 k)) (ClosedOff.eq (off := k0_off164 k)) (ClosedOff.eq (off := k0_off165 k)) (inb1 := (k0_off163_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off164_inb k)) (inb3 := (k0_off165_inb k)) 0#32 rfl x), ?_⟩
  refine List.forall_mem_cons.2 ⟨fun x => (congrFun (by sl_kernel_rfl) x).trans (pieceX_hi (F := F) arg3.view X_arg3 arg4.view X_arg4 ⟨15, Nat.le_of_ble_eq_true rfl⟩ k.val (ClosedOff.eq (off := k0_off160 k)) (ClosedOff.eq (off := k0_off139 k)) (ClosedOff.eq (off := k0_off162 k)) (inb1 := (k0_off160_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off162_inb k)) 112#32 rfl x), ?_⟩
  refine List.forall_mem_cons.2 ⟨fun x => (congrFun (by sl_kernel_rfl) x).trans (pieceX_lo (F := F) arg3.view X_arg3 arg4.view X_arg4 ⟨15, Nat.le_of_ble_eq_true rfl⟩ k.val (ClosedOff.eq (off := k0_off160 k)) (ClosedOff.eq (off := k0_off139 k)) (ClosedOff.eq (off := k0_off161 k)) (inb1 := (k0_off160_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off161_inb k)) 112#32 rfl x), ?_⟩
  refine List.forall_mem_cons.2 ⟨fun x => (congrFun (by sl_kernel_rfl) x).trans (pieceX_hi (F := F) arg3.view X_arg3 arg4.view X_arg4 ⟨14, Nat.le_of_ble_eq_true rfl⟩ k.val (ClosedOff.eq (off := k0_off157 k)) (ClosedOff.eq (off := k0_off139 k)) (ClosedOff.eq (off := k0_off159 k)) (inb1 := (k0_off157_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off159_inb k)) 96#32 rfl x), ?_⟩
  refine List.forall_mem_cons.2 ⟨fun x => (congrFun (by sl_kernel_rfl) x).trans (pieceX_lo (F := F) arg3.view X_arg3 arg4.view X_arg4 ⟨14, Nat.le_of_ble_eq_true rfl⟩ k.val (ClosedOff.eq (off := k0_off157 k)) (ClosedOff.eq (off := k0_off139 k)) (ClosedOff.eq (off := k0_off158 k)) (inb1 := (k0_off157_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off158_inb k)) 96#32 rfl x), ?_⟩
  refine List.forall_mem_cons.2 ⟨fun x => (congrFun (by sl_kernel_rfl) x).trans (pieceX_hi (F := F) arg3.view X_arg3 arg4.view X_arg4 ⟨13, Nat.le_of_ble_eq_true rfl⟩ k.val (ClosedOff.eq (off := k0_off154 k)) (ClosedOff.eq (off := k0_off139 k)) (ClosedOff.eq (off := k0_off156 k)) (inb1 := (k0_off154_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off156_inb k)) 80#32 rfl x), ?_⟩
  refine List.forall_mem_cons.2 ⟨fun x => (congrFun (by sl_kernel_rfl) x).trans (pieceX_lo (F := F) arg3.view X_arg3 arg4.view X_arg4 ⟨13, Nat.le_of_ble_eq_true rfl⟩ k.val (ClosedOff.eq (off := k0_off154 k)) (ClosedOff.eq (off := k0_off139 k)) (ClosedOff.eq (off := k0_off155 k)) (inb1 := (k0_off154_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off155_inb k)) 80#32 rfl x), ?_⟩
  refine List.forall_mem_cons.2 ⟨fun x => (congrFun (by sl_kernel_rfl) x).trans (pieceX_hi (F := F) arg3.view X_arg3 arg4.view X_arg4 ⟨12, Nat.le_of_ble_eq_true rfl⟩ k.val (ClosedOff.eq (off := k0_off151 k)) (ClosedOff.eq (off := k0_off139 k)) (ClosedOff.eq (off := k0_off153 k)) (inb1 := (k0_off151_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off153_inb k)) 64#32 rfl x), ?_⟩
  refine List.forall_mem_cons.2 ⟨fun x => (congrFun (by sl_kernel_rfl) x).trans (pieceX_lo (F := F) arg3.view X_arg3 arg4.view X_arg4 ⟨12, Nat.le_of_ble_eq_true rfl⟩ k.val (ClosedOff.eq (off := k0_off151 k)) (ClosedOff.eq (off := k0_off139 k)) (ClosedOff.eq (off := k0_off152 k)) (inb1 := (k0_off151_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off152_inb k)) 64#32 rfl x), ?_⟩
  refine List.forall_mem_cons.2 ⟨fun x => (congrFun (by sl_kernel_rfl) x).trans (pieceX_hi (F := F) arg3.view X_arg3 arg4.view X_arg4 ⟨11, Nat.le_of_ble_eq_true rfl⟩ k.val (ClosedOff.eq (off := k0_off148 k)) (ClosedOff.eq (off := k0_off139 k)) (ClosedOff.eq (off := k0_off150 k)) (inb1 := (k0_off148_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off150_inb k)) 48#32 rfl x), ?_⟩
  refine List.forall_mem_cons.2 ⟨fun x => (congrFun (by sl_kernel_rfl) x).trans (pieceX_lo (F := F) arg3.view X_arg3 arg4.view X_arg4 ⟨11, Nat.le_of_ble_eq_true rfl⟩ k.val (ClosedOff.eq (off := k0_off148 k)) (ClosedOff.eq (off := k0_off139 k)) (ClosedOff.eq (off := k0_off149 k)) (inb1 := (k0_off148_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off149_inb k)) 48#32 rfl x), ?_⟩
  refine List.forall_mem_cons.2 ⟨fun x => (congrFun (by sl_kernel_rfl) x).trans (pieceX_hi (F := F) arg3.view X_arg3 arg4.view X_arg4 ⟨10, Nat.le_of_ble_eq_true rfl⟩ k.val (ClosedOff.eq (off := k0_off145 k)) (ClosedOff.eq (off := k0_off139 k)) (ClosedOff.eq (off := k0_off147 k)) (inb1 := (k0_off145_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off147_inb k)) 32#32 rfl x), ?_⟩
  refine List.forall_mem_cons.2 ⟨fun x => (congrFun (by sl_kernel_rfl) x).trans (pieceX_lo (F := F) arg3.view X_arg3 arg4.view X_arg4 ⟨10, Nat.le_of_ble_eq_true rfl⟩ k.val (ClosedOff.eq (off := k0_off145 k)) (ClosedOff.eq (off := k0_off139 k)) (ClosedOff.eq (off := k0_off146 k)) (inb1 := (k0_off145_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off146_inb k)) 32#32 rfl x), ?_⟩
  refine List.forall_mem_cons.2 ⟨fun x => (congrFun (by sl_kernel_rfl) x).trans (pieceX_hi (F := F) arg3.view X_arg3 arg4.view X_arg4 ⟨9, Nat.le_of_ble_eq_true rfl⟩ k.val (ClosedOff.eq (off := k0_off142 k)) (ClosedOff.eq (off := k0_off139 k)) (ClosedOff.eq (off := k0_off144 k)) (inb1 := (k0_off142_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off144_inb k)) 16#32 rfl x), ?_⟩
  refine List.forall_mem_cons.2 ⟨fun x => (congrFun (by sl_kernel_rfl) x).trans (pieceX_lo (F := F) arg3.view X_arg3 arg4.view X_arg4 ⟨9, Nat.le_of_ble_eq_true rfl⟩ k.val (ClosedOff.eq (off := k0_off142 k)) (ClosedOff.eq (off := k0_off139 k)) (ClosedOff.eq (off := k0_off143 k)) (inb1 := (k0_off142_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off143_inb k)) 16#32 rfl x), ?_⟩
  refine List.forall_mem_cons.2 ⟨fun x => (congrFun (by sl_kernel_rfl) x).trans (pieceX_hi (F := F) arg3.view X_arg3 arg4.view X_arg4 ⟨8, Nat.le_of_ble_eq_true rfl⟩ k.val (ClosedOff.eq (off := k0_off138 k)) (ClosedOff.eq (off := k0_off139 k)) (ClosedOff.eq (off := k0_off141 k)) (inb1 := (k0_off138_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off141_inb k)) 0#32 rfl x), ?_⟩
  refine List.forall_mem_cons.2 ⟨fun x => (congrFun (by sl_kernel_rfl) x).trans (pieceX_lo (F := F) arg3.view X_arg3 arg4.view X_arg4 ⟨8, Nat.le_of_ble_eq_true rfl⟩ k.val (ClosedOff.eq (off := k0_off138 k)) (ClosedOff.eq (off := k0_off139 k)) (ClosedOff.eq (off := k0_off140 k)) (inb1 := (k0_off138_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off139_inb k)) (inb3 := (k0_off140_inb k)) 0#32 rfl x), ?_⟩
  refine List.forall_mem_cons.2 ⟨fun x => (congrFun (by sl_kernel_rfl) x).trans (pieceX_hi (F := F) arg3.view X_arg3 arg4.view X_arg4 ⟨7, Nat.le_of_ble_eq_true rfl⟩ k.val (ClosedOff.eq (off := k0_off135 k)) (ClosedOff.eq (off := k0_off114 k)) (ClosedOff.eq (off := k0_off137 k)) (inb1 := (k0_off135_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off137_inb k)) 112#32 rfl x), ?_⟩
  refine List.forall_mem_cons.2 ⟨fun x => (congrFun (by sl_kernel_rfl) x).trans (pieceX_lo (F := F) arg3.view X_arg3 arg4.view X_arg4 ⟨7, Nat.le_of_ble_eq_true rfl⟩ k.val (ClosedOff.eq (off := k0_off135 k)) (ClosedOff.eq (off := k0_off114 k)) (ClosedOff.eq (off := k0_off136 k)) (inb1 := (k0_off135_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off136_inb k)) 112#32 rfl x), ?_⟩
  refine List.forall_mem_cons.2 ⟨fun x => (congrFun (by sl_kernel_rfl) x).trans (pieceX_hi (F := F) arg3.view X_arg3 arg4.view X_arg4 ⟨6, Nat.le_of_ble_eq_true rfl⟩ k.val (ClosedOff.eq (off := k0_off132 k)) (ClosedOff.eq (off := k0_off114 k)) (ClosedOff.eq (off := k0_off134 k)) (inb1 := (k0_off132_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off134_inb k)) 96#32 rfl x), ?_⟩
  refine List.forall_mem_cons.2 ⟨fun x => (congrFun (by sl_kernel_rfl) x).trans (pieceX_lo (F := F) arg3.view X_arg3 arg4.view X_arg4 ⟨6, Nat.le_of_ble_eq_true rfl⟩ k.val (ClosedOff.eq (off := k0_off132 k)) (ClosedOff.eq (off := k0_off114 k)) (ClosedOff.eq (off := k0_off133 k)) (inb1 := (k0_off132_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off133_inb k)) 96#32 rfl x), ?_⟩
  refine List.forall_mem_cons.2 ⟨fun x => (congrFun (by sl_kernel_rfl) x).trans (pieceX_hi (F := F) arg3.view X_arg3 arg4.view X_arg4 ⟨5, Nat.le_of_ble_eq_true rfl⟩ k.val (ClosedOff.eq (off := k0_off129 k)) (ClosedOff.eq (off := k0_off114 k)) (ClosedOff.eq (off := k0_off131 k)) (inb1 := (k0_off129_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off131_inb k)) 80#32 rfl x), ?_⟩
  refine List.forall_mem_cons.2 ⟨fun x => (congrFun (by sl_kernel_rfl) x).trans (pieceX_lo (F := F) arg3.view X_arg3 arg4.view X_arg4 ⟨5, Nat.le_of_ble_eq_true rfl⟩ k.val (ClosedOff.eq (off := k0_off129 k)) (ClosedOff.eq (off := k0_off114 k)) (ClosedOff.eq (off := k0_off130 k)) (inb1 := (k0_off129_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off130_inb k)) 80#32 rfl x), ?_⟩
  refine List.forall_mem_cons.2 ⟨fun x => (congrFun (by sl_kernel_rfl) x).trans (pieceX_hi (F := F) arg3.view X_arg3 arg4.view X_arg4 ⟨4, Nat.le_of_ble_eq_true rfl⟩ k.val (ClosedOff.eq (off := k0_off126 k)) (ClosedOff.eq (off := k0_off114 k)) (ClosedOff.eq (off := k0_off128 k)) (inb1 := (k0_off126_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off128_inb k)) 64#32 rfl x), ?_⟩
  refine List.forall_mem_cons.2 ⟨fun x => (congrFun (by sl_kernel_rfl) x).trans (pieceX_lo (F := F) arg3.view X_arg3 arg4.view X_arg4 ⟨4, Nat.le_of_ble_eq_true rfl⟩ k.val (ClosedOff.eq (off := k0_off126 k)) (ClosedOff.eq (off := k0_off114 k)) (ClosedOff.eq (off := k0_off127 k)) (inb1 := (k0_off126_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off127_inb k)) 64#32 rfl x), ?_⟩
  refine List.forall_mem_cons.2 ⟨fun x => (congrFun (by sl_kernel_rfl) x).trans (pieceX_hi (F := F) arg3.view X_arg3 arg4.view X_arg4 ⟨3, Nat.le_of_ble_eq_true rfl⟩ k.val (ClosedOff.eq (off := k0_off123 k)) (ClosedOff.eq (off := k0_off114 k)) (ClosedOff.eq (off := k0_off125 k)) (inb1 := (k0_off123_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off125_inb k)) 48#32 rfl x), ?_⟩
  refine List.forall_mem_cons.2 ⟨fun x => (congrFun (by sl_kernel_rfl) x).trans (pieceX_lo (F := F) arg3.view X_arg3 arg4.view X_arg4 ⟨3, Nat.le_of_ble_eq_true rfl⟩ k.val (ClosedOff.eq (off := k0_off123 k)) (ClosedOff.eq (off := k0_off114 k)) (ClosedOff.eq (off := k0_off124 k)) (inb1 := (k0_off123_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off124_inb k)) 48#32 rfl x), ?_⟩
  refine List.forall_mem_cons.2 ⟨fun x => (congrFun (by sl_kernel_rfl) x).trans (pieceX_hi (F := F) arg3.view X_arg3 arg4.view X_arg4 ⟨2, Nat.le_of_ble_eq_true rfl⟩ k.val (ClosedOff.eq (off := k0_off120 k)) (ClosedOff.eq (off := k0_off114 k)) (ClosedOff.eq (off := k0_off122 k)) (inb1 := (k0_off120_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off122_inb k)) 32#32 rfl x), ?_⟩
  refine List.forall_mem_cons.2 ⟨fun x => (congrFun (by sl_kernel_rfl) x).trans (pieceX_lo (F := F) arg3.view X_arg3 arg4.view X_arg4 ⟨2, Nat.le_of_ble_eq_true rfl⟩ k.val (ClosedOff.eq (off := k0_off120 k)) (ClosedOff.eq (off := k0_off114 k)) (ClosedOff.eq (off := k0_off121 k)) (inb1 := (k0_off120_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off121_inb k)) 32#32 rfl x), ?_⟩
  refine List.forall_mem_cons.2 ⟨fun x => (congrFun (by sl_kernel_rfl) x).trans (pieceX_hi (F := F) arg3.view X_arg3 arg4.view X_arg4 ⟨1, Nat.le_of_ble_eq_true rfl⟩ k.val (ClosedOff.eq (off := k0_off117 k)) (ClosedOff.eq (off := k0_off114 k)) (ClosedOff.eq (off := k0_off119 k)) (inb1 := (k0_off117_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off119_inb k)) 16#32 rfl x), ?_⟩
  refine List.forall_mem_cons.2 ⟨fun x => (congrFun (by sl_kernel_rfl) x).trans (pieceX_lo (F := F) arg3.view X_arg3 arg4.view X_arg4 ⟨1, Nat.le_of_ble_eq_true rfl⟩ k.val (ClosedOff.eq (off := k0_off117 k)) (ClosedOff.eq (off := k0_off114 k)) (ClosedOff.eq (off := k0_off118 k)) (inb1 := (k0_off117_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off118_inb k)) 16#32 rfl x), ?_⟩
  refine List.forall_mem_cons.2 ⟨fun x => (congrFun (by sl_kernel_rfl) x).trans (pieceX_hi (F := F) arg3.view X_arg3 arg4.view X_arg4 ⟨0, Nat.le_of_ble_eq_true rfl⟩ k.val (ClosedOff.eq (off := k0_off113 k)) (ClosedOff.eq (off := k0_off114 k)) (ClosedOff.eq (off := k0_off116 k)) (inb1 := (k0_off113_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off116_inb k)) 0#32 rfl x), ?_⟩
  refine List.forall_mem_cons.2 ⟨fun x => (congrFun (by sl_kernel_rfl) x).trans (pieceX_lo (F := F) arg3.view X_arg3 arg4.view X_arg4 ⟨0, Nat.le_of_ble_eq_true rfl⟩ k.val (ClosedOff.eq (off := k0_off113 k)) (ClosedOff.eq (off := k0_off114 k)) (ClosedOff.eq (off := k0_off115 k)) (inb1 := (k0_off113_inb k)) (p1 := shapeCasts_S32x128_S32x128) (p2 := bitcasts_S32x128_w8_S8x128_w32) (p3 := bitcasts_S8x128_w32_S32x128_w8) (p4 := bitsLt_fp8e4m3_bf16) (p5 := shapeCasts_S32x128_S32x128) (p6 := bitsLt_fp8e4m3_f32) (p7 := bitsLt_bf16_f32) (p8 := iota_S32x128_d1_w32) (p9 := natLt_1_32) (p10 := shapeCasts_S32x128_S32x128x1) (p11 := shapeCasts_S32x128x1_S32x128) (inb2 := (k0_off114_inb k)) (inb3 := (k0_off115_inb k)) 0#32 rfl x), ?_⟩
  exact List.forall_mem_nil _

end Cert.KernelIdeal.Run

end
-- ==== Proof.Ideal.TripW.lean ====
/- One trip of the loop that decodes the weights, tile by tile. -/
module

public import proofs.«01_k».proof.Proof.Gen.KernelIdeal.Loops
public import proofs.«01_k».proof.Proof.Spec

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec

theorem w_lo {sp sp' : Space} (v5 : View sig .tc sp S2304x3584 .i8) (X5 : BufTy.Contents (Elt F) v5.ty) (v10 : View sig .tc sp' S144x3584 .f32) (X10 : BufTy.Contents (Elt F) v10.ty)
    (T : Fin 28) (p : Fin 4) (k : ℕ) {off1 off2 off3 : Fin 2 → ℕ}
    (h1 : off1 = ![128 * k + 32 * p.val, 128 * T.val]) (h2 : off2 = ![8 * k, 128 * T.val]) (h3 : off3 = ![128 * k + 32 * p.val, 128 * T.val]) (inb1) (inb2) (inb3)
    {o1 o2 : Fin 2 → ℕ} (p5) (p6) (ho1 : o1 = ![2 * p.val, 0]) (ho2 : o2 = ![2 * p.val + 1, 0]) :
    ∀ x, shapeCast S32x128 (mulf (vals (F := F) (loW (words (v5.readAt (Elt F) (Rect.unit (s := S2304x3584) off1 ![32, 128] inb1).toLoadRect X5) bitcasts_S32x128_w8_S8x128_w32)) bitcasts_S8x128_w32_S32x128_w8 bitsLt_fp8e4m3_bf16)
        (scaleW (v10.readAt (Elt F) (Rect.unit (s := S144x3584) off2 ![8, 128] inb2).toLoadRect X10) o1 o2 p5 p6 shapeCasts_S1x128_S1x128 broadcasts_S1x128_S16x128 bitsLt_bf16_f32 concatenates_S16x128_S16x128_S32x128_d0)) shapeCasts_S32x128_S32x128 x
      = wBufE (v5.read (Elt F) X5) (v10.read (Elt F) X10) ((Rect.unit (s := S2304x7168) off3 ![32, 128] inb3).emb x) :=
  pieceW_lo (F := F) v5 X5 v10 X10 T p k h1 h2 h3 (inb1 := inb1) (inb2 := inb2) (inb3 := inb3) (p1 := shapeCasts_S32x128_S32x128) (p2 := bitcasts_S32x128_w8_S8x128_w32)
    (p3 := bitcasts_S8x128_w32_S32x128_w8) (p4 := bitsLt_fp8e4m3_bf16) (p5 := p5) (p6 := p6) (p7 := shapeCasts_S1x128_S1x128) (p8 := broadcasts_S1x128_S16x128)
    (p9 := bitsLt_bf16_f32) (p10 := concatenates_S16x128_S16x128_S32x128_d0) ho1 ho2

theorem w_hi {sp sp' : Space} (v5 : View sig .tc sp S2304x3584 .i8) (X5 : BufTy.Contents (Elt F) v5.ty) (v10 : View sig .tc sp' S144x3584 .f32) (X10 : BufTy.Contents (Elt F) v10.ty)
    (T : Fin 28) (p : Fin 4) (k : ℕ) {off1 off2 off3 : Fin 2 → ℕ}
    (h1 : off1 = ![128 * k + 32 * p.val, 128 * T.val]) (h2 : off2 = ![8 * k, 128 * T.val]) (h3 : off3 = ![128 * k + 32 * p.val, 3584 + 128 * T.val]) (inb1) (inb2) (inb3)
    {o1 o2 : Fin 2 → ℕ} (p5) (p6) (ho1 : o1 = ![2 * p.val, 0]) (ho2 : o2 = ![2 * p.val + 1, 0]) :
    ∀ x, shapeCast S32x128 (mulf (vals (F := F) (hiW (words (v5.readAt (Elt F) (Rect.unit (s := S2304x3584) off1 ![32, 128] inb1).toLoadRect X5) bitcasts_S32x128_w8_S8x128_w32)) bitcasts_S8x128_w32_S32x128_w8 bitsLt_fp8e4m3_bf16)
        (scaleW (v10.readAt (Elt F) (Rect.unit (s := S144x3584) off2 ![8, 128] inb2).toLoadRect X10) o1 o2 p5 p6 shapeCasts_S1x128_S1x128 broadcasts_S1x128_S16x128 bitsLt_bf16_f32 concatenates_S16x128_S16x128_S32x128_d0)) shapeCasts_S32x128_S32x128 x
      = wBufE (v5.read (Elt F) X5) (v10.read (Elt F) X10) ((Rect.unit (s := S2304x7168) off3 ![32, 128] inb3).emb x) :=
  pieceW_hi (F := F) v5 X5 v10 X10 T p k h1 h2 h3 (inb1 := inb1) (inb2 := inb2) (inb3 := inb3) (p1 := shapeCasts_S32x128_S32x128) (p2 := bitcasts_S32x128_w8_S8x128_w32)
    (p3 := bitcasts_S8x128_w32_S32x128_w8) (p4 := bitsLt_fp8e4m3_bf16) (p5 := p5) (p6 := p6) (p7 := shapeCasts_S1x128_S1x128) (p8 := broadcasts_S1x128_S16x128)
    (p9 := bitsLt_bf16_f32) (p10 := concatenates_S16x128_S16x128_S32x128_d0) ho1 ho2

set_option maxHeartbeats 4000000 in

/-- Every tile that one trip of the weight loop stores is that tile of the decoded weights, over the spread scales. -/
theorem tripW (𝒱 : Variants) (c : Dev nD) (bd : Option 𝒱.V) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (k0_h1 : k0_cond1 i = 1#1) (X_arg5 : BufTy.Contents (Elt F) arg5.view.ty) (X_arg10 : BufTy.Contents (Elt F) arg10.view.ty) (k : Fin k0_t1_loop.trips) :
    ∀ p ∈ tripL_k0_t1 (F := F) 𝒱 c bd i arg1 harg1 arg2 harg2 arg3 harg3 arg4 harg4 arg5 harg5 arg6 harg6 arg7 harg7 arg8 harg8 arg9 harg9 arg10 harg10 k0_h1 X_arg5 X_arg10 k,
      ∀ x : p.1.shape.Idx, p.2 x = wBufE (arg5.view.read (Elt F) X_arg5) (arg10.view.read (Elt F) X_arg10) (p.1.emb x) := by
  unfold tripL_k0_t1
  unfold trip_k0_t1
  dsimp only
  refine List.forall_mem_cons.2 ⟨fun x => (congrFun (by sl_kernel_rfl) x).trans (w_hi arg5.view X_arg5 arg10.view X_arg10 ⟨27, Nat.le_of_ble_eq_true rfl⟩ ⟨3, Nat.le_of_ble_eq_true rfl⟩ k.val (ClosedOff.eq (off := k0_off110 k 96#32)) (ClosedOff.eq (off := k0_off109 k)) (ClosedOff.eq (off := k0_off112 k 96#32)) (k0_off110_inb i k k0_h1 3) (k0_off109_inb i k k0_h1) (k0_off112_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨27, Nat.le_of_ble_eq_true rfl⟩ ⟨3, Nat.le_of_ble_eq_true rfl⟩ k.val (ClosedOff.eq (off := k0_off110 k 96#32)) (ClosedOff.eq (off := k0_off109 k)) (ClosedOff.eq (off := k0_off111 k 96#32)) (k0_off110_inb i k k0_h1 3) (k0_off109_inb i k k0_h1) (k0_off111_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨27, Nat.le_of_ble_eq_true rfl⟩ ⟨2, Nat.le_of_ble_eq_true rfl⟩ k.val (ClosedOff.eq (off := k0_off110 k 64#32)) (ClosedOff.eq (off := k0_off109 k)) (ClosedOff.eq (off := k0_off112 k 64#32)) (k0_off110_inb i k k0_h1 2) (k0_off109_inb i k k0_h1) (k0_off112_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨27, Nat.le_of_ble_eq_true rfl⟩ ⟨2, Nat.le_of_ble_eq_true rfl⟩ k.val (ClosedOff.eq (off := k0_off110 k 64#32)) (ClosedOff.eq (off := k0_off109 k)) (ClosedOff.eq (off := k0_off111 k 64#32)) (k0_off110_inb i k k0_h1 2) (k0_off109_inb i k k0_h1) (k0_off111_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨27, Nat.le_of_ble_eq_true rfl⟩ ⟨1, Nat.le_of_ble_eq_true rfl⟩ k.val (ClosedOff.eq (off := k0_off110 k 32#32)) (ClosedOff.eq (off := k0_off109 k)) (ClosedOff.eq (off := k0_off112 k 32#32)) (k0_off110_inb i k k0_h1 1) (k0_off109_inb i k k0_h1) (k0_off112_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨27, Nat.le_of_ble_eq_true rfl⟩ ⟨1, Nat.le_of_ble_eq_true rfl⟩ k.val (ClosedOff.eq (off := k0_off110 k 32#32)) (ClosedOff.eq (off := k0_off109 k)) (ClosedOff.eq (off := k0_off111 k 32#32)) (k0_off110_inb i k k0_h1 1) (k0_off109_inb i k k0_h1) (k0_off111_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨27, Nat.le_of_ble_eq_true rfl⟩ ⟨0, Nat.le_of_ble_eq_true rfl⟩ k.val (ClosedOff.eq (off := k0_off110 k 0#32)) (ClosedOff.eq (off := k0_off109 k)) (ClosedOff.eq (off := k0_off112 k 0#32)) (k0_off110_inb i k k0_h1 0) (k0_off109_inb i k k0_h1) (k0_off112_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨27, Nat.le_of_ble_eq_true rfl⟩ ⟨0, Nat.le_of_ble_eq_true rfl⟩ k.val (ClosedOff.eq (off := k0_off110 k 0#32)) (ClosedOff.eq (off := k0_off109 k)) (ClosedOff.eq (off := k0_off111 k 0#32)) (k0_off110_inb i k k0_h1 0) (k0_off109_inb i k k0_h1) (k0_off111_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨26, Nat.le_of_ble_eq_true rfl⟩ ⟨3, Nat.le_of_ble_eq_true rfl⟩ k.val (ClosedOff.eq (off := k0_off106 k 96#32)) (ClosedOff.eq (off := k0_off105 k)) (ClosedOff.eq (off := k0_off108 k 96#32)) (k0_off106_inb i k k0_h1 3) (k0_off105_inb i k k0_h1) (k0_off108_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨26, Nat.le_of_ble_eq_true rfl⟩ ⟨3, Nat.le_of_ble_eq_true rfl⟩ k.val (ClosedOff.eq (off := k0_off106 k 96#32)) (ClosedOff.eq (off := k0_off105 k)) (ClosedOff.eq (off := k0_off107 k 96#32)) (k0_off106_inb i k k0_h1 3) (k0_off105_inb i k k0_h1) (k0_off107_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨26, Nat.le_of_ble_eq_true rfl⟩ ⟨2, Nat.le_of_ble_eq_true rfl⟩ k.val (ClosedOff.eq (off := k0_off106 k 64#32)) (ClosedOff.eq (off := k0_off105 k)) (ClosedOff.eq (off := k0_off108 k 64#32)) (k0_off106_inb i k k0_h1 2) (k0_off105_inb i k k0_h1) (k0_off108_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨26, Nat.le_of_ble_eq_true rfl⟩ ⟨2, Nat.le_of_ble_eq_true rfl⟩ k.val (ClosedOff.eq (off := k0_off106 k 64#32)) (ClosedOff.eq (off := k0_off105 k)) (ClosedOff.eq (off := k0_off107 k 64#32)) (k0_off106_inb i k k0_h1 2) (k0_off105_inb i k k0_h1) (k0_off107_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨26, Nat.le_of_ble_eq_true rfl⟩ ⟨1, Nat.le_of_ble_eq_true rfl⟩ k.val (ClosedOff.eq (off := k0_off106 k 32#32)) (ClosedOff.eq (off := k0_off105 k)) (ClosedOff.eq (off := k0_off108 k 32#32)) (k0_off106_inb i k k0_h1 1) (k0_off105_inb i k k0_h1) (k0_off108_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨26, Nat.le_of_ble_eq_true rfl⟩ ⟨1, Nat.le_of_ble_eq_true rfl⟩ k.val (ClosedOff.eq (off := k0_off106 k 32#32)) (ClosedOff.eq (off := k0_off105 k)) (ClosedOff.eq (off := k0_off107 k 32#32)) (k0_off106_inb i k k0_h1 1) (k0_off105_inb i k k0_h1) (k0_off107_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨26, Nat.le_of_ble_eq_true rfl⟩ ⟨0, Nat.le_of_ble_eq_true rfl⟩ k.val (ClosedOff.eq (off := k0_off106 k 0#32)) (ClosedOff.eq (off := k0_off105 k)) (ClosedOff.eq (off := k0_off108 k 0#32)) (k0_off106_inb i k k0_h1 0) (k0_off105_inb i k k0_h1) (k0_off108_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨26, Nat.le_of_ble_eq_true rfl⟩ ⟨0, Nat.le_of_ble_eq_true rfl⟩ k.val (ClosedOff.eq (off := k0_off106 k 0#32)) (ClosedOff.eq (off := k0_off105 k)) (ClosedOff.eq (off := k0_off107 k 0#32)) (k0_off106_inb i k k0_h1 0) (k0_off105_inb i k k0_h1) (k0_off107_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨25, Nat.le_of_ble_eq_true rfl⟩ ⟨3, Nat.le_of_ble_eq_true rfl⟩ k.val (ClosedOff.eq (off := k0_off102 k 96#32)) (ClosedOff.eq (off := k0_off101 k)) (ClosedOff.eq (off := k0_off104 k 96#32)) (k0_off102_inb i k k0_h1 3) (k0_off101_inb i k k0_h1) (k0_off104_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨25, Nat.le_of_ble_eq_true rfl⟩ ⟨3, Nat.le_of_ble_eq_true rfl⟩ k.val (ClosedOff.eq (off := k0_off102 k 96#32)) (ClosedOff.eq (off := k0_off101 k)) (ClosedOff.eq (off := k0_off103 k 96#32)) (k0_off102_inb i k k0_h1 3) (k0_off101_inb i k k0_h1) (k0_off103_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨25, Nat.le_of_ble_eq_true rfl⟩ ⟨2, Nat.le_of_ble_eq_true rfl⟩ k.val (ClosedOff.eq (off := k0_off102 k 64#32)) (ClosedOff.eq (off := k0_off101 k)) (ClosedOff.eq (off := k0_off104 k 64#32)) (k0_off102_inb i k k0_h1 2) (k0_off101_inb i k k0_h1) (k0_off104_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨25, Nat.le_of_ble_eq_true rfl⟩ ⟨2, Nat.le_of_ble_eq_true rfl⟩ k.val (ClosedOff.eq (off := k0_off102 k 64#32)) (ClosedOff.eq (off := k0_off101 k)) (ClosedOff.eq (off := k0_off103 k 64#32)) (k0_off102_inb i k k0_h1 2) (k0_off101_inb i k k0_h1) (k0_off103_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨25, Nat.le_of_ble_eq_true rfl⟩ ⟨1, Nat.le_of_ble_eq_true rfl⟩ k.val (ClosedOff.eq (off := k0_off102 k 32#32)) (ClosedOff.eq (off := k0_off101 k)) (ClosedOff.eq (off := k0_off104 k 32#32)) (k0_off102_inb i k k0_h1 1) (k0_off101_inb i k k0_h1) (k0_off104_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨25, Nat.le_of_ble_eq_true rfl⟩ ⟨1, Nat.le_of_ble_eq_true rfl⟩ k.val (ClosedOff.eq (off := k0_off102 k 32#32)) (ClosedOff.eq (off := k0_off101 k)) (ClosedOff.eq (off := k0_off103 k 32#32)) (k0_off102_inb i k k0_h1 1) (k0_off101_inb i k k0_h1) (k0_off103_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨25, Nat.le_of_ble_eq_true rfl⟩ ⟨0, Nat.le_of_ble_eq_true rfl⟩ k.val (ClosedOff.eq (off := k0_off102 k 0#32)) (ClosedOff.eq (off := k0_off101 k)) (ClosedOff.eq (off := k0_off104 k 0#32)) (k0_off102_inb i k k0_h1 0) (k0_off101_inb i k k0_h1) (k0_off104_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨25, Nat.le_of_ble_eq_true rfl⟩ ⟨0, Nat.le_of_ble_eq_true rfl⟩ k.val (ClosedOff.eq (off := k0_off102 k 0#32)) (ClosedOff.eq (off := k0_off101 k)) (ClosedOff.eq (off := k0_off103 k 0#32)) (k0_off102_inb i k k0_h1 0) (k0_off101_inb i k k0_h1) (k0_off103_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨24, Nat.le_of_ble_eq_true rfl⟩ ⟨3, Nat.le_of_ble_eq_true rfl⟩ k.val (ClosedOff.eq (off := k0_off98 k 96#32)) (ClosedOff.eq (off := k0_off97 k)) (ClosedOff.eq (off := k0_off100 k 96#32)) (k0_off98_inb i k k0_h1 3) (k0_off97_inb i k k0_h1) (k0_off100_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨24, Nat.le_of_ble_eq_true rfl⟩ ⟨3, Nat.le_of_ble_eq_true rfl⟩ k.val (ClosedOff.eq (off := k0_off98 k 96#32)) (ClosedOff.eq (off := k0_off97 k)) (ClosedOff.eq (off := k0_off99 k 96#32)) (k0_off98_inb i k k0_h1 3) (k0_off97_inb i k k0_h1) (k0_off99_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨24, Nat.le_of_ble_eq_true rfl⟩ ⟨2, Nat.le_of_ble_eq_true rfl⟩ k.val (ClosedOff.eq (off := k0_off98 k 64#32)) (ClosedOff.eq (off := k0_off97 k)) (ClosedOff.eq (off := k0_off100 k 64#32)) (k0_off98_inb i k k0_h1 2) (k0_off97_inb i k k0_h1) (k0_off100_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨24, Nat.le_of_ble_eq_true rfl⟩ ⟨2, Nat.le_of_ble_eq_true rfl⟩ k.val (ClosedOff.eq (off := k0_off98 k 64#32)) (ClosedOff.eq (off := k0_off97 k)) (ClosedOff.eq (off := k0_off99 k 64#32)) (k0_off98_inb i k k0_h1 2) (k0_off97_inb i k k0_h1) (k0_off99_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨24, Nat.le_of_ble_eq_true rfl⟩ ⟨1, Nat.le_of_ble_eq_true rfl⟩ k.val (ClosedOff.eq (off := k0_off98 k 32#32)) (ClosedOff.eq (off := k0_off97 k)) (ClosedOff.eq (off := k0_off100 k 32#32)) (k0_off98_inb i k k0_h1 1) (k0_off97_inb i k k0_h1) (k0_off100_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨24, Nat.le_of_ble_eq_true rfl⟩ ⟨1, Nat.le_of_ble_eq_true rfl⟩ k.val (ClosedOff.eq (off := k0_off98 k 32#32)) (ClosedOff.eq (off := k0_off97 k)) (ClosedOff.eq (off := k0_off99 k 32#32)) (k0_off98_inb i k k0_h1 1) (k0_off97_inb i k k0_h1) (k0_off99_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨24, Nat.le_of_ble_eq_true rfl⟩ ⟨0, Nat.le_of_ble_eq_true rfl⟩ k.val (ClosedOff.eq (off := k0_off98 k 0#32)) (ClosedOff.eq (off := k0_off97 k)) (ClosedOff.eq (off := k0_off100 k 0#32)) (k0_off98_inb i k k0_h1 0) (k0_off97_inb i k k0_h1) (k0_off100_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨24, Nat.le_of_ble_eq_true rfl⟩ ⟨0, Nat.le_of_ble_eq_true rfl⟩ k.val (ClosedOff.eq (off := k0_off98 k 0#32)) (ClosedOff.eq (off := k0_off97 k)) (ClosedOff.eq (off := k0_off99 k 0#32)) (k0_off98_inb i k k0_h1 0) (k0_off97_inb i k k0_h1) (k0_off99_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨23, Nat.le_of_ble_eq_true rfl⟩ ⟨3, Nat.le_of_ble_eq_true rfl⟩ k.val (ClosedOff.eq (off := k0_off94 k 96#32)) (ClosedOff.eq (off := k0_off93 k)) (ClosedOff.eq (off := k0_off96 k 96#32)) (k0_off94_inb i k k0_h1 3) (k0_off93_inb i k k0_h1) (k0_off96_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨23, Nat.le_of_ble_eq_true rfl⟩ ⟨3, Nat.le_of_ble_eq_true rfl⟩ k.val (ClosedOff.eq (off := k0_off94 k 96#32)) (ClosedOff.eq (off := k0_off93 k)) (ClosedOff.eq (off := k0_off95 k 96#32)) (k0_off94_inb i k k0_h1 3) (k0_off93_inb i k k0_h1) (k0_off95_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨23, Nat.le_of_ble_eq_true rfl⟩ ⟨2, Nat.le_of_ble_eq_true rfl⟩ k.val (ClosedOff.eq (off := k0_off94 k 64#32)) (ClosedOff.eq (off := k0_off93 k)) (ClosedOff.eq (off := k0_off96 k 64#32)) (k0_off94_inb i k k0_h1 2) (k0_off93_inb i k k0_h1) (k0_off96_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨23, Nat.le_of_ble_eq_true rfl⟩ ⟨2, Nat.le_of_ble_eq_true rfl⟩ k.val (ClosedOff.eq (off := k0_off94 k 64#32)) (ClosedOff.eq (off := k0_off93 k)) (ClosedOff.eq (off := k0_off95 k 64#32)) (k0_off94_inb i k k0_h1 2) (k0_off93_inb i k k0_h1) (k0_off95_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨23, Nat.le_of_ble_eq_true rfl⟩ ⟨1, Nat.le_of_ble_eq_true rfl⟩ k.val (ClosedOff.eq (off := k0_off94 k 32#32)) (ClosedOff.eq (off := k0_off93 k)) (ClosedOff.eq (off := k0_off96 k 32#32)) (k0_off94_inb i k k0_h1 1) (k0_off93_inb i k k0_h1) (k0_off96_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨23, Nat.le_of_ble_eq_true rfl⟩ ⟨1, Nat.le_of_ble_eq_true rfl⟩ k.val (ClosedOff.eq (off := k0_off94 k 32#32)) (ClosedOff.eq (off := k0_off93 k)) (ClosedOff.eq (off := k0_off95 k 32#32)) (k0_off94_inb i k k0_h1 1) (k0_off93_inb i k k0_h1) (k0_off95_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨23, Nat.le_of_ble_eq_true rfl⟩ ⟨0, Nat.le_of_ble_eq_true rfl⟩ k.val (ClosedOff.eq (off := k0_off94 k 0#32)) (ClosedOff.eq (off := k0_off93 k)) (ClosedOff.eq (off := k0_off96 k 0#32)) (k0_off94_inb i k k0_h1 0) (k0_off93_inb i k k0_h1) (k0_off96_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨23, Nat.le_of_ble_eq_true rfl⟩ ⟨0, Nat.le_of_ble_eq_true rfl⟩ k.val (ClosedOff.eq (off := k0_off94 k 0#32)) (ClosedOff.eq (off := k0_off93 k)) (ClosedOff.eq (off := k0_off95 k 0#32)) (k0_off94_inb i k k0_h1 0) (k0_off93_inb i k k0_h1) (k0_off95_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨22, Nat.le_of_ble_eq_true rfl⟩ ⟨3, Nat.le_of_ble_eq_true rfl⟩ k.val (ClosedOff.eq (off := k0_off90 k 96#32)) (ClosedOff.eq (off := k0_off89 k)) (ClosedOff.eq (off := k0_off92 k 96#32)) (k0_off90_inb i k k0_h1 3) (k0_off89_inb i k k0_h1) (k0_off92_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨22, Nat.le_of_ble_eq_true rfl⟩ ⟨3, Nat.le_of_ble_eq_true rfl⟩ k.val (ClosedOff.eq (off := k0_off90 k 96#32)) (ClosedOff.eq (off := k0_off89 k)) (ClosedOff.eq (off := k0_off91 k 96#32)) (k0_off90_inb i k k0_h1 3) (k0_off89_inb i k k0_h1) (k0_off91_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨22, Nat.le_of_ble_eq_true rfl⟩ ⟨2, Nat.le_of_ble_eq_true rfl⟩ k.val (ClosedOff.eq (off := k0_off90 k 64#32)) (ClosedOff.eq (off := k0_off89 k)) (ClosedOff.eq (off := k0_off92 k 64#32)) (k0_off90_inb i k k0_h1 2) (k0_off89_inb i k k0_h1) (k0_off92_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨22, Nat.le_of_ble_eq_true rfl⟩ ⟨2, Nat.le_of_ble_eq_true rfl⟩ k.val (ClosedOff.eq (off := k0_off90 k 64#32)) (ClosedOff.eq (off := k0_off89 k)) (ClosedOff.eq (off := k0_off91 k 64#32)) (k0_off90_inb i k k0_h1 2) (k0_off89_inb i k k0_h1) (k0_off91_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨22, Nat.le_of_ble_eq_true rfl⟩ ⟨1, Nat.le_of_ble_eq_true rfl⟩ k.val (ClosedOff.eq (off := k0_off90 k 32#32)) (ClosedOff.eq (off := k0_off89 k)) (ClosedOff.eq (off := k0_off92 k 32#32)) (k0_off90_inb i k k0_h1 1) (k0_off89_inb i k k0_h1) (k0_off92_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨22, Nat.le_of_ble_eq_true rfl⟩ ⟨1, Nat.le_of_ble_eq_true rfl⟩ k.val (ClosedOff.eq (off := k0_off90 k 32#32)) (ClosedOff.eq (off := k0_off89 k)) (ClosedOff.eq (off := k0_off91 k 32#32)) (k0_off90_inb i k k0_h1 1) (k0_off89_inb i k k0_h1) (k0_off91_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨22, Nat.le_of_ble_eq_true rfl⟩ ⟨0, Nat.le_of_ble_eq_true rfl⟩ k.val (ClosedOff.eq (off := k0_off90 k 0#32)) (ClosedOff.eq (off := k0_off89 k)) (ClosedOff.eq (off := k0_off92 k 0#32)) (k0_off90_inb i k k0_h1 0) (k0_off89_inb i k k0_h1) (k0_off92_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨22, Nat.le_of_ble_eq_true rfl⟩ ⟨0, Nat.le_of_ble_eq_true rfl⟩ k.val (ClosedOff.eq (off := k0_off90 k 0#32)) (ClosedOff.eq (off := k0_off89 k)) (ClosedOff.eq (off := k0_off91 k 0#32)) (k0_off90_inb i k k0_h1 0) (k0_off89_inb i k k0_h1) (k0_off91_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨21, Nat.le_of_ble_eq_true rfl⟩ ⟨3, Nat.le_of_ble_eq_true rfl⟩ k.val (ClosedOff.eq (off := k0_off86 k 96#32)) (ClosedOff.eq (off := k0_off85 k)) (ClosedOff.eq (off := k0_off88 k 96#32)) (k0_off86_inb i k k0_h1 3) (k0_off85_inb i k k0_h1) (k0_off88_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨21, Nat.le_of_ble_eq_true rfl⟩ ⟨3, Nat.le_of_ble_eq_true rfl⟩ k.val (ClosedOff.eq (off := k0_off86 k 96#32)) (ClosedOff.eq (off := k0_off85 k)) (ClosedOff.eq (off := k0_off87 k 96#32)) (k0_off86_inb i k k0_h1 3) (k0_off85_inb i k k0_h1) (k0_off87_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨21, Nat.le_of_ble_eq_true rfl⟩ ⟨2, Nat.le_of_ble_eq_true rfl⟩ k.val (ClosedOff.eq (off := k0_off86 k 64#32)) (ClosedOff.eq (off := k0_off85 k)) (ClosedOff.eq (off := k0_off88 k 64#32)) (k0_off86_inb i k k0_h1 2) (k0_off85_inb i k k0_h1) (k0_off88_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨21, Nat.le_of_ble_eq_true rfl⟩ ⟨2, Nat.le_of_ble_eq_true rfl⟩ k.val (ClosedOff.eq (off := k0_off86 k 64#32)) (ClosedOff.eq (off := k0_off85 k)) (ClosedOff.eq (off := k0_off87 k 64#32)) (k0_off86_inb i k k0_h1 2) (k0_off85_inb i k k0_h1) (k0_off87_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨21, Nat.le_of_ble_eq_true rfl⟩ ⟨1, Nat.le_of_ble_eq_true rfl⟩ k.val (ClosedOff.eq (off := k0_off86 k 32#32)) (ClosedOff.eq (off := k0_off85 k)) (ClosedOff.eq (off := k0_off88 k 32#32)) (k0_off86_inb i k k0_h1 1) (k0_off85_inb i k k0_h1) (k0_off88_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨21, Nat.le_of_ble_eq_true rfl⟩ ⟨1, Nat.le_of_ble_eq_true rfl⟩ k.val (ClosedOff.eq (off := k0_off86 k 32#32)) (ClosedOff.eq (off := k0_off85 k)) (ClosedOff.eq (off := k0_off87 k 32#32)) (k0_off86_inb i k k0_h1 1) (k0_off85_inb i k k0_h1) (k0_off87_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨21, Nat.le_of_ble_eq_true rfl⟩ ⟨0, Nat.le_of_ble_eq_true rfl⟩ k.val (ClosedOff.eq (off := k0_off86 k 0#32)) (ClosedOff.eq (off := k0_off85 k)) (ClosedOff.eq (off := k0_off88 k 0#32)) (k0_off86_inb i k k0_h1 0) (k0_off85_inb i k k0_h1) (k0_off88_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨21, Nat.le_of_ble_eq_true rfl⟩ ⟨0, Nat.le_of_ble_eq_true rfl⟩ k.val (ClosedOff.eq (off := k0_off86 k 0#32)) (ClosedOff.eq (off := k0_off85 k)) (ClosedOff.eq (off := k0_off87 k 0#32)) (k0_off86_inb i k k0_h1 0) (k0_off85_inb i k k0_h1) (k0_off87_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨20, Nat.le_of_ble_eq_true rfl⟩ ⟨3, Nat.le_of_ble_eq_true rfl⟩ k.val (ClosedOff.eq (off := k0_off82 k 96#32)) (ClosedOff.eq (off := k0_off81 k)) (ClosedOff.eq (off := k0_off84 k 96#32)) (k0_off82_inb i k k0_h1 3) (k0_off81_inb i k k0_h1) (k0_off84_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨20, Nat.le_of_ble_eq_true rfl⟩ ⟨3, Nat.le_of_ble_eq_true rfl⟩ k.val (ClosedOff.eq (off := k0_off82 k 96#32)) (ClosedOff.eq (off := k0_off81 k)) (ClosedOff.eq (off := k0_off83 k 96#32)) (k0_off82_inb i k k0_h1 3) (k0_off81_inb i k k0_h1) (k0_off83_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨20, Nat.le_of_ble_eq_true rfl⟩ ⟨2, Nat.le_of_ble_eq_true rfl⟩ k.val (ClosedOff.eq (off := k0_off82 k 64#32)) (ClosedOff.eq (off := k0_off81 k)) (ClosedOff.eq (off := k0_off84 k 64#32)) (k0_off82_inb i k k0_h1 2) (k0_off81_inb i k k0_h1) (k0_off84_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨20, Nat.le_of_ble_eq_true rfl⟩ ⟨2, Nat.le_of_ble_eq_true rfl⟩ k.val (ClosedOff.eq (off := k0_off82 k 64#32)) (ClosedOff.eq (off := k0_off81 k)) (ClosedOff.eq (off := k0_off83 k 64#32)) (k0_off82_inb i k k0_h1 2) (k0_off81_inb i k k0_h1) (k0_off83_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨20, Nat.le_of_ble_eq_true rfl⟩ ⟨1, Nat.le_of_ble_eq_true rfl⟩ k.val (ClosedOff.eq (off := k0_off82 k 32#32)) (ClosedOff.eq (off := k0_off81 k)) (ClosedOff.eq (off := k0_off84 k 32#32)) (k0_off82_inb i k k0_h1 1) (k0_off81_inb i k k0_h1) (k0_off84_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨20, Nat.le_of_ble_eq_true rfl⟩ ⟨1, Nat.le_of_ble_eq_true rfl⟩ k.val (ClosedOff.eq (off := k0_off82 k 32#32)) (ClosedOff.eq (off := k0_off81 k)) (ClosedOff.eq (off := k0_off83 k 32#32)) (k0_off82_inb i k k0_h1 1) (k0_off81_inb i k k0_h1) (k0_off83_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨20, Nat.le_of_ble_eq_true rfl⟩ ⟨0, Nat.le_of_ble_eq_true rfl⟩ k.val (ClosedOff.eq (off := k0_off82 k 0#32)) (ClosedOff.eq (off := k0_off81 k)) (ClosedOff.eq (off := k0_off84 k 0#32)) (k0_off82_inb i k k0_h1 0) (k0_off81_inb i k k0_h1) (k0_off84_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨20, Nat.le_of_ble_eq_true rfl⟩ ⟨0, Nat.le_of_ble_eq_true rfl⟩ k.val (ClosedOff.eq (off := k0_off82 k 0#32)) (ClosedOff.eq (off := k0_off81 k)) (ClosedOff.eq (off := k0_off83 k 0#32)) (k0_off82_inb i k k0_h1 0) (k0_off81_inb i k k0_h1) (k0_off83_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨19, Nat.le_of_ble_eq_true rfl⟩ ⟨3, Nat.le_of_ble_eq_true rfl⟩ k.val (ClosedOff.eq (off := k0_off78 k 96#32)) (ClosedOff.eq (off := k0_off77 k)) (ClosedOff.eq (off := k0_off80 k 96#32)) (k0_off78_inb i k k0_h1 3) (k0_off77_inb i k k0_h1) (k0_off80_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨19, Nat.le_of_ble_eq_true rfl⟩ ⟨3, Nat.le_of_ble_eq_true rfl⟩ k.val (ClosedOff.eq (off := k0_off78 k 96#32)) (ClosedOff.eq (off := k0_off77 k)) (ClosedOff.eq (off := k0_off79 k 96#32)) (k0_off78_inb i k k0_h1 3) (k0_off77_inb i k k0_h1) (k0_off79_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨19, Nat.le_of_ble_eq_true rfl⟩ ⟨2, Nat.le_of_ble_eq_true rfl⟩ k.val (ClosedOff.eq (off := k0_off78 k 64#32)) (ClosedOff.eq (off := k0_off77 k)) (ClosedOff.eq (off := k0_off80 k 64#32)) (k0_off78_inb i k k0_h1 2) (k0_off77_inb i k k0_h1) (k0_off80_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨19, Nat.le_of_ble_eq_true rfl⟩ ⟨2, Nat.le_of_ble_eq_true rfl⟩ k.val (ClosedOff.eq (off := k0_off78 k 64#32)) (ClosedOff.eq (off := k0_off77 k)) (ClosedOff.eq (off := k0_off79 k 64#32)) (k0_off78_inb i k k0_h1 2) (k0_off77_inb i k k0_h1) (k0_off79_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨19, Nat.le_of_ble_eq_true rfl⟩ ⟨1, Nat.le_of_ble_eq_true rfl⟩ k.val (ClosedOff.eq (off := k0_off78 k 32#32)) (ClosedOff.eq (off := k0_off77 k)) (ClosedOff.eq (off := k0_off80 k 32#32)) (k0_off78_inb i k k0_h1 1) (k0_off77_inb i k k0_h1) (k0_off80_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨19, Nat.le_of_ble_eq_true rfl⟩ ⟨1, Nat.le_of_ble_eq_true rfl⟩ k.val (ClosedOff.eq (off := k0_off78 k 32#32)) (ClosedOff.eq (off := k0_off77 k)) (ClosedOff.eq (off := k0_off79 k 32#32)) (k0_off78_inb i k k0_h1 1) (k0_off77_inb i k k0_h1) (k0_off79_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨19, Nat.le_of_ble_eq_true rfl⟩ ⟨0, Nat.le_of_ble_eq_true rfl⟩ k.val (ClosedOff.eq (off := k0_off78 k 0#32)) (ClosedOff.eq (off := k0_off77 k)) (ClosedOff.eq (off := k0_off80 k 0#32)) (k0_off78_inb i k k0_h1 0) (k0_off77_inb i k k0_h1) (k0_off80_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨19, Nat.le_of_ble_eq_true rfl⟩ ⟨0, Nat.le_of_ble_eq_true rfl⟩ k.val (ClosedOff.eq (off := k0_off78 k 0#32)) (ClosedOff.eq (off := k0_off77 k)) (ClosedOff.eq (off := k0_off79 k 0#32)) (k0_off78_inb i k k0_h1 0) (k0_off77_inb i k k0_h1) (k0_off79_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨18, Nat.le_of_ble_eq_true rfl⟩ ⟨3, Nat.le_of_ble_eq_true rfl⟩ k.val (ClosedOff.eq (off := k0_off74 k 96#32)) (ClosedOff.eq (off := k0_off73 k)) (ClosedOff.eq (off := k0_off76 k 96#32)) (k0_off74_inb i k k0_h1 3) (k0_off73_inb i k k0_h1) (k0_off76_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨18, Nat.le_of_ble_eq_true rfl⟩ ⟨3, Nat.le_of_ble_eq_true rfl⟩ k.val (ClosedOff.eq (off := k0_off74 k 96#32)) (ClosedOff.eq (off := k0_off73 k)) (ClosedOff.eq (off := k0_off75 k 96#32)) (k0_off74_inb i k k0_h1 3) (k0_off73_inb i k k0_h1) (k0_off75_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨18, Nat.le_of_ble_eq_true rfl⟩ ⟨2, Nat.le_of_ble_eq_true rfl⟩ k.val (ClosedOff.eq (off := k0_off74 k 64#32)) (ClosedOff.eq (off := k0_off73 k)) (ClosedOff.eq (off := k0_off76 k 64#32)) (k0_off74_inb i k k0_h1 2) (k0_off73_inb i k k0_h1) (k0_off76_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨18, Nat.le_of_ble_eq_true rfl⟩ ⟨2, Nat.le_of_ble_eq_true rfl⟩ k.val (ClosedOff.eq (off := k0_off74 k 64#32)) (ClosedOff.eq (off := k0_off73 k)) (ClosedOff.eq (off := k0_off75 k 64#32)) (k0_off74_inb i k k0_h1 2) (k0_off73_inb i k k0_h1) (k0_off75_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨18, Nat.le_of_ble_eq_true rfl⟩ ⟨1, Nat.le_of_ble_eq_true rfl⟩ k.val (ClosedOff.eq (off := k0_off74 k 32#32)) (ClosedOff.eq (off := k0_off73 k)) (ClosedOff.eq (off := k0_off76 k 32#32)) (k0_off74_inb i k k0_h1 1) (k0_off73_inb i k k0_h1) (k0_off76_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨18, Nat.le_of_ble_eq_true rfl⟩ ⟨1, Nat.le_of_ble_eq_true rfl⟩ k.val (ClosedOff.eq (off := k0_off74 k 32#32)) (ClosedOff.eq (off := k0_off73 k)) (ClosedOff.eq (off := k0_off75 k 32#32)) (k0_off74_inb i k k0_h1 1) (k0_off73_inb i k k0_h1) (k0_off75_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨18, Nat.le_of_ble_eq_true rfl⟩ ⟨0, Nat.le_of_ble_eq_true rfl⟩ k.val (ClosedOff.eq (off := k0_off74 k 0#32)) (ClosedOff.eq (off := k0_off73 k)) (ClosedOff.eq (off := k0_off76 k 0#32)) (k0_off74_inb i k k0_h1 0) (k0_off73_inb i k k0_h1) (k0_off76_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨18, Nat.le_of_ble_eq_true rfl⟩ ⟨0, Nat.le_of_ble_eq_true rfl⟩ k.val (ClosedOff.eq (off := k0_off74 k 0#32)) (ClosedOff.eq (off := k0_off73 k)) (ClosedOff.eq (off := k0_off75 k 0#32)) (k0_off74_inb i k k0_h1 0) (k0_off73_inb i k k0_h1) (k0_off75_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨17, Nat.le_of_ble_eq_true rfl⟩ ⟨3, Nat.le_of_ble_eq_true rfl⟩ k.val (ClosedOff.eq (off := k0_off70 k 96#32)) (ClosedOff.eq (off := k0_off69 k)) (ClosedOff.eq (off := k0_off72 k 96#32)) (k0_off70_inb i k k0_h1 3) (k0_off69_inb i k k0_h1) (k0_off72_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨17, Nat.le_of_ble_eq_true rfl⟩ ⟨3, Nat.le_of_ble_eq_true rfl⟩ k.val (ClosedOff.eq (off := k0_off70 k 96#32)) (ClosedOff.eq (off := k0_off69 k)) (ClosedOff.eq (off := k0_off71 k 96#32)) (k0_off70_inb i k k0_h1 3) (k0_off69_inb i k k0_h1) (k0_off71_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨17, Nat.le_of_ble_eq_true rfl⟩ ⟨2, Nat.le_of_ble_eq_true rfl⟩ k.val (ClosedOff.eq (off := k0_off70 k 64#32)) (ClosedOff.eq (off := k0_off69 k)) (ClosedOff.eq (off := k0_off72 k 64#32)) (k0_off70_inb i k k0_h1 2) (k0_off69_inb i k k0_h1) (k0_off72_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨17, Nat.le_of_ble_eq_true rfl⟩ ⟨2, Nat.le_of_ble_eq_true rfl⟩ k.val (ClosedOff.eq (off := k0_off70 k 64#32)) (ClosedOff.eq (off := k0_off69 k)) (ClosedOff.eq (off := k0_off71 k 64#32)) (k0_off70_inb i k k0_h1 2) (k0_off69_inb i k k0_h1) (k0_off71_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨17, Nat.le_of_ble_eq_true rfl⟩ ⟨1, Nat.le_of_ble_eq_true rfl⟩ k.val (ClosedOff.eq (off := k0_off70 k 32#32)) (ClosedOff.eq (off := k0_off69 k)) (ClosedOff.eq (off := k0_off72 k 32#32)) (k0_off70_inb i k k0_h1 1) (k0_off69_inb i k k0_h1) (k0_off72_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨17, Nat.le_of_ble_eq_true rfl⟩ ⟨1, Nat.le_of_ble_eq_true rfl⟩ k.val (ClosedOff.eq (off := k0_off70 k 32#32)) (ClosedOff.eq (off := k0_off69 k)) (ClosedOff.eq (off := k0_off71 k 32#32)) (k0_off70_inb i k k0_h1 1) (k0_off69_inb i k k0_h1) (k0_off71_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨17, Nat.le_of_ble_eq_true rfl⟩ ⟨0, Nat.le_of_ble_eq_true rfl⟩ k.val (ClosedOff.eq (off := k0_off70 k 0#32)) (ClosedOff.eq (off := k0_off69 k)) (ClosedOff.eq (off := k0_off72 k 0#32)) (k0_off70_inb i k k0_h1 0) (k0_off69_inb i k k0_h1) (k0_off72_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨17, Nat.le_of_ble_eq_true rfl⟩ ⟨0, Nat.le_of_ble_eq_true rfl⟩ k.val (ClosedOff.eq (off := k0_off70 k 0#32)) (ClosedOff.eq (off := k0_off69 k)) (ClosedOff.eq (off := k0_off71 k 0#32)) (k0_off70_inb i k k0_h1 0) (k0_off69_inb i k k0_h1) (k0_off71_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨16, Nat.le_of_ble_eq_true rfl⟩ ⟨3, Nat.le_of_ble_eq_true rfl⟩ k.val (ClosedOff.eq (off := k0_off66 k 96#32)) (ClosedOff.eq (off := k0_off65 k)) (ClosedOff.eq (off := k0_off68 k 96#32)) (k0_off66_inb i k k0_h1 3) (k0_off65_inb i k k0_h1) (k0_off68_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨16, Nat.le_of_ble_eq_true rfl⟩ ⟨3, Nat.le_of_ble_eq_true rfl⟩ k.val (ClosedOff.eq (off := k0_off66 k 96#32)) (ClosedOff.eq (off := k0_off65 k)) (ClosedOff.eq (off := k0_off67 k 96#32)) (k0_off66_inb i k k0_h1 3) (k0_off65_inb i k k0_h1) (k0_off67_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨16, Nat.le_of_ble_eq_true rfl⟩ ⟨2, Nat.le_of_ble_eq_true rfl⟩ k.val (ClosedOff.eq (off := k0_off66 k 64#32)) (ClosedOff.eq (off := k0_off65 k)) (ClosedOff.eq (off := k0_off68 k 64#32)) (k0_off66_inb i k k0_h1 2) (k0_off65_inb i k k0_h1) (k0_off68_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨16, Nat.le_of_ble_eq_true rfl⟩ ⟨2, Nat.le_of_ble_eq_true rfl⟩ k.val (ClosedOff.eq (off := k0_off66 k 64#32)) (ClosedOff.eq (off := k0_off65 k)) (ClosedOff.eq (off := k0_off67 k 64#32)) (k0_off66_inb i k k0_h1 2) (k0_off65_inb i k k0_h1) (k0_off67_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨16, Nat.le_of_ble_eq_true rfl⟩ ⟨1, Nat.le_of_ble_eq_true rfl⟩ k.val (ClosedOff.eq (off := k0_off66 k 32#32)) (ClosedOff.eq (off := k0_off65 k)) (ClosedOff.eq (off := k0_off68 k 32#32)) (k0_off66_inb i k k0_h1 1) (k0_off65_inb i k k0_h1) (k0_off68_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨16, Nat.le_of_ble_eq_true rfl⟩ ⟨1, Nat.le_of_ble_eq_true rfl⟩ k.val (ClosedOff.eq (off := k0_off66 k 32#32)) (ClosedOff.eq (off := k0_off65 k)) (ClosedOff.eq (off := k0_off67 k 32#32)) (k0_off66_inb i k k0_h1 1) (k0_off65_inb i k k0_h1) (k0_off67_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨16, Nat.le_of_ble_eq_true rfl⟩ ⟨0, Nat.le_of_ble_eq_true rfl⟩ k.val (ClosedOff.eq (off := k0_off66 k 0#32)) (ClosedOff.eq (off := k0_off65 k)) (ClosedOff.eq (off := k0_off68 k 0#32)) (k0_off66_inb i k k0_h1 0) (k0_off65_inb i k k0_h1) (k0_off68_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨16, Nat.le_of_ble_eq_true rfl⟩ ⟨0, Nat.le_of_ble_eq_true rfl⟩ k.val (ClosedOff.eq (off := k0_off66 k 0#32)) (ClosedOff.eq (off := k0_off65 k)) (ClosedOff.eq (off := k0_off67 k 0#32)) (k0_off66_inb i k k0_h1 0) (k0_off65_inb i k k0_h1) (k0_off67_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨15, Nat.le_of_ble_eq_true rfl⟩ ⟨3, Nat.le_of_ble_eq_true rfl⟩ k.val (ClosedOff.eq (off := k0_off62 k 96#32)) (ClosedOff.eq (off := k0_off61 k)) (ClosedOff.eq (off := k0_off64 k 96#32)) (k0_off62_inb i k k0_h1 3) (k0_off61_inb i k k0_h1) (k0_off64_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨15, Nat.le_of_ble_eq_true rfl⟩ ⟨3, Nat.le_of_ble_eq_true rfl⟩ k.val (ClosedOff.eq (off := k0_off62 k 96#32)) (ClosedOff.eq (off := k0_off61 k)) (ClosedOff.eq (off := k0_off63 k 96#32)) (k0_off62_inb i k k0_h1 3) (k0_off61_inb i k k0_h1) (k0_off63_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨15, Nat.le_of_ble_eq_true rfl⟩ ⟨2, Nat.le_of_ble_eq_true rfl⟩ k.val (ClosedOff.eq (off := k0_off62 k 64#32)) (ClosedOff.eq (off := k0_off61 k)) (ClosedOff.eq (off := k0_off64 k 64#32)) (k0_off62_inb i k k0_h1 2) (k0_off61_inb i k k0_h1) (k0_off64_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨15, Nat.le_of_ble_eq_true rfl⟩ ⟨2, Nat.le_of_ble_eq_true rfl⟩ k.val (ClosedOff.eq (off := k0_off62 k 64#32)) (ClosedOff.eq (off := k0_off61 k)) (ClosedOff.eq (off := k0_off63 k 64#32)) (k0_off62_inb i k k0_h1 2) (k0_off61_inb i k k0_h1) (k0_off63_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨15, Nat.le_of_ble_eq_true rfl⟩ ⟨1, Nat.le_of_ble_eq_true rfl⟩ k.val (ClosedOff.eq (off := k0_off62 k 32#32)) (ClosedOff.eq (off := k0_off61 k)) (ClosedOff.eq (off := k0_off64 k 32#32)) (k0_off62_inb i k k0_h1 1) (k0_off61_inb i k k0_h1) (k0_off64_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨15, Nat.le_of_ble_eq_true rfl⟩ ⟨1, Nat.le_of_ble_eq_true rfl⟩ k.val (ClosedOff.eq (off := k0_off62 k 32#32)) (ClosedOff.eq (off := k0_off61 k)) (ClosedOff.eq (off := k0_off63 k 32#32)) (k0_off62_inb i k k0_h1 1) (k0_off61_inb i k k0_h1) (k0_off63_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨15, Nat.le_of_ble_eq_true rfl⟩ ⟨0, Nat.le_of_ble_eq_true rfl⟩ k.val (ClosedOff.eq (off := k0_off62 k 0#32)) (ClosedOff.eq (off := k0_off61 k)) (ClosedOff.eq (off := k0_off64 k 0#32)) (k0_off62_inb i k k0_h1 0) (k0_off61_inb i k k0_h1) (k0_off64_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨15, Nat.le_of_ble_eq_true rfl⟩ ⟨0, Nat.le_of_ble_eq_true rfl⟩ k.val (ClosedOff.eq (off := k0_off62 k 0#32)) (ClosedOff.eq (off := k0_off61 k)) (ClosedOff.eq (off := k0_off63 k 0#32)) (k0_off62_inb i k k0_h1 0) (k0_off61_inb i k k0_h1) (k0_off63_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨14, Nat.le_of_ble_eq_true rfl⟩ ⟨3, Nat.le_of_ble_eq_true rfl⟩ k.val (ClosedOff.eq (off := k0_off58 k 96#32)) (ClosedOff.eq (off := k0_off57 k)) (ClosedOff.eq (off := k0_off60 k 96#32)) (k0_off58_inb i k k0_h1 3) (k0_off57_inb i k k0_h1) (k0_off60_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨14, Nat.le_of_ble_eq_true rfl⟩ ⟨3, Nat.le_of_ble_eq_true rfl⟩ k.val (ClosedOff.eq (off := k0_off58 k 96#32)) (ClosedOff.eq (off := k0_off57 k)) (ClosedOff.eq (off := k0_off59 k 96#32)) (k0_off58_inb i k k0_h1 3) (k0_off57_inb i k k0_h1) (k0_off59_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨14, Nat.le_of_ble_eq_true rfl⟩ ⟨2, Nat.le_of_ble_eq_true rfl⟩ k.val (ClosedOff.eq (off := k0_off58 k 64#32)) (ClosedOff.eq (off := k0_off57 k)) (ClosedOff.eq (off := k0_off60 k 64#32)) (k0_off58_inb i k k0_h1 2) (k0_off57_inb i k k0_h1) (k0_off60_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨14, Nat.le_of_ble_eq_true rfl⟩ ⟨2, Nat.le_of_ble_eq_true rfl⟩ k.val (ClosedOff.eq (off := k0_off58 k 64#32)) (ClosedOff.eq (off := k0_off57 k)) (ClosedOff.eq (off := k0_off59 k 64#32)) (k0_off58_inb i k k0_h1 2) (k0_off57_inb i k k0_h1) (k0_off59_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨14, Nat.le_of_ble_eq_true rfl⟩ ⟨1, Nat.le_of_ble_eq_true rfl⟩ k.val (ClosedOff.eq (off := k0_off58 k 32#32)) (ClosedOff.eq (off := k0_off57 k)) (ClosedOff.eq (off := k0_off60 k 32#32)) (k0_off58_inb i k k0_h1 1) (k0_off57_inb i k k0_h1) (k0_off60_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨14, Nat.le_of_ble_eq_true rfl⟩ ⟨1, Nat.le_of_ble_eq_true rfl⟩ k.val (ClosedOff.eq (off := k0_off58 k 32#32)) (ClosedOff.eq (off := k0_off57 k)) (ClosedOff.eq (off := k0_off59 k 32#32)) (k0_off58_inb i k k0_h1 1) (k0_off57_inb i k k0_h1) (k0_off59_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨14, Nat.le_of_ble_eq_true rfl⟩ ⟨0, Nat.le_of_ble_eq_true rfl⟩ k.val (ClosedOff.eq (off := k0_off58 k 0#32)) (ClosedOff.eq (off := k0_off57 k)) (ClosedOff.eq (off := k0_off60 k 0#32)) (k0_off58_inb i k k0_h1 0) (k0_off57_inb i k k0_h1) (k0_off60_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨14, Nat.le_of_ble_eq_true rfl⟩ ⟨0, Nat.le_of_ble_eq_true rfl⟩ k.val (ClosedOff.eq (off := k0_off58 k 0#32)) (ClosedOff.eq (off := k0_off57 k)) (ClosedOff.eq (off := k0_off59 k 0#32)) (k0_off58_inb i k k0_h1 0) (k0_off57_inb i k k0_h1) (k0_off59_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨13, Nat.le_of_ble_eq_true rfl⟩ ⟨3, Nat.le_of_ble_eq_true rfl⟩ k.val (ClosedOff.eq (off := k0_off54 k 96#32)) (ClosedOff.eq (off := k0_off53 k)) (ClosedOff.eq (off := k0_off56 k 96#32)) (k0_off54_inb i k k0_h1 3) (k0_off53_inb i k k0_h1) (k0_off56_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨13, Nat.le_of_ble_eq_true rfl⟩ ⟨3, Nat.le_of_ble_eq_true rfl⟩ k.val (ClosedOff.eq (off := k0_off54 k 96#32)) (ClosedOff.eq (off := k0_off53 k)) (ClosedOff.eq (off := k0_off55 k 96#32)) (k0_off54_inb i k k0_h1 3) (k0_off53_inb i k k0_h1) (k0_off55_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨13, Nat.le_of_ble_eq_true rfl⟩ ⟨2, Nat.le_of_ble_eq_true rfl⟩ k.val (ClosedOff.eq (off := k0_off54 k 64#32)) (ClosedOff.eq (off := k0_off53 k)) (ClosedOff.eq (off := k0_off56 k 64#32)) (k0_off54_inb i k k0_h1 2) (k0_off53_inb i k k0_h1) (k0_off56_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨13, Nat.le_of_ble_eq_true rfl⟩ ⟨2, Nat.le_of_ble_eq_true rfl⟩ k.val (ClosedOff.eq (off := k0_off54 k 64#32)) (ClosedOff.eq (off := k0_off53 k)) (ClosedOff.eq (off := k0_off55 k 64#32)) (k0_off54_inb i k k0_h1 2) (k0_off53_inb i k k0_h1) (k0_off55_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨13, Nat.le_of_ble_eq_true rfl⟩ ⟨1, Nat.le_of_ble_eq_true rfl⟩ k.val (ClosedOff.eq (off := k0_off54 k 32#32)) (ClosedOff.eq (off := k0_off53 k)) (ClosedOff.eq (off := k0_off56 k 32#32)) (k0_off54_inb i k k0_h1 1) (k0_off53_inb i k k0_h1) (k0_off56_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨13, Nat.le_of_ble_eq_true rfl⟩ ⟨1, Nat.le_of_ble_eq_true rfl⟩ k.val (ClosedOff.eq (off := k0_off54 k 32#32)) (ClosedOff.eq (off := k0_off53 k)) (ClosedOff.eq (off := k0_off55 k 32#32)) (k0_off54_inb i k k0_h1 1) (k0_off53_inb i k k0_h1) (k0_off55_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨13, Nat.le_of_ble_eq_true rfl⟩ ⟨0, Nat.le_of_ble_eq_true rfl⟩ k.val (ClosedOff.eq (off := k0_off54 k 0#32)) (ClosedOff.eq (off := k0_off53 k)) (ClosedOff.eq (off := k0_off56 k 0#32)) (k0_off54_inb i k k0_h1 0) (k0_off53_inb i k k0_h1) (k0_off56_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨13, Nat.le_of_ble_eq_true rfl⟩ ⟨0, Nat.le_of_ble_eq_true rfl⟩ k.val (ClosedOff.eq (off := k0_off54 k 0#32)) (ClosedOff.eq (off := k0_off53 k)) (ClosedOff.eq (off := k0_off55 k 0#32)) (k0_off54_inb i k k0_h1 0) (k0_off53_inb i k k0_h1) (k0_off55_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨12, Nat.le_of_ble_eq_true rfl⟩ ⟨3, Nat.le_of_ble_eq_true rfl⟩ k.val (ClosedOff.eq (off := k0_off50 k 96#32)) (ClosedOff.eq (off := k0_off49 k)) (ClosedOff.eq (off := k0_off52 k 96#32)) (k0_off50_inb i k k0_h1 3) (k0_off49_inb i k k0_h1) (k0_off52_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨12, Nat.le_of_ble_eq_true rfl⟩ ⟨3, Nat.le_of_ble_eq_true rfl⟩ k.val (ClosedOff.eq (off := k0_off50 k 96#32)) (ClosedOff.eq (off := k0_off49 k)) (ClosedOff.eq (off := k0_off51 k 96#32)) (k0_off50_inb i k k0_h1 3) (k0_off49_inb i k k0_h1) (k0_off51_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨12, Nat.le_of_ble_eq_true rfl⟩ ⟨2, Nat.le_of_ble_eq_true rfl⟩ k.val (ClosedOff.eq (off := k0_off50 k 64#32)) (ClosedOff.eq (off := k0_off49 k)) (ClosedOff.eq (off := k0_off52 k 64#32)) (k0_off50_inb i k k0_h1 2) (k0_off49_inb i k k0_h1) (k0_off52_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨12, Nat.le_of_ble_eq_true rfl⟩ ⟨2, Nat.le_of_ble_eq_true rfl⟩ k.val (ClosedOff.eq (off := k0_off50 k 64#32)) (ClosedOff.eq (off := k0_off49 k)) (ClosedOff.eq (off := k0_off51 k 64#32)) (k0_off50_inb i k k0_h1 2) (k0_off49_inb i k k0_h1) (k0_off51_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨12, Nat.le_of_ble_eq_true rfl⟩ ⟨1, Nat.le_of_ble_eq_true rfl⟩ k.val (ClosedOff.eq (off := k0_off50 k 32#32)) (ClosedOff.eq (off := k0_off49 k)) (ClosedOff.eq (off := k0_off52 k 32#32)) (k0_off50_inb i k k0_h1 1) (k0_off49_inb i k k0_h1) (k0_off52_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨12, Nat.le_of_ble_eq_true rfl⟩ ⟨1, Nat.le_of_ble_eq_true rfl⟩ k.val (ClosedOff.eq (off := k0_off50 k 32#32)) (ClosedOff.eq (off := k0_off49 k)) (ClosedOff.eq (off := k0_off51 k 32#32)) (k0_off50_inb i k k0_h1 1) (k0_off49_inb i k k0_h1) (k0_off51_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨12, Nat.le_of_ble_eq_true rfl⟩ ⟨0, Nat.le_of_ble_eq_true rfl⟩ k.val (ClosedOff.eq (off := k0_off50 k 0#32)) (ClosedOff.eq (off := k0_off49 k)) (ClosedOff.eq (off := k0_off52 k 0#32)) (k0_off50_inb i k k0_h1 0) (k0_off49_inb i k k0_h1) (k0_off52_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨12, Nat.le_of_ble_eq_true rfl⟩ ⟨0, Nat.le_of_ble_eq_true rfl⟩ k.val (ClosedOff.eq (off := k0_off50 k 0#32)) (ClosedOff.eq (off := k0_off49 k)) (ClosedOff.eq (off := k0_off51 k 0#32)) (k0_off50_inb i k k0_h1 0) (k0_off49_inb i k k0_h1) (k0_off51_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨11, Nat.le_of_ble_eq_true rfl⟩ ⟨3, Nat.le_of_ble_eq_true rfl⟩ k.val (ClosedOff.eq (off := k0_off46 k 96#32)) (ClosedOff.eq (off := k0_off45 k)) (ClosedOff.eq (off := k0_off48 k 96#32)) (k0_off46_inb i k k0_h1 3) (k0_off45_inb i k k0_h1) (k0_off48_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨11, Nat.le_of_ble_eq_true rfl⟩ ⟨3, Nat.le_of_ble_eq_true rfl⟩ k.val (ClosedOff.eq (off := k0_off46 k 96#32)) (ClosedOff.eq (off := k0_off45 k)) (ClosedOff.eq (off := k0_off47 k 96#32)) (k0_off46_inb i k k0_h1 3) (k0_off45_inb i k k0_h1) (k0_off47_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨11, Nat.le_of_ble_eq_true rfl⟩ ⟨2, Nat.le_of_ble_eq_true rfl⟩ k.val (ClosedOff.eq (off := k0_off46 k 64#32)) (ClosedOff.eq (off := k0_off45 k)) (ClosedOff.eq (off := k0_off48 k 64#32)) (k0_off46_inb i k k0_h1 2) (k0_off45_inb i k k0_h1) (k0_off48_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨11, Nat.le_of_ble_eq_true rfl⟩ ⟨2, Nat.le_of_ble_eq_true rfl⟩ k.val (ClosedOff.eq (off := k0_off46 k 64#32)) (ClosedOff.eq (off := k0_off45 k)) (ClosedOff.eq (off := k0_off47 k 64#32)) (k0_off46_inb i k k0_h1 2) (k0_off45_inb i k k0_h1) (k0_off47_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨11, Nat.le_of_ble_eq_true rfl⟩ ⟨1, Nat.le_of_ble_eq_true rfl⟩ k.val (ClosedOff.eq (off := k0_off46 k 32#32)) (ClosedOff.eq (off := k0_off45 k)) (ClosedOff.eq (off := k0_off48 k 32#32)) (k0_off46_inb i k k0_h1 1) (k0_off45_inb i k k0_h1) (k0_off48_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨11, Nat.le_of_ble_eq_true rfl⟩ ⟨1, Nat.le_of_ble_eq_true rfl⟩ k.val (ClosedOff.eq (off := k0_off46 k 32#32)) (ClosedOff.eq (off := k0_off45 k)) (ClosedOff.eq (off := k0_off47 k 32#32)) (k0_off46_inb i k k0_h1 1) (k0_off45_inb i k k0_h1) (k0_off47_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨11, Nat.le_of_ble_eq_true rfl⟩ ⟨0, Nat.le_of_ble_eq_true rfl⟩ k.val (ClosedOff.eq (off := k0_off46 k 0#32)) (ClosedOff.eq (off := k0_off45 k)) (ClosedOff.eq (off := k0_off48 k 0#32)) (k0_off46_inb i k k0_h1 0) (k0_off45_inb i k k0_h1) (k0_off48_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨11, Nat.le_of_ble_eq_true rfl⟩ ⟨0, Nat.le_of_ble_eq_true rfl⟩ k.val (ClosedOff.eq (off := k0_off46 k 0#32)) (ClosedOff.eq (off := k0_off45 k)) (ClosedOff.eq (off := k0_off47 k 0#32)) (k0_off46_inb i k k0_h1 0) (k0_off45_inb i k k0_h1) (k0_off47_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨10, Nat.le_of_ble_eq_true rfl⟩ ⟨3, Nat.le_of_ble_eq_true rfl⟩ k.val (ClosedOff.eq (off := k0_off42 k 96#32)) (ClosedOff.eq (off := k0_off41 k)) (ClosedOff.eq (off := k0_off44 k 96#32)) (k0_off42_inb i k k0_h1 3) (k0_off41_inb i k k0_h1) (k0_off44_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨10, Nat.le_of_ble_eq_true rfl⟩ ⟨3, Nat.le_of_ble_eq_true rfl⟩ k.val (ClosedOff.eq (off := k0_off42 k 96#32)) (ClosedOff.eq (off := k0_off41 k)) (ClosedOff.eq (off := k0_off43 k 96#32)) (k0_off42_inb i k k0_h1 3) (k0_off41_inb i k k0_h1) (k0_off43_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨10, Nat.le_of_ble_eq_true rfl⟩ ⟨2, Nat.le_of_ble_eq_true rfl⟩ k.val (ClosedOff.eq (off := k0_off42 k 64#32)) (ClosedOff.eq (off := k0_off41 k)) (ClosedOff.eq (off := k0_off44 k 64#32)) (k0_off42_inb i k k0_h1 2) (k0_off41_inb i k k0_h1) (k0_off44_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨10, Nat.le_of_ble_eq_true rfl⟩ ⟨2, Nat.le_of_ble_eq_true rfl⟩ k.val (ClosedOff.eq (off := k0_off42 k 64#32)) (ClosedOff.eq (off := k0_off41 k)) (ClosedOff.eq (off := k0_off43 k 64#32)) (k0_off42_inb i k k0_h1 2) (k0_off41_inb i k k0_h1) (k0_off43_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨10, Nat.le_of_ble_eq_true rfl⟩ ⟨1, Nat.le_of_ble_eq_true rfl⟩ k.val (ClosedOff.eq (off := k0_off42 k 32#32)) (ClosedOff.eq (off := k0_off41 k)) (ClosedOff.eq (off := k0_off44 k 32#32)) (k0_off42_inb i k k0_h1 1) (k0_off41_inb i k k0_h1) (k0_off44_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨10, Nat.le_of_ble_eq_true rfl⟩ ⟨1, Nat.le_of_ble_eq_true rfl⟩ k.val (ClosedOff.eq (off := k0_off42 k 32#32)) (ClosedOff.eq (off := k0_off41 k)) (ClosedOff.eq (off := k0_off43 k 32#32)) (k0_off42_inb i k k0_h1 1) (k0_off41_inb i k k0_h1) (k0_off43_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨10, Nat.le_of_ble_eq_true rfl⟩ ⟨0, Nat.le_of_ble_eq_true rfl⟩ k.val (ClosedOff.eq (off := k0_off42 k 0#32)) (ClosedOff.eq (off := k0_off41 k)) (ClosedOff.eq (off := k0_off44 k 0#32)) (k0_off42_inb i k k0_h1 0) (k0_off41_inb i k k0_h1) (k0_off44_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨10, Nat.le_of_ble_eq_true rfl⟩ ⟨0, Nat.le_of_ble_eq_true rfl⟩ k.val (ClosedOff.eq (off := k0_off42 k 0#32)) (ClosedOff.eq (off := k0_off41 k)) (ClosedOff.eq (off := k0_off43 k 0#32)) (k0_off42_inb i k k0_h1 0) (k0_off41_inb i k k0_h1) (k0_off43_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨9, Nat.le_of_ble_eq_true rfl⟩ ⟨3, Nat.le_of_ble_eq_true rfl⟩ k.val (ClosedOff.eq (off := k0_off38 k 96#32)) (ClosedOff.eq (off := k0_off37 k)) (ClosedOff.eq (off := k0_off40 k 96#32)) (k0_off38_inb i k k0_h1 3) (k0_off37_inb i k k0_h1) (k0_off40_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨9, Nat.le_of_ble_eq_true rfl⟩ ⟨3, Nat.le_of_ble_eq_true rfl⟩ k.val (ClosedOff.eq (off := k0_off38 k 96#32)) (ClosedOff.eq (off := k0_off37 k)) (ClosedOff.eq (off := k0_off39 k 96#32)) (k0_off38_inb i k k0_h1 3) (k0_off37_inb i k k0_h1) (k0_off39_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨9, Nat.le_of_ble_eq_true rfl⟩ ⟨2, Nat.le_of_ble_eq_true rfl⟩ k.val (ClosedOff.eq (off := k0_off38 k 64#32)) (ClosedOff.eq (off := k0_off37 k)) (ClosedOff.eq (off := k0_off40 k 64#32)) (k0_off38_inb i k k0_h1 2) (k0_off37_inb i k k0_h1) (k0_off40_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨9, Nat.le_of_ble_eq_true rfl⟩ ⟨2, Nat.le_of_ble_eq_true rfl⟩ k.val (ClosedOff.eq (off := k0_off38 k 64#32)) (ClosedOff.eq (off := k0_off37 k)) (ClosedOff.eq (off := k0_off39 k 64#32)) (k0_off38_inb i k k0_h1 2) (k0_off37_inb i k k0_h1) (k0_off39_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨9, Nat.le_of_ble_eq_true rfl⟩ ⟨1, Nat.le_of_ble_eq_true rfl⟩ k.val (ClosedOff.eq (off := k0_off38 k 32#32)) (ClosedOff.eq (off := k0_off37 k)) (ClosedOff.eq (off := k0_off40 k 32#32)) (k0_off38_inb i k k0_h1 1) (k0_off37_inb i k k0_h1) (k0_off40_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨9, Nat.le_of_ble_eq_true rfl⟩ ⟨1, Nat.le_of_ble_eq_true rfl⟩ k.val (ClosedOff.eq (off := k0_off38 k 32#32)) (ClosedOff.eq (off := k0_off37 k)) (ClosedOff.eq (off := k0_off39 k 32#32)) (k0_off38_inb i k k0_h1 1) (k0_off37_inb i k k0_h1) (k0_off39_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨9, Nat.le_of_ble_eq_true rfl⟩ ⟨0, Nat.le_of_ble_eq_true rfl⟩ k.val (ClosedOff.eq (off := k0_off38 k 0#32)) (ClosedOff.eq (off := k0_off37 k)) (ClosedOff.eq (off := k0_off40 k 0#32)) (k0_off38_inb i k k0_h1 0) (k0_off37_inb i k k0_h1) (k0_off40_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨9, Nat.le_of_ble_eq_true rfl⟩ ⟨0, Nat.le_of_ble_eq_true rfl⟩ k.val (ClosedOff.eq (off := k0_off38 k 0#32)) (ClosedOff.eq (off := k0_off37 k)) (ClosedOff.eq (off := k0_off39 k 0#32)) (k0_off38_inb i k k0_h1 0) (k0_off37_inb i k k0_h1) (k0_off39_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨8, Nat.le_of_ble_eq_true rfl⟩ ⟨3, Nat.le_of_ble_eq_true rfl⟩ k.val (ClosedOff.eq (off := k0_off34 k 96#32)) (ClosedOff.eq (off := k0_off33 k)) (ClosedOff.eq (off := k0_off36 k 96#32)) (k0_off34_inb i k k0_h1 3) (k0_off33_inb i k k0_h1) (k0_off36_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨8, Nat.le_of_ble_eq_true rfl⟩ ⟨3, Nat.le_of_ble_eq_true rfl⟩ k.val (ClosedOff.eq (off := k0_off34 k 96#32)) (ClosedOff.eq (off := k0_off33 k)) (ClosedOff.eq (off := k0_off35 k 96#32)) (k0_off34_inb i k k0_h1 3) (k0_off33_inb i k k0_h1) (k0_off35_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨8, Nat.le_of_ble_eq_true rfl⟩ ⟨2, Nat.le_of_ble_eq_true rfl⟩ k.val (ClosedOff.eq (off := k0_off34 k 64#32)) (ClosedOff.eq (off := k0_off33 k)) (ClosedOff.eq (off := k0_off36 k 64#32)) (k0_off34_inb i k k0_h1 2) (k0_off33_inb i k k0_h1) (k0_off36_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨8, Nat.le_of_ble_eq_true rfl⟩ ⟨2, Nat.le_of_ble_eq_true rfl⟩ k.val (ClosedOff.eq (off := k0_off34 k 64#32)) (ClosedOff.eq (off := k0_off33 k)) (ClosedOff.eq (off := k0_off35 k 64#32)) (k0_off34_inb i k k0_h1 2) (k0_off33_inb i k k0_h1) (k0_off35_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨8, Nat.le_of_ble_eq_true rfl⟩ ⟨1, Nat.le_of_ble_eq_true rfl⟩ k.val (ClosedOff.eq (off := k0_off34 k 32#32)) (ClosedOff.eq (off := k0_off33 k)) (ClosedOff.eq (off := k0_off36 k 32#32)) (k0_off34_inb i k k0_h1 1) (k0_off33_inb i k k0_h1) (k0_off36_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨8, Nat.le_of_ble_eq_true rfl⟩ ⟨1, Nat.le_of_ble_eq_true rfl⟩ k.val (ClosedOff.eq (off := k0_off34 k 32#32)) (ClosedOff.eq (off := k0_off33 k)) (ClosedOff.eq (off := k0_off35 k 32#32)) (k0_off34_inb i k k0_h1 1) (k0_off33_inb i k k0_h1) (k0_off35_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨8, Nat.le_of_ble_eq_true rfl⟩ ⟨0, Nat.le_of_ble_eq_true rfl⟩ k.val (ClosedOff.eq (off := k0_off34 k 0#32)) (ClosedOff.eq (off := k0_off33 k)) (ClosedOff.eq (off := k0_off36 k 0#32)) (k0_off34_inb i k k0_h1 0) (k0_off33_inb i k k0_h1) (k0_off36_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨8, Nat.le_of_ble_eq_true rfl⟩ ⟨0, Nat.le_of_ble_eq_true rfl⟩ k.val (ClosedOff.eq (off := k0_off34 k 0#32)) (ClosedOff.eq (off := k0_off33 k)) (ClosedOff.eq (off := k0_off35 k 0#32)) (k0_off34_inb i k k0_h1 0) (k0_off33_inb i k k0_h1) (k0_off35_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨7, Nat.le_of_ble_eq_true rfl⟩ ⟨3, Nat.le_of_ble_eq_true rfl⟩ k.val (ClosedOff.eq (off := k0_off30 k 96#32)) (ClosedOff.eq (off := k0_off29 k)) (ClosedOff.eq (off := k0_off32 k 96#32)) (k0_off30_inb i k k0_h1 3) (k0_off29_inb i k k0_h1) (k0_off32_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨7, Nat.le_of_ble_eq_true rfl⟩ ⟨3, Nat.le_of_ble_eq_true rfl⟩ k.val (ClosedOff.eq (off := k0_off30 k 96#32)) (ClosedOff.eq (off := k0_off29 k)) (ClosedOff.eq (off := k0_off31 k 96#32)) (k0_off30_inb i k k0_h1 3) (k0_off29_inb i k k0_h1) (k0_off31_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨7, Nat.le_of_ble_eq_true rfl⟩ ⟨2, Nat.le_of_ble_eq_true rfl⟩ k.val (ClosedOff.eq (off := k0_off30 k 64#32)) (ClosedOff.eq (off := k0_off29 k)) (ClosedOff.eq (off := k0_off32 k 64#32)) (k0_off30_inb i k k0_h1 2) (k0_off29_inb i k k0_h1) (k0_off32_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨7, Nat.le_of_ble_eq_true rfl⟩ ⟨2, Nat.le_of_ble_eq_true rfl⟩ k.val (ClosedOff.eq (off := k0_off30 k 64#32)) (ClosedOff.eq (off := k0_off29 k)) (ClosedOff.eq (off := k0_off31 k 64#32)) (k0_off30_inb i k k0_h1 2) (k0_off29_inb i k k0_h1) (k0_off31_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨7, Nat.le_of_ble_eq_true rfl⟩ ⟨1, Nat.le_of_ble_eq_true rfl⟩ k.val (ClosedOff.eq (off := k0_off30 k 32#32)) (ClosedOff.eq (off := k0_off29 k)) (ClosedOff.eq (off := k0_off32 k 32#32)) (k0_off30_inb i k k0_h1 1) (k0_off29_inb i k k0_h1) (k0_off32_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨7, Nat.le_of_ble_eq_true rfl⟩ ⟨1, Nat.le_of_ble_eq_true rfl⟩ k.val (ClosedOff.eq (off := k0_off30 k 32#32)) (ClosedOff.eq (off := k0_off29 k)) (ClosedOff.eq (off := k0_off31 k 32#32)) (k0_off30_inb i k k0_h1 1) (k0_off29_inb i k k0_h1) (k0_off31_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨7, Nat.le_of_ble_eq_true rfl⟩ ⟨0, Nat.le_of_ble_eq_true rfl⟩ k.val (ClosedOff.eq (off := k0_off30 k 0#32)) (ClosedOff.eq (off := k0_off29 k)) (ClosedOff.eq (off := k0_off32 k 0#32)) (k0_off30_inb i k k0_h1 0) (k0_off29_inb i k k0_h1) (k0_off32_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨7, Nat.le_of_ble_eq_true rfl⟩ ⟨0, Nat.le_of_ble_eq_true rfl⟩ k.val (ClosedOff.eq (off := k0_off30 k 0#32)) (ClosedOff.eq (off := k0_off29 k)) (ClosedOff.eq (off := k0_off31 k 0#32)) (k0_off30_inb i k k0_h1 0) (k0_off29_inb i k k0_h1) (k0_off31_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨6, Nat.le_of_ble_eq_true rfl⟩ ⟨3, Nat.le_of_ble_eq_true rfl⟩ k.val (ClosedOff.eq (off := k0_off26 k 96#32)) (ClosedOff.eq (off := k0_off25 k)) (ClosedOff.eq (off := k0_off28 k 96#32)) (k0_off26_inb i k k0_h1 3) (k0_off25_inb i k k0_h1) (k0_off28_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨6, Nat.le_of_ble_eq_true rfl⟩ ⟨3, Nat.le_of_ble_eq_true rfl⟩ k.val (ClosedOff.eq (off := k0_off26 k 96#32)) (ClosedOff.eq (off := k0_off25 k)) (ClosedOff.eq (off := k0_off27 k 96#32)) (k0_off26_inb i k k0_h1 3) (k0_off25_inb i k k0_h1) (k0_off27_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨6, Nat.le_of_ble_eq_true rfl⟩ ⟨2, Nat.le_of_ble_eq_true rfl⟩ k.val (ClosedOff.eq (off := k0_off26 k 64#32)) (ClosedOff.eq (off := k0_off25 k)) (ClosedOff.eq (off := k0_off28 k 64#32)) (k0_off26_inb i k k0_h1 2) (k0_off25_inb i k k0_h1) (k0_off28_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨6, Nat.le_of_ble_eq_true rfl⟩ ⟨2, Nat.le_of_ble_eq_true rfl⟩ k.val (ClosedOff.eq (off := k0_off26 k 64#32)) (ClosedOff.eq (off := k0_off25 k)) (ClosedOff.eq (off := k0_off27 k 64#32)) (k0_off26_inb i k k0_h1 2) (k0_off25_inb i k k0_h1) (k0_off27_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨6, Nat.le_of_ble_eq_true rfl⟩ ⟨1, Nat.le_of_ble_eq_true rfl⟩ k.val (ClosedOff.eq (off := k0_off26 k 32#32)) (ClosedOff.eq (off := k0_off25 k)) (ClosedOff.eq (off := k0_off28 k 32#32)) (k0_off26_inb i k k0_h1 1) (k0_off25_inb i k k0_h1) (k0_off28_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨6, Nat.le_of_ble_eq_true rfl⟩ ⟨1, Nat.le_of_ble_eq_true rfl⟩ k.val (ClosedOff.eq (off := k0_off26 k 32#32)) (ClosedOff.eq (off := k0_off25 k)) (ClosedOff.eq (off := k0_off27 k 32#32)) (k0_off26_inb i k k0_h1 1) (k0_off25_inb i k k0_h1) (k0_off27_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨6, Nat.le_of_ble_eq_true rfl⟩ ⟨0, Nat.le_of_ble_eq_true rfl⟩ k.val (ClosedOff.eq (off := k0_off26 k 0#32)) (ClosedOff.eq (off := k0_off25 k)) (ClosedOff.eq (off := k0_off28 k 0#32)) (k0_off26_inb i k k0_h1 0) (k0_off25_inb i k k0_h1) (k0_off28_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨6, Nat.le_of_ble_eq_true rfl⟩ ⟨0, Nat.le_of_ble_eq_true rfl⟩ k.val (ClosedOff.eq (off := k0_off26 k 0#32)) (ClosedOff.eq (off := k0_off25 k)) (ClosedOff.eq (off := k0_off27 k 0#32)) (k0_off26_inb i k k0_h1 0) (k0_off25_inb i k k0_h1) (k0_off27_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨5, Nat.le_of_ble_eq_true rfl⟩ ⟨3, Nat.le_of_ble_eq_true rfl⟩ k.val (ClosedOff.eq (off := k0_off22 k 96#32)) (ClosedOff.eq (off := k0_off21 k)) (ClosedOff.eq (off := k0_off24 k 96#32)) (k0_off22_inb i k k0_h1 3) (k0_off21_inb i k k0_h1) (k0_off24_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨5, Nat.le_of_ble_eq_true rfl⟩ ⟨3, Nat.le_of_ble_eq_true rfl⟩ k.val (ClosedOff.eq (off := k0_off22 k 96#32)) (ClosedOff.eq (off := k0_off21 k)) (ClosedOff.eq (off := k0_off23 k 96#32)) (k0_off22_inb i k k0_h1 3) (k0_off21_inb i k k0_h1) (k0_off23_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨5, Nat.le_of_ble_eq_true rfl⟩ ⟨2, Nat.le_of_ble_eq_true rfl⟩ k.val (ClosedOff.eq (off := k0_off22 k 64#32)) (ClosedOff.eq (off := k0_off21 k)) (ClosedOff.eq (off := k0_off24 k 64#32)) (k0_off22_inb i k k0_h1 2) (k0_off21_inb i k k0_h1) (k0_off24_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨5, Nat.le_of_ble_eq_true rfl⟩ ⟨2, Nat.le_of_ble_eq_true rfl⟩ k.val (ClosedOff.eq (off := k0_off22 k 64#32)) (ClosedOff.eq (off := k0_off21 k)) (ClosedOff.eq (off := k0_off23 k 64#32)) (k0_off22_inb i k k0_h1 2) (k0_off21_inb i k k0_h1) (k0_off23_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨5, Nat.le_of_ble_eq_true rfl⟩ ⟨1, Nat.le_of_ble_eq_true rfl⟩ k.val (ClosedOff.eq (off := k0_off22 k 32#32)) (ClosedOff.eq (off := k0_off21 k)) (ClosedOff.eq (off := k0_off24 k 32#32)) (k0_off22_inb i k k0_h1 1) (k0_off21_inb i k k0_h1) (k0_off24_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨5, Nat.le_of_ble_eq_true rfl⟩ ⟨1, Nat.le_of_ble_eq_true rfl⟩ k.val (ClosedOff.eq (off := k0_off22 k 32#32)) (ClosedOff.eq (off := k0_off21 k)) (ClosedOff.eq (off := k0_off23 k 32#32)) (k0_off22_inb i k k0_h1 1) (k0_off21_inb i k k0_h1) (k0_off23_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨5, Nat.le_of_ble_eq_true rfl⟩ ⟨0, Nat.le_of_ble_eq_true rfl⟩ k.val (ClosedOff.eq (off := k0_off22 k 0#32)) (ClosedOff.eq (off := k0_off21 k)) (ClosedOff.eq (off := k0_off24 k 0#32)) (k0_off22_inb i k k0_h1 0) (k0_off21_inb i k k0_h1) (k0_off24_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨5, Nat.le_of_ble_eq_true rfl⟩ ⟨0, Nat.le_of_ble_eq_true rfl⟩ k.val (ClosedOff.eq (off := k0_off22 k 0#32)) (ClosedOff.eq (off := k0_off21 k)) (ClosedOff.eq (off := k0_off23 k 0#32)) (k0_off22_inb i k k0_h1 0) (k0_off21_inb i k k0_h1) (k0_off23_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨4, Nat.le_of_ble_eq_true rfl⟩ ⟨3, Nat.le_of_ble_eq_true rfl⟩ k.val (ClosedOff.eq (off := k0_off18 k 96#32)) (ClosedOff.eq (off := k0_off17 k)) (ClosedOff.eq (off := k0_off20 k 96#32)) (k0_off18_inb i k k0_h1 3) (k0_off17_inb i k k0_h1) (k0_off20_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨4, Nat.le_of_ble_eq_true rfl⟩ ⟨3, Nat.le_of_ble_eq_true rfl⟩ k.val (ClosedOff.eq (off := k0_off18 k 96#32)) (ClosedOff.eq (off := k0_off17 k)) (ClosedOff.eq (off := k0_off19 k 96#32)) (k0_off18_inb i k k0_h1 3) (k0_off17_inb i k k0_h1) (k0_off19_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨4, Nat.le_of_ble_eq_true rfl⟩ ⟨2, Nat.le_of_ble_eq_true rfl⟩ k.val (ClosedOff.eq (off := k0_off18 k 64#32)) (ClosedOff.eq (off := k0_off17 k)) (ClosedOff.eq (off := k0_off20 k 64#32)) (k0_off18_inb i k k0_h1 2) (k0_off17_inb i k k0_h1) (k0_off20_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨4, Nat.le_of_ble_eq_true rfl⟩ ⟨2, Nat.le_of_ble_eq_true rfl⟩ k.val (ClosedOff.eq (off := k0_off18 k 64#32)) (ClosedOff.eq (off := k0_off17 k)) (ClosedOff.eq (off := k0_off19 k 64#32)) (k0_off18_inb i k k0_h1 2) (k0_off17_inb i k k0_h1) (k0_off19_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨4, Nat.le_of_ble_eq_true rfl⟩ ⟨1, Nat.le_of_ble_eq_true rfl⟩ k.val (ClosedOff.eq (off := k0_off18 k 32#32)) (ClosedOff.eq (off := k0_off17 k)) (ClosedOff.eq (off := k0_off20 k 32#32)) (k0_off18_inb i k k0_h1 1) (k0_off17_inb i k k0_h1) (k0_off20_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨4, Nat.le_of_ble_eq_true rfl⟩ ⟨1, Nat.le_of_ble_eq_true rfl⟩ k.val (ClosedOff.eq (off := k0_off18 k 32#32)) (ClosedOff.eq (off := k0_off17 k)) (ClosedOff.eq (off := k0_off19 k 32#32)) (k0_off18_inb i k k0_h1 1) (k0_off17_inb i k k0_h1) (k0_off19_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨4, Nat.le_of_ble_eq_true rfl⟩ ⟨0, Nat.le_of_ble_eq_true rfl⟩ k.val (ClosedOff.eq (off := k0_off18 k 0#32)) (ClosedOff.eq (off := k0_off17 k)) (ClosedOff.eq (off := k0_off20 k 0#32)) (k0_off18_inb i k k0_h1 0) (k0_off17_inb i k k0_h1) (k0_off20_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨4, Nat.le_of_ble_eq_true rfl⟩ ⟨0, Nat.le_of_ble_eq_true rfl⟩ k.val (ClosedOff.eq (off := k0_off18 k 0#32)) (ClosedOff.eq (off := k0_off17 k)) (ClosedOff.eq (off := k0_off19 k 0#32)) (k0_off18_inb i k k0_h1 0) (k0_off17_inb i k k0_h1) (k0_off19_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨3, Nat.le_of_ble_eq_true rfl⟩ ⟨3, Nat.le_of_ble_eq_true rfl⟩ k.val (ClosedOff.eq (off := k0_off14 k 96#32)) (ClosedOff.eq (off := k0_off13 k)) (ClosedOff.eq (off := k0_off16 k 96#32)) (k0_off14_inb i k k0_h1 3) (k0_off13_inb i k k0_h1) (k0_off16_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨3, Nat.le_of_ble_eq_true rfl⟩ ⟨3, Nat.le_of_ble_eq_true rfl⟩ k.val (ClosedOff.eq (off := k0_off14 k 96#32)) (ClosedOff.eq (off := k0_off13 k)) (ClosedOff.eq (off := k0_off15 k 96#32)) (k0_off14_inb i k k0_h1 3) (k0_off13_inb i k k0_h1) (k0_off15_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨3, Nat.le_of_ble_eq_true rfl⟩ ⟨2, Nat.le_of_ble_eq_true rfl⟩ k.val (ClosedOff.eq (off := k0_off14 k 64#32)) (ClosedOff.eq (off := k0_off13 k)) (ClosedOff.eq (off := k0_off16 k 64#32)) (k0_off14_inb i k k0_h1 2) (k0_off13_inb i k k0_h1) (k0_off16_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨3, Nat.le_of_ble_eq_true rfl⟩ ⟨2, Nat.le_of_ble_eq_true rfl⟩ k.val (ClosedOff.eq (off := k0_off14 k 64#32)) (ClosedOff.eq (off := k0_off13 k)) (ClosedOff.eq (off := k0_off15 k 64#32)) (k0_off14_inb i k k0_h1 2) (k0_off13_inb i k k0_h1) (k0_off15_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨3, Nat.le_of_ble_eq_true rfl⟩ ⟨1, Nat.le_of_ble_eq_true rfl⟩ k.val (ClosedOff.eq (off := k0_off14 k 32#32)) (ClosedOff.eq (off := k0_off13 k)) (ClosedOff.eq (off := k0_off16 k 32#32)) (k0_off14_inb i k k0_h1 1) (k0_off13_inb i k k0_h1) (k0_off16_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨3, Nat.le_of_ble_eq_true rfl⟩ ⟨1, Nat.le_of_ble_eq_true rfl⟩ k.val (ClosedOff.eq (off := k0_off14 k 32#32)) (ClosedOff.eq (off := k0_off13 k)) (ClosedOff.eq (off := k0_off15 k 32#32)) (k0_off14_inb i k k0_h1 1) (k0_off13_inb i k k0_h1) (k0_off15_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨3, Nat.le_of_ble_eq_true rfl⟩ ⟨0, Nat.le_of_ble_eq_true rfl⟩ k.val (ClosedOff.eq (off := k0_off14 k 0#32)) (ClosedOff.eq (off := k0_off13 k)) (ClosedOff.eq (off := k0_off16 k 0#32)) (k0_off14_inb i k k0_h1 0) (k0_off13_inb i k k0_h1) (k0_off16_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨3, Nat.le_of_ble_eq_true rfl⟩ ⟨0, Nat.le_of_ble_eq_true rfl⟩ k.val (ClosedOff.eq (off := k0_off14 k 0#32)) (ClosedOff.eq (off := k0_off13 k)) (ClosedOff.eq (off := k0_off15 k 0#32)) (k0_off14_inb i k k0_h1 0) (k0_off13_inb i k k0_h1) (k0_off15_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨2, Nat.le_of_ble_eq_true rfl⟩ ⟨3, Nat.le_of_ble_eq_true rfl⟩ k.val (ClosedOff.eq (off := k0_off10 k 96#32)) (ClosedOff.eq (off := k0_off9 k)) (ClosedOff.eq (off := k0_off12 k 96#32)) (k0_off10_inb i k k0_h1 3) (k0_off9_inb i k k0_h1) (k0_off12_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨2, Nat.le_of_ble_eq_true rfl⟩ ⟨3, Nat.le_of_ble_eq_true rfl⟩ k.val (ClosedOff.eq (off := k0_off10 k 96#32)) (ClosedOff.eq (off := k0_off9 k)) (ClosedOff.eq (off := k0_off11 k 96#32)) (k0_off10_inb i k k0_h1 3) (k0_off9_inb i k k0_h1) (k0_off11_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨2, Nat.le_of_ble_eq_true rfl⟩ ⟨2, Nat.le_of_ble_eq_true rfl⟩ k.val (ClosedOff.eq (off := k0_off10 k 64#32)) (ClosedOff.eq (off := k0_off9 k)) (ClosedOff.eq (off := k0_off12 k 64#32)) (k0_off10_inb i k k0_h1 2) (k0_off9_inb i k k0_h1) (k0_off12_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨2, Nat.le_of_ble_eq_true rfl⟩ ⟨2, Nat.le_of_ble_eq_true rfl⟩ k.val (ClosedOff.eq (off := k0_off10 k 64#32)) (ClosedOff.eq (off := k0_off9 k)) (ClosedOff.eq (off := k0_off11 k 64#32)) (k0_off10_inb i k k0_h1 2) (k0_off9_inb i k k0_h1) (k0_off11_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨2, Nat.le_of_ble_eq_true rfl⟩ ⟨1, Nat.le_of_ble_eq_true rfl⟩ k.val (ClosedOff.eq (off := k0_off10 k 32#32)) (ClosedOff.eq (off := k0_off9 k)) (ClosedOff.eq (off := k0_off12 k 32#32)) (k0_off10_inb i k k0_h1 1) (k0_off9_inb i k k0_h1) (k0_off12_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨2, Nat.le_of_ble_eq_true rfl⟩ ⟨1, Nat.le_of_ble_eq_true rfl⟩ k.val (ClosedOff.eq (off := k0_off10 k 32#32)) (ClosedOff.eq (off := k0_off9 k)) (ClosedOff.eq (off := k0_off11 k 32#32)) (k0_off10_inb i k k0_h1 1) (k0_off9_inb i k k0_h1) (k0_off11_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨2, Nat.le_of_ble_eq_true rfl⟩ ⟨0, Nat.le_of_ble_eq_true rfl⟩ k.val (ClosedOff.eq (off := k0_off10 k 0#32)) (ClosedOff.eq (off := k0_off9 k)) (ClosedOff.eq (off := k0_off12 k 0#32)) (k0_off10_inb i k k0_h1 0) (k0_off9_inb i k k0_h1) (k0_off12_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨2, Nat.le_of_ble_eq_true rfl⟩ ⟨0, Nat.le_of_ble_eq_true rfl⟩ k.val (ClosedOff.eq (off := k0_off10 k 0#32)) (ClosedOff.eq (off := k0_off9 k)) (ClosedOff.eq (off := k0_off11 k 0#32)) (k0_off10_inb i k k0_h1 0) (k0_off9_inb i k k0_h1) (k0_off11_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨1, Nat.le_of_ble_eq_true rfl⟩ ⟨3, Nat.le_of_ble_eq_true rfl⟩ k.val (ClosedOff.eq (off := k0_off6 k 96#32)) (ClosedOff.eq (off := k0_off5 k)) (ClosedOff.eq (off := k0_off8 k 96#32)) (k0_off6_inb i k k0_h1 3) (k0_off5_inb i k k0_h1) (k0_off8_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨1, Nat.le_of_ble_eq_true rfl⟩ ⟨3, Nat.le_of_ble_eq_true rfl⟩ k.val (ClosedOff.eq (off := k0_off6 k 96#32)) (ClosedOff.eq (off := k0_off5 k)) (ClosedOff.eq (off := k0_off7 k 96#32)) (k0_off6_inb i k k0_h1 3) (k0_off5_inb i k k0_h1) (k0_off7_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨1, Nat.le_of_ble_eq_true rfl⟩ ⟨2, Nat.le_of_ble_eq_true rfl⟩ k.val (ClosedOff.eq (off := k0_off6 k 64#32)) (ClosedOff.eq (off := k0_off5 k)) (ClosedOff.eq (off := k0_off8 k 64#32)) (k0_off6_inb i k k0_h1 2) (k0_off5_inb i k k0_h1) (k0_off8_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨1, Nat.le_of_ble_eq_true rfl⟩ ⟨2, Nat.le_of_ble_eq_true rfl⟩ k.val (ClosedOff.eq (off := k0_off6 k 64#32)) (ClosedOff.eq (off := k0_off5 k)) (ClosedOff.eq (off := k0_off7 k 64#32)) (k0_off6_inb i k k0_h1 2) (k0_off5_inb i k k0_h1) (k0_off7_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨1, Nat.le_of_ble_eq_true rfl⟩ ⟨1, Nat.le_of_ble_eq_true rfl⟩ k.val (ClosedOff.eq (off := k0_off6 k 32#32)) (ClosedOff.eq (off := k0_off5 k)) (ClosedOff.eq (off := k0_off8 k 32#32)) (k0_off6_inb i k k0_h1 1) (k0_off5_inb i k k0_h1) (k0_off8_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨1, Nat.le_of_ble_eq_true rfl⟩ ⟨1, Nat.le_of_ble_eq_true rfl⟩ k.val (ClosedOff.eq (off := k0_off6 k 32#32)) (ClosedOff.eq (off := k0_off5 k)) (ClosedOff.eq (off := k0_off7 k 32#32)) (k0_off6_inb i k k0_h1 1) (k0_off5_inb i k k0_h1) (k0_off7_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨1, Nat.le_of_ble_eq_true rfl⟩ ⟨0, Nat.le_of_ble_eq_true rfl⟩ k.val (ClosedOff.eq (off := k0_off6 k 0#32)) (ClosedOff.eq (off := k0_off5 k)) (ClosedOff.eq (off := k0_off8 k 0#32)) (k0_off6_inb i k k0_h1 0) (k0_off5_inb i k k0_h1) (k0_off8_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨1, Nat.le_of_ble_eq_true rfl⟩ ⟨0, Nat.le_of_ble_eq_true rfl⟩ k.val (ClosedOff.eq (off := k0_off6 k 0#32)) (ClosedOff.eq (off := k0_off5 k)) (ClosedOff.eq (off := k0_off7 k 0#32)) (k0_off6_inb i k k0_h1 0) (k0_off5_inb i k k0_h1) (k0_off7_inb i k k0_h1 0) slices_S8x128_o0_0_S1x128 slices_S8x128_o1_0_S1x128 rfl rfl x), ?_⟩
  refine List.forall_mem_cons.2 ⟨fun x => (congrFun (by sl_kernel_rfl) x).trans (w_hi arg5.view X_arg5 arg10.view X_arg10 ⟨0, Nat.le_of_ble_eq_true rfl⟩ ⟨3, Nat.le_of_ble_eq_true rfl⟩ k.val (ClosedOff.eq (off := k0_off2 k 96#32)) (ClosedOff.eq (off := k0_off1 k)) (ClosedOff.eq (off := k0_off4 k 96#32)) (k0_off2_inb i k k0_h1 3) (k0_off1_inb i k k0_h1) (k0_off4_inb i k k0_h1 3) slices_S8x128_o6_0_S1x128 slices_S8x128_o7_0_S1x128 rfl rfl x), ?_⟩
  refine List.forall_mem_cons.2 ⟨fun x => (congrFun (by sl_kernel_rfl) x).trans (w_lo arg5.view X_arg5 arg10.view X_arg10 ⟨0, Nat.le_of_ble_eq_true rfl⟩ ⟨3, Nat.le_of_ble_eq_true rfl⟩ k.val (ClosedOff.eq (off := k0_off2 k 96#32)) (ClosedOff.eq (off := k0_off1 k)) (ClosedOff.eq (off := k0_off3 k 96#32)) (k0_off2_inb i k k0_h1 3) (k0_off1_inb i k k0_h1) (k0_off3_inb i k k0_h1 3) slices_S8x128_o6_0_S1x128 slices_S8x128_o7_0_S1x128 rfl rfl x), ?_⟩
  refine List.forall_mem_cons.2 ⟨fun x => (congrFun (by sl_kernel_rfl) x).trans (w_hi arg5.view X_arg5 arg10.view X_arg10 ⟨0, Nat.le_of_ble_eq_true rfl⟩ ⟨2, Nat.le_of_ble_eq_true rfl⟩ k.val (ClosedOff.eq (off := k0_off2 k 64#32)) (ClosedOff.eq (off := k0_off1 k)) (ClosedOff.eq (off := k0_off4 k 64#32)) (k0_off2_inb i k k0_h1 2) (k0_off1_inb i k k0_h1) (k0_off4_inb i k k0_h1 2) slices_S8x128_o4_0_S1x128 slices_S8x128_o5_0_S1x128 rfl rfl x), ?_⟩
  refine List.forall_mem_cons.2 ⟨fun x => (congrFun (by sl_kernel_rfl) x).trans (w_lo arg5.view X_arg5 arg10.view X_arg10 ⟨0, Nat.le_of_ble_eq_true rfl⟩ ⟨2, Nat.le_of_ble_eq_true rfl⟩ k.val (ClosedOff.eq (off := k0_off2 k 64#32)) (ClosedOff.eq (off := k0_off1 k)) (ClosedOff.eq (off := k0_off3 k 64#32)) (k0_off2_inb i k k0_h1 2) (k0_off1_inb i k k0_h1) (k0_off3_inb i k k0_h1 2) slices_S8x128_o4_0_S1x128 slices_S8x128_o5_0_S1x128 rfl rfl x), ?_⟩
  refine List.forall_mem_cons.2 ⟨fun x => (congrFun (by sl_kernel_rfl) x).trans (w_hi arg5.view X_arg5 arg10.view X_arg10 ⟨0, Nat.le_of_ble_eq_true rfl⟩ ⟨1, Nat.le_of_ble_eq_true rfl⟩ k.val (ClosedOff.eq (off := k0_off2 k 32#32)) (ClosedOff.eq (off := k0_off1 k)) (ClosedOff.eq (off := k0_off4 k 32#32)) (k0_off2_inb i k k0_h1 1) (k0_off1_inb i k k0_h1) (k0_off4_inb i k k0_h1 1) slices_S8x128_o2_0_S1x128 slices_S8x128_o3_0_S1x128 rfl rfl x), ?_⟩
  refine List.forall_mem_cons.2 ⟨fun x => (congrFun (by sl_kernel_rfl) x).trans (w_lo arg5.view X_arg5 arg10.view X_arg10 ⟨0, Nat.le_of_ble_eq_true rfl⟩ ⟨1, Nat.le_of_ble_eq_true rfl⟩ k.val (ClosedOff.eq (off := k0_off2 k 32#32)) (ClosedOff.eq (off := k0_off1 k)) (ClosedOff.eq (off := k0_off3 k 32#32)) (k0_off2_inb i k k0_h1 1) (k0_off1_inb i k k0_h1) (k0_off3_inb i k k0_h1 1) slices_S8x128_o2_0_S1x128 slices_S8x128_o3_0_S1x128 rfl rfl x), ?_⟩
  refine List.forall_mem_cons.2 ⟨fun x => (congrFun (by sl_kernel_rfl) x).trans (w_hi arg5.view X_arg5 arg10.view X_arg10 ⟨0, Nat.le_of_ble_eq_true rfl⟩ ⟨0, Nat.le_of_ble_eq_true rfl⟩ k.val (ClosedOff.eq (off := k0_off2 k 0#32)) (ClosedOff.eq (off := k0_off1 k)) (ClosedOff.eq (off := k0_off4 k 0#32)) (k0_off2_inb i k k0_h1 0) (k0_off1_inb i k k0_h1) (k0_off4_inb i k k0_h1 0) slices_S8x128_o0_0_S1x128 slices_S8x128_o1_0_S1x128 rfl rfl x), ?_⟩
  refine List.forall_mem_cons.2 ⟨fun x => (congrFun (by sl_kernel_rfl) x).trans (w_lo arg5.view X_arg5 arg10.view X_arg10 ⟨0, Nat.le_of_ble_eq_true rfl⟩ ⟨0, Nat.le_of_ble_eq_true rfl⟩ k.val (ClosedOff.eq (off := k0_off2 k 0#32)) (ClosedOff.eq (off := k0_off1 k)) (ClosedOff.eq (off := k0_off3 k 0#32)) (k0_off2_inb i k k0_h1 0) (k0_off1_inb i k k0_h1) (k0_off3_inb i k k0_h1 0) slices_S8x128_o0_0_S1x128 slices_S8x128_o1_0_S1x128 rfl rfl x), ?_⟩
  exact List.forall_mem_nil _

end Cert.KernelIdeal.Run

end
-- ==== Proof.Ideal.Wexp.lean ====
/- The weight scales, spread over the code columns. -/
module

public import proofs.«01_k».proof.Proof.Ideal.RunA
public import proofs.«01_k».proof.Proof.Spec
public import Idealize.ShloMosaic.Lib.VecWindow

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec

/-- The tiles stored into the buffer of the spread scales, each a tile of the spread scales. -/
theorem wexp_pieces (c : Dev nD) (arg6 : Memref sig .tc .vmem S144x512 .fp8e4m3) (harg6 : arg6.IsWhole) (x5 : Vec F S144x512 .fp8e4m3) :
    ∀ p ∈ kernelRun0_A.sl.HS2_28 c arg6 harg6 x5, ∀ x : p.1.shape.Idx,
      p.2 x = eBuf (arg6.view.readAt (Elt F) (Rect.unit (s := S144x512) ![0, 0] S144x512.size inb_S144x512_S144x512_0_0).toLoadRect (harg6.unread x5)) (p.1.emb x) := by
  unfold kernelRun0_A.sl.HS2_28
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨27, Nat.le_of_ble_eq_true rfl⟩ (o := ![0, 384]) rfl (hx := bitsLt_fp8e4m3_f32) (ho := slices_S144x512_o0_384_S144x128) (hi := iota_S144x128_d1_w32) (h1 := natLt_1_32) (h2 := shapeCasts_S144x128_S144x128x1) (h3 := shapeCasts_S144x128x1_S144x128) (h4 := shapeCasts_S144x128_S144x128) (off := ![0, 3456]) (inb := inb_S144x3584_S144x128_0_3456) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨26, Nat.le_of_ble_eq_true rfl⟩ (o := ![0, 384]) rfl (hx := bitsLt_fp8e4m3_f32) (ho := slices_S144x512_o0_384_S144x128) (hi := iota_S144x128_d1_w32) (h1 := natLt_1_32) (h2 := shapeCasts_S144x128_S144x128x1) (h3 := shapeCasts_S144x128x1_S144x128) (h4 := shapeCasts_S144x128_S144x128) (off := ![0, 3328]) (inb := inb_S144x3584_S144x128_0_3328) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨25, Nat.le_of_ble_eq_true rfl⟩ (o := ![0, 384]) rfl (hx := bitsLt_fp8e4m3_f32) (ho := slices_S144x512_o0_384_S144x128) (hi := iota_S144x128_d1_w32) (h1 := natLt_1_32) (h2 := shapeCasts_S144x128_S144x128x1) (h3 := shapeCasts_S144x128x1_S144x128) (h4 := shapeCasts_S144x128_S144x128) (off := ![0, 3200]) (inb := inb_S144x3584_S144x128_0_3200) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨24, Nat.le_of_ble_eq_true rfl⟩ (o := ![0, 384]) rfl (hx := bitsLt_fp8e4m3_f32) (ho := slices_S144x512_o0_384_S144x128) (hi := iota_S144x128_d1_w32) (h1 := natLt_1_32) (h2 := shapeCasts_S144x128_S144x128x1) (h3 := shapeCasts_S144x128x1_S144x128) (h4 := shapeCasts_S144x128_S144x128) (off := ![0, 3072]) (inb := inb_S144x3584_S144x128_0_3072) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨23, Nat.le_of_ble_eq_true rfl⟩ (o := ![0, 256]) rfl (hx := bitsLt_fp8e4m3_f32) (ho := slices_S144x512_o0_256_S144x128) (hi := iota_S144x128_d1_w32) (h1 := natLt_1_32) (h2 := shapeCasts_S144x128_S144x128x1) (h3 := shapeCasts_S144x128x1_S144x128) (h4 := shapeCasts_S144x128_S144x128) (off := ![0, 2944]) (inb := inb_S144x3584_S144x128_0_2944) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨22, Nat.le_of_ble_eq_true rfl⟩ (o := ![0, 256]) rfl (hx := bitsLt_fp8e4m3_f32) (ho := slices_S144x512_o0_256_S144x128) (hi := iota_S144x128_d1_w32) (h1 := natLt_1_32) (h2 := shapeCasts_S144x128_S144x128x1) (h3 := shapeCasts_S144x128x1_S144x128) (h4 := shapeCasts_S144x128_S144x128) (off := ![0, 2816]) (inb := inb_S144x3584_S144x128_0_2816) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨21, Nat.le_of_ble_eq_true rfl⟩ (o := ![0, 256]) rfl (hx := bitsLt_fp8e4m3_f32) (ho := slices_S144x512_o0_256_S144x128) (hi := iota_S144x128_d1_w32) (h1 := natLt_1_32) (h2 := shapeCasts_S144x128_S144x128x1) (h3 := shapeCasts_S144x128x1_S144x128) (h4 := shapeCasts_S144x128_S144x128) (off := ![0, 2688]) (inb := inb_S144x3584_S144x128_0_2688) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨20, Nat.le_of_ble_eq_true rfl⟩ (o := ![0, 256]) rfl (hx := bitsLt_fp8e4m3_f32) (ho := slices_S144x512_o0_256_S144x128) (hi := iota_S144x128_d1_w32) (h1 := natLt_1_32) (h2 := shapeCasts_S144x128_S144x128x1) (h3 := shapeCasts_S144x128x1_S144x128) (h4 := shapeCasts_S144x128_S144x128) (off := ![0, 2560]) (inb := inb_S144x3584_S144x128_0_2560) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨19, Nat.le_of_ble_eq_true rfl⟩ (o := ![0, 256]) rfl (hx := bitsLt_fp8e4m3_f32) (ho := slices_S144x512_o0_256_S144x128) (hi := iota_S144x128_d1_w32) (h1 := natLt_1_32) (h2 := shapeCasts_S144x128_S144x128x1) (h3 := shapeCasts_S144x128x1_S144x128) (h4 := shapeCasts_S144x128_S144x128) (off := ![0, 2432]) (inb := inb_S144x3584_S144x128_0_2432) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨18, Nat.le_of_ble_eq_true rfl⟩ (o := ![0, 256]) rfl (hx := bitsLt_fp8e4m3_f32) (ho := slices_S144x512_o0_256_S144x128) (hi := iota_S144x128_d1_w32) (h1 := natLt_1_32) (h2 := shapeCasts_S144x128_S144x128x1) (h3 := shapeCasts_S144x128x1_S144x128) (h4 := shapeCasts_S144x128_S144x128) (off := ![0, 2304]) (inb := inb_S144x3584_S144x128_0_2304) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨17, Nat.le_of_ble_eq_true rfl⟩ (o := ![0, 256]) rfl (hx := bitsLt_fp8e4m3_f32) (ho := slices_S144x512_o0_256_S144x128) (hi := iota_S144x128_d1_w32) (h1 := natLt_1_32) (h2 := shapeCasts_S144x128_S144x128x1) (h3 := shapeCasts_S144x128x1_S144x128) (h4 := shapeCasts_S144x128_S144x128) (off := ![0, 2176]) (inb := inb_S144x3584_S144x128_0_2176) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨16, Nat.le_of_ble_eq_true rfl⟩ (o := ![0, 256]) rfl (hx := bitsLt_fp8e4m3_f32) (ho := slices_S144x512_o0_256_S144x128) (hi := iota_S144x128_d1_w32) (h1 := natLt_1_32) (h2 := shapeCasts_S144x128_S144x128x1) (h3 := shapeCasts_S144x128x1_S144x128) (h4 := shapeCasts_S144x128_S144x128) (off := ![0, 2048]) (inb := inb_S144x3584_S144x128_0_2048) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨15, Nat.le_of_ble_eq_true rfl⟩ (o := ![0, 128]) rfl (hx := bitsLt_fp8e4m3_f32) (ho := slices_S144x512_o0_128_S144x128) (hi := iota_S144x128_d1_w32) (h1 := natLt_1_32) (h2 := shapeCasts_S144x128_S144x128x1) (h3 := shapeCasts_S144x128x1_S144x128) (h4 := shapeCasts_S144x128_S144x128) (off := ![0, 1920]) (inb := inb_S144x3584_S144x128_0_1920) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨14, Nat.le_of_ble_eq_true rfl⟩ (o := ![0, 128]) rfl (hx := bitsLt_fp8e4m3_f32) (ho := slices_S144x512_o0_128_S144x128) (hi := iota_S144x128_d1_w32) (h1 := natLt_1_32) (h2 := shapeCasts_S144x128_S144x128x1) (h3 := shapeCasts_S144x128x1_S144x128) (h4 := shapeCasts_S144x128_S144x128) (off := ![0, 1792]) (inb := inb_S144x3584_S144x128_0_1792) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨13, Nat.le_of_ble_eq_true rfl⟩ (o := ![0, 128]) rfl (hx := bitsLt_fp8e4m3_f32) (ho := slices_S144x512_o0_128_S144x128) (hi := iota_S144x128_d1_w32) (h1 := natLt_1_32) (h2 := shapeCasts_S144x128_S144x128x1) (h3 := shapeCasts_S144x128x1_S144x128) (h4 := shapeCasts_S144x128_S144x128) (off := ![0, 1664]) (inb := inb_S144x3584_S144x128_0_1664) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨12, Nat.le_of_ble_eq_true rfl⟩ (o := ![0, 128]) rfl (hx := bitsLt_fp8e4m3_f32) (ho := slices_S144x512_o0_128_S144x128) (hi := iota_S144x128_d1_w32) (h1 := natLt_1_32) (h2 := shapeCasts_S144x128_S144x128x1) (h3 := shapeCasts_S144x128x1_S144x128) (h4 := shapeCasts_S144x128_S144x128) (off := ![0, 1536]) (inb := inb_S144x3584_S144x128_0_1536) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨11, Nat.le_of_ble_eq_true rfl⟩ (o := ![0, 128]) rfl (hx := bitsLt_fp8e4m3_f32) (ho := slices_S144x512_o0_128_S144x128) (hi := iota_S144x128_d1_w32) (h1 := natLt_1_32) (h2 := shapeCasts_S144x128_S144x128x1) (h3 := shapeCasts_S144x128x1_S144x128) (h4 := shapeCasts_S144x128_S144x128) (off := ![0, 1408]) (inb := inb_S144x3584_S144x128_0_1408) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨10, Nat.le_of_ble_eq_true rfl⟩ (o := ![0, 128]) rfl (hx := bitsLt_fp8e4m3_f32) (ho := slices_S144x512_o0_128_S144x128) (hi := iota_S144x128_d1_w32) (h1 := natLt_1_32) (h2 := shapeCasts_S144x128_S144x128x1) (h3 := shapeCasts_S144x128x1_S144x128) (h4 := shapeCasts_S144x128_S144x128) (off := ![0, 1280]) (inb := inb_S144x3584_S144x128_0_1280) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨9, Nat.le_of_ble_eq_true rfl⟩ (o := ![0, 128]) rfl (hx := bitsLt_fp8e4m3_f32) (ho := slices_S144x512_o0_128_S144x128) (hi := iota_S144x128_d1_w32) (h1 := natLt_1_32) (h2 := shapeCasts_S144x128_S144x128x1) (h3 := shapeCasts_S144x128x1_S144x128) (h4 := shapeCasts_S144x128_S144x128) (off := ![0, 1152]) (inb := inb_S144x3584_S144x128_0_1152) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨8, Nat.le_of_ble_eq_true rfl⟩ (o := ![0, 128]) rfl (hx := bitsLt_fp8e4m3_f32) (ho := slices_S144x512_o0_128_S144x128) (hi := iota_S144x128_d1_w32) (h1 := natLt_1_32) (h2 := shapeCasts_S144x128_S144x128x1) (h3 := shapeCasts_S144x128x1_S144x128) (h4 := shapeCasts_S144x128_S144x128) (off := ![0, 1024]) (inb := inb_S144x3584_S144x128_0_1024) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨7, Nat.le_of_ble_eq_true rfl⟩ (o := ![0, 0]) rfl (hx := bitsLt_fp8e4m3_f32) (ho := slices_S144x512_o0_0_S144x128) (hi := iota_S144x128_d1_w32) (h1 := natLt_1_32) (h2 := shapeCasts_S144x128_S144x128x1) (h3 := shapeCasts_S144x128x1_S144x128) (h4 := shapeCasts_S144x128_S144x128) (off := ![0, 896]) (inb := inb_S144x3584_S144x128_0_896) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨6, Nat.le_of_ble_eq_true rfl⟩ (o := ![0, 0]) rfl (hx := bitsLt_fp8e4m3_f32) (ho := slices_S144x512_o0_0_S144x128) (hi := iota_S144x128_d1_w32) (h1 := natLt_1_32) (h2 := shapeCasts_S144x128_S144x128x1) (h3 := shapeCasts_S144x128x1_S144x128) (h4 := shapeCasts_S144x128_S144x128) (off := ![0, 768]) (inb := inb_S144x3584_S144x128_0_768) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨5, Nat.le_of_ble_eq_true rfl⟩ (o := ![0, 0]) rfl (hx := bitsLt_fp8e4m3_f32) (ho := slices_S144x512_o0_0_S144x128) (hi := iota_S144x128_d1_w32) (h1 := natLt_1_32) (h2 := shapeCasts_S144x128_S144x128x1) (h3 := shapeCasts_S144x128x1_S144x128) (h4 := shapeCasts_S144x128_S144x128) (off := ![0, 640]) (inb := inb_S144x3584_S144x128_0_640) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨4, Nat.le_of_ble_eq_true rfl⟩ (o := ![0, 0]) rfl (hx := bitsLt_fp8e4m3_f32) (ho := slices_S144x512_o0_0_S144x128) (hi := iota_S144x128_d1_w32) (h1 := natLt_1_32) (h2 := shapeCasts_S144x128_S144x128x1) (h3 := shapeCasts_S144x128x1_S144x128) (h4 := shapeCasts_S144x128_S144x128) (off := ![0, 512]) (inb := inb_S144x3584_S144x128_0_512) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨3, Nat.le_of_ble_eq_true rfl⟩ (o := ![0, 0]) rfl (hx := bitsLt_fp8e4m3_f32) (ho := slices_S144x512_o0_0_S144x128) (hi := iota_S144x128_d1_w32) (h1 := natLt_1_32) (h2 := shapeCasts_S144x128_S144x128x1) (h3 := shapeCasts_S144x128x1_S144x128) (h4 := shapeCasts_S144x128_S144x128) (off := ![0, 384]) (inb := inb_S144x3584_S144x128_0_384) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨2, Nat.le_of_ble_eq_true rfl⟩ (o := ![0, 0]) rfl (hx := bitsLt_fp8e4m3_f32) (ho := slices_S144x512_o0_0_S144x128) (hi := iota_S144x128_d1_w32) (h1 := natLt_1_32) (h2 := shapeCasts_S144x128_S144x128x1) (h3 := shapeCasts_S144x128x1_S144x128) (h4 := shapeCasts_S144x128_S144x128) (off := ![0, 256]) (inb := inb_S144x3584_S144x128_0_256) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨1, Nat.le_of_ble_eq_true rfl⟩ (o := ![0, 0]) rfl (hx := bitsLt_fp8e4m3_f32) (ho := slices_S144x512_o0_0_S144x128) (hi := iota_S144x128_d1_w32) (h1 := natLt_1_32) (h2 := shapeCasts_S144x128_S144x128x1) (h3 := shapeCasts_S144x128x1_S144x128) (h4 := shapeCasts_S144x128_S144x128) (off := ![0, 128]) (inb := inb_S144x3584_S144x128_0_128) rfl x), ?_⟩
  refine List.forall_mem_cons.2 ⟨fun x => (congrFun (by sl_kernel_rfl) x).trans (pieceE (F := F) (arg6.view.readAt (Elt F) (Rect.unit (s := S144x512) ![0, 0] S144x512.size inb_S144x512_S144x512_0_0).toLoadRect (harg6.unread x5)) ⟨0, Nat.le_of_ble_eq_true rfl⟩ (o := ![0, 0]) rfl (hx := bitsLt_fp8e4m3_f32) (ho := slices_S144x512_o0_0_S144x128) (hi := iota_S144x128_d1_w32) (h1 := natLt_1_32) (h2 := shapeCasts_S144x128_S144x128x1) (h3 := shapeCasts_S144x128x1_S144x128) (h4 := shapeCasts_S144x128_S144x128) (off := ![0, 0]) (inb := inb_S144x3584_S144x128_0_0) rfl x), ?_⟩
  exact List.forall_mem_nil _

/-- Reading the buffer of the spread scales after its tiles are stored. -/
theorem wexp_read (c : Dev nD) (arg6 : Memref sig .tc .vmem S144x512 .fp8e4m3) (harg6 : arg6.IsWhole) (arg10 : Memref sig .tc .vmem S144x3584 .f32) (x5 : Vec F S144x512 .fp8e4m3)
    (f : BufTy.Contents (Elt F) arg10.view.ty) :
    arg10.view.read (Elt F) (arg10.view.writes (Elt F) f (kernelRun0_A.sl.HS2_28 c arg6 harg6 x5)) = eBuf x5 := by
  have h : arg6.view.readAt (Elt F) (Rect.unit (s := S144x512) ![0, 0] S144x512.size inb_S144x512_S144x512_0_0).toLoadRect (harg6.unread x5) = x5 :=
    (View.readAt_full arg6.view _ _).trans (harg6.read_unread x5)
  funext y
  refine (View.read_writes_apply_of_pieces _ _ _ (kernelRun0_A.sl.HS2_28 c arg6 harg6 x5) (wexp_pieces c arg6 harg6 x5) y
    (View.cover_of_tiledL (kernelRun0_A.sl.HS2_28 c arg6 harg6 x5) S144x128.size (by sl_kernel_rfl) y)).trans ?_
  rw [h]

end Cert.KernelIdeal.Run

end
-- ==== Proof.Ideal.Pieces.lean ====
/- What the body leaves in the scratch and in the output block, as one function of the staged inputs. -/
module

public import proofs.«01_k».proof.Proof.Ideal.RunA
public import proofs.«01_k».proof.Proof.Ideal.RunB
public import proofs.«01_k».proof.Proof.Ideal.TripX
public import proofs.«01_k».proof.Proof.Ideal.TripW
public import proofs.«01_k».proof.Proof.Ideal.Wexp
public import proofs.«01_k».proof.Proof.Spec
public import Idealize.ShloMosaic.Lib.VecWindow

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec

/-- The global scale of a block of rows: entry `(i / 2) % 4` of the four. -/
def gOf (x0 : Vec F S4 .f32) (i : grid0.Coords) : Elt F .f32 := x0 ((Rect.unit (s := S4) (k0_off201 i) S1.size (k0_off201_inb i)).toLoadRect.idx (Shape.Idx.first (s := S1) (by decide)))

/-- The global scale of the weights. -/
def wOf (x1 : Vec F S1 .f32) : Elt F .f32 := x1 ((Rect.unit (s := S1) ![0] S1.size inb_S1_S1_0).toLoadRect.idx (Shape.Idx.first (s := S1) (by decide)))

theorem g_eq (arg1 : Memref sig .tc .smem S4 .f32) (harg1 : arg1.IsWhole) (i : grid0.Coords) (x0 : Vec F S4 .f32) :
    (arg1.view.readAt (Elt F) (Rect.unit (s := S4) (k0_off201 i) S1.size (k0_off201_inb i)).toLoadRect (harg1.unread x0) (Shape.Idx.first (s := S1) (by decide))) = gOf x0 i := congrFun (harg1.read_unread x0) _

theorem w_eq (arg2 : Memref sig .tc .smem S1 .f32) (harg2 : arg2.IsWhole) (x1 : Vec F S1 .f32) :
    (arg2.view.readAt (Elt F) (Rect.unit (s := S1) ![0] S1.size inb_S1_S1_0).toLoadRect (harg2.unread x1) (Shape.Idx.first (s := S1) (by decide))) = wOf x1 := congrFun (harg2.read_unread x1) _

/-- The 256 rows of the weights from row `256 q`. -/
def wRows (W : Vec F S2304x7168 .bf16) (q : Fin 9) : Vec F S256x7168 .bf16 :=
  fun j => W (ix2 (⟨256 * q.val + (j 0).val, by have h : (j 0).val < 256 := (j 0).isLt; omega⟩ : Fin 2304) (⟨(j 1).val, (j 1).isLt⟩ : Fin 7168))

/-- What the body leaves in the output block, from the two global scales, the decoded activations and the decoded weights. -/
def outB (g w : Elt F .f32) (X : Vec F S512x7168 .bf16) (W : Vec F S2304x7168 .bf16) : Vec F S512x2304 .bf16 :=
  fun y => k0_pay920 g w X (wRows W ⟨(y 1).val / 256, by have h : (y 1).val < 2304 := (y 1).isLt; omega⟩)
    (ix2 (⟨(y 0).val, (y 0).isLt⟩ : Fin 512) (⟨(y 1).val % 256, Nat.mod_lt _ (by decide)⟩ : Fin 256))

theorem pieceOut (q : Fin 9) (g w g' w' : Elt F .f32) (X' X : Vec F S512x7168 .bf16) (W' : Vec F S256x7168 .bf16) (W : Vec F S2304x7168 .bf16)
    (hg : g' = g) (hw : w' = w) (hX : X' = X) (hW : W' = wRows W q) {off : Fin 2 → ℕ} {inb} (h : off = ![0, 256 * q.val]) :
    ∀ x, k0_pay920 g' w' X' W' x = outB g w X W ((Rect.unit (s := S512x2304) off ![512, 256] inb).emb x) := by
  intro x
  subst hg hw hX hW
  obtain ⟨r, l, rfl⟩ : ∃ r l, x = ix2 (n0 := 512) (n1 := 256) r l := ⟨x 0, x 1, eq_ix2 x⟩
  have hq := q.isLt
  have hl := l.isLt
  rw [emb2 (n0 := 512) (n1 := 2304) _ _ h inb r l r (⟨256 * q.val + l.val, by omega⟩ : Fin 2304) (by omega) rfl]
  have e1 : (⟨(256 * q.val + l.val) / 256, by omega⟩ : Fin 9) = q := Fin.ext (by show (256 * q.val + l.val) / 256 = q.val; omega)
  have e2 : (⟨(256 * q.val + l.val) % 256, Nat.mod_lt _ (by decide)⟩ : Fin 256) = l := Fin.ext (by show (256 * q.val + l.val) % 256 = l.val; omega)
  show _ = k0_pay920 g' w' X' (wRows W (⟨(256 * q.val + l.val) / 256, by omega⟩ : Fin 9)) (ix2 r (⟨(256 * q.val + l.val) % 256, Nat.mod_lt _ (by decide)⟩ : Fin 256))
  rw [e1, e2]

theorem rows {sp : Space} (v : View sig .tc sp S2304x7168 .bf16) (f : BufTy.Contents (Elt F) v.ty) (W : Vec F S2304x7168 .bf16) {off : Fin 2 → ℕ} {inb} (q : Fin 9)
    (h : off = ![256 * q.val, 0]) (hr : v.read (Elt F) f = W) :
    v.readAt (Elt F) (Rect.unit (s := S2304x7168) off ![256, 7168] inb).toLoadRect f = wRows W q := by
  subst hr
  funext x
  obtain ⟨r, l, rfl⟩ : ∃ r l, x = ix2 (n0 := 256) (n1 := 7168) r l := ⟨x 0, x 1, eq_ix2 x⟩
  exact congrArg (v.read (Elt F) f) (emb2 (n0 := 2304) (n1 := 7168) _ _ h inb r l _ _ rfl (Nat.zero_add _).symm)

/-- The tiles stored by the first trips of the activation loop. -/
theorem xpb_pieces (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (x2 : Vec F S512x3584 .i8) (x3 : Vec F S512x512 .fp8e4m3) : ∀ n, n ≤ k0_t2_loop.trips →
    ∀ p ∈ pb_k0_t2 (F := F) Variants.none c none i arg1 harg1 arg2 harg2 arg3 harg3 arg4 harg4 arg5 harg5 arg6 harg6 arg7 harg7 arg8 harg8 arg9 harg9 arg10 harg10 (harg3.unread x2) (harg4.unread x3) n, ∀ x : p.1.shape.Idx, p.2 x = xBuf x2 x3 (p.1.emb x)
  | 0, _ => fun p hp => absurd hp List.not_mem_nil
  | n + 1, hn => by
    intro p hp
    rw [pb_k0_t2_succ Variants.none c none i arg1 harg1 arg2 harg2 arg3 harg3 arg4 harg4 arg5 harg5 arg6 harg6 arg7 harg7 arg8 harg8 arg9 harg9 arg10 harg10 (harg3.unread x2) (harg4.unread x3) ⟨n, hn⟩] at hp
    rcases List.mem_append.mp hp with hp | hp
    · intro x
      have h := tripX Variants.none c none i arg1 harg1 arg2 harg2 arg3 harg3 arg4 harg4 arg5 harg5 arg6 harg6 arg7 harg7 arg8 harg8 arg9 harg9 arg10 harg10 (harg3.unread x2) (harg4.unread x3) ⟨n, hn⟩ p hp x
      rwa [harg3.read_unread, harg4.read_unread] at h
    · exact xpb_pieces c i arg1 harg1 arg2 harg2 arg3 harg3 arg4 harg4 arg5 harg5 arg6 harg6 arg7 harg7 arg8 harg8 arg9 harg9 arg10 harg10 x2 x3 n (Nat.le_of_succ_le hn) p hp

/-- The activation scratch after its loop. -/
theorem read_xpb (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (x2 : Vec F S512x3584 .i8) (x3 : Vec F S512x512 .fp8e4m3) :
    (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) = xBuf x2 x3 := by
  refine (View.readAt_full arg8.view _ _).trans ?_
  funext y
  exact View.read_writes_apply_of_pieces _ _ _ _ (xpb_pieces c i arg1 harg1 arg2 harg2 arg3 harg3 arg4 harg4 arg5 harg5 arg6 harg6 arg7 harg7 arg8 harg8 arg9 harg9 arg10 harg10 x2 x3 _ (Nat.le_of_ble_eq_true (by sl_kernel_rfl))) y
    (View.cover_of_tiledL (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) S32x128.size (by sl_kernel_rfl) y)

/-- The tiles stored by the first trips of the weight loop. -/
theorem wpb_pieces (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : cond0_0 i) (x4 : Vec F S2304x3584 .i8) (x5 : Vec F S144x512 .fp8e4m3) : ∀ n, n ≤ k0_t1_loop.trips →
    ∀ p ∈ pb_k0_t1 (F := F) Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) n, ∀ x : p.1.shape.Idx, p.2 x = wBuf x4 x5 (p.1.emb x)
  | 0, _ => fun p hp => absurd hp List.not_mem_nil
  | n + 1, hn => by
    intro p hp
    rw [pb_k0_t1_succ Variants.none c none i arg1 harg1 arg2 harg2 arg3 harg3 arg4 harg4 arg5 harg5 arg6 harg6 arg7 harg7 arg8 harg8 arg9 harg9 arg10 harg10 hc0 (harg5.unread x4) _ ⟨n, hn⟩] at hp
    rcases List.mem_append.mp hp with hp | hp
    · intro x
      have h := tripW Variants.none c none i arg1 harg1 arg2 harg2 arg3 harg3 arg4 harg4 arg5 harg5 arg6 harg6 arg7 harg7 arg8 harg8 arg9 harg9 arg10 harg10 hc0 (harg5.unread x4) _ ⟨n, hn⟩ p hp x
      rwa [harg5.read_unread, wexp_read] at h
    · exact wpb_pieces c i arg1 harg1 arg2 harg2 arg3 harg3 arg4 harg4 arg5 harg5 arg6 harg6 arg7 harg7 arg8 harg8 arg9 harg9 arg10 harg10 hc0 x4 x5 n (Nat.le_of_succ_le hn) p hp

/-- The weight scratch after its loop. -/
theorem read_wpb (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : cond0_0 i) (x4 : Vec F S2304x3584 .i8) (x5 : Vec F S144x512 .fp8e4m3) (f : BufTy.Contents (Elt F) arg9.view.ty) :
    arg9.view.read (Elt F) (arg9.view.writes (Elt F) f (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32))) = wBuf x4 x5 := by
  funext y
  exact View.read_writes_apply_of_pieces _ _ _ _ (wpb_pieces c i arg1 harg1 arg2 harg2 arg3 harg3 arg4 harg4 arg5 harg5 arg6 harg6 arg7 harg7 arg8 harg8 arg9 harg9 arg10 harg10 hc0 x4 x5 _ (Nat.le_of_ble_eq_true (by sl_kernel_rfl))) y
    (View.cover_of_tiledL (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) S32x128.size (by sl_kernel_rfl) y)

/-- What the first point leaves in the weight scratch. -/
theorem scratch_A (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : cond0_0 i) (x0 : Vec F S4 .f32) (x1 : Vec F S1 .f32) (x2 : Vec F S512x3584 .i8) (x3 : Vec F S512x512 .fp8e4m3) (x4 : Vec F S2304x3584 .i8) (x5 : Vec F S144x512 .fp8e4m3) (f : BufTy.Contents (Elt F) arg9.view.ty) :
    arg9.view.read (Elt F) (arg9.view.writes (Elt F) f (kernelRun0_A c i arg1 harg1 arg2 harg2 arg3 harg3 arg4 harg4 arg5 harg5 arg6 harg6 arg7 harg7 arg8 harg8 arg9 harg9 arg10 harg10 hc0 x0 x1 x2 x3 x4 x5).2.1) = wBuf x4 x5 := by
  unfold kernelRun0_A
  dsimp only
  exact read_wpb c i arg1 harg1 arg2 harg2 arg3 harg3 arg4 harg4 arg5 harg5 arg6 harg6 arg7 harg7 arg8 harg8 arg9 harg9 arg10 harg10 hc0 x4 x5 f

theorem out_pieces_A (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : cond0_0 i) (x0 : Vec F S4 .f32) (x1 : Vec F S1 .f32) (x2 : Vec F S512x3584 .i8) (x3 : Vec F S512x512 .fp8e4m3) (x4 : Vec F S2304x3584 .i8) (x5 : Vec F S144x512 .fp8e4m3) :
    ∀ p ∈ (kernelRun0_A c i arg1 harg1 arg2 harg2 arg3 harg3 arg4 harg4 arg5 harg5 arg6 harg6 arg7 harg7 arg8 harg8 arg9 harg9 arg10 harg10 hc0 x0 x1 x2 x3 x4 x5).1, ∀ x : p.1.shape.Idx, p.2 x = outB (gOf x0 i) (wOf x1) (xBuf x2 x3) (wBuf x4 x5) (p.1.emb x) := by
  unfold kernelRun0_A
  dsimp only
  refine List.forall_mem_cons.2 ⟨fun x => (congrFun (by sl_kernel_rfl) x).trans (pieceOut (F := F) ⟨8, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![2048, 0] ![256, 7168] inb_S2304x7168_S256x7168_2048_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![2048, 0]) (inb := inb_S2304x7168_S256x7168_2048_0) ⟨8, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 2048]) (inb := inb_S512x2304_S512x256_0_2048) rfl x), ?_⟩
  refine List.forall_mem_cons.2 ⟨fun x => (congrFun (by sl_kernel_rfl) x).trans (pieceOut (F := F) ⟨7, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![1792, 0] ![256, 7168] inb_S2304x7168_S256x7168_1792_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![1792, 0]) (inb := inb_S2304x7168_S256x7168_1792_0) ⟨7, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 1792]) (inb := inb_S512x2304_S512x256_0_1792) rfl x), ?_⟩
  refine List.forall_mem_cons.2 ⟨fun x => (congrFun (by sl_kernel_rfl) x).trans (pieceOut (F := F) ⟨6, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![1536, 0] ![256, 7168] inb_S2304x7168_S256x7168_1536_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![1536, 0]) (inb := inb_S2304x7168_S256x7168_1536_0) ⟨6, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 1536]) (inb := inb_S512x2304_S512x256_0_1536) rfl x), ?_⟩
  refine List.forall_mem_cons.2 ⟨fun x => (congrFun (by sl_kernel_rfl) x).trans (pieceOut (F := F) ⟨5, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![1280, 0] ![256, 7168] inb_S2304x7168_S256x7168_1280_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![1280, 0]) (inb := inb_S2304x7168_S256x7168_1280_0) ⟨5, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 1280]) (inb := inb_S512x2304_S512x256_0_1280) rfl x), ?_⟩
  refine List.forall_mem_cons.2 ⟨fun x => (congrFun (by sl_kernel_rfl) x).trans (pieceOut (F := F) ⟨4, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![1024, 0] ![256, 7168] inb_S2304x7168_S256x7168_1024_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![1024, 0]) (inb := inb_S2304x7168_S256x7168_1024_0) ⟨4, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 1024]) (inb := inb_S512x2304_S512x256_0_1024) rfl x), ?_⟩
  refine List.forall_mem_cons.2 ⟨fun x => (congrFun (by sl_kernel_rfl) x).trans (pieceOut (F := F) ⟨3, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![768, 0] ![256, 7168] inb_S2304x7168_S256x7168_768_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![768, 0]) (inb := inb_S2304x7168_S256x7168_768_0) ⟨3, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 768]) (inb := inb_S512x2304_S512x256_0_768) rfl x), ?_⟩
  refine List.forall_mem_cons.2 ⟨fun x => (congrFun (by sl_kernel_rfl) x).trans (pieceOut (F := F) ⟨2, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![512, 0] ![256, 7168] inb_S2304x7168_S256x7168_512_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![512, 0]) (inb := inb_S2304x7168_S256x7168_512_0) ⟨2, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 512]) (inb := inb_S512x2304_S512x256_0_512) rfl x), ?_⟩
  refine List.forall_mem_cons.2 ⟨fun x => (congrFun (by sl_kernel_rfl) x).trans (pieceOut (F := F) ⟨1, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![256, 0] ![256, 7168] inb_S2304x7168_S256x7168_256_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![256, 0]) (inb := inb_S2304x7168_S256x7168_256_0) ⟨1, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 256]) (inb := inb_S512x2304_S512x256_0_256) rfl x), ?_⟩
  refine List.forall_mem_cons.2 ⟨fun x => (congrFun (by sl_kernel_rfl) x).trans (pieceOut (F := F) ⟨0, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readCov (pb_k0_t1 Variants.none c none i arg1 harg1 arg2 harg2 arg3 harg3 arg4 harg4 arg5 harg5 arg6 harg6 arg7 harg7 arg8 harg8 arg9 harg9 arg10 harg10 hc0 (harg5.unread x4) (arg10.view.writes (Elt F) arg10.view.junk (kernelRun0_A.sl.HS2_28 c arg6 harg6 x5)) (Scf.trips (0#32) (Scalar.addi 0#32 18#32) 1#32)) (Rect.unit (s := S2304x7168) ![0, 0] ![256, 7168] inb_S2304x7168_S256x7168_0_0).toLoadRect) (wBuf x4 x5) (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![0, 0]) (inb := inb_S2304x7168_S256x7168_0_0) ⟨0, Nat.le_of_ble_eq_true rfl⟩ rfl (read_wpb c i arg1 harg1 arg2 harg2 arg3 harg3 arg4 harg4 arg5 harg5 arg6 harg6 arg7 harg7 arg8 harg8 arg9 harg9 arg10 harg10 hc0 x4 x5 _)) (off := ![0, 0]) (inb := inb_S512x2304_S512x256_0_0) rfl x), ?_⟩
  exact List.forall_mem_nil _

/-- What the first point leaves in the output block. -/
theorem out_A (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : cond0_0 i) (x0 : Vec F S4 .f32) (x1 : Vec F S1 .f32) (x2 : Vec F S512x3584 .i8) (x3 : Vec F S512x512 .fp8e4m3) (x4 : Vec F S2304x3584 .i8) (x5 : Vec F S144x512 .fp8e4m3) (f : BufTy.Contents (Elt F) arg7.view.ty) :
    arg7.view.read (Elt F) (arg7.view.writes (Elt F) f (kernelRun0_A c i arg1 harg1 arg2 harg2 arg3 harg3 arg4 harg4 arg5 harg5 arg6 harg6 arg7 harg7 arg8 harg8 arg9 harg9 arg10 harg10 hc0 x0 x1 x2 x3 x4 x5).1) = outB (gOf x0 i) (wOf x1) (xBuf x2 x3) (wBuf x4 x5) := by
  funext y
  exact View.read_writes_apply_of_pieces _ _ _ _ (out_pieces_A c i arg1 harg1 arg2 harg2 arg3 harg3 arg4 harg4 arg5 harg5 arg6 harg6 arg7 harg7 arg8 harg8 arg9 harg9 arg10 harg10 hc0 x0 x1 x2 x3 x4 x5) y
    (View.cover_of_tiledL (kernelRun0_A c i arg1 harg1 arg2 harg2 arg3 harg3 arg4 harg4 arg5 harg5 arg6 harg6 arg7 harg7 arg8 harg8 arg9 harg9 arg10 harg10 hc0 x0 x1 x2 x3 x4 x5).1 S512x256.size (by sl_kernel_rfl) y)

theorem out_pieces_B (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : ¬cond0_0 i) (x0 : Vec F S4 .f32) (x1 : Vec F S1 .f32) (x2 : Vec F S512x3584 .i8) (x3 : Vec F S512x512 .fp8e4m3) (x4 : Vec F S2304x3584 .i8) (x5 : Vec F S144x512 .fp8e4m3) (xs1 : Vec F S2304x7168 .bf16) :
    ∀ p ∈ (kernelRun0_B c i arg1 harg1 arg2 harg2 arg3 harg3 arg4 harg4 arg5 harg5 arg6 harg6 arg7 harg7 arg8 harg8 arg9 harg9 arg10 harg10 hc0 x0 x1 x2 x3 x4 x5 xs1).1, ∀ x : p.1.shape.Idx, p.2 x = outB (gOf x0 i) (wOf x1) (xBuf x2 x3) xs1 (p.1.emb x) := by
  unfold kernelRun0_B
  dsimp only
  refine List.forall_mem_cons.2 ⟨fun x => (congrFun (by sl_kernel_rfl) x).trans (pieceOut (F := F) ⟨8, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![2048, 0] ![256, 7168] inb_S2304x7168_S256x7168_2048_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![2048, 0]) (inb := inb_S2304x7168_S256x7168_2048_0) ⟨8, Nat.le_of_ble_eq_true rfl⟩ rfl (harg9.read_unread xs1)) (off := ![0, 2048]) (inb := inb_S512x2304_S512x256_0_2048) rfl x), ?_⟩
  refine List.forall_mem_cons.2 ⟨fun x => (congrFun (by sl_kernel_rfl) x).trans (pieceOut (F := F) ⟨7, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![1792, 0] ![256, 7168] inb_S2304x7168_S256x7168_1792_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![1792, 0]) (inb := inb_S2304x7168_S256x7168_1792_0) ⟨7, Nat.le_of_ble_eq_true rfl⟩ rfl (harg9.read_unread xs1)) (off := ![0, 1792]) (inb := inb_S512x2304_S512x256_0_1792) rfl x), ?_⟩
  refine List.forall_mem_cons.2 ⟨fun x => (congrFun (by sl_kernel_rfl) x).trans (pieceOut (F := F) ⟨6, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![1536, 0] ![256, 7168] inb_S2304x7168_S256x7168_1536_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![1536, 0]) (inb := inb_S2304x7168_S256x7168_1536_0) ⟨6, Nat.le_of_ble_eq_true rfl⟩ rfl (harg9.read_unread xs1)) (off := ![0, 1536]) (inb := inb_S512x2304_S512x256_0_1536) rfl x), ?_⟩
  refine List.forall_mem_cons.2 ⟨fun x => (congrFun (by sl_kernel_rfl) x).trans (pieceOut (F := F) ⟨5, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![1280, 0] ![256, 7168] inb_S2304x7168_S256x7168_1280_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![1280, 0]) (inb := inb_S2304x7168_S256x7168_1280_0) ⟨5, Nat.le_of_ble_eq_true rfl⟩ rfl (harg9.read_unread xs1)) (off := ![0, 1280]) (inb := inb_S512x2304_S512x256_0_1280) rfl x), ?_⟩
  refine List.forall_mem_cons.2 ⟨fun x => (congrFun (by sl_kernel_rfl) x).trans (pieceOut (F := F) ⟨4, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![1024, 0] ![256, 7168] inb_S2304x7168_S256x7168_1024_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![1024, 0]) (inb := inb_S2304x7168_S256x7168_1024_0) ⟨4, Nat.le_of_ble_eq_true rfl⟩ rfl (harg9.read_unread xs1)) (off := ![0, 1024]) (inb := inb_S512x2304_S512x256_0_1024) rfl x), ?_⟩
  refine List.forall_mem_cons.2 ⟨fun x => (congrFun (by sl_kernel_rfl) x).trans (pieceOut (F := F) ⟨3, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![768, 0] ![256, 7168] inb_S2304x7168_S256x7168_768_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![768, 0]) (inb := inb_S2304x7168_S256x7168_768_0) ⟨3, Nat.le_of_ble_eq_true rfl⟩ rfl (harg9.read_unread xs1)) (off := ![0, 768]) (inb := inb_S512x2304_S512x256_0_768) rfl x), ?_⟩
  refine List.forall_mem_cons.2 ⟨fun x => (congrFun (by sl_kernel_rfl) x).trans (pieceOut (F := F) ⟨2, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![512, 0] ![256, 7168] inb_S2304x7168_S256x7168_512_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![512, 0]) (inb := inb_S2304x7168_S256x7168_512_0) ⟨2, Nat.le_of_ble_eq_true rfl⟩ rfl (harg9.read_unread xs1)) (off := ![0, 512]) (inb := inb_S512x2304_S512x256_0_512) rfl x), ?_⟩
  refine List.forall_mem_cons.2 ⟨fun x => (congrFun (by sl_kernel_rfl) x).trans (pieceOut (F := F) ⟨1, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![256, 0] ![256, 7168] inb_S2304x7168_S256x7168_256_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![256, 0]) (inb := inb_S2304x7168_S256x7168_256_0) ⟨1, Nat.le_of_ble_eq_true rfl⟩ rfl (harg9.read_unread xs1)) (off := ![0, 256]) (inb := inb_S512x2304_S512x256_0_256) rfl x), ?_⟩
  refine List.forall_mem_cons.2 ⟨fun x => (congrFun (by sl_kernel_rfl) x).trans (pieceOut (F := F) ⟨0, Nat.le_of_ble_eq_true rfl⟩ (gOf x0 i) (wOf x1) (arg1.view.readAt (Elt F) (Rect.unit (s := S4) (k0_off201 i) S1.size (k0_off201_inb i)).toLoadRect (harg1.unread x0) (Shape.Idx.first (s := S1) (by decide))) (arg2.view.readAt (Elt F) (Rect.unit (s := S1) ![0] S1.size inb_S1_S1_0).toLoadRect (harg2.unread x1) (Shape.Idx.first (s := S1) (by decide))) (arg8.view.readCov (pb_k0_t2 Variants.none c none i arg1 harg1 arg2 harg2 arg3 harg3 arg4 harg4 arg5 harg5 arg6 harg6 arg7 harg7 arg8 harg8 arg9 harg9 arg10 harg10 (harg3.unread x2) (harg4.unread x3) (Scf.trips (0#32) (Scalar.addi 0#32 16#32) 1#32)) (Rect.unit (s := S512x7168) ![0, 0] ![512, 7168] inb_S512x7168_S512x7168_0_0).toLoadRect) (xBuf x2 x3) (arg9.view.readAt (Elt F) (Rect.unit (s := S2304x7168) ![0, 0] ![256, 7168] inb_S2304x7168_S256x7168_0_0).toLoadRect (harg9.unread xs1)) xs1 (g_eq arg1 harg1 i x0) (w_eq arg2 harg2 x1) (read_xpb c i arg1 harg1 arg2 harg2 arg3 harg3 arg4 harg4 arg5 harg5 arg6 harg6 arg7 harg7 arg8 harg8 arg9 harg9 arg10 harg10 x2 x3) (rows arg9.view _ _ (off := ![0, 0]) (inb := inb_S2304x7168_S256x7168_0_0) ⟨0, Nat.le_of_ble_eq_true rfl⟩ rfl (harg9.read_unread xs1)) (off := ![0, 0]) (inb := inb_S512x2304_S512x256_0_0) rfl x), ?_⟩
  exact List.forall_mem_nil _

/-- What a later point leaves in the output block, from the weights in the scratch. -/
theorem out_B (c : Dev nD) (i : grid0.Coords) (arg1 : Memref sig .tc .smem S4 .f32) (harg1 : arg1.IsWhole) (arg2 : Memref sig .tc .smem S1 .f32) (harg2 : arg2.IsWhole) (arg3 : Memref sig .tc .vmem S512x3584 .i8) (harg3 : arg3.IsWhole) (arg4 : Memref sig .tc .vmem S512x512 .fp8e4m3) (harg4 : arg4.IsWhole) (arg5 : Memref sig .tc .vmem S2304x3584 .i8) (harg5 : arg5.IsWhole) (arg6 : Memref sig .tc .vmem S144x512 .fp8e4m3) (harg6 : arg6.IsWhole) (arg7 : Memref sig .tc .vmem S512x2304 .bf16) (harg7 : arg7.IsWhole) (arg8 : Memref sig .tc .vmem S512x7168 .bf16) (harg8 : arg8.IsWhole) (arg9 : Memref sig .tc .vmem S2304x7168 .bf16) (harg9 : arg9.IsWhole) (arg10 : Memref sig .tc .vmem S144x3584 .f32) (harg10 : arg10.IsWhole) (hc0 : ¬cond0_0 i) (x0 : Vec F S4 .f32) (x1 : Vec F S1 .f32) (x2 : Vec F S512x3584 .i8) (x3 : Vec F S512x512 .fp8e4m3) (x4 : Vec F S2304x3584 .i8) (x5 : Vec F S144x512 .fp8e4m3) (xs1 : Vec F S2304x7168 .bf16) (f : BufTy.Contents (Elt F) arg7.view.ty) :
    arg7.view.read (Elt F) (arg7.view.writes (Elt F) f (kernelRun0_B c i arg1 harg1 arg2 harg2 arg3 harg3 arg4 harg4 arg5 harg5 arg6 harg6 arg7 harg7 arg8 harg8 arg9 harg9 arg10 harg10 hc0 x0 x1 x2 x3 x4 x5 xs1).1) = outB (gOf x0 i) (wOf x1) (xBuf x2 x3) xs1 := by
  funext y
  exact View.read_writes_apply_of_pieces _ _ _ _ (out_pieces_B c i arg1 harg1 arg2 harg2 arg3 harg3 arg4 harg4 arg5 harg5 arg6 harg6 arg7 harg7 arg8 harg8 arg9 harg9 arg10 harg10 hc0 x0 x1 x2 x3 x4 x5 xs1) y
    (View.cover_of_tiledL (kernelRun0_B c i arg1 harg1 arg2 harg2 arg3 harg3 arg4 harg4 arg5 harg5 arg6 harg6 arg7 harg7 arg8 harg8 arg9 harg9 arg10 harg10 hc0 x0 x1 x2 x3 x4 x5 xs1).1 S512x256.size (by sl_kernel_rfl) y)

end Cert.KernelIdeal.Run

end
-- ==== Proof.Ideal.Run.lean ====
/- The run of the kernel and its frame. -/
module

public import proofs.«01_k».proof.Proof.Ideal.Pieces
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec
open Idealize.ShloMosaic.Pipeline (BodyObligationLoose)

variable (m : (ℓ : Loc nD τ sig) → Buf (Elt F) ℓ) (ρ : Dev nD → PrngReg)

/-! ## The scale blocks past their arrays' end

The two windows of block scales are wider than their arrays: columns 448 to 511 of the staged block hold words nothing
names. No decoded entry reads them. -/

/-- The word the proof fills those columns with. -/
def fz : F .fp8e4m3 := Scalar.ofBits .fp8e4m3 0#8

theorem moved3 (t : Fin cfg0.N) (r : Fin 512) (k : Fin 512) (hk : k.val < 448) : win0_3.moved (grid0.coords t) (ix2 r k) = true := by
  refine (win0_3.moved_iff _ _).mpr fun a => ?_
  have ht : t.val < 16 := Nat.lt_of_lt_of_eq t.isLt N_0
  have e0 : (grid0.coords t 0).val = t.val / 1 % 16 := Pipeline.Grid.coords_val t 0 (by decide) rfl
  match a with
  | ⟨0, _⟩ =>
    show r.val < (Pipeline.Clip.of ((BitVec.ofNat 32 (grid0.coords t 0).val).toNat) 512 8192).extent 512
    have e : (BitVec.ofNat 32 (grid0.coords t 0).val).toNat = t.val := by rw [e0, BitVec.toNat_ofNat]; omega
    rw [e]; unfold Pipeline.Clip.of
    rw [if_pos (by omega)]; exact r.isLt
  | ⟨1, _⟩ => exact hk

theorem moved5 (t : Fin cfg0.N) (r : Fin 144) (k : Fin 512) (hk : k.val < 448) : win0_5.moved (grid0.coords t) (ix2 r k) = true := by
  refine (win0_5.moved_iff _ _).mpr fun a => ?_
  match a with
  | ⟨0, _⟩ => exact r.isLt
  | ⟨1, _⟩ => exact hk

theorem blk_lt (c : Fin 3584) : (blk c).val < 448 := by
  have := c.isLt
  show c.val / 8 < 448
  omega

/-- The decoded activations do not depend on what the scale block holds past the array's end. -/
theorem xBuf_fill (t : Fin cfg0.N) (x : Vec F S512x3584 .i8) (d d' : S512x512.Idx → F .fp8e4m3) (g) :
    xBuf x (win0_3.fill (grid0.coords t) d g) = xBuf x (win0_3.fill (grid0.coords t) d' g) := by
  funext y
  unfold xBuf
  have h := moved3 t (y 0) (blk (col (y 1))) (blk_lt _)
  unfold Window.fill
  rw [dif_pos h, dif_pos h]

/-- Nor do the decoded weights. -/
theorem wBuf_fill (t : Fin cfg0.N) (w : Vec F S2304x3584 .i8) (d d' : S144x512.Idx → F .fp8e4m3) (g) :
    wBuf w (win0_5.fill (grid0.coords t) d g) = wBuf w (win0_5.fill (grid0.coords t) d' g) := by
  funext y
  have h : ∀ r, win0_5.fill (grid0.coords t) d g (ix2 r (blk (col (y 1)))) = win0_5.fill (grid0.coords t) d' g (ix2 r (blk (col (y 1)))) := fun r => by
    have h := moved5 t r (blk (col (y 1))) (blk_lt _)
    unfold Window.fill
    rw [dif_pos h, dif_pos h]
  exact congrArg (fun s => wEnt (nib (y 1) (w (ix2 (y 0) (col (y 1))))) (wScl s)) (h _)

/-! ## The proof data -/

/-- The first point. -/
def t00 : Fin cfg0.N := ⟨0, by rw [show cfg0.N = 16 from N_0]; decide⟩

/-- The activations' scale block at a point. -/
def xs3 (c : Dev nD) (t : Fin cfg0.N) : S512x512.Idx → F .fp8e4m3 := win0_3.fill (grid0.coords t) (fun _ => fz) (iblk m c 3 t)

/-- The weights' scale block. -/
def ws5 (c : Dev nD) (t : Fin cfg0.N) : S144x512.Idx → F .fp8e4m3 := win0_5.fill (grid0.coords t) (fun _ => fz) (iblk m c 5 t)

/-- The decoded weights. -/
def W0 (c : Dev nD) : Vec F S2304x7168 .bf16 := wBuf (iblk m c 4 t00) (ws5 m c t00)

/-- The output block at a point. -/
def O6 (c : Dev nD) (t : Fin cfg0.N) : Vec F S512x2304 .bf16 :=
  outB (gOf (iblk m c 0 t) (grid0.coords t)) (wOf (iblk m c 1 t)) (xBuf (iblk m c 2 t) (xs3 m c t)) (W0 m c)

/-- The invariant before position `n`: at first every scratch at anything; afterwards the weight scratch at the decoded weights. -/
def PhiS (c : Dev nD) : ℕ → sProp 𝕄
  | 0 => Pipeline.ΦA spec0 c
  | n + 1 => iprop(iprop((∃ d, owns (c : Thread nD τ) scM0_0 fullShare d) ∗ owns (c : Thread nD τ) scM0_1 fullShare (W0 m c) ∗ (∃ d, owns (c : Thread nD τ) scM0_2 fullShare d)) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop((∃ d, owns (c : Thread nD τ) scM0_0 fullShare d) ∗ owns (c : Thread nD τ) scM0_1 fullShare (W0 m c) ∗ (∃ d, owns (c : Thread nD τ) scM0_2 fullShare d)) ∗ (∃ r, prngReg c r)) := rfl

theorem PhiS_pos (c : Dev nD) (n : ℕ) (hz : n ≠ 0) :
    PhiS m c n = iprop(iprop((∃ d, owns (c : Thread nD τ) scM0_0 fullShare d) ∗ owns (c : Thread nD τ) scM0_1 fullShare (W0 m c) ∗ (∃ d, owns (c : Thread nD τ) scM0_2 fullShare d)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => xs3 m c t
    | ⟨4, _⟩ => iblk m c 4 t
    | ⟨5, _⟩ => ws5 m c t
    | ⟨6, _⟩ => O6 m c t
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = xs3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = ws5 m c t := by dsimp only [dats]
theorem after0_6 (c : Dev nD) (t : Fin cfg0.N) : (dats m 0 c).after 6 t = O6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_4 (c : Dev nD) (t : Fin cfg0.N) (d) : (dats m 0 c).before 4 t d = iblk m c 4 t :=
  before0_4_of m (dats m 0 c) (A_eq m c 4) (after0_4 m c) t d

theorem clip3 (t t' : Fin cfg0.N) (h : (cfg0.win 3).index t = (cfg0.win 3).index t') :
    (cfg0.win 3).clip (cfg0.grid.coords t) = (cfg0.win 3).clip (cfg0.grid.coords t') :=
  congrArg (fun ix : Fin 2 → ℕ => fun a => Pipeline.Clip.of (ix a) (S512x512.size a) (S8192x448.size a)) h

/-- The activations' scale block is staged at every point: the array's columns, and anything past them. -/
theorem before0_3 (c : Dev nD) (t : Fin cfg0.N) (d) : (dats m 0 c).before 3 t d = win0_3.fill (grid0.coords t) d (iblk m c 3 t) :=
  ((dats m 0 c).before_in_eq_fetched 3 rfl (fun _ => rfl) clip3
    (fun t => by rw [after0_3]; exact (win0_3.cut_fill _ _ _).trans (by unfold Dat.blockOf iblk; rw [A_eq])) t d).trans
    (by unfold Dat.fetched Dat.blockOf iblk; rw [A_eq]; try rfl)

/-- The weights' scale block likewise, fetched once and kept. -/
theorem before0_5 (c : Dev nD) (t : Fin cfg0.N) (d) : (dats m 0 c).before 5 t d = win0_5.fill (grid0.coords t) d (iblk m c 5 t) :=
  ((dats m 0 c).before_in_eq_fetched 5 rfl (fun _ => rfl) (fun _ _ _ => rfl)
    (fun t => by rw [after0_5]; exact (win0_5.cut_fill _ _ _).trans (by unfold Dat.blockOf iblk; rw [A_eq])) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns: the two scale blocks stated on the array's columns only. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare (win0_3.fill (grid0.coords t) d (win0_3.cut (grid0.coords t) ((dats m 0 c).after 3 t))))
    ∗ owns (c : Thread nD τ) (ms0_4 t) fullShare ((dats m 0 c).after 4 t)
    ∗ (∃ d, owns (c : Thread nD τ) (ms0_5 t) fullShare (win0_5.fill (grid0.coords t) d (win0_5.cut (grid0.coords t) ((dats m 0 c).after 5 t))))
    ∗ owns (c : Thread nD τ) (ms0_6 t) fullShare ((dats m 0 c).after 6 t))

theorem cut_xs3 (c : Dev nD) (t : Fin cfg0.N) : win0_3.cut (grid0.coords t) (xs3 m c t) = iblk m c 3 t := win0_3.cut_fill _ _ _
theorem cut_ws5 (c : Dev nD) (t : Fin cfg0.N) : win0_5.cut (grid0.coords t) (ws5 m c t) = iblk m c 5 t := win0_5.cut_fill _ _ _

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, cut_xs3, cut_ws5]
  rw [show (dats m 0 c).Φ t.succ = PhiS m c (t.val + 1) from rfl, PhiS_succ]
  have hN : t.val < 16 := lt_of_lt_of_eq t.isLt (show cfg0.N = 16 from N_0)
  by_cases h0 : t.val % 16 = 0
  · by_cases hz : t.val = 0
    · have hW : ∀ d5, wBuf (iblk m c 4 t) (win0_5.fill (grid0.coords t) d5 (iblk m c 5 t)) = W0 m c := fun d5 => by
        obtain rfl : t = t00 := Fin.ext hz
        exact wBuf_fill _ _ _ _ _
      rw [PhiS_castSucc m c t, PhiS_zero m c _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (win0_3.fill (grid0.coords t) d3 (iblk m c 3 t)) (iblk m c 4 t) (win0_5.fill (grid0.coords t) d5 (iblk m c 5 t))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, HS0, ⟨%es1, HS1⟩, HS2⟩
      isplitl [HS0 HS1 HS2 Hg]
      · isplitl [HS0 HS1 HS2]
        · isplitl [HS0]
          · iexact HS0
          isplitl [HS1]
          · unfold owns; iexists _; isplitr
            swap; · iexact HS1
            ipureintro; exact (scratch_A c _ _ _ _ _ _ _ _ _ _ _ _ _ _ _ _ _ _ _ _ _ _ _ _ _ _ _ _ _).trans (hW d5)
          iexact HS2
        iexact Hg
      isplitl [Ho]; · iexact Ho
      isplitl [H0]; · iexact H0
      isplitl [H1]; · iexact H1
      isplitl [H2]; · iexact H2
      isplitl [H3]; · iexists d3; iexact H3
      isplitl [H4]; · iexact H4
      isplitl [H5]; · iexists d5; iexact H5
      unfold owns; iexists _; isplitr
      swap; · iexact H6
      ipureintro; refine (out_A c _ _ _ _ _ _ _ _ _ _ _ _ _ _ _ _ _ _ _ _ _ _ _ _ _ _ _ _ _).trans ?_; rw [hW d5]; exact congrArg (fun X => outB _ _ X _) (xBuf_fill t _ d3 (fun _ => fz) _)
    · exfalso; omega
  · by_cases hz : t.val = 0
    · exfalso; omega
    · rw [PhiS_castSucc m c t, PhiS_pos m c _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (win0_3.fill (grid0.coords t) d3 (iblk m c 3 t)) (iblk m c 4 t) (win0_5.fill (grid0.coords t) d5 (iblk m c 5 t)) (W0 m c)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexists d3; iexact H3
      isplitl [H4]; · iexact H4
      isplitl [H5]; · iexists d5; iexact H5
      unfold owns; iexists _; isplitr
      swap; · iexact H6
      ipureintro; refine (out_B c _ _ _ _ _ _ _ _ _ _ _ _ _ _ _ _ _ _ _ _ _ _ _ _ _ _ _ _ _ _).trans ?_; exact congrArg (fun X => outB _ _ X _) (xBuf_fill t _ d3 (fun _ => fz) _)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2⟩, Hg⟩
  isplitl [HS0 HS1 HS2]
  · isplitl [HS0]
    · iexact HS0
    isplitl [HS1]
    · iexists _; iexact HS1
    iexact HS2
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- The run: every weakly fair execution ends, in a state the library computes from the proof data, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.RefRead.lean ====
/- What the reference's host operations leave in its result, as one expression of the argument arrays. -/
module

public import proofs.«01_k».proof.Proof.Gen.ReferenceIdeal.Frame
public import Idealize.ShloMosaic.Lib.StableHlo.RunRead

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.StableHlo

variable {F : FTy → Type} [FloatOps F]

/-- A constant word over a shape. -/
def kw (s : Shape) (hb : S_.BroadcastsInDim s (![] : Fin 0 → Fin s.rank)) (n : BitVec 32) : IVec s 32 :=
  broadcastInDim s ![] hb (constantI S_ 32 n)

/-- A constant bf16 over a shape. -/
def kf (s : Shape) (hb : S_.BroadcastsInDim s (![] : Fin 0 → Fin s.rank)) (n : BitVec 16) : FVec F s .bf16 :=
  broadcastInDim s ![] hb (constant S_ .bf16 n)

/-- Whether a code has a bit. -/
def bitR (s : Shape) (hb : S_.BroadcastsInDim s (![] : Fin 0 → Fin s.rank)) (c : IVec s 32) (n : BitVec 32) : IVec s 1 :=
  cmpi .ne (andi c (kw s hb n)) (kw s hb 0#32)

/-- The magnitude of an e2m1 code, by its three low bits. -/
def magR (s : Shape) (hb : S_.BroadcastsInDim s (![] : Fin 0 → Fin s.rank)) (c : IVec s 32) : FVec F s .bf16 :=
  select (bitR s hb c 4#32)
    (select (bitR s hb c 2#32) (select (bitR s hb c 1#32) (kf s hb 0x40C0#16) (kf s hb 0x4080#16))
      (select (bitR s hb c 1#32) (kf s hb 0x4040#16) (kf s hb 0x4000#16)))
    (select (bitR s hb c 2#32) (select (bitR s hb c 1#32) (kf s hb 0x3FC0#16) (kf s hb 0x3F80#16))
      (select (bitR s hb c 1#32) (kf s hb 0x3F00#16) (kf s hb 0x0000#16)))

/-- The value of an e2m1 code. -/
def decR (s : Shape) (hb : S_.BroadcastsInDim s (![] : Fin 0 → Fin s.rank)) (c : IVec s 32) : FVec F s .bf16 :=
  select (bitR s hb c 8#32) (Host.negf (magR s hb c)) (magR s hb c)

/-- The low and the high codes of packed words. -/
def loR (s : Shape) (hb : S_.BroadcastsInDim s (![] : Fin 0 → Fin s.rank)) (x : IVec s 8) : IVec s 32 :=
  andi (extui 32 x natLt_8_32) (kw s hb 15#32)
def hiR (s : Shape) (hb : S_.BroadcastsInDim s (![] : Fin 0 → Fin s.rank)) (x : IVec s 8) : IVec s 32 :=
  Host.shrsi (extui 32 x natLt_8_32) (kw s hb 4#32)

/-- Activations times their block scales. -/
def scX (q : FVec F S2x4096x3584 .bf16) (s : FVec F S2x4096x448 .bf16) : FVec F S2x4096x3584 .bf16 :=
  shapeCast S2x4096x3584 (mulf (shapeCast S2x4096x448x8 q shapeCasts_S2x4096x3584_S2x4096x448x8)
    (broadcastInDim S2x4096x448x8 ![0, 1, 2, 3] bcast_S2x4096x448x1_S2x4096x448x8_0_1_2_3
      (broadcastInDim S2x4096x448x1 ![0, 1, 2] bcast_S2x4096x448_S2x4096x448x1_0_1_2 s))) shapeCasts_S2x4096x448x8_S2x4096x3584

/-- Weights times their block scales. -/
def scW (q : FVec F S2304x3584 .bf16) (s : FVec F S144x448 .bf16) : FVec F S2304x3584 .bf16 :=
  shapeCast S2304x3584 (mulf (shapeCast S144x16x448x8 q shapeCasts_S2304x3584_S144x16x448x8)
    (broadcastInDim S144x16x448x8 ![0, 1, 2, 3] bcast_S144x1x448x1_S144x16x448x8_0_1_2_3
      (broadcastInDim S144x1x448x1 ![0, 2] bcast_S144x448_S144x1x448x1_0_2 s))) shapeCasts_S144x16x448x8_S2304x3584

/-- The accumulated products. -/
def accR (x : IVec S2x4096x3584 8) (xs : FVec F S2x4096x448 .bf16) (w : IVec S2304x3584 8) (ws : FVec F S144x448 .bf16) :
    FVec F S2x4096x2304 .f32 :=
  addf
    (Host.dotGeneral dot_S2x4096x3584_S2304x3584_S2x4096x2304_2_1_01_0_n_n none
      (scX (decR _ bcast_S_S2x4096x3584 (loR _ bcast_S_S2x4096x3584 x)) xs) (scW (decR _ bcast_S_S2304x3584 (loR _ bcast_S_S2304x3584 w)) ws))
    (Host.dotGeneral dot_S2x4096x3584_S2304x3584_S2x4096x2304_2_1_01_0_n_n none
      (scX (decR _ bcast_S_S2x4096x3584 (hiR _ bcast_S_S2x4096x3584 x)) xs) (scW (decR _ bcast_S_S2304x3584 (hiR _ bcast_S_S2304x3584 w)) ws))

/-- The reference's result. -/
def outR (x : IVec S2x4096x3584 8) (xs : FVec F S2x4096x448 .bf16) (g : FVec F S4 .f32) (w : IVec S2304x3584 8)
    (ws : FVec F S144x448 .bf16) (gw : FVec F S1 .f32) : FVec F S8192x2304 .bf16 :=
  shapeCast S8192x2304 (truncf .bf16 (mulf (mulf (accR x xs w ws)
      (broadcastInDim S2x4096x2304 ![0, 1, 2] bcast_S1x4096x1_S2x4096x2304_0_1_2
        (shapeCast S1x4096x1 (broadcastInDim S4x1024 ![0, 1] bcast_S4x1_S4x1024_0_1 (broadcastInDim S4x1 ![0] bcast_S4_S4x1_0 g))
          shapeCasts_S4x1024_S1x4096x1)))
      (broadcastInDim S2x4096x2304 ![] bcast_S_S2x4096x2304 (shapeCast S_ gw shapeCasts_S1_S_))) bitsLt_bf16_f32)
    shapeCasts_S2x4096x2304_S8192x2304

set_option maxHeartbeats 4000000 in
/-- The host operations after the region leave that in the result. -/
theorem after_v175 (V : Valuation τ sig (Elt F)) :
    after (List.flatten [hostOps1]) V (Proc.devRef .tc main_v175)
      = outR (V (Proc.devRef .tc main_arg0)) (V (Proc.devRef .tc main_v0_0)) (V (Proc.devRef .tc main_arg2))
          (V (Proc.devRef .tc main_arg3)) (V (Proc.devRef .tc main_v0_1)) (V (Proc.devRef .tc main_arg5)) := by
  after_reads_simp
  sl_kernel_rfl

end Cert.ReferenceIdeal.Value

end
-- ==== Proof.Values.lean ====
/- The reference's decoding and the kernel's, as extended reals.

A kernel's nibble is moved into an 8-bit float of value 2⁻⁶ times the code's; the weights' scales are multiplied by 2¹²
beforehand. So each product of a decoded activation and a decoded weight is the reference's. -/
module

public import proofs.«01_k».proof.Proof.Spec
public import proofs.«01_k».proof.Proof.RefRead
public import Idealize.ShloMosaic.Lib.IdealHost

@[expose] public section

set_option maxRecDepth 16384

noncomputable section

namespace Cert.Values

open Cert.ReferenceIdeal Cert.ReferenceIdeal.Gen Cert.ReferenceIdeal.Value Idealize.ShloMosaic Cert.Spec

/-- The byte a code is moved to. -/
def enc (n : BitVec 4) : BitVec 8 := ((n.setWidth 8 <<< 2) &&& 0x1C#8) ||| ((n.setWidth 8 <<< 4) &&& 0x80#8)

theorem loB_eq : ∀ b : BitVec 8, loB b = enc (b.extractLsb' 0 4) := by decide +kernel
theorem hiB_eq : ∀ b : BitVec 8, hiB b = enc (b.extractLsb' 4 4) := by decide +kernel

/-- A scalar broadcast to a scalar. -/
theorem bc0 : S_.BroadcastsInDim S_ (![] : Fin 0 → Fin S_.rank) := by decide

/-- The scalar's one index. -/
def i0 : S_.Idx := fun a => a.elim0

/-- The reference's decoding of one code. -/
def dec1 (c : BitVec 32) : EReal := decR (F := Ideal) S_ bc0 (fun _ => c) i0

theorem decR_apply (s : Shape) (hb : S_.BroadcastsInDim s (![] : Fin 0 → Fin s.rank)) (c : IVec s 32) (j : s.Idx) :
    decR (F := Ideal) s hb c j = dec1 (c j) := rfl

theorem loR_bit : ∀ b : BitVec 8, loR S_ bc0 (fun _ => b) i0 = (b.extractLsb' 0 4).setWidth 32 := by decide +kernel
theorem hiR_bit : ∀ b : BitVec 8, hiR S_ bc0 (fun _ => b) i0 = (b.extractLsb' 4 4).setWidth 32 := by decide +kernel

theorem loR_apply (s : Shape) (hb : S_.BroadcastsInDim s (![] : Fin 0 → Fin s.rank)) (x : IVec s 8) (j : s.Idx) :
    loR s hb x j = ((x j).extractLsb' 0 4).setWidth 32 := (rfl : _ = loR S_ bc0 (fun _ => x j) i0).trans (loR_bit _)
theorem hiR_apply (s : Shape) (hb : S_.BroadcastsInDim s (![] : Fin 0 → Fin s.rank)) (x : IVec s 8) (j : s.Idx) :
    hiR s hb x j = ((x j).extractLsb' 4 4).setWidth 32 := (rfl : _ = hiR S_ bc0 (fun _ => x j) i0).trans (hiR_bit _)

/-! ## The sixteen codes -/

/-- The magnitude of a code. -/
def magV (n : BitVec 4) : ℝ := (![0, 1/2, 1, 3/2, 2, 3, 4, 6] : Fin 8 → ℝ) ⟨n.toNat % 8, Nat.mod_lt _ (by decide)⟩

/-- The value of a code. -/
def val (n : BitVec 4) : ℝ := if n.toNat < 8 then magV n else -magV n

theorem bf_half : Ideal.ofBits .bf16 0x3F00#16 = ((1/2 : ℝ) : EReal) := by
  simp [Ideal.ofBits, Ideal.ieee, -EReal.coe_mul]; norm_num
theorem bf_3half : Ideal.ofBits .bf16 0x3FC0#16 = ((3/2 : ℝ) : EReal) := by
  simp [Ideal.ofBits, Ideal.ieee, -EReal.coe_mul]; norm_num
theorem bf_two : Ideal.ofBits .bf16 0x4000#16 = ((2 : ℝ) : EReal) := by
  simp [Ideal.ofBits, Ideal.ieee, -EReal.coe_mul]; norm_num
theorem bf_three : Ideal.ofBits .bf16 0x4040#16 = ((3 : ℝ) : EReal) := by
  simp [Ideal.ofBits, Ideal.ieee, -EReal.coe_mul]; norm_num
theorem bf_four : Ideal.ofBits .bf16 0x4080#16 = ((4 : ℝ) : EReal) := by
  simp [Ideal.ofBits, Ideal.ieee, -EReal.coe_mul]; norm_num
theorem bf_six : Ideal.ofBits .bf16 0x40C0#16 = ((6 : ℝ) : EReal) := by
  simp [Ideal.ofBits, Ideal.ieee, -EReal.coe_mul]; norm_num
theorem bf_one : Ideal.ofBits .bf16 0x3F80#16 = ((1 : ℝ) : EReal) := by
  simp [Ideal.ofBits, Ideal.ieee, -EReal.coe_mul]; norm_num
theorem bf_zero : Ideal.ofBits .bf16 0x0000#16 = ((0 : ℝ) : EReal) := by
  simp [Ideal.ofBits, Ideal.ieee, -EReal.coe_mul]

theorem cases16 : ∀ n : BitVec 4, n = 0#4 ∨ n = 1#4 ∨ n = 2#4 ∨ n = 3#4 ∨ n = 4#4 ∨ n = 5#4 ∨ n = 6#4 ∨ n = 7#4
    ∨ n = 8#4 ∨ n = 9#4 ∨ n = 10#4 ∨ n = 11#4 ∨ n = 12#4 ∨ n = 13#4 ∨ n = 14#4 ∨ n = 15#4 := by decide +kernel

theorem neg_of {x : EReal} {r : ℝ} (h : x = ((r : ℝ) : EReal)) : -x = (((-r : ℝ)) : EReal) := by rw [h, EReal.coe_neg]

/-- The reference decodes a code to its value. -/
theorem dec1_val (n : BitVec 4) : dec1 (n.setWidth 32) = ((val n : ℝ) : EReal) := by
  rcases cases16 n with h | h | h | h | h | h | h | h | h | h | h | h | h | h | h | h <;> subst h
  · exact (rfl : dec1 _ = Ideal.ofBits .bf16 0x0000#16).trans (bf_zero.trans (by norm_num [val, magV]))
  · exact (rfl : dec1 _ = Ideal.ofBits .bf16 0x3F00#16).trans (bf_half.trans (by norm_num [val, magV]))
  · exact (rfl : dec1 _ = Ideal.ofBits .bf16 0x3F80#16).trans (bf_one.trans (by norm_num [val, magV]))
  · exact (rfl : dec1 _ = Ideal.ofBits .bf16 0x3FC0#16).trans (bf_3half.trans (by norm_num [val, magV]))
  · exact (rfl : dec1 _ = Ideal.ofBits .bf16 0x4000#16).trans (bf_two.trans (by norm_num [val, magV]))
  · exact (rfl : dec1 _ = Ideal.ofBits .bf16 0x4040#16).trans (bf_three.trans (by norm_num [val, magV]))
  · exact (rfl : dec1 _ = Ideal.ofBits .bf16 0x4080#16).trans (bf_four.trans (by norm_num [val, magV]))
  · exact (rfl : dec1 _ = Ideal.ofBits .bf16 0x40C0#16).trans (bf_six.trans (by norm_num [val, magV]))
  · exact (rfl : dec1 _ = -Ideal.ofBits .bf16 0x0000#16).trans ((neg_of bf_zero).trans (by norm_num [val, magV]))
  · exact (rfl : dec1 _ = -Ideal.ofBits .bf16 0x3F00#16).trans ((neg_of bf_half).trans (by norm_num [val, magV]))
  · exact (rfl : dec1 _ = -Ideal.ofBits .bf16 0x3F80#16).trans ((neg_of bf_one).trans (by norm_num [val, magV]))
  · exact (rfl : dec1 _ = -Ideal.ofBits .bf16 0x3FC0#16).trans ((neg_of bf_3half).trans (by norm_num [val, magV]))
  · exact (rfl : dec1 _ = -Ideal.ofBits .bf16 0x4000#16).trans ((neg_of bf_two).trans (by norm_num [val, magV]))
  · exact (rfl : dec1 _ = -Ideal.ofBits .bf16 0x4040#16).trans ((neg_of bf_three).trans (by norm_num [val, magV]))
  · exact (rfl : dec1 _ = -Ideal.ofBits .bf16 0x4080#16).trans ((neg_of bf_four).trans (by norm_num [val, magV]))
  · exact (rfl : dec1 _ = -Ideal.ofBits .bf16 0x40C0#16).trans ((neg_of bf_six).trans (by norm_num [val, magV]))

/-- The moved code is worth a 64th of the code. -/
theorem enc_val (n : BitVec 4) : Ideal.ofBits .fp8e4m3 (enc n) = ((val n * (1/64) : ℝ) : EReal) := by
  rcases cases16 n with h | h | h | h | h | h | h | h | h | h | h | h | h | h | h | h <;> subst h <;>
    (simp [Ideal.ofBits, Ideal.e4m3fn, enc, val, magV, -EReal.coe_mul, -EReal.coe_neg]; try norm_num)

theorem val8_eq (n : BitVec 4) : val8 (F := Ideal) (enc n) = dec1 (n.setWidth 32) * ((1/64 : ℝ) : EReal) := by
  rw [dec1_val, ← EReal.coe_mul]; exact enc_val n

theorem f4096 : Ideal.ofBits .f32 0x45800000#32 = ((4096 : ℝ) : EReal) := by
  simp [Ideal.ofBits, Ideal.ieee, -EReal.coe_mul]; norm_num

/-- One product: a decoded activation times a decoded weight is the reference's. -/
theorem prod_eq (n k : BitVec 4) (s t : EReal) :
    (xEnt (F := Ideal) (enc n) s * wEnt (F := Ideal) (enc k) (wScl (F := Ideal) t) : EReal)
      = (dec1 (n.setWidth 32) * s) * (dec1 (k.setWidth 32) * t) := by
  show (val8 (F := Ideal) (enc n) * s) * (val8 (F := Ideal) (enc k) * (t * Ideal.ofBits .f32 0x45800000#32)) = _
  rw [val8_eq, val8_eq, f4096]
  have h : ((1/64 : ℝ) : EReal) * ((1/64 : ℝ) : EReal) * ((4096 : ℝ) : EReal) = 1 := by
    rw [← EReal.coe_mul, ← EReal.coe_mul]; norm_num
  generalize ((1/64 : ℝ) : EReal) = u at *
  generalize ((4096 : ℝ) : EReal) = v at *
  generalize dec1 (n.setWidth 32) = a
  generalize dec1 (k.setWidth 32) = b
  calc (a * u * s) * (b * u * (t * v)) = (a * s) * (b * t) * (u * u * v) := by ac_rfl
    _ = _ := by rw [h, mul_one]

end Cert.Values

end
-- ==== Proof.KerValue.lean ====
/- The kernel's result over the extended reals, element by element. -/
module

public import proofs.«01_k».proof.Proof.Ideal.Run
public import proofs.«01_k».proof.Proof.Values
public import Idealize.ShloMosaic.Lib.Pipeline.Value
public import Idealize.ShloMosaic.Lib.StableHlo.RunRead

@[expose] public section

set_option maxRecDepth 16384

noncomputable section

namespace Cert.KernelIdeal.Value

open Cert.KernelIdeal Cert.KernelIdeal.Gen Cert.KernelIdeal.Run Idealize.ShloMosaic Idealize.ShloMosaic.TcCoe Idealize.SL.Sem
open Idealize.ShloMosaic.Pipeline (Dat)
open Cert.Spec Cert.Values

/-! ## One block, from its operands -/

theorem dot_apply (l : FVec Ideal S512x7168 .bf16) (r : FVec Ideal S256x7168 .bf16) (acc : FVec Ideal S512x256 .f32) (i : Fin 512) (n : Fin 256) :
    matmul dot_S512x7168_S256x7168_S512x256_1_1_0_0_n_n none l r acc (ix2 i n)
      = (acc (ix2 i n) + ∑ k : Fin 7168, l (ix2 i k) * r (ix2 n k) : EReal) := by
  simp only [pointwise]

theorem outB_apply (g w : EReal) (X : FVec Ideal S512x7168 .bf16) (W : FVec Ideal S2304x7168 .bf16) (i : Fin 512) (n : Fin 2304) :
    outB (F := Ideal) g w X W (ix2 i n) = ((∑ k : Fin 7168, X (ix2 i k) * W (ix2 n k)) * g * w : EReal) := by
  have e : (matmul (φ₂ := .bf16) dot_S512x7168_S256x7168_S512x256_1_1_0_0_n_n none X (wRows (F := Ideal) W ⟨n.val / 256, by omega⟩)
      (constant S512x256 .f32 0x00000000#32) (ix2 i (⟨n.val % 256, by omega⟩ : Fin 256)) : EReal) = ∑ k : Fin 7168, X (ix2 i k) * W (ix2 n k) := by
    rw [dot_apply]
    have z : (constant (F := Ideal) S512x256 .f32 0x00000000#32 (ix2 i (⟨n.val % 256, by omega⟩ : Fin 256)) : EReal) = 0 := by
      show Ideal.ofBits .f32 0x00000000#32 = 0
      simp [Ideal.ofBits, Ideal.ieee]
    rw [z, zero_add]
    refine Finset.sum_congr rfl fun k _ => ?_
    refine congrArg (fun u : EReal => (X (ix2 i k) : EReal) * u) ?_
    refine congrArg W (congrArg (fun u : Fin 2304 => ix2 u k) (Fin.ext ?_))
    show 256 * (n.val / 256) + n.val % 256 = n.val
    omega
  exact congrArg (fun u : EReal => u * g * w) e

/-- The sum over the decoded columns: the low nibbles', then the high ones'. -/
theorem sum_split (f : Fin 7168 → EReal) :
    ∑ k, f k = ∑ j : Fin 3584, f ⟨j.val, by omega⟩ + ∑ j : Fin 3584, f ⟨3584 + j.val, by omega⟩ :=
  Fin.sum_univ_add (a := 3584) (b := 3584) f

/-- One product of the kernel's sum over the low nibbles. -/
theorem prod_lo (x : S512x3584.Idx → BitVec 8) (s : FVec Ideal S512x512 .fp8e4m3) (w : S2304x3584.Idx → BitVec 8)
    (t : FVec Ideal S144x512 .fp8e4m3) (i : Fin 512) (n : Fin 2304) (j : Fin 3584) :
    (xBuf (F := Ideal) x s (ix2 i (⟨j.val, by omega⟩ : Fin 7168)) * wBuf (F := Ideal) w t (ix2 n (⟨j.val, by omega⟩ : Fin 7168)) : EReal)
      = (dec1 (((x (ix2 i j)).extractLsb' 0 4).setWidth 32) * s (ix2 i (blk j)))
        * (dec1 (((w (ix2 n j)).extractLsb' 0 4).setWidth 32) * t (ix2 (⟨n.val / 16, by omega⟩ : Fin 144) (blk j))) := by
  have hc : col (⟨j.val, by omega⟩ : Fin 7168) = j := Fin.ext (Nat.mod_eq_of_lt j.isLt)
  have ex : xBuf (F := Ideal) x s (ix2 i (⟨j.val, by omega⟩ : Fin 7168)) = xEnt (F := Ideal) (loB (x (ix2 i j))) (s (ix2 i (blk j))) := by
    rw [xBuf_apply, hc, nib_lo _ _ j.isLt]
  have ew : wBuf (F := Ideal) w t (ix2 n (⟨j.val, by omega⟩ : Fin 7168))
      = wEnt (F := Ideal) (loB (w (ix2 n j))) (wScl (F := Ideal) (t (ix2 (⟨n.val / 16, by omega⟩ : Fin 144) (blk j)))) := by
    unfold wBuf
    rw [wBufE_apply, hc, nib_lo _ _ j.isLt]; rfl
  rw [ex, ew, loB_eq, loB_eq]
  exact prod_eq _ _ _ _

/-- One product of the kernel's sum over the high nibbles. -/
theorem prod_hi (x : S512x3584.Idx → BitVec 8) (s : FVec Ideal S512x512 .fp8e4m3) (w : S2304x3584.Idx → BitVec 8)
    (t : FVec Ideal S144x512 .fp8e4m3) (i : Fin 512) (n : Fin 2304) (j : Fin 3584) :
    (xBuf (F := Ideal) x s (ix2 i (⟨3584 + j.val, by omega⟩ : Fin 7168)) * wBuf (F := Ideal) w t (ix2 n (⟨3584 + j.val, by omega⟩ : Fin 7168)) : EReal)
      = (dec1 (((x (ix2 i j)).extractLsb' 4 4).setWidth 32) * s (ix2 i (blk j)))
        * (dec1 (((w (ix2 n j)).extractLsb' 4 4).setWidth 32) * t (ix2 (⟨n.val / 16, by omega⟩ : Fin 144) (blk j))) := by
  have hj := j.isLt
  have hc : col (⟨3584 + j.val, by omega⟩ : Fin 7168) = j := Fin.ext (by show (3584 + j.val) % 3584 = j.val; omega)
  have hn : ¬ (⟨3584 + j.val, by omega⟩ : Fin 7168).val < 3584 := by show ¬ 3584 + j.val < 3584; omega
  have ex : xBuf (F := Ideal) x s (ix2 i (⟨3584 + j.val, by omega⟩ : Fin 7168)) = xEnt (F := Ideal) (hiB (x (ix2 i j))) (s (ix2 i (blk j))) := by
    rw [xBuf_apply, hc, nib_hi _ _ hn]
  have ew : wBuf (F := Ideal) w t (ix2 n (⟨3584 + j.val, by omega⟩ : Fin 7168))
      = wEnt (F := Ideal) (hiB (w (ix2 n j))) (wScl (F := Ideal) (t (ix2 (⟨n.val / 16, by omega⟩ : Fin 144) (blk j)))) := by
    unfold wBuf
    rw [wBufE_apply, hc, nib_hi _ _ hn]; rfl
  rw [ex, ew, hiB_eq, hiB_eq]
  exact prod_eq _ _ _ _

/-! ## The blocks, from the arrays -/

variable (m : (ℓ : Loc nD τ sig) → Buf (Elt Ideal) ℓ) (ρ : Dev nD → PrngReg)

theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = t.val ∧ win0_3.index t 1 = 0 :=
  (by decide +kernel : ∀ t : Fin grid0.N, win0_3.index t 0 = t.val ∧ win0_3.index t 1 = 0)
theorem at6 : ∀ t : Fin cfg0.N, win0_6.index t 0 = t.val ∧ win0_6.index t 1 = 0 :=
  (by decide +kernel : ∀ t : Fin grid0.N, win0_6.index t 0 = t.val ∧ win0_6.index t 1 = 0)
theorem at0 : ∀ t : Fin cfg0.N, k0_off201 (grid0.coords t) 0 = t.val / 2 % 4 :=
  (by decide +kernel : ∀ t : Fin grid0.N, k0_off201 (grid0.coords t) 0 = t.val / 2 % 4)

theorem t_lt (t : Fin cfg0.N) : t.val < 16 := Nat.lt_of_lt_of_eq t.isLt N_0

theorem iblk2_apply (c : Dev nD) (t : Fin cfg0.N) (i : Fin 512) (j : Fin 3584) (r : Fin 8192) (hr : r.val = 512 * t.val + i.val) :
    iblk m c 2 t (ix2 i j) = V m c main_v0 (ix2 r j) := by
  refine congrArg (V m c main_v0) (show (win0_2.rect t).emb (ix2 i j) = _ from ?_)
  obtain ⟨h0, h1⟩ := at2 t
  funext a
  match a with
  | ⟨0, _⟩ => exact Fin.ext (by show win0_2.index t 0 * 512 + 1 * i.val = r.val; omega)
  | ⟨1, _⟩ => exact Fin.ext (by show win0_2.index t 1 * 3584 + 1 * j.val = j.val; omega)

theorem xs3_apply (c : Dev nD) (t : Fin cfg0.N) (i : Fin 512) (k : Fin 512) (r : Fin 8192) (k' : Fin 448) (hr : r.val = 512 * t.val + i.val)
    (hk : k'.val = k.val) : xs3 m c t (ix2 i k) = V m c main_v1 (ix2 r k') := by
  have hk2 := k'.isLt
  have h := moved3 t i k (by omega)
  unfold xs3 Pipeline.Window.fill
  rw [dif_pos h]
  refine congrArg (V m c main_v1) (show (win0_3.rect t).emb _ = _ from ?_)
  obtain ⟨h0, h1⟩ := at3 t
  funext a
  match a with
  | ⟨0, _⟩ => exact Fin.ext (by show win0_3.index t 0 * 512 + 1 * i.val = r.val; omega)
  | ⟨1, _⟩ => exact Fin.ext (by show win0_3.index t 1 * 512 + 1 * k.val = k'.val; omega)

theorem iblk4_apply (c : Dev nD) (t : Fin cfg0.N) (n : Fin 2304) (j : Fin 3584) : iblk m c 4 t (ix2 n j) = V m c main_arg3 (ix2 n j) := by
  refine congrArg (V m c main_arg3) (show (win0_4.rect t).emb (ix2 n j) = _ from ?_)
  funext a
  match a with
  | ⟨0, _⟩ => exact Fin.ext (by show 0 * 2304 + 1 * n.val = n.val; omega)
  | ⟨1, _⟩ => exact Fin.ext (by show 0 * 3584 + 1 * j.val = j.val; omega)

theorem ws5_apply (c : Dev nD) (t : Fin cfg0.N) (i : Fin 144) (k : Fin 512) (k' : Fin 448) (hk : k'.val = k.val) :
    ws5 m c t (ix2 i k) = V m c main_arg4 (ix2 i k') := by
  have hk2 := k'.isLt
  have h := moved5 t i k (by omega)
  unfold ws5 Pipeline.Window.fill
  rw [dif_pos h]
  refine congrArg (V m c main_arg4) (show (win0_5.rect t).emb _ = _ from ?_)
  funext a
  match a with
  | ⟨0, _⟩ => exact Fin.ext (by show 0 * 144 + 1 * i.val = i.val; omega)
  | ⟨1, _⟩ => exact Fin.ext (by show 0 * 512 + 1 * k.val = k'.val; omega)

theorem gOf_apply (c : Dev nD) (t : Fin cfg0.N) (q : Fin 4) (hq : q.val = t.val / 2 % 4) :
    gOf (iblk m c 0 t) (grid0.coords t) = V m c main_arg2 (ix1 q) := by
  unfold gOf
  refine congrArg (V m c main_arg2) (show (win0_0.rect t).emb _ = _ from ?_)
  have h := at0 t
  funext a
  match a with
  | ⟨0, _⟩ => exact Fin.ext (by show 0 * 4 + 1 * (k0_off201 (grid0.coords t) 0 + 1 * 0) = q.val; omega)

theorem wOf_apply (c : Dev nD) (t : Fin cfg0.N) : wOf (iblk m c 1 t) = V m c main_arg5 (ix1 (0 : Fin 1)) := by
  unfold wOf
  refine congrArg (V m c main_arg5) (show (win0_1.rect t).emb _ = _ from ?_)
  funext a
  match a with
  | ⟨0, _⟩ => exact Fin.ext (Nat.lt_one_iff.1 (Fin.isLt _))

/-! ## The arrays at the region's entry -/

theorem V_main_v0 (c : Dev nD) : V m c main_v0 = shapeCast S8192x3584 (m ((c : Thread nD τ).loc main_arg0)) shapeCasts_S2x4096x3584_S8192x3584 := by
  unfold V
  after_reads_simp
  rfl

theorem V_main_v1 (c : Dev nD) : V m c main_v1 = shapeCast S8192x448 (m ((c : Thread nD τ).loc main_arg1)) shapeCasts_S2x4096x448_S8192x448 := by
  unfold V
  after_reads_simp
  rfl

/-- The rows of the two batches, one after the other. -/
theorem flat_apply {α : Type} {w : ℕ} (x : (⟨3, ![2, 4096, w]⟩ : Shape).Idx → α) (h : (⟨3, ![2, 4096, w]⟩ : Shape).ShapeCasts ⟨2, ![8192, w]⟩)
    (r : Fin 8192) (j : Fin w) :
    shapeCast ⟨2, ![8192, w]⟩ x h (ix2 r j) = x (ix3 (⟨r.val / 4096, by omega⟩ : Fin 2) (⟨r.val % 4096, by omega⟩ : Fin 4096) j) := by
  refine shapeCast_apply _ _ _ _ ?_
  rw [Shape.rowMajor_val_three, Shape.rowMajor_val_two]
  show (r.val / 4096 * 4096 + r.val % 4096) * w + j.val = r.val * w + j.val
  rw [Nat.div_add_mod']

theorem V_main_v0_apply (c : Dev nD) (r : Fin 8192) (j : Fin 3584) :
    V m c main_v0 (ix2 r j) = m ((c : Thread nD τ).loc main_arg0) (ix3 (⟨r.val / 4096, by omega⟩ : Fin 2) (⟨r.val % 4096, by omega⟩ : Fin 4096) j) := by
  rw [V_main_v0]
  exact flat_apply (w := 3584) _ _ r j

theorem V_main_v1_apply (c : Dev nD) (r : Fin 8192) (j : Fin 448) :
    V m c main_v1 (ix2 r j) = m ((c : Thread nD τ).loc main_arg1) (ix3 (⟨r.val / 4096, by omega⟩ : Fin 2) (⟨r.val % 4096, by omega⟩ : Fin 4096) j) := by
  rw [V_main_v1]
  exact flat_apply (w := 448) _ _ r j

/-! ## The result's array -/

theorem flushed6 (c : Dev nD) (t : Fin cfg0.N) : (dats m 0 c).flushed 6 t = (cfg0.win 6).cut (grid0.coords t) (O6 m c t) := by
  show (cfg0.win 6).cut (grid0.coords t) ((dats m 0 c).after 6 t) = _
  rw [after0_6]

theorem idx_inj6 : ∀ t t' : Fin cfg0.N, win0_6.index t = win0_6.index t' → t = t' :=
  (by decide +kernel : ∀ t t' : Fin grid0.N, win0_6.index t = win0_6.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

theorem blocks6 (c : Dev nD) (t : Fin cfg0.N) (hf : (cfg0.win 6).flush t = true) :
    ((cfg0.win 6).blk t).view.read (Elt Ideal) ((dats m 0 c).arrAt 6 cfg0.N) = (dats m 0 c).flushed 6 t :=
  (dats m 0 c).read_blk_arrAt_eq_flushed 6 disjoint6 cfg0.N t t.isLt hf

theorem arr6_apply (c : Dev nD) (t : Fin cfg0.N) (i : Fin 512) (n : Fin 2304) (r : Fin 8192) (hr : r.val = 512 * t.val + i.val) :
    ((dats m 0 c).arrAt 6 cfg0.N : S8192x2304.Idx → EReal) (ix2 r n) = O6 m c t (ix2 i n) := by
  have h := congrFun ((blocks6 m c t (flush0_6 t)).trans (flushed6 m c t)) (ix2 i n)
  refine Eq.trans (congrArg ((dats m 0 c).arrAt 6 cfg0.N) (show ix2 r n = (win0_6.rect t).emb (ix2 i n) from ?_)) h
  obtain ⟨h0, h1⟩ := at6 t
  funext a
  match a with
  | ⟨0, _⟩ => exact Fin.ext (by show r.val = win0_6.index t 0 * 512 + 1 * i.val; omega)
  | ⟨1, _⟩ => exact Fin.ext (by show n.val = win0_6.index t 1 * 2304 + 1 * n.val; omega)

end Cert.KernelIdeal.Value

end
-- ==== Proof.RefValue.lean ====
/- The reference's result over the extended reals, element by element. -/
module

public import proofs.«01_k».proof.Proof.Values
public import Idealize.ShloMosaic.Lib.Pipeline.Value

@[expose] public section

set_option maxRecDepth 16384

noncomputable section

namespace Cert.ReferenceIdeal.Value

open Cert.ReferenceIdeal Cert.ReferenceIdeal.Gen Idealize.ShloMosaic Cert.Values

theorem scX_apply (q : FVec Ideal S2x4096x3584 .bf16) (s : FVec Ideal S2x4096x448 .bf16) (b : Fin 2) (r : Fin 4096) (j : Fin 3584) :
    scX q s (ix3 b r j) = (q (ix3 b r j) * s (ix3 b r (⟨j.val / 8, by omega⟩ : Fin 448)) : EReal) := by
  refine (shapeCast_apply _ _ _ (ix4 b r (⟨j.val / 8, by omega⟩ : Fin 448) (⟨j.val % 8, by omega⟩ : Fin 8)) ?_).trans ?_
  · rw [Shape.rowMajor_val_four, Shape.rowMajor_val_three]; simp [ix3, ix4]; omega
  refine congrArg₂ (fun u v : EReal => u * v) ?_ ?_
  · refine shapeCast_apply _ _ _ (ix3 b r j) ?_
    rw [Shape.rowMajor_val_four, Shape.rowMajor_val_three]; simp [ix3, ix4]; omega
  · refine (broadcastInDim_apply _ _ _ _ (ix4 b r (⟨j.val / 8, by omega⟩ : Fin 448) (0 : Fin 1)) ?_).trans ?_
    · intro a; fin_cases a <;> rfl
    · refine broadcastInDim_apply _ _ _ _ (ix3 b r (⟨j.val / 8, by omega⟩ : Fin 448)) ?_
      intro a; fin_cases a <;> rfl

theorem scW_apply (q : FVec Ideal S2304x3584 .bf16) (s : FVec Ideal S144x448 .bf16) (n : Fin 2304) (j : Fin 3584) :
    scW q s (ix2 n j) = (q (ix2 n j) * s (ix2 (⟨n.val / 16, by omega⟩ : Fin 144) (⟨j.val / 8, by omega⟩ : Fin 448)) : EReal) := by
  refine (shapeCast_apply _ _ _ (ix4 (⟨n.val / 16, by omega⟩ : Fin 144) (⟨n.val % 16, by omega⟩ : Fin 16) (⟨j.val / 8, by omega⟩ : Fin 448) (⟨j.val % 8, by omega⟩ : Fin 8)) ?_).trans ?_
  · rw [Shape.rowMajor_val_four, Shape.rowMajor_val_two]; simp [ix2, ix4]; omega
  refine congrArg₂ (fun u v : EReal => u * v) ?_ ?_
  · refine shapeCast_apply _ _ _ (ix2 n j) ?_
    rw [Shape.rowMajor_val_four, Shape.rowMajor_val_two]; simp [ix2, ix4]; omega
  · refine (broadcastInDim_apply _ _ _ _ (ix4 (⟨n.val / 16, by omega⟩ : Fin 144) (0 : Fin 1) (⟨j.val / 8, by omega⟩ : Fin 448) (0 : Fin 1)) ?_).trans ?_
    · intro a; fin_cases a <;> rfl
    · refine broadcastInDim_apply _ _ _ _ (ix2 (⟨n.val / 16, by omega⟩ : Fin 144) (⟨j.val / 8, by omega⟩ : Fin 448)) ?_
      intro a; fin_cases a <;> rfl

theorem dot_apply (l : FVec Ideal S2x4096x3584 .bf16) (r : FVec Ideal S2304x3584 .bf16) (b : Fin 2) (s : Fin 4096) (n : Fin 2304) :
    (Host.dotGeneral dot_S2x4096x3584_S2304x3584_S2x4096x2304_2_1_01_0_n_n none l r : FVec Ideal S2x4096x2304 .f32) (ix3 b s n)
      = (∑ j : Fin 3584, l (ix3 b s j) * r (ix2 n j) : EReal) := by
  simp only [pointwise]
  exact zero_add _

/-- One term of the reference's sums: a decoded activation times a decoded weight. -/
def term (x : IVec S2x4096x3584 8) (xs : FVec Ideal S2x4096x448 .bf16) (w : IVec S2304x3584 8) (ws : FVec Ideal S144x448 .bf16)
    (p : ℕ) (b : Fin 2) (s : Fin 4096) (n : Fin 2304) (j : Fin 3584) : EReal :=
  (dec1 (((x (ix3 b s j)).extractLsb' p 4).setWidth 32) * xs (ix3 b s (⟨j.val / 8, by omega⟩ : Fin 448)))
    * (dec1 (((w (ix2 n j)).extractLsb' p 4).setWidth 32) * ws (ix2 (⟨n.val / 16, by omega⟩ : Fin 144) (⟨j.val / 8, by omega⟩ : Fin 448)))

theorem accR_apply (x : IVec S2x4096x3584 8) (xs : FVec Ideal S2x4096x448 .bf16) (w : IVec S2304x3584 8) (ws : FVec Ideal S144x448 .bf16)
    (b : Fin 2) (s : Fin 4096) (n : Fin 2304) :
    accR x xs w ws (ix3 b s n) = (∑ j, term x xs w ws 0 b s n j + ∑ j, term x xs w ws 4 b s n j : EReal) := by
  refine congrArg₂ (fun u v : EReal => u + v) ((dot_apply _ _ b s n).trans ?_) ((dot_apply _ _ b s n).trans ?_)
  · refine Finset.sum_congr rfl fun j _ => ?_
    rw [scX_apply, scW_apply, decR_apply, decR_apply, loR_apply, loR_apply]; rfl
  · refine Finset.sum_congr rfl fun j _ => ?_
    rw [scX_apply, scW_apply, decR_apply, decR_apply, hiR_apply, hiR_apply]; rfl

/-- The reference's result at a row and a column. -/
theorem outR_apply (x : IVec S2x4096x3584 8) (xs : FVec Ideal S2x4096x448 .bf16) (g : FVec Ideal S4 .f32) (w : IVec S2304x3584 8)
    (ws : FVec Ideal S144x448 .bf16) (gw : FVec Ideal S1 .f32) (r : Fin 8192) (n : Fin 2304) :
    outR x xs g w ws gw (ix2 r n)
      = ((∑ j, term x xs w ws 0 (⟨r.val / 4096, by omega⟩ : Fin 2) (⟨r.val % 4096, by omega⟩ : Fin 4096) n j
          + ∑ j, term x xs w ws 4 (⟨r.val / 4096, by omega⟩ : Fin 2) (⟨r.val % 4096, by omega⟩ : Fin 4096) n j)
          * g (ix1 (⟨r.val % 4096 / 1024, by omega⟩ : Fin 4)) * gw (ix1 (0 : Fin 1)) : EReal) := by
  refine (shapeCast_apply _ _ _ (ix3 (⟨r.val / 4096, by omega⟩ : Fin 2) (⟨r.val % 4096, by omega⟩ : Fin 4096) n) ?_).trans ?_
  · rw [Shape.rowMajor_val_three, Shape.rowMajor_val_two]; simp [ix2, ix3]; omega
  refine congrArg₂ (fun u v : EReal => u * v) (congrArg₂ (fun u v : EReal => u * v) (accR_apply x xs w ws _ _ n) ?_) ?_
  · refine (broadcastInDim_apply _ _ _ _ (ix3 (0 : Fin 1) (⟨r.val % 4096, by omega⟩ : Fin 4096) (0 : Fin 1)) ?_).trans ?_
    · intro a; fin_cases a <;> rfl
    refine (shapeCast_apply _ _ _ (ix2 (⟨r.val % 4096 / 1024, by omega⟩ : Fin 4) (⟨r.val % 1024, by omega⟩ : Fin 1024)) ?_).trans ?_
    · rw [Shape.rowMajor_val_three, Shape.rowMajor_val_two]; simp [ix2, ix3]; omega
    refine (broadcastInDim_apply _ _ _ _ (ix2 (⟨r.val % 4096 / 1024, by omega⟩ : Fin 4) (0 : Fin 1)) ?_).trans ?_
    · intro a; fin_cases a <;> rfl
    refine broadcastInDim_apply _ _ _ _ (ix1 (⟨r.val % 4096 / 1024, by omega⟩ : Fin 4)) ?_
    intro a; fin_cases a; rfl
  · refine (broadcastInDim_apply _ _ _ _ i0 fun a => a.elim0).trans ?_
    refine shapeCast_apply _ _ _ (ix1 (0 : Fin 1)) ?_
    rfl

end Cert.ReferenceIdeal.Value

end
-- ==== Proof.KerOut.lean ====
/- The kernel's result over the extended reals is the reference's, as a function of the launch's arguments. -/
module

public import proofs.«01_k».proof.Proof.KerValue
public import proofs.«01_k».proof.Proof.RefValue

@[expose] public section

set_option maxRecDepth 16384

noncomputable section

namespace Cert.KernelIdeal.Value

open Cert.KernelIdeal Cert.KernelIdeal.Gen Cert.KernelIdeal.Run Idealize.ShloMosaic Idealize.ShloMosaic.TcCoe Idealize.SL.Sem
open Idealize.ShloMosaic.Pipeline (Dat)
open Cert.Spec Cert.Values

variable (m : (ℓ : Loc nD τ sig) → Buf (Elt Ideal) ℓ) (ρ : Dev nD → PrngReg)

/-- The reference's result of this launch's arguments. -/
def goal (c : Dev nD) : S8192x2304.Idx → EReal :=
  Cert.ReferenceIdeal.Value.outR (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem blk_eq (j : Fin 3584) (k : Fin 448) (h : k.val = j.val / 8) : k.val = (blk j).val := h

set_option maxHeartbeats 1000000 in
/-- One block of the kernel's result, element by element. -/
theorem O6_apply (c : Dev nD) (t : Fin cfg0.N) (i : Fin 512) (n : Fin 2304) (r : Fin 8192) (hr : r.val = 512 * t.val + i.val) :
    O6 m c t (ix2 i n) = goal m c (ix2 r n) := by
  have ht := t_lt t
  have hi := i.isLt
  refine (outB_apply _ _ _ _ i n).trans (Eq.trans ?_ (Cert.ReferenceIdeal.Value.outR_apply _ _ _ _ _ _ r n).symm)
  refine congrArg₂ (fun u v : EReal => u * v) (congrArg₂ (fun u v : EReal => u * v) ?_ ?_) ?_
  · refine (sum_split _).trans (congrArg₂ (fun u v : EReal => u + v) ?_ ?_)
    · refine Finset.sum_congr rfl fun j _ => ?_
      refine (prod_lo _ _ _ _ i n j).trans ?_
      rw [iblk2_apply m c t i j r hr, xs3_apply m c t i (blk j) r (⟨j.val / 8, by omega⟩ : Fin 448) hr rfl, iblk4_apply,
        ws5_apply m c t00 _ (blk j) (⟨j.val / 8, by omega⟩ : Fin 448) rfl, V_main_v0_apply, V_main_v1_apply, V_main_arg3, V_main_arg4]
      rfl
    · refine Finset.sum_congr rfl fun j _ => ?_
      refine (prod_hi _ _ _ _ i n j).trans ?_
      rw [iblk2_apply m c t i j r hr, xs3_apply m c t i (blk j) r (⟨j.val / 8, by omega⟩ : Fin 448) hr rfl, iblk4_apply,
        ws5_apply m c t00 _ (blk j) (⟨j.val / 8, by omega⟩ : Fin 448) rfl, V_main_v0_apply, V_main_v1_apply, V_main_arg3, V_main_arg4]
      rfl
  · exact (gOf_apply m c t (⟨r.val % 4096 / 1024, by omega⟩ : Fin 4) (by show r.val % 4096 / 1024 = _; omega)).trans
      (congrFun (V_main_arg2 m c) _)
  · exact (wOf_apply m c t).trans (congrFun (V_main_arg5 m c) _)

/-- The result's array at the end. -/
theorem arr6_eq (c : Dev nD) : ((dats m 0 c).arrAt 6 cfg0.N : S8192x2304.Idx → EReal) = goal m c := by
  funext y
  rw [Idealize.ShloMosaic.eq_ix2 y]
  generalize y 0 = r
  generalize y 1 = n
  have hr : r.val < 8192 := r.isLt
  have hN : r.val / 512 < cfg0.N := Nat.lt_of_lt_of_eq (by omega) N_0.symm
  have e : r.val = 512 * (⟨r.val / 512, hN⟩ : Fin cfg0.N).val + (⟨r.val % 512, by omega⟩ : Fin 512).val := (Nat.div_add_mod r.val 512).symm
  exact (arr6_apply m c ⟨r.val / 512, hN⟩ ⟨r.val % 512, by omega⟩ n r e).trans (O6_apply m c _ _ n r e)

/-- The kernel's run: its result is the reference's of the same arguments, which end unchanged. -/
theorem run : θ_run defs (onTc (τ := τ) (main (F := Ideal))) ⟨m, fun _ => 0, ρ⟩ (fun r => ∀ c : Dev nD,
      r.2.mem ((c.tc : Thread nD τ).loc main_v2) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (arr6_eq m c), h.2.1 c⟩) (θ_run_and (run_main m ρ) (frame m ρ))

end Cert.KernelIdeal.Value

end
-- ==== Proof.RefRun.lean ====
/- The reference's run over the extended reals: its result as a function of the launch's arguments. -/
module

public import proofs.«01_k».proof.Proof.RefValue
public import Idealize.ShloMosaic.Lib.Pipeline.ValueKit.Geometry

@[expose] public section

set_option maxRecDepth 16384

noncomputable section

namespace Cert.ReferenceIdeal.Value

open Cert.ReferenceIdeal Cert.ReferenceIdeal.Gen Idealize.ShloMosaic Idealize.ShloMosaic.TcCoe Idealize.SL.Sem Cert.Values
open Idealize.ShloMosaic.StableHlo (after)
open Idealize.ShloMosaic.Pipeline (Dat)

variable (m : (ℓ : Loc nD τ sig) → Buf (Elt Ideal) ℓ) (ρ : Dev nD → PrngReg)

/-- What the first cast leaves: the activations' block scales, a cast being the identity here. -/
theorem out2 (x0 : Vec Ideal S2x4096x448 .fp8e4m3) (x1 : Vec Ideal S144x448 .fp8e4m3) (y : S2x4096x448.Idx) :
    (out0_2 (F := Ideal) x0 x1 y : EReal) = x0 y := by
  unfold out0_2 r0_0
  rw [View.canon_unit_zero (by funext a; fin_cases a <;> rfl), View.ld_unit_zero (by funext a; fin_cases a <;> rfl)]
  rfl

/-- What the second cast leaves: the weights' block scales. -/
theorem out3 (x0 : Vec Ideal S2x4096x448 .fp8e4m3) (x1 : Vec Ideal S144x448 .fp8e4m3) (y : S144x448.Idx) :
    (out0_3 (F := Ideal) x0 x1 y : EReal) = x1 y := by
  unfold out0_3 r0_1
  rw [View.canon_unit_zero (by funext a; fin_cases a <;> rfl), View.ld_unit_zero (by funext a; fin_cases a <;> rfl)]
  rfl

theorem iblk0 (c : Dev nD) (t : Fin cfg0.N) (y : S2x4096x448.Idx) : iblk m c 0 t y = m ((c : Thread nD τ).loc main_arg1) y := by
  refine congrArg (V m c main_arg1) (show (win0_0.rect t).emb y = y from ?_)
  funext a
  match a with
  | ⟨0, _⟩ => exact Fin.ext (by show 0 * 2 + 1 * (y 0).val = (y 0).val; omega)
  | ⟨1, _⟩ => exact Fin.ext (by show 0 * 4096 + 1 * (y 1).val = (y 1).val; omega)
  | ⟨2, _⟩ => exact Fin.ext (by show 0 * 448 + 1 * (y 2).val = (y 2).val; omega)

theorem iblk1 (c : Dev nD) (t : Fin cfg0.N) (y : S144x448.Idx) : iblk m c 1 t y = m ((c : Thread nD τ).loc main_arg4) y := by
  refine congrArg (V m c main_arg4) (show (win0_1.rect t).emb y = y from ?_)
  funext a
  match a with
  | ⟨0, _⟩ => exact Fin.ext (by show 0 * 144 + 1 * (y 0).val = (y 0).val; omega)
  | ⟨1, _⟩ => exact Fin.ext (by show 0 * 448 + 1 * (y 1).val = (y 1).val; omega)

/-- The grid's one point. -/
def t0 : Fin cfg0.N := ⟨0, by decide⟩

theorem arr2 (c : Dev nD) : ((dats m 0 c).arrAt 2 cfg0.N : S2x4096x448.Idx → EReal) = m ((c : Thread nD τ).loc main_arg1) := by
  funext y
  refine ((dats m 0 c).arrAt_emb_eq_after_last 2 t0 (by decide +kernel) y).trans ?_
  exact (congrFun (after0_2 m c t0) y).trans ((out2 _ _ y).trans (iblk0 m c t0 y))

theorem arr3 (c : Dev nD) : ((dats m 0 c).arrAt 3 cfg0.N : S144x448.Idx → EReal) = m ((c : Thread nD τ).loc main_arg4) := by
  funext y
  refine ((dats m 0 c).arrAt_emb_eq_after_last 3 t0 (by decide +kernel) y).trans ?_
  exact (congrFun (after0_3 m c t0) y).trans ((out3 _ _ y).trans (iblk1 m c t0 y))

/-- The reference's result of this launch's arguments. -/
def goal (c : Dev nD) : S8192x2304.Idx → EReal :=
  outR (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem arrRef_inj : Function.Injective (Pipeline.arrRef spec0) := by
  intro w w' h
  exact (by decide : ∀ w w' : Fin cfg0.W, Pipeline.arrRef spec0 w = Pipeline.arrRef spec0 w' → w = w') w w' h

/-- What the lines after the region leave in the result. -/
theorem tail_eq (c : Dev nD) : Pipeline.afterTail₀ cfgs (dats m) 0 (V0 m) [hostOps1] c main_v175 = goal m c := by
  unfold Pipeline.afterTail₀
  refine (after_v175 _).trans ?_
  have ne := fun (b : Ref sig .tc) (hb : ∀ w, Pipeline.arrRef spec0 w ≠ b) =>
    Pipeline.withArrays_of_ne spec0 c (V0 m c) (fun w => (dats m 0 c).arrAt w cfg0.N) b hb
  have h0 := ne main_arg0 (by decide)
  have h2 := ne main_arg2 (by decide)
  have h3 := ne main_arg3 (by decide)
  have h5 := ne main_arg5 (by decide)
  have k2 := (Pipeline.withArrays_arr spec0 arrRef_inj c (V0 m c) (fun w => (dats m 0 c).arrAt w cfg0.N) 2).trans (arr2 m c)
  have k3 := (Pipeline.withArrays_arr spec0 arrRef_inj c (V0 m c) (fun w => (dats m 0 c).arrAt w cfg0.N) 3).trans (arr3 m c)
  unfold goal
  congr 1

/-- The reference's run: its result of the arguments, which end unchanged. -/
theorem run : θ_run defs (onTc (τ := τ) (main (F := Ideal))) ⟨m, fun _ => 0, ρ⟩ (fun r => ∀ c : Dev nD,
      r.2.mem ((c.tc : Thread nD τ).loc main_v175) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).2 main_v175 (Pipeline.mem_restRefs_of main_v175 (by decide) (by decide))).trans (tail_eq m c), h.2 c⟩)
    (θ_run_and (run_main m ρ) (unchanged m ρ))

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Bits.Run
public import proofs.«01_k».proof.Proof.Ideal.Run
public import proofs.«01_k».proof.Proof.KerOut
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- On equal arguments the two results are equal. -/
theorem algebraic : Cert.algebraic_KernelIdeal_ReferenceIdeal := by
  intro m g m' g' _ h
  refine ⟨Cert.KernelIdeal.Value.goal m, Cert.KernelIdeal.Value.run m g, ?_⟩
  refine (θ_run _ _ _).mono (fun r hr c => ⟨(hr c).1.trans ?_, (hr c).2⟩) (Cert.ReferenceIdeal.Value.run m' g')
  obtain ⟨h0, h1, h2, h3, h4, h5⟩ := h c
  unfold Cert.ReferenceIdeal.Value.goal Cert.KernelIdeal.Value.goal
  rw [h0, h1, h2, h3, h4, h5]

theorem claim : Cert.Claim := ⟨Cert.Kernel.Gen.facts, Cert.KernelIdeal.Gen.facts, Cert.ReferenceIdeal.Gen.facts,
  fun m g _ => Cert.Kernel.Run.frame m g, fun m g _ => Cert.KernelIdeal.Run.frame m g, fun m g _ => Cert.ReferenceIdeal.Gen.frame m g, trivial, algebraic⟩

end Cert.Proof

end
